-- ==== Defs.lean ====
def Pre_Kernel [hPre_counts_fit : Cert.Pre_counts_fit.Facts] (m : (ℓ : Loc Cert.Kernel.nD Cert.Kernel.τ Cert.Kernel.sig) → Buf (Elt Bits) ℓ) : Prop :=
  ∀ c : Dev Cert.Kernel.nD,
    (Cert.Pre_counts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_counts_fit : Cert.Pre_counts_fit.Facts] (m : (ℓ : Loc Cert.KernelIdeal.nD Cert.KernelIdeal.τ Cert.KernelIdeal.sig) → Buf (Elt Ideal) ℓ) : Prop :=
  ∀ c : Dev Cert.KernelIdeal.nD,
    (Cert.Pre_counts_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_fit [hPre_counts_fit : Cert.Pre_counts_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_counts_fit : Cert.Pre_counts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_fit [hReferenceIdeal : Cert.ReferenceIdeal.Facts] [hPre_counts_fit : Cert.Pre_counts_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_fit : Cert.Pre_counts_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_counts_fit : Cert.Pre_counts_fit.Facts),
    quiescent_Kernel (hKernel := hKernel) (hPre_counts_fit := hPre_counts_fit)
    ∧ quiescent_KernelIdeal (hKernelIdeal := hKernelIdeal) (hPre_counts_fit := hPre_counts_fit)
    ∧ quiescent_ReferenceIdeal (hReferenceIdeal := hReferenceIdeal)
    ∧ quiescent_ReferenceIdeal_pre_counts_fit (hReferenceIdeal := hReferenceIdeal) (hPre_counts_fit := hPre_counts_fit)
    ∧ preserves_Kernel_KernelIdeal
    ∧ algebraic_KernelIdeal_ReferenceIdeal (hKernelIdeal := hKernelIdeal) (hReferenceIdeal := hReferenceIdeal) (hPre_counts_fit := hPre_counts_fit)
-- ==== Pre_counts_fit.lean ====
abbrev S2x128x2560 : Shape := ⟨3, ![2, 128, 2560]⟩
abbrev S2x128 : Shape := ⟨2, ![2, 128]⟩
abbrev S33x2560x1024 : Shape := ⟨3, ![33, 2560, 1024]⟩
abbrev S33x1024 : Shape := ⟨2, ![33, 1024]⟩
abbrev S2x33 : Shape := ⟨2, ![2, 33]⟩
abbrev S_ : Shape := ⟨0, ![]⟩
abbrev S2 : Shape := ⟨1, ![2]⟩
abbrev S2x1 : Shape := ⟨2, ![2, 1]⟩

class Facts : Prop where
  reducesTo_S2x33_S2_d1 : S2x33.ReducesTo [1] S2
  h_S_ : 0 < S_.numel
  bcast_S2_S2x1_0 : S2.BroadcastsInDim S2x1 (![0] : Fin 1 → Fin S2x1.rank)
  bcast_S_S2x1 : S_.BroadcastsInDim S2x1 (![] : Fin 0 → Fin S2x1.rank)
  bcast_S_S2x33 : S_.BroadcastsInDim S2x33 (![] : Fin 0 → Fin S2x33.rank)
  bcast_S2x1_S2x33_0_1 : S2x1.BroadcastsInDim S2x33 (![0, 1] : Fin 2 → Fin S2x33.rank)

variable [Facts]

def fn {F : FTy → Type} [FloatOps F] (main_arg0 : FVec F S2x128x2560 .fp8e4m3) (main_arg1 : FVec F S2x128 .f32) (main_arg2 : FVec F S33x2560x1024 .fp8e4m3) (main_arg3 : FVec F S33x1024 .f32) (main_arg4 : IVec S2x33 32) : IVec S2x33 1 :=
  let main_c : IVec S_ 32 := constantI S_ 32 0#32
  let main_v0 : IVec S2 32 := (fun x v => Host.reduce IntOp.addi x v reducesTo_S2x33_S2_d1 h_S_) main_arg4 main_c
  let main_v1 : IVec S2x1 32 := broadcastInDim S2x1 ![0] bcast_S2_S2x1_0 main_v0
  let main_c_0 : IVec S_ 32 := constantI S_ 32 128#32
  let main_v2 : IVec S2x1 32 := broadcastInDim S2x1 ![] bcast_S_S2x1 main_c_0
  let main_v3 : IVec S2x1 1 := cmpi .sle main_v1 main_v2
  let main_c_1 : IVec S_ 32 := constantI S_ 32 0#32
  let main_v4 : IVec S2x33 32 := broadcastInDim S2x33 ![] bcast_S_S2x33 main_c_1
  let main_v5 : IVec S2x33 1 := cmpi .sge main_arg4 main_v4
  let main_c_2 : IVec S_ 32 := constantI S_ 32 128#32
  let main_v6 : IVec S2x33 32 := broadcastInDim S2x33 ![] bcast_S_S2x33 main_c_2
  let main_v7 : IVec S2x33 1 := cmpi .sle main_arg4 main_v6
  let main_v8 : IVec S2x33 1 := andi main_v5 main_v7
  let main_v9 : IVec S2x33 1 := broadcastInDim S2x33 ![0, 1] bcast_S2x1_S2x33_0_1 main_v3
  let main_v10 : IVec S2x33 1 := andi main_v8 main_v9
  main_v10
-- ==== Kernel.lean ====
abbrev S2x128x2560 : Shape := ⟨3, ![2, 128, 2560]⟩
abbrev S2x128 : Shape := ⟨2, ![2, 128]⟩
abbrev S33x2560x1024 : Shape := ⟨3, ![33, 2560, 1024]⟩
abbrev S33x1024 : Shape := ⟨2, ![33, 1024]⟩
abbrev S2x33 : Shape := ⟨2, ![2, 33]⟩
abbrev S256x2560 : Shape := ⟨2, ![256, 2560]⟩
abbrev S256x1024 : Shape := ⟨2, ![256, 1024]⟩
abbrev S34 : Shape := ⟨1, ![34]⟩
abbrev S20x2560x1024 : Shape := ⟨3, ![20, 2560, 1024]⟩
abbrev S256x128 : Shape := ⟨2, ![256, 128]⟩
abbrev S20 : Shape := ⟨1, ![20]⟩
abbrev S_ : Shape := ⟨0, ![]⟩
abbrev S1 : Shape := ⟨1, ![1]⟩
abbrev S1x2560x1024 : Shape := ⟨3, ![1, 2560, 1024]⟩
abbrev S2560x1024 : Shape := ⟨2, ![2560, 1024]⟩
abbrev S1x1 : Shape := ⟨2, ![1, 1]⟩
abbrev S1x128 : Shape := ⟨2, ![1, 128]⟩
abbrev S128x128 : Shape := ⟨2, ![128, 128]⟩
abbrev S16x2560 : Shape := ⟨2, ![16, 2560]⟩
abbrev S64x2560 : Shape := ⟨2, ![64, 2560]⟩
abbrev S64x1024 : Shape := ⟨2, ![64, 1024]⟩
abbrev S1x1024 : Shape := ⟨2, ![1, 1024]⟩
abbrev S16x128 : Shape := ⟨2, ![16, 128]⟩
abbrev S16x1024 : Shape := ⟨2, ![16, 1024]⟩

abbrev nBuf : Space → Nat
  | .hbm => 7
  | .vmem => 7
  | .smem => 3
  | _ => 0

abbrev bufTy : (tb : Table) → Fin (tcTables nBuf tb) → BufTy
  | .hbm, ⟨0, _⟩ => ⟨S2x128x2560, .fp8e4m3⟩
  | .hbm, ⟨1, _⟩ => ⟨S2x128, .f32⟩
  | .hbm, ⟨2, _⟩ => ⟨S33x2560x1024, .fp8e4m3⟩
  | .hbm, ⟨3, _⟩ => ⟨S33x1024, .f32⟩
  | .hbm, ⟨4, _⟩ => ⟨S2x33, .i32⟩
  | .hbm, ⟨5, _⟩ => ⟨S256x2560, .fp8e4m3⟩
  | .hbm, ⟨6, _⟩ => ⟨S256x1024, .bf16⟩
  | .local _ .vmem, ⟨0, _⟩ => ⟨S20x2560x1024, .fp8e4m3⟩
  | .local _ .vmem, ⟨1, _⟩ => ⟨S256x2560, .fp8e4m3⟩
  | .local _ .vmem, ⟨2, _⟩ => ⟨S256x2560, .bf16⟩
  | .local _ .vmem, ⟨3, _⟩ => ⟨S2x128, .f32⟩
  | .local _ .vmem, ⟨4, _⟩ => ⟨S256x128, .f32⟩
  | .local _ .vmem, ⟨5, _⟩ => ⟨S33x1024, .f32⟩
  | .local _ .vmem, ⟨6, _⟩ => ⟨S256x1024, .bf16⟩
  | .local _ .smem, ⟨0, _⟩ => ⟨S2x33, .i32⟩
  | .local _ .smem, ⟨1, _⟩ => ⟨S2x33, .i32⟩
  | .local _ .smem, ⟨2, _⟩ => ⟨S34, .i32⟩
  | _, _ => ⟨S2x128x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch3 : Ref sig .tc := ⟨.vmem, 0, rfl⟩
abbrev cc0_scratch4 : Ref sig .tc := ⟨.vmem, 1, rfl⟩
abbrev cc0_scratch5 : Ref sig .tc := ⟨.vmem, 2, rfl⟩
abbrev cc0_scratch6 : Ref sig .tc := ⟨.vmem, 3, rfl⟩
abbrev cc0_scratch7 : Ref sig .tc := ⟨.vmem, 4, rfl⟩
abbrev cc0_scratch8 : Ref sig .tc := ⟨.vmem, 5, rfl⟩
abbrev cc0_scratch9 : Ref sig .tc := ⟨.vmem, 6, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩

abbrev nD : Nat := 1
abbrev τ : Topo := Topo.v7x

variable {F : FTy → Type} [FloatOps F]

abbrev grid0 : Pipeline.Grid := .none

def k0_off1 (v30 : BitVec 32) (v34 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let v50 : Index := Scalar.indexCast v41
  ![v50.toNat]

def k0_chk1 (v30 : BitVec 32) (v34 : BitVec 32) : Prop :=
  (∀ a, (k0_off1 v30 v34) a + S1.size a ≤ S34.size a)
theorem k0_off1_inb : ∀ (v30 : BitVec 32) (v34 : BitVec 32) (k0_hw1 : k0_chk1 v30 v34), ∀ a, (k0_off1 v30 v34) a + S1.size a ≤ S34.size a := fun v30 v34 k0_hw1 => k0_hw1

def k0_off2 (v30 : BitVec 32) (v34 : BitVec 32) (v42 : BitVec 32) (v46 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let v63 : Index := Scalar.indexCast v54
  ![v63.toNat]

def k0_chk2 (v30 : BitVec 32) (v34 : BitVec 32) (v42 : BitVec 32) (v46 : BitVec 32) : Prop :=
  (∀ a, (k0_off2 v30 v34 v42 v46) a + S1.size a ≤ S34.size a)
theorem k0_off2_inb : ∀ (v30 : BitVec 32) (v34 : BitVec 32) (v42 : BitVec 32) (v46 : BitVec 32) (k0_hw2 : k0_chk2 v30 v34 v42 v46), ∀ a, (k0_off2 v30 v34 v42 v46) a + S1.size a ≤ S34.size a := fun v30 v34 v42 v46 k0_hw2 => k0_hw2

def k0_off3 (v30 : BitVec 32) (v34 : BitVec 32) (v42 : BitVec 32) (v46 : BitVec 32) (v55 : BitVec 32) (v59 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let v76 : Index := Scalar.indexCast v67
  ![v76.toNat]

def k0_chk3 (v30 : BitVec 32) (v34 : BitVec 32) (v42 : BitVec 32) (v46 : BitVec 32) (v55 : BitVec 32) (v59 : BitVec 32) : Prop :=
  (∀ a, (k0_off3 v30 v34 v42 v46 v55 v59) a + S1.size a ≤ S34.size a)
theorem k0_off3_inb : ∀ (v30 : BitVec 32) (v34 : BitVec 32) (v42 : BitVec 32) (v46 : BitVec 32) (v55 : BitVec 32) (v59 : BitVec 32) (k0_hw3 : k0_chk3 v30 v34 v42 v46 v55 v59), ∀ a, (k0_off3 v30 v34 v42 v46 v55 v59) a + S1.size a ≤ S34.size a := fun v30 v34 v42 v46 v55 v59 k0_hw3 => k0_hw3

def k0_off4 (v30 : BitVec 32) (v34 : BitVec 32) (v42 : BitVec 32) (v46 : BitVec 32) (v55 : BitVec 32) (v59 : BitVec 32) (v68 : BitVec 32) (v72 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let v89 : Index := Scalar.indexCast v80
  ![v89.toNat]

def k0_chk4 (v30 : BitVec 32) (v34 : BitVec 32) (v42 : BitVec 32) (v46 : BitVec 32) (v55 : BitVec 32) (v59 : BitVec 32) (v68 : BitVec 32) (v72 : BitVec 32) : Prop :=
  (∀ a, (k0_off4 v30 v34 v42 v46 v55 v59 v68 v72) a + S1.size a ≤ S34.size a)
theorem k0_off4_inb : ∀ (v30 : BitVec 32) (v34 : BitVec 32) (v42 : BitVec 32) (v46 : BitVec 32) (v55 : BitVec 32) (v59 : BitVec 32) (v68 : BitVec 32) (v72 : BitVec 32) (k0_hw4 : k0_chk4 v30 v34 v42 v46 v55 v59 v68 v72), ∀ a, (k0_off4 v30 v34 v42 v46 v55 v59 v68 v72) a + S1.size a ≤ S34.size a := fun v30 v34 v42 v46 v55 v59 v68 v72 k0_hw4 => k0_hw4

def k0_off5 (v30 : BitVec 32) (v34 : BitVec 32) (v42 : BitVec 32) (v46 : BitVec 32) (v55 : BitVec 32) (v59 : BitVec 32) (v68 : BitVec 32) (v72 : BitVec 32) (v81 : BitVec 32) (v85 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let v102 : Index := Scalar.indexCast v93
  ![v102.toNat]

def k0_chk5 (v30 : BitVec 32) (v34 : BitVec 32) (v42 : BitVec 32) (v46 : BitVec 32) (v55 : BitVec 32) (v59 : BitVec 32) (v68 : BitVec 32) (v72 : BitVec 32) (v81 : BitVec 32) (v85 : BitVec 32) : Prop :=
  (∀ a, (k0_off5 v30 v34 v42 v46 v55 v59 v68 v72 v81 v85) a + S1.size a ≤ S34.size a)
theorem k0_off5_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (k0_hw5 : k0_chk5 v30 v34 v42 v46 v55 v59 v68 v72 v81 v85), ∀ a, (k0_off5 v30 v34 v42 v46 v55 v59 v68 v72 v81 v85) a + S1.size a ≤ S34.size a := fun v30 v34 v42 v46 v55 v59 v68 v72 v81 v85 k0_hw5 => k0_hw5

def k0_off6 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let v115 : Index := Scalar.indexCast v106
  ![v115.toNat]

def k0_chk6 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) : Prop :=
  (∀ a, (k0_off6 v30 v34 v42 v46 v55 v59 v68 v72 v81 v85 v94 v98) a + S1.size a ≤ S34.size a)
theorem k0_off6_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (k0_hw6 : k0_chk6 v30 v34 v42 v46 v55 v59 v68 v72 v81 v85 v94 v98), ∀ a, (k0_off6 v30 v34 v42 v46 v55 v59 v68 v72 v81 v85 v94 v98) a + S1.size a ≤ S34.size a := fun v30 v34 v42 v46 v55 v59 v68 v72 v81 v85 v94 v98 k0_hw6 => k0_hw6

def k0_off7 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let v128 : Index := Scalar.indexCast v119
  ![v128.toNat]

def k0_chk7 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) : Prop :=
  (∀ a, (k0_off7 v30 v34 v42 v46 v55 v59 v68 v72 v81 v85 v94 v98 v107 v111) a + S1.size a ≤ S34.size a)
theorem k0_off7_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (k0_hw7 : k0_chk7 v30 v34 v42 v46 v55 v59 v68 v72 v81 v85 v94 v98 v107 v111), ∀ a, (k0_off7 v30 v34 v42 v46 v55 v59 v68 v72 v81 v85 v94 v98 v107 v111) a + S1.size a ≤ S34.size a := fun v30 v34 v42 v46 v55 v59 v68 v72 v81 v85 v94 v98 v107 v111 k0_hw7 => k0_hw7

def k0_off8 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let v141 : Index := Scalar.indexCast v132
  ![v141.toNat]

def k0_chk8 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) : Prop :=
  (∀ a, (k0_off8 v30 v34 v42 v46 v55 v59 v68 v72 v81 v85 v94 v98 v107 v111 v120 v124) a + S1.size a ≤ S34.size a)
theorem k0_off8_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (k0_hw8 : k0_chk8 v30 v34 v42 v46 v55 v59 v68 v72 v81 v85 v94 v98 v107 v111 v120 v124), ∀ a, (k0_off8 v30 v34 v42 v46 v55 v59 v68 v72 v81 v85 v94 v98 v107 v111 v120 v124) a + S1.size a ≤ S34.size a := fun v30 v34 v42 v46 v55 v59 v68 v72 v81 v85 v94 v98 v107 v111 v120 v124 k0_hw8 => k0_hw8

def k0_off9 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let v154 : Index := Scalar.indexCast v145
  ![v154.toNat]

def k0_chk9 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) : Prop :=
  (∀ a, (k0_off9 v30 v34 v42 v46 v55 v59 v68 v72 v81 v85 v94 v98 v107 v111 v120 v124 v133 v137) a + S1.size a ≤ S34.size a)
theorem k0_off9_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (k0_hw9 : k0_chk9 v30 v34 v42 v46 v55 v59 v68 v72 v81 v85 v94 v98 v107 v111 v120 v124 v133 v137), ∀ a, (k0_off9 v30 v34 v42 v46 v55 v59 v68 v72 v81 v85 v94 v98 v107 v111 v120 v124 v133 v137) a + S1.size a ≤ S34.size a := fun v30 v34 v42 v46 v55 v59 v68 v72 v81 v85 v94 v98 v107 v111 v120 v124 v133 v137 k0_hw9 => k0_hw9

def k0_off10 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let v167 : Index := Scalar.indexCast v158
  ![v167.toNat]

def k0_chk10 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) : Prop :=
  (∀ a, (k0_off10 v30 v34 v42 v46 v55 v59 v68 v72 v81 v85 v94 v98 v107 v111 v120 v124 v133 v137 v146 v150) a + S1.size a ≤ S34.size a)
theorem k0_off10_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (k0_hw10 : k0_chk10 v30 v34 v42 v46 v55 v59 v68 v72 v81 v85 v94 v98 v107 v111 v120 v124 v133 v137 v146 v150), ∀ a, (k0_off10 v30 v34 v42 v46 v55 v59 v68 v72 v81 v85 v94 v98 v107 v111 v120 v124 v133 v137 v146 v150) a + S1.size a ≤ S34.size a := fun v30 v34 v42 v46 v55 v59 v68 v72 v81 v85 v94 v98 v107 v111 v120 v124 v133 v137 v146 v150 k0_hw10 => k0_hw10

def k0_off11 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let v180 : Index := Scalar.indexCast v171
  ![v180.toNat]

def k0_chk11 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) : Prop :=
  (∀ a, (k0_off11 v30 v34 v42 v46 v55 v59 v68 v72 v81 v85 v94 v98 v107 v111 v120 v124 v133 v137 v146 v150 v159 v163) a + S1.size a ≤ S34.size a)
theorem k0_off11_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (k0_hw11 : k0_chk11 v30 v34 v42 v46 v55 v59 v68 v72 v81 v85 v94 v98 v107 v111 v120 v124 v133 v137 v146 v150 v159 v163), ∀ a, (k0_off11 v30 v34 v42 v46 v55 v59 v68 v72 v81 v85 v94 v98 v107 v111 v120 v124 v133 v137 v146 v150 v159 v163) a + S1.size a ≤ S34.size a := fun v30 v34 v42 v46 v55 v59 v68 v72 v81 v85 v94 v98 v107 v111 v120 v124 v133 v137 v146 v150 v159 v163 k0_hw11 => k0_hw11

def k0_off12 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let v193 : Index := Scalar.indexCast v184
  ![v193.toNat]

def k0_chk12 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) : Prop :=
  (∀ a, (k0_off12 v30 v34 v42 v46 v55 v59 v68 v72 v81 v85 v94 v98 v107 v111 v120 v124 v133 v137 v146 v150 v159 v163 v172 v176) a + S1.size a ≤ S34.size a)
theorem k0_off12_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (k0_hw12 : k0_chk12 v30 v34 v42 v46 v55 v59 v68 v72 v81 v85 v94 v98 v107 v111 v120 v124 v133 v137 v146 v150 v159 v163 v172 v176), ∀ a, (k0_off12 v30 v34 v42 v46 v55 v59 v68 v72 v81 v85 v94 v98 v107 v111 v120 v124 v133 v137 v146 v150 v159 v163 v172 v176) a + S1.size a ≤ S34.size a := fun v30 v34 v42 v46 v55 v59 v68 v72 v81 v85 v94 v98 v107 v111 v120 v124 v133 v137 v146 v150 v159 v163 v172 v176 k0_hw12 => k0_hw12

def k0_off13 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let v206 : Index := Scalar.indexCast v197
  ![v206.toNat]

def k0_chk13 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) : Prop :=
  (∀ a, (k0_off13 v30 v34 v42 v46 v55 v59 v68 v72 v81 v85 v94 v98 v107 v111 v120 v124 v133 v137 v146 v150 v159 v163 v172 v176 v185 v189) a + S1.size a ≤ S34.size a)
theorem k0_off13_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (k0_hw13 : k0_chk13 v30 v34 v42 v46 v55 v59 v68 v72 v81 v85 v94 v98 v107 v111 v120 v124 v133 v137 v146 v150 v159 v163 v172 v176 v185 v189), ∀ a, (k0_off13 v30 v34 v42 v46 v55 v59 v68 v72 v81 v85 v94 v98 v107 v111 v120 v124 v133 v137 v146 v150 v159 v163 v172 v176 v185 v189) a + S1.size a ≤ S34.size a := fun v30 v34 v42 v46 v55 v59 v68 v72 v81 v85 v94 v98 v107 v111 v120 v124 v133 v137 v146 v150 v159 v163 v172 v176 v185 v189 k0_hw13 => k0_hw13

def k0_off14 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let v219 : Index := Scalar.indexCast v210
  ![v219.toNat]

def k0_chk14 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) : Prop :=
  (∀ a, (k0_off14 v30 v34 v42 v46 v55 v59 v68 v72 v81 v85 v94 v98 v107 v111 v120 v124 v133 v137 v146 v150 v159 v163 v172 v176 v185 v189 v198 v202) a + S1.size a ≤ S34.size a)
theorem k0_off14_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (k0_hw14 : k0_chk14 v30 v34 v42 v46 v55 v59 v68 v72 v81 v85 v94 v98 v107 v111 v120 v124 v133 v137 v146 v150 v159 v163 v172 v176 v185 v189 v198 v202), ∀ a, (k0_off14 v30 v34 v42 v46 v55 v59 v68 v72 v81 v85 v94 v98 v107 v111 v120 v124 v133 v137 v146 v150 v159 v163 v172 v176 v185 v189 v198 v202) a + S1.size a ≤ S34.size a := fun v30 v34 v42 v46 v55 v59 v68 v72 v81 v85 v94 v98 v107 v111 v120 v124 v133 v137 v146 v150 v159 v163 v172 v176 v185 v189 v198 v202 k0_hw14 => k0_hw14

def k0_off15 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let v232 : Index := Scalar.indexCast v223
  ![v232.toNat]

def k0_chk15 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) : Prop :=
  (∀ a, (k0_off15 v30 v34 v42 v46 v55 v59 v68 v72 v81 v85 v94 v98 v107 v111 v120 v124 v133 v137 v146 v150 v159 v163 v172 v176 v185 v189 v198 v202 v211 v215) a + S1.size a ≤ S34.size a)
theorem k0_off15_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (k0_hw15 : k0_chk15 v30 v34 v42 v46 v55 v59 v68 v72 v81 v85 v94 v98 v107 v111 v120 v124 v133 v137 v146 v150 v159 v163 v172 v176 v185 v189 v198 v202 v211 v215), ∀ a, (k0_off15 v30 v34 v42 v46 v55 v59 v68 v72 v81 v85 v94 v98 v107 v111 v120 v124 v133 v137 v146 v150 v159 v163 v172 v176 v185 v189 v198 v202 v211 v215) a + S1.size a ≤ S34.size a := fun v30 v34 v42 v46 v55 v59 v68 v72 v81 v85 v94 v98 v107 v111 v120 v124 v133 v137 v146 v150 v159 v163 v172 v176 v185 v189 v198 v202 v211 v215 k0_hw15 => k0_hw15

def k0_off16 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let v245 : Index := Scalar.indexCast v236
  ![v245.toNat]

def k0_chk16 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) : Prop :=
  (∀ a, (k0_off16 v30 v34 v42 v46 v55 v59 v68 v72 v81 v85 v94 v98 v107 v111 v120 v124 v133 v137 v146 v150 v159 v163 v172 v176 v185 v189 v198 v202 v211 v215 v224 v228) a + S1.size a ≤ S34.size a)
theorem k0_off16_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (k0_hw16 : k0_chk16 v30 v34 v42 v46 v55 v59 v68 v72 v81 v85 v94 v98 v107 v111 v120 v124 v133 v137 v146 v150 v159 v163 v172 v176 v185 v189 v198 v202 v211 v215 v224 v228), ∀ a, (k0_off16 v30 v34 v42 v46 v55 v59 v68 v72 v81 v85 v94 v98 v107 v111 v120 v124 v133 v137 v146 v150 v159 v163 v172 v176 v185 v189 v198 v202 v211 v215 v224 v228) a + S1.size a ≤ S34.size a := fun v30 v34 v42 v46 v55 v59 v68 v72 v81 v85 v94 v98 v107 v111 v120 v124 v133 v137 v146 v150 v159 v163 v172 v176 v185 v189 v198 v202 v211 v215 v224 v228 k0_hw16 => k0_hw16

def k0_off17 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let v258 : Index := Scalar.indexCast v249
  ![v258.toNat]

def k0_chk17 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) : Prop :=
  (∀ a, (k0_off17 v30 v34 v42 v46 v55 v59 v68 v72 v81 v85 v94 v98 v107 v111 v120 v124 v133 v137 v146 v150 v159 v163 v172 v176 v185 v189 v198 v202 v211 v215 v224 v228 v237 v241) a + S1.size a ≤ S34.size a)
theorem k0_off17_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (k0_hw17 : k0_chk17 v30 v34 v42 v46 v55 v59 v68 v72 v81 v85 v94 v98 v107 v111 v120 v124 v133 v137 v146 v150 v159 v163 v172 v176 v185 v189 v198 v202 v211 v215 v224 v228 v237 v241), ∀ a, (k0_off17 v30 v34 v42 v46 v55 v59 v68 v72 v81 v85 v94 v98 v107 v111 v120 v124 v133 v137 v146 v150 v159 v163 v172 v176 v185 v189 v198 v202 v211 v215 v224 v228 v237 v241) a + S1.size a ≤ S34.size a := fun v30 v34 v42 v46 v55 v59 v68 v72 v81 v85 v94 v98 v107 v111 v120 v124 v133 v137 v146 v150 v159 v163 v172 v176 v185 v189 v198 v202 v211 v215 v224 v228 v237 v241 k0_hw17 => k0_hw17

def k0_off18 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let v271 : Index := Scalar.indexCast v262
  ![v271.toNat]

def k0_chk18 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) : Prop :=
  (∀ a, (k0_off18 v30 v34 v42 v46 v55 v59 v68 v72 v81 v85 v94 v98 v107 v111 v120 v124 v133 v137 v146 v150 v159 v163 v172 v176 v185 v189 v198 v202 v211 v215 v224 v228 v237 v241 v250 v254) a + S1.size a ≤ S34.size a)
theorem k0_off18_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (k0_hw18 : k0_chk18 v30 v34 v42 v46 v55 v59 v68 v72 v81 v85 v94 v98 v107 v111 v120 v124 v133 v137 v146 v150 v159 v163 v172 v176 v185 v189 v198 v202 v211 v215 v224 v228 v237 v241 v250 v254), ∀ a, (k0_off18 v30 v34 v42 v46 v55 v59 v68 v72 v81 v85 v94 v98 v107 v111 v120 v124 v133 v137 v146 v150 v159 v163 v172 v176 v185 v189 v198 v202 v211 v215 v224 v228 v237 v241 v250 v254) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 k0_hw18 => k0_hw18

def k0_off19 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let v284 : Index := Scalar.indexCast v275
  ![v284.toNat]

def k0_chk19 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) : Prop :=
  (∀ a, (k0_off19 v30 v34 v42 v46 v55 v59 v68 v72 v81 v85 v94 v98 v107 v111 v120 v124 v133 v137 v146 v150 v159 v163 v172 v176 v185 v189 v198 v202 v211 v215 v224 v228 v237 v241 v250 v254 v263 v267) a + S1.size a ≤ S34.size a)
theorem k0_off19_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (k0_hw19 : k0_chk19 v30 v34 v42 v46 v55 v59 v68 v72 v81 v85 v94 v98 v107 v111 v120 v124 v133 v137 v146 v150 v159 v163 v172 v176 v185 v189 v198 v202 v211 v215 v224 v228 v237 v241 v250 v254 v263 v267), ∀ a, (k0_off19 v30 v34 v42 v46 v55 v59 v68 v72 v81 v85 v94 v98 v107 v111 v120 v124 v133 v137 v146 v150 v159 v163 v172 v176 v185 v189 v198 v202 v211 v215 v224 v228 v237 v241 v250 v254 v263 v267) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 k0_hw19 => k0_hw19

def k0_off20 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let v297 : Index := Scalar.indexCast v288
  ![v297.toNat]

def k0_chk20 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) : Prop :=
  (∀ a, (k0_off20 v30 v34 v42 v46 v55 v59 v68 v72 v81 v85 v94 v98 v107 v111 v120 v124 v133 v137 v146 v150 v159 v163 v172 v176 v185 v189 v198 v202 v211 v215 v224 v228 v237 v241 v250 v254 v263 v267 v276 v280) a + S1.size a ≤ S34.size a)
theorem k0_off20_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (k0_hw20 : k0_chk20 v30 v34 v42 v46 v55 v59 v68 v72 v81 v85 v94 v98 v107 v111 v120 v124 v133 v137 v146 v150 v159 v163 v172 v176 v185 v189 v198 v202 v211 v215 v224 v228 v237 v241 v250 v254 v263 v267 v276 v280), ∀ a, (k0_off20 v30 v34 v42 v46 v55 v59 v68 v72 v81 v85 v94 v98 v107 v111 v120 v124 v133 v137 v146 v150 v159 v163 v172 v176 v185 v189 v198 v202 v211 v215 v224 v228 v237 v241 v250 v254 v263 v267 v276 v280) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 k0_hw20 => k0_hw20

def k0_off21 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let v310 : Index := Scalar.indexCast v301
  ![v310.toNat]

def k0_chk21 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) : Prop :=
  (∀ a, (k0_off21 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293) a + S1.size a ≤ S34.size a)
theorem k0_off21_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (k0_hw21 : k0_chk21 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293), ∀ a, (k0_off21 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 k0_hw21 => k0_hw21

def k0_off22 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let v323 : Index := Scalar.indexCast v314
  ![v323.toNat]

def k0_chk22 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) : Prop :=
  (∀ a, (k0_off22 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306) a + S1.size a ≤ S34.size a)
theorem k0_off22_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (k0_hw22 : k0_chk22 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306), ∀ a, (k0_off22 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 k0_hw22 => k0_hw22

def k0_off23 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let v336 : Index := Scalar.indexCast v327
  ![v336.toNat]

def k0_chk23 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) : Prop :=
  (∀ a, (k0_off23 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319) a + S1.size a ≤ S34.size a)
theorem k0_off23_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (k0_hw23 : k0_chk23 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319), ∀ a, (k0_off23 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 k0_hw23 => k0_hw23

def k0_off24 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let v349 : Index := Scalar.indexCast v340
  ![v349.toNat]

def k0_chk24 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) : Prop :=
  (∀ a, (k0_off24 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332) a + S1.size a ≤ S34.size a)
theorem k0_off24_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (k0_hw24 : k0_chk24 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332), ∀ a, (k0_off24 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 k0_hw24 => k0_hw24

def k0_off25 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let v362 : Index := Scalar.indexCast v353
  ![v362.toNat]

def k0_chk25 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) : Prop :=
  (∀ a, (k0_off25 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345) a + S1.size a ≤ S34.size a)
theorem k0_off25_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (k0_hw25 : k0_chk25 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345), ∀ a, (k0_off25 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 k0_hw25 => k0_hw25

def k0_off26 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let v375 : Index := Scalar.indexCast v366
  ![v375.toNat]

def k0_chk26 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) : Prop :=
  (∀ a, (k0_off26 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358) a + S1.size a ≤ S34.size a)
theorem k0_off26_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (k0_hw26 : k0_chk26 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358), ∀ a, (k0_off26 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 k0_hw26 => k0_hw26

def k0_off27 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let v388 : Index := Scalar.indexCast v379
  ![v388.toNat]

def k0_chk27 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) : Prop :=
  (∀ a, (k0_off27 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371) a + S1.size a ≤ S34.size a)
theorem k0_off27_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (k0_hw27 : k0_chk27 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371), ∀ a, (k0_off27 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 k0_hw27 => k0_hw27

def k0_off28 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let v401 : Index := Scalar.indexCast v392
  ![v401.toNat]

def k0_chk28 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) : Prop :=
  (∀ a, (k0_off28 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384) a + S1.size a ≤ S34.size a)
theorem k0_off28_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (k0_hw28 : k0_chk28 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384), ∀ a, (k0_off28 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 k0_hw28 => k0_hw28

def k0_off29 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let v414 : Index := Scalar.indexCast v405
  ![v414.toNat]

def k0_chk29 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) : Prop :=
  (∀ a, (k0_off29 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397) a + S1.size a ≤ S34.size a)
theorem k0_off29_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (k0_hw29 : k0_chk29 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397), ∀ a, (k0_off29 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 k0_hw29 => k0_hw29

def k0_off30 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) : Fin 1 → Nat :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let v425 : Index := Scalar.indexCast v418
  ![v425.toNat]

def k0_chk30 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) : Prop :=
  (∀ a, (k0_off30 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410) a + S1.size a ≤ S34.size a)
theorem k0_off30_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (k0_hw30 : k0_chk30 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410), ∀ a, (k0_off30 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 k0_hw30 => k0_hw30

def k0_off31 (v505 : BitVec 32) : Fin 3 → Nat :=
  let c0_i32_372 : BitVec 32 := 0#32
  let c0_i32_373 : BitVec 32 := 0#32
  ![v505.toNat, 0, 0]
def k0_cond1 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c2_i32_317 : BitVec 32 := 2#32
  let v430 : BitVec 1 := Scalar.cmpi .sgt v429 c2_i32_317
  let v431 : BitVec 32 := Scalar.extui v430
  let c0_i32_318 : BitVec 32 := 0#32
  let v432 : BitVec 1 := Scalar.cmpi .ne v431 c0_i32_318
  v432

def k0_chk31 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h1 : k0_cond1 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off31 v505) a + S1x2560x1024.size a ≤ S33x2560x1024.size a) ∧
  (∀ (k0_h1 : k0_cond1 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off31 v505) a + S1x2560x1024.size a ≤ S33x2560x1024.size a), (Rect.unit (s := S33x2560x1024) (k0_off31 v505) S1x2560x1024.size hinb).WholeWords (EltTy.packing .fp8e4m3))
theorem k0_off31_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw31 : k0_chk31 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h1 : k0_cond1 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off31 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw31 k0_h1 => k0_hw31.1 k0_h1
theorem k0_off31_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw31 : k0_chk31 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h1 : k0_cond1 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off31 v505) S1x2560x1024.size (k0_off31_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw31 k0_h1)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw31 k0_h1 => k0_hw31.2 k0_h1 (k0_off31_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw31 k0_h1)

def k0_off32 (v505 : BitVec 32) : Fin 3 → Nat :=
  let c0_i32_372 : BitVec 32 := 0#32
  let c0_i32_373 : BitVec 32 := 0#32
  ![v505.toNat, 0, 0]
def k0_cond2 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c3_i32_319 : BitVec 32 := 3#32
  let v433 : BitVec 1 := Scalar.cmpi .sgt v429 c3_i32_319
  let v434 : BitVec 32 := Scalar.extui v433
  let c0_i32_320 : BitVec 32 := 0#32
  let v435 : BitVec 1 := Scalar.cmpi .ne v434 c0_i32_320
  v435

def k0_chk32 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h2 : k0_cond2 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off32 v505) a + S1x2560x1024.size a ≤ S33x2560x1024.size a) ∧
  (∀ (k0_h2 : k0_cond2 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off32 v505) a + S1x2560x1024.size a ≤ S33x2560x1024.size a), (Rect.unit (s := S33x2560x1024) (k0_off32 v505) S1x2560x1024.size hinb).WholeWords (EltTy.packing .fp8e4m3))
theorem k0_off32_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw32 : k0_chk32 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h2 : k0_cond2 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off32 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw32 k0_h2 => k0_hw32.1 k0_h2
theorem k0_off32_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw32 : k0_chk32 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h2 : k0_cond2 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off32 v505) S1x2560x1024.size (k0_off32_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw32 k0_h2)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw32 k0_h2 => k0_hw32.2 k0_h2 (k0_off32_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw32 k0_h2)

def k0_off33 (v505 : BitVec 32) : Fin 3 → Nat :=
  let c0_i32_372 : BitVec 32 := 0#32
  let c0_i32_373 : BitVec 32 := 0#32
  ![v505.toNat, 0, 0]
def k0_cond3 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c4_i32_321 : BitVec 32 := 4#32
  let v436 : BitVec 1 := Scalar.cmpi .sgt v429 c4_i32_321
  let v437 : BitVec 32 := Scalar.extui v436
  let c0_i32_322 : BitVec 32 := 0#32
  let v438 : BitVec 1 := Scalar.cmpi .ne v437 c0_i32_322
  v438

def k0_chk33 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h3 : k0_cond3 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off33 v505) a + S1x2560x1024.size a ≤ S33x2560x1024.size a) ∧
  (∀ (k0_h3 : k0_cond3 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off33 v505) a + S1x2560x1024.size a ≤ S33x2560x1024.size a), (Rect.unit (s := S33x2560x1024) (k0_off33 v505) S1x2560x1024.size hinb).WholeWords (EltTy.packing .fp8e4m3))
theorem k0_off33_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw33 : k0_chk33 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h3 : k0_cond3 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off33 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw33 k0_h3 => k0_hw33.1 k0_h3
theorem k0_off33_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw33 : k0_chk33 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h3 : k0_cond3 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off33 v505) S1x2560x1024.size (k0_off33_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw33 k0_h3)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw33 k0_h3 => k0_hw33.2 k0_h3 (k0_off33_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw33 k0_h3)

def k0_off34 (v505 : BitVec 32) : Fin 3 → Nat :=
  let c0_i32_372 : BitVec 32 := 0#32
  let c0_i32_373 : BitVec 32 := 0#32
  ![v505.toNat, 0, 0]
def k0_cond4 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c5_i32_323 : BitVec 32 := 5#32
  let v439 : BitVec 1 := Scalar.cmpi .sgt v429 c5_i32_323
  let v440 : BitVec 32 := Scalar.extui v439
  let c0_i32_324 : BitVec 32 := 0#32
  let v441 : BitVec 1 := Scalar.cmpi .ne v440 c0_i32_324
  v441

def k0_chk34 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h4 : k0_cond4 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off34 v505) a + S1x2560x1024.size a ≤ S33x2560x1024.size a) ∧
  (∀ (k0_h4 : k0_cond4 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off34 v505) a + S1x2560x1024.size a ≤ S33x2560x1024.size a), (Rect.unit (s := S33x2560x1024) (k0_off34 v505) S1x2560x1024.size hinb).WholeWords (EltTy.packing .fp8e4m3))
theorem k0_off34_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw34 : k0_chk34 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h4 : k0_cond4 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off34 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw34 k0_h4 => k0_hw34.1 k0_h4
theorem k0_off34_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw34 : k0_chk34 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h4 : k0_cond4 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off34 v505) S1x2560x1024.size (k0_off34_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw34 k0_h4)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw34 k0_h4 => k0_hw34.2 k0_h4 (k0_off34_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw34 k0_h4)

def k0_off35 (v505 : BitVec 32) : Fin 3 → Nat :=
  let c0_i32_372 : BitVec 32 := 0#32
  let c0_i32_373 : BitVec 32 := 0#32
  ![v505.toNat, 0, 0]
def k0_cond5 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c6_i32_325 : BitVec 32 := 6#32
  let v442 : BitVec 1 := Scalar.cmpi .sgt v429 c6_i32_325
  let v443 : BitVec 32 := Scalar.extui v442
  let c0_i32_326 : BitVec 32 := 0#32
  let v444 : BitVec 1 := Scalar.cmpi .ne v443 c0_i32_326
  v444

def k0_chk35 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h5 : k0_cond5 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off35 v505) a + S1x2560x1024.size a ≤ S33x2560x1024.size a) ∧
  (∀ (k0_h5 : k0_cond5 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off35 v505) a + S1x2560x1024.size a ≤ S33x2560x1024.size a), (Rect.unit (s := S33x2560x1024) (k0_off35 v505) S1x2560x1024.size hinb).WholeWords (EltTy.packing .fp8e4m3))
theorem k0_off35_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw35 : k0_chk35 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h5 : k0_cond5 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off35 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw35 k0_h5 => k0_hw35.1 k0_h5
theorem k0_off35_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw35 : k0_chk35 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h5 : k0_cond5 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off35 v505) S1x2560x1024.size (k0_off35_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw35 k0_h5)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw35 k0_h5 => k0_hw35.2 k0_h5 (k0_off35_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw35 k0_h5)

def k0_off36 (v505 : BitVec 32) : Fin 3 → Nat :=
  let c0_i32_372 : BitVec 32 := 0#32
  let c0_i32_373 : BitVec 32 := 0#32
  ![v505.toNat, 0, 0]
def k0_cond6 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c7_i32_327 : BitVec 32 := 7#32
  let v445 : BitVec 1 := Scalar.cmpi .sgt v429 c7_i32_327
  let v446 : BitVec 32 := Scalar.extui v445
  let c0_i32_328 : BitVec 32 := 0#32
  let v447 : BitVec 1 := Scalar.cmpi .ne v446 c0_i32_328
  v447

def k0_chk36 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h6 : k0_cond6 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off36 v505) a + S1x2560x1024.size a ≤ S33x2560x1024.size a) ∧
  (∀ (k0_h6 : k0_cond6 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off36 v505) a + S1x2560x1024.size a ≤ S33x2560x1024.size a), (Rect.unit (s := S33x2560x1024) (k0_off36 v505) S1x2560x1024.size hinb).WholeWords (EltTy.packing .fp8e4m3))
theorem k0_off36_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw36 : k0_chk36 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h6 : k0_cond6 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off36 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw36 k0_h6 => k0_hw36.1 k0_h6
theorem k0_off36_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw36 : k0_chk36 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h6 : k0_cond6 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off36 v505) S1x2560x1024.size (k0_off36_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw36 k0_h6)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw36 k0_h6 => k0_hw36.2 k0_h6 (k0_off36_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw36 k0_h6)

def k0_off37 (v505 : BitVec 32) : Fin 3 → Nat :=
  let c0_i32_372 : BitVec 32 := 0#32
  let c0_i32_373 : BitVec 32 := 0#32
  ![v505.toNat, 0, 0]
def k0_cond7 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c8_i32_329 : BitVec 32 := 8#32
  let v448 : BitVec 1 := Scalar.cmpi .sgt v429 c8_i32_329
  let v449 : BitVec 32 := Scalar.extui v448
  let c0_i32_330 : BitVec 32 := 0#32
  let v450 : BitVec 1 := Scalar.cmpi .ne v449 c0_i32_330
  v450

def k0_chk37 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h7 : k0_cond7 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off37 v505) a + S1x2560x1024.size a ≤ S33x2560x1024.size a) ∧
  (∀ (k0_h7 : k0_cond7 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off37 v505) a + S1x2560x1024.size a ≤ S33x2560x1024.size a), (Rect.unit (s := S33x2560x1024) (k0_off37 v505) S1x2560x1024.size hinb).WholeWords (EltTy.packing .fp8e4m3))
theorem k0_off37_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw37 : k0_chk37 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h7 : k0_cond7 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off37 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw37 k0_h7 => k0_hw37.1 k0_h7
theorem k0_off37_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw37 : k0_chk37 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h7 : k0_cond7 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off37 v505) S1x2560x1024.size (k0_off37_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw37 k0_h7)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw37 k0_h7 => k0_hw37.2 k0_h7 (k0_off37_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw37 k0_h7)

def k0_off38 (v505 : BitVec 32) : Fin 3 → Nat :=
  let c0_i32_372 : BitVec 32 := 0#32
  let c0_i32_373 : BitVec 32 := 0#32
  ![v505.toNat, 0, 0]
def k0_cond8 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c9_i32_331 : BitVec 32 := 9#32
  let v451 : BitVec 1 := Scalar.cmpi .sgt v429 c9_i32_331
  let v452 : BitVec 32 := Scalar.extui v451
  let c0_i32_332 : BitVec 32 := 0#32
  let v453 : BitVec 1 := Scalar.cmpi .ne v452 c0_i32_332
  v453

def k0_chk38 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h8 : k0_cond8 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off38 v505) a + S1x2560x1024.size a ≤ S33x2560x1024.size a) ∧
  (∀ (k0_h8 : k0_cond8 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off38 v505) a + S1x2560x1024.size a ≤ S33x2560x1024.size a), (Rect.unit (s := S33x2560x1024) (k0_off38 v505) S1x2560x1024.size hinb).WholeWords (EltTy.packing .fp8e4m3))
theorem k0_off38_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw38 : k0_chk38 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h8 : k0_cond8 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off38 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw38 k0_h8 => k0_hw38.1 k0_h8
theorem k0_off38_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw38 : k0_chk38 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h8 : k0_cond8 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off38 v505) S1x2560x1024.size (k0_off38_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw38 k0_h8)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw38 k0_h8 => k0_hw38.2 k0_h8 (k0_off38_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw38 k0_h8)

def k0_off39 (v505 : BitVec 32) : Fin 3 → Nat :=
  let c0_i32_372 : BitVec 32 := 0#32
  let c0_i32_373 : BitVec 32 := 0#32
  ![v505.toNat, 0, 0]
def k0_cond9 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c10_i32_333 : BitVec 32 := 10#32
  let v454 : BitVec 1 := Scalar.cmpi .sgt v429 c10_i32_333
  let v455 : BitVec 32 := Scalar.extui v454
  let c0_i32_334 : BitVec 32 := 0#32
  let v456 : BitVec 1 := Scalar.cmpi .ne v455 c0_i32_334
  v456

def k0_chk39 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h9 : k0_cond9 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off39 v505) a + S1x2560x1024.size a ≤ S33x2560x1024.size a) ∧
  (∀ (k0_h9 : k0_cond9 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off39 v505) a + S1x2560x1024.size a ≤ S33x2560x1024.size a), (Rect.unit (s := S33x2560x1024) (k0_off39 v505) S1x2560x1024.size hinb).WholeWords (EltTy.packing .fp8e4m3))
theorem k0_off39_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw39 : k0_chk39 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h9 : k0_cond9 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off39 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw39 k0_h9 => k0_hw39.1 k0_h9
theorem k0_off39_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw39 : k0_chk39 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h9 : k0_cond9 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off39 v505) S1x2560x1024.size (k0_off39_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw39 k0_h9)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw39 k0_h9 => k0_hw39.2 k0_h9 (k0_off39_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw39 k0_h9)

def k0_off40 (v505 : BitVec 32) : Fin 3 → Nat :=
  let c0_i32_372 : BitVec 32 := 0#32
  let c0_i32_373 : BitVec 32 := 0#32
  ![v505.toNat, 0, 0]
def k0_cond10 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c11_i32_335 : BitVec 32 := 11#32
  let v457 : BitVec 1 := Scalar.cmpi .sgt v429 c11_i32_335
  let v458 : BitVec 32 := Scalar.extui v457
  let c0_i32_336 : BitVec 32 := 0#32
  let v459 : BitVec 1 := Scalar.cmpi .ne v458 c0_i32_336
  v459

def k0_chk40 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h10 : k0_cond10 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off40 v505) a + S1x2560x1024.size a ≤ S33x2560x1024.size a) ∧
  (∀ (k0_h10 : k0_cond10 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off40 v505) a + S1x2560x1024.size a ≤ S33x2560x1024.size a), (Rect.unit (s := S33x2560x1024) (k0_off40 v505) S1x2560x1024.size hinb).WholeWords (EltTy.packing .fp8e4m3))
theorem k0_off40_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw40 : k0_chk40 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h10 : k0_cond10 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off40 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw40 k0_h10 => k0_hw40.1 k0_h10
theorem k0_off40_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw40 : k0_chk40 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h10 : k0_cond10 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off40 v505) S1x2560x1024.size (k0_off40_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw40 k0_h10)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw40 k0_h10 => k0_hw40.2 k0_h10 (k0_off40_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw40 k0_h10)

def k0_off41 (v505 : BitVec 32) : Fin 3 → Nat :=
  let c0_i32_372 : BitVec 32 := 0#32
  let c0_i32_373 : BitVec 32 := 0#32
  ![v505.toNat, 0, 0]
def k0_cond11 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c12_i32_337 : BitVec 32 := 12#32
  let v460 : BitVec 1 := Scalar.cmpi .sgt v429 c12_i32_337
  let v461 : BitVec 32 := Scalar.extui v460
  let c0_i32_338 : BitVec 32 := 0#32
  let v462 : BitVec 1 := Scalar.cmpi .ne v461 c0_i32_338
  v462

def k0_chk41 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h11 : k0_cond11 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off41 v505) a + S1x2560x1024.size a ≤ S33x2560x1024.size a) ∧
  (∀ (k0_h11 : k0_cond11 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off41 v505) a + S1x2560x1024.size a ≤ S33x2560x1024.size a), (Rect.unit (s := S33x2560x1024) (k0_off41 v505) S1x2560x1024.size hinb).WholeWords (EltTy.packing .fp8e4m3))
theorem k0_off41_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw41 : k0_chk41 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h11 : k0_cond11 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off41 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw41 k0_h11 => k0_hw41.1 k0_h11
theorem k0_off41_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw41 : k0_chk41 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h11 : k0_cond11 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off41 v505) S1x2560x1024.size (k0_off41_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw41 k0_h11)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw41 k0_h11 => k0_hw41.2 k0_h11 (k0_off41_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw41 k0_h11)

def k0_off42 (v505 : BitVec 32) : Fin 3 → Nat :=
  let c0_i32_372 : BitVec 32 := 0#32
  let c0_i32_373 : BitVec 32 := 0#32
  ![v505.toNat, 0, 0]
def k0_cond12 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c13_i32_339 : BitVec 32 := 13#32
  let v463 : BitVec 1 := Scalar.cmpi .sgt v429 c13_i32_339
  let v464 : BitVec 32 := Scalar.extui v463
  let c0_i32_340 : BitVec 32 := 0#32
  let v465 : BitVec 1 := Scalar.cmpi .ne v464 c0_i32_340
  v465

def k0_chk42 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h12 : k0_cond12 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off42 v505) a + S1x2560x1024.size a ≤ S33x2560x1024.size a) ∧
  (∀ (k0_h12 : k0_cond12 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off42 v505) a + S1x2560x1024.size a ≤ S33x2560x1024.size a), (Rect.unit (s := S33x2560x1024) (k0_off42 v505) S1x2560x1024.size hinb).WholeWords (EltTy.packing .fp8e4m3))
theorem k0_off42_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw42 : k0_chk42 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h12 : k0_cond12 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off42 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw42 k0_h12 => k0_hw42.1 k0_h12
theorem k0_off42_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw42 : k0_chk42 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h12 : k0_cond12 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off42 v505) S1x2560x1024.size (k0_off42_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw42 k0_h12)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw42 k0_h12 => k0_hw42.2 k0_h12 (k0_off42_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw42 k0_h12)

def k0_off43 (v505 : BitVec 32) : Fin 3 → Nat :=
  let c0_i32_372 : BitVec 32 := 0#32
  let c0_i32_373 : BitVec 32 := 0#32
  ![v505.toNat, 0, 0]
def k0_cond13 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c14_i32_341 : BitVec 32 := 14#32
  let v466 : BitVec 1 := Scalar.cmpi .sgt v429 c14_i32_341
  let v467 : BitVec 32 := Scalar.extui v466
  let c0_i32_342 : BitVec 32 := 0#32
  let v468 : BitVec 1 := Scalar.cmpi .ne v467 c0_i32_342
  v468

def k0_chk43 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h13 : k0_cond13 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off43 v505) a + S1x2560x1024.size a ≤ S33x2560x1024.size a) ∧
  (∀ (k0_h13 : k0_cond13 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off43 v505) a + S1x2560x1024.size a ≤ S33x2560x1024.size a), (Rect.unit (s := S33x2560x1024) (k0_off43 v505) S1x2560x1024.size hinb).WholeWords (EltTy.packing .fp8e4m3))
theorem k0_off43_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw43 : k0_chk43 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h13 : k0_cond13 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off43 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw43 k0_h13 => k0_hw43.1 k0_h13
theorem k0_off43_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw43 : k0_chk43 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h13 : k0_cond13 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off43 v505) S1x2560x1024.size (k0_off43_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw43 k0_h13)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw43 k0_h13 => k0_hw43.2 k0_h13 (k0_off43_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw43 k0_h13)

def k0_off44 (v505 : BitVec 32) : Fin 3 → Nat :=
  let c0_i32_372 : BitVec 32 := 0#32
  let c0_i32_373 : BitVec 32 := 0#32
  ![v505.toNat, 0, 0]
def k0_cond14 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c15_i32_343 : BitVec 32 := 15#32
  let v469 : BitVec 1 := Scalar.cmpi .sgt v429 c15_i32_343
  let v470 : BitVec 32 := Scalar.extui v469
  let c0_i32_344 : BitVec 32 := 0#32
  let v471 : BitVec 1 := Scalar.cmpi .ne v470 c0_i32_344
  v471

def k0_chk44 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h14 : k0_cond14 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off44 v505) a + S1x2560x1024.size a ≤ S33x2560x1024.size a) ∧
  (∀ (k0_h14 : k0_cond14 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off44 v505) a + S1x2560x1024.size a ≤ S33x2560x1024.size a), (Rect.unit (s := S33x2560x1024) (k0_off44 v505) S1x2560x1024.size hinb).WholeWords (EltTy.packing .fp8e4m3))
theorem k0_off44_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw44 : k0_chk44 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h14 : k0_cond14 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off44 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw44 k0_h14 => k0_hw44.1 k0_h14
theorem k0_off44_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw44 : k0_chk44 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h14 : k0_cond14 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off44 v505) S1x2560x1024.size (k0_off44_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw44 k0_h14)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw44 k0_h14 => k0_hw44.2 k0_h14 (k0_off44_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw44 k0_h14)

def k0_off45 (v505 : BitVec 32) : Fin 3 → Nat :=
  let c0_i32_372 : BitVec 32 := 0#32
  let c0_i32_373 : BitVec 32 := 0#32
  ![v505.toNat, 0, 0]
def k0_cond15 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c16_i32_345 : BitVec 32 := 16#32
  let v472 : BitVec 1 := Scalar.cmpi .sgt v429 c16_i32_345
  let v473 : BitVec 32 := Scalar.extui v472
  let c0_i32_346 : BitVec 32 := 0#32
  let v474 : BitVec 1 := Scalar.cmpi .ne v473 c0_i32_346
  v474

def k0_chk45 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h15 : k0_cond15 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off45 v505) a + S1x2560x1024.size a ≤ S33x2560x1024.size a) ∧
  (∀ (k0_h15 : k0_cond15 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off45 v505) a + S1x2560x1024.size a ≤ S33x2560x1024.size a), (Rect.unit (s := S33x2560x1024) (k0_off45 v505) S1x2560x1024.size hinb).WholeWords (EltTy.packing .fp8e4m3))
theorem k0_off45_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw45 : k0_chk45 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h15 : k0_cond15 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off45 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw45 k0_h15 => k0_hw45.1 k0_h15
theorem k0_off45_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw45 : k0_chk45 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h15 : k0_cond15 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off45 v505) S1x2560x1024.size (k0_off45_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw45 k0_h15)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw45 k0_h15 => k0_hw45.2 k0_h15 (k0_off45_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw45 k0_h15)

def k0_off46 (v505 : BitVec 32) : Fin 3 → Nat :=
  let c0_i32_372 : BitVec 32 := 0#32
  let c0_i32_373 : BitVec 32 := 0#32
  ![v505.toNat, 0, 0]
def k0_cond16 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c17_i32_347 : BitVec 32 := 17#32
  let v475 : BitVec 1 := Scalar.cmpi .sgt v429 c17_i32_347
  let v476 : BitVec 32 := Scalar.extui v475
  let c0_i32_348 : BitVec 32 := 0#32
  let v477 : BitVec 1 := Scalar.cmpi .ne v476 c0_i32_348
  v477

def k0_chk46 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h16 : k0_cond16 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off46 v505) a + S1x2560x1024.size a ≤ S33x2560x1024.size a) ∧
  (∀ (k0_h16 : k0_cond16 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off46 v505) a + S1x2560x1024.size a ≤ S33x2560x1024.size a), (Rect.unit (s := S33x2560x1024) (k0_off46 v505) S1x2560x1024.size hinb).WholeWords (EltTy.packing .fp8e4m3))
theorem k0_off46_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw46 : k0_chk46 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h16 : k0_cond16 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off46 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw46 k0_h16 => k0_hw46.1 k0_h16
theorem k0_off46_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw46 : k0_chk46 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h16 : k0_cond16 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off46 v505) S1x2560x1024.size (k0_off46_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw46 k0_h16)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw46 k0_h16 => k0_hw46.2 k0_h16 (k0_off46_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw46 k0_h16)

def k0_off47 (v505 : BitVec 32) : Fin 3 → Nat :=
  let c0_i32_372 : BitVec 32 := 0#32
  let c0_i32_373 : BitVec 32 := 0#32
  ![v505.toNat, 0, 0]
def k0_cond17 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : BitVec 1 :=
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let c18_i32_349 : BitVec 32 := 18#32
  let v478 : BitVec 1 := Scalar.cmpi .sgt v429 c18_i32_349
  let v479 : BitVec 32 := Scalar.extui v478
  let c0_i32_350 : BitVec 32 := 0#32
  let v480 : BitVec 1 := Scalar.cmpi .ne v479 c0_i32_350
  v480

def k0_chk47 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) : Prop :=
  (∀ (k0_h17 : k0_cond17 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off47 v505) a + S1x2560x1024.size a ≤ S33x2560x1024.size a) ∧
  (∀ (k0_h17 : k0_cond17 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ (hinb : ∀ a, (k0_off47 v505) a + S1x2560x1024.size a ≤ S33x2560x1024.size a), (Rect.unit (s := S33x2560x1024) (k0_off47 v505) S1x2560x1024.size hinb).WholeWords (EltTy.packing .fp8e4m3))
theorem k0_off47_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw47 : k0_chk47 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h17 : k0_cond17 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), ∀ a, (k0_off47 v505) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw47 k0_h17 => k0_hw47.1 k0_h17
theorem k0_off47_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (v505 : BitVec 32) (k0_hw47 : k0_chk47 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505), ∀ (k0_h17 : k0_cond17 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 = 1#1), (Rect.unit (s := S33x2560x1024) (k0_off47 v505) S1x2560x1024.size (k0_off47_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw47 k0_h17)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw47 k0_h17 => k0_hw47.2 k0_h17 (k0_off47_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 v505 k0_hw47 k0_h17)

@[reducible] def k0_t1_loop (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : Scf.Loop 32 :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_365 : BitVec 32 := 1#32
  ⟨c0_i32_363, v504, c1_i32_365⟩

def k0_off48 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c1_i32_365 : BitVec 32 := 1#32
  let arg22 : BitVec 32 := Scf.iv c0_i32_363 c1_i32_365 k0_t1
  let c19_i32_367 : BitVec 32 := 19#32
  let v505 : BitVec 32 := Scalar.addi arg22 c19_i32_367
  let v555 : Index := Scalar.indexCast v505
  ![v555.toNat]
def k0_cond18 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : BitVec 1 :=
  let c0_i32_363 : BitVec 32 := 0#32
  let c1_i32_365 : BitVec 32 := 1#32
  let arg22 : BitVec 32 := Scf.iv c0_i32_363 c1_i32_365 k0_t1
  let c19_i32_367 : BitVec 32 := 19#32
  let v505 : BitVec 32 := Scalar.addi arg22 c19_i32_367
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v506 : BitVec 1 := Scalar.cmpi .slt v505 v429
  let v507 : BitVec 32 := Scalar.extui v506
  let c0_i32_368 : BitVec 32 := 0#32
  let v508 : BitVec 1 := Scalar.cmpi .ne v507 c0_i32_368
  v508

def k0_off49 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c1_i32_365 : BitVec 32 := 1#32
  let arg22 : BitVec 32 := Scf.iv c0_i32_363 c1_i32_365 k0_t1
  let c19_i32_367 : BitVec 32 := 19#32
  let v505 : BitVec 32 := Scalar.addi arg22 c19_i32_367
  let c20_i32_399 : BitVec 32 := 20#32
  let v557 : BitVec 32 := Scalar.remsi v505 c20_i32_399
  ![v557.toNat]
def k0_off50 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c1_i32_365 : BitVec 32 := 1#32
  let arg22 : BitVec 32 := Scf.iv c0_i32_363 c1_i32_365 k0_t1
  let c19_i32_367 : BitVec 32 := 19#32
  let v505 : BitVec 32 := Scalar.addi arg22 c19_i32_367
  let c20_i32_399 : BitVec 32 := 20#32
  let v557 : BitVec 32 := Scalar.remsi v505 c20_i32_399
  let c0_i32_400 : BitVec 32 := 0#32
  let c0_i32_401 : BitVec 32 := 0#32
  ![v557.toNat, 0, 0]
def k0_off51 (v556 : BitVec 32) : Fin 3 → Nat :=
  let c0_i32_402 : BitVec 32 := 0#32
  let c0_i32_403 : BitVec 32 := 0#32
  ![v556.toNat, 0, 0]

def k0_chk49 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v556 : BitVec 32) : Prop :=
  (∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off51 v556) a + S1x2560x1024.size a ≤ S33x2560x1024.size a) ∧
  (∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ (hinb : ∀ a, (k0_off51 v556) a + S1x2560x1024.size a ≤ S33x2560x1024.size a), (Rect.unit (s := S33x2560x1024) (k0_off51 v556) S1x2560x1024.size hinb).WholeWords (EltTy.packing .fp8e4m3))
theorem k0_off51_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v556 : BitVec 32) (k0_hw49 : k0_chk49 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v556), ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off51 v556) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v556 k0_hw49 k0_h18 => k0_hw49.1 k0_h18
theorem k0_off51_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v556 : BitVec 32) (k0_hw49 : k0_chk49 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v556), ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), (Rect.unit (s := S33x2560x1024) (k0_off51 v556) S1x2560x1024.size (k0_off51_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v556 k0_hw49 k0_h18)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v556 k0_hw49 k0_h18 => k0_hw49.2 k0_h18 (k0_off51_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v556 k0_hw49 k0_h18)

def k0_off52 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c1_i32_365 : BitVec 32 := 1#32
  let arg22 : BitVec 32 := Scf.iv c0_i32_363 c1_i32_365 k0_t1
  let v510 : Index := Scalar.indexCast arg22
  ![v510.toNat]
def k0_off53 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c1_i32_365 : BitVec 32 := 1#32
  let arg22 : BitVec 32 := Scf.iv c0_i32_363 c1_i32_365 k0_t1
  let c20_i32_369 : BitVec 32 := 20#32
  let v509 : BitVec 32 := Scalar.remsi arg22 c20_i32_369
  ![v509.toNat]
def k0_off54 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c1_i32_365 : BitVec 32 := 1#32
  let arg22 : BitVec 32 := Scf.iv c0_i32_363 c1_i32_365 k0_t1
  let c20_i32_369 : BitVec 32 := 20#32
  let v509 : BitVec 32 := Scalar.remsi arg22 c20_i32_369
  let c0_i32_370 : BitVec 32 := 0#32
  let c0_i32_371 : BitVec 32 := 0#32
  ![v509.toNat, 0, 0]
def k0_off55 (v511 : BitVec 32) : Fin 3 → Nat :=
  let c0_i32_372 : BitVec 32 := 0#32
  let c0_i32_373 : BitVec 32 := 0#32
  ![v511.toNat, 0, 0]

def k0_off56 (v511 : BitVec 32) : Fin 2 → Nat :=
  let c0_374 : Index := 0#32
  let v518 : Index := Scalar.indexCast v511
  ![0, v518.toNat]
def k0_off57 (v511 : BitVec 32) : Fin 2 → Nat :=
  let c1_385 : Index := 1#32
  let v533 : Index := Scalar.indexCast v511
  ![1, v533.toNat]

def k0_chk50 (v511 : BitVec 32) : Prop :=
  (∀ a, (k0_off55 v511) a + S1x2560x1024.size a ≤ S33x2560x1024.size a) ∧
  (∀ (hinb : ∀ a, (k0_off55 v511) a + S1x2560x1024.size a ≤ S33x2560x1024.size a), (Rect.unit (s := S33x2560x1024) (k0_off55 v511) S1x2560x1024.size hinb).WholeWords (EltTy.packing .fp8e4m3)) ∧
  (∀ a, (k0_off56 v511) a + S1x1.size a ≤ S2x33.size a) ∧
  (∀ a, (k0_off57 v511) a + S1x1.size a ≤ S2x33.size a)
theorem k0_off55_inb : ∀ (v511 : BitVec 32) (k0_hw50 : k0_chk50 v511), ∀ a, (k0_off55 v511) a + S1x2560x1024.size a ≤ S33x2560x1024.size a := fun v511 k0_hw50 => k0_hw50.1
theorem k0_off55_wordsfp8e4m3 : ∀ (v511 : BitVec 32) (k0_hw50 : k0_chk50 v511), (Rect.unit (s := S33x2560x1024) (k0_off55 v511) S1x2560x1024.size (k0_off55_inb v511 k0_hw50)).WholeWords (EltTy.packing .fp8e4m3) := fun v511 k0_hw50 => k0_hw50.2.1 (k0_off55_inb v511 k0_hw50)
theorem k0_off56_inb : ∀ (v511 : BitVec 32) (k0_hw50 : k0_chk50 v511), ∀ a, (k0_off56 v511) a + S1x1.size a ≤ S2x33.size a := fun v511 k0_hw50 => k0_hw50.2.2.1
theorem k0_off57_inb : ∀ (v511 : BitVec 32) (k0_hw50 : k0_chk50 v511), ∀ a, (k0_off57 v511) a + S1x1.size a ≤ S2x33.size a := fun v511 k0_hw50 => k0_hw50.2.2.2

@[reducible] def k0_t2_loop (v519 : BitVec 32) (v521 : BitVec 32) (v534 : BitVec 32) (v536 : BitVec 32) : Scf.Loop 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_397 : BitVec 32 := 1#32
  ⟨c0_i32_395, v554, c1_i32_397⟩

def k0_mult1 (v519 : BitVec 32) (v521 : BitVec 32) (v534 : BitVec 32) (v536 : BitVec 32) (k0_t2 : Fin (k0_t2_loop v519 v521 v534 v536).trips) : BitVec 32 :=
  let c0_i32_395 : BitVec 32 := 0#32
  let c1_i32_397 : BitVec 32 := 1#32
  let arg23 : BitVec 32 := Scf.iv c0_i32_395 c1_i32_397 k0_t2
  let c4_i32_399 : BitVec 32 := 4#32
  let v555 : BitVec 32 := Scalar.muli arg23 c4_i32_399
  let c0_i32_400 : BitVec 32 := 0#32
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  v567
def k0_mult2 (v519 : BitVec 32) (v521 : BitVec 32) (v534 : BitVec 32) (v536 : BitVec 32) (k0_t2 : Fin (k0_t2_loop v519 v521 v534 v536).trips) : BitVec 32 :=
  let c0_i32_395 : BitVec 32 := 0#32
  let c1_i32_397 : BitVec 32 := 1#32
  let arg23 : BitVec 32 := Scf.iv c0_i32_395 c1_i32_397 k0_t2
  let c4_i32_405 : BitVec 32 := 4#32
  let v569 : BitVec 32 := Scalar.muli arg23 c4_i32_405
  let c1_i32_406 : BitVec 32 := 1#32
  let v570 : BitVec 32 := Scalar.addi v569 c1_i32_406
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v576 : BitVec 1 := Scalar.cmpi .slt v570 v532
  let c0_i32_381 : BitVec 32 := 0#32
  let v528 : BitVec 32 := Scalar.subi v525 c0_i32_381
  let v577 : BitVec 32 := Scalar.addi v528 v570
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v571 : BitVec 1 := Scalar.cmpi .slt v570 v547
  let v543 : BitVec 32 := Scalar.subi v540 v532
  let v572 : BitVec 32 := Scalar.addi v543 v570
  let c0_i32_407 : BitVec 32 := 0#32
  let v573 : BitVec 32 := Scalar.select v571 v572 c0_i32_407
  let v578 : BitVec 32 := Scalar.select v576 v577 v573
  let c16_i32_410 : BitVec 32 := 16#32
  let v581 : BitVec 32 := Scalar.muli v578 c16_i32_410
  v581
def k0_mult3 (v519 : BitVec 32) (v521 : BitVec 32) (v534 : BitVec 32) (v536 : BitVec 32) (k0_t2 : Fin (k0_t2_loop v519 v521 v534 v536).trips) : BitVec 32 :=
  let c0_i32_395 : BitVec 32 := 0#32
  let c1_i32_397 : BitVec 32 := 1#32
  let arg23 : BitVec 32 := Scf.iv c0_i32_395 c1_i32_397 k0_t2
  let c4_i32_411 : BitVec 32 := 4#32
  let v583 : BitVec 32 := Scalar.muli arg23 c4_i32_411
  let c2_i32_412 : BitVec 32 := 2#32
  let v584 : BitVec 32 := Scalar.addi v583 c2_i32_412
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v590 : BitVec 1 := Scalar.cmpi .slt v584 v532
  let c0_i32_381 : BitVec 32 := 0#32
  let v528 : BitVec 32 := Scalar.subi v525 c0_i32_381
  let v591 : BitVec 32 := Scalar.addi v528 v584
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v585 : BitVec 1 := Scalar.cmpi .slt v584 v547
  let v543 : BitVec 32 := Scalar.subi v540 v532
  let v586 : BitVec 32 := Scalar.addi v543 v584
  let c0_i32_413 : BitVec 32 := 0#32
  let v587 : BitVec 32 := Scalar.select v585 v586 c0_i32_413
  let v592 : BitVec 32 := Scalar.select v590 v591 v587
  let c16_i32_416 : BitVec 32 := 16#32
  let v595 : BitVec 32 := Scalar.muli v592 c16_i32_416
  v595
def k0_mult4 (v519 : BitVec 32) (v521 : BitVec 32) (v534 : BitVec 32) (v536 : BitVec 32) (k0_t2 : Fin (k0_t2_loop v519 v521 v534 v536).trips) : BitVec 32 :=
  let c0_i32_395 : BitVec 32 := 0#32
  let c1_i32_397 : BitVec 32 := 1#32
  let arg23 : BitVec 32 := Scf.iv c0_i32_395 c1_i32_397 k0_t2
  let c4_i32_417 : BitVec 32 := 4#32
  let v597 : BitVec 32 := Scalar.muli arg23 c4_i32_417
  let c3_i32_418 : BitVec 32 := 3#32
  let v598 : BitVec 32 := Scalar.addi v597 c3_i32_418
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v604 : BitVec 1 := Scalar.cmpi .slt v598 v532
  let c0_i32_381 : BitVec 32 := 0#32
  let v528 : BitVec 32 := Scalar.subi v525 c0_i32_381
  let v605 : BitVec 32 := Scalar.addi v528 v598
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v599 : BitVec 1 := Scalar.cmpi .slt v598 v547
  let v543 : BitVec 32 := Scalar.subi v540 v532
  let v600 : BitVec 32 := Scalar.addi v543 v598
  let c0_i32_419 : BitVec 32 := 0#32
  let v601 : BitVec 32 := Scalar.select v599 v600 c0_i32_419
  let v606 : BitVec 32 := Scalar.select v604 v605 v601
  let c16_i32_422 : BitVec 32 := 16#32
  let v609 : BitVec 32 := Scalar.muli v606 c16_i32_422
  v609
def k0_off58 (v519 : BitVec 32) (v521 : BitVec 32) (v534 : BitVec 32) (v536 : BitVec 32) (k0_t2 : Fin (k0_t2_loop v519 v521 v534 v536).trips) (c0_i32_400 : BitVec 32) : Fin 2 → Nat :=
  let c0_i32_395 : BitVec 32 := 0#32
  let c1_i32_397 : BitVec 32 := 1#32
  let arg23 : BitVec 32 := Scf.iv c0_i32_395 c1_i32_397 k0_t2
  let c4_i32_399 : BitVec 32 := 4#32
  let v555 : BitVec 32 := Scalar.muli arg23 c4_i32_399
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v611 : Index := Scalar.indexCast v568
  let c0_423 : Index := 0#32
  ![v611.toNat, 0]
def k0_off59 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c1_i32_365 : BitVec 32 := 1#32
  let arg22 : BitVec 32 := Scf.iv c0_i32_363 c1_i32_365 k0_t1
  let c20_i32_369 : BitVec 32 := 20#32
  let v509 : BitVec 32 := Scalar.remsi arg22 c20_i32_369
  let v620 : Index := Scalar.indexCast v509
  let c0_427 : Index := 0#32
  let c0_428 : Index := 0#32
  ![v620.toNat, 0, 0]
def k0_off60 (v511 : BitVec 32) : Fin 2 → Nat :=
  let v624 : Index := Scalar.indexCast v511
  let c0_430 : Index := 0#32
  ![v624.toNat, 0]
def k0_off61 (v519 : BitVec 32) (v521 : BitVec 32) (v534 : BitVec 32) (v536 : BitVec 32) (k0_t2 : Fin (k0_t2_loop v519 v521 v534 v536).trips) (c0_i32_400 : BitVec 32) : Fin 2 → Nat :=
  let c0_i32_395 : BitVec 32 := 0#32
  let c1_i32_397 : BitVec 32 := 1#32
  let arg23 : BitVec 32 := Scf.iv c0_i32_395 c1_i32_397 k0_t2
  let c4_i32_399 : BitVec 32 := 4#32
  let v555 : BitVec 32 := Scalar.muli arg23 c4_i32_399
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v628 : Index := Scalar.indexCast v568
  let c0_431 : Index := 0#32
  ![v628.toNat, 0]
def k0_off62 (v519 : BitVec 32) (v521 : BitVec 32) (v534 : BitVec 32) (v536 : BitVec 32) (k0_t2 : Fin (k0_t2_loop v519 v521 v534 v536).trips) (c0_i32_400 : BitVec 32) : Fin 2 → Nat :=
  let c0_i32_395 : BitVec 32 := 0#32
  let c1_i32_397 : BitVec 32 := 1#32
  let arg23 : BitVec 32 := Scf.iv c0_i32_395 c1_i32_397 k0_t2
  let c4_i32_399 : BitVec 32 := 4#32
  let v555 : BitVec 32 := Scalar.muli arg23 c4_i32_399
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v641 : Index := Scalar.indexCast v568
  let c0_432 : Index := 0#32
  ![v641.toNat, 0]
@[reducible] def k0_t3_loop (v519 : BitVec 32) (v521 : BitVec 32) (v534 : BitVec 32) (v536 : BitVec 32) : Scf.Loop 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let v551 : BitVec 32 := Scalar.addi c0_i32_395 v550
  let c1_i32_398 : BitVec 32 := 1#32
  ⟨v554, v551, c1_i32_398⟩
def k0_mult5 (v519 : BitVec 32) (v521 : BitVec 32) (v534 : BitVec 32) (v536 : BitVec 32) (k0_t3 : Fin (k0_t3_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t3
  let c4_i32_399 : BitVec 32 := 4#32
  let v555 : BitVec 32 := Scalar.muli arg23 c4_i32_399
  let c0_i32_400 : BitVec 32 := 0#32
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  v567
def k0_mult6 (v519 : BitVec 32) (v521 : BitVec 32) (v534 : BitVec 32) (v536 : BitVec 32) (k0_t3 : Fin (k0_t3_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t3
  let c4_i32_405 : BitVec 32 := 4#32
  let v569 : BitVec 32 := Scalar.muli arg23 c4_i32_405
  let c1_i32_406 : BitVec 32 := 1#32
  let v570 : BitVec 32 := Scalar.addi v569 c1_i32_406
  let v576 : BitVec 1 := Scalar.cmpi .slt v570 v532
  let c0_i32_381 : BitVec 32 := 0#32
  let v528 : BitVec 32 := Scalar.subi v525 c0_i32_381
  let v577 : BitVec 32 := Scalar.addi v528 v570
  let v571 : BitVec 1 := Scalar.cmpi .slt v570 v547
  let v543 : BitVec 32 := Scalar.subi v540 v532
  let v572 : BitVec 32 := Scalar.addi v543 v570
  let c0_i32_407 : BitVec 32 := 0#32
  let v573 : BitVec 32 := Scalar.select v571 v572 c0_i32_407
  let v578 : BitVec 32 := Scalar.select v576 v577 v573
  let c16_i32_410 : BitVec 32 := 16#32
  let v581 : BitVec 32 := Scalar.muli v578 c16_i32_410
  v581
def k0_mult7 (v519 : BitVec 32) (v521 : BitVec 32) (v534 : BitVec 32) (v536 : BitVec 32) (k0_t3 : Fin (k0_t3_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t3
  let c4_i32_411 : BitVec 32 := 4#32
  let v583 : BitVec 32 := Scalar.muli arg23 c4_i32_411
  let c2_i32_412 : BitVec 32 := 2#32
  let v584 : BitVec 32 := Scalar.addi v583 c2_i32_412
  let v590 : BitVec 1 := Scalar.cmpi .slt v584 v532
  let c0_i32_381 : BitVec 32 := 0#32
  let v528 : BitVec 32 := Scalar.subi v525 c0_i32_381
  let v591 : BitVec 32 := Scalar.addi v528 v584
  let v585 : BitVec 1 := Scalar.cmpi .slt v584 v547
  let v543 : BitVec 32 := Scalar.subi v540 v532
  let v586 : BitVec 32 := Scalar.addi v543 v584
  let c0_i32_413 : BitVec 32 := 0#32
  let v587 : BitVec 32 := Scalar.select v585 v586 c0_i32_413
  let v592 : BitVec 32 := Scalar.select v590 v591 v587
  let c16_i32_416 : BitVec 32 := 16#32
  let v595 : BitVec 32 := Scalar.muli v592 c16_i32_416
  v595
def k0_mult8 (v519 : BitVec 32) (v521 : BitVec 32) (v534 : BitVec 32) (v536 : BitVec 32) (k0_t3 : Fin (k0_t3_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t3
  let c4_i32_417 : BitVec 32 := 4#32
  let v597 : BitVec 32 := Scalar.muli arg23 c4_i32_417
  let c3_i32_418 : BitVec 32 := 3#32
  let v598 : BitVec 32 := Scalar.addi v597 c3_i32_418
  let v604 : BitVec 1 := Scalar.cmpi .slt v598 v532
  let c0_i32_381 : BitVec 32 := 0#32
  let v528 : BitVec 32 := Scalar.subi v525 c0_i32_381
  let v605 : BitVec 32 := Scalar.addi v528 v598
  let v599 : BitVec 1 := Scalar.cmpi .slt v598 v547
  let v543 : BitVec 32 := Scalar.subi v540 v532
  let v600 : BitVec 32 := Scalar.addi v543 v598
  let c0_i32_419 : BitVec 32 := 0#32
  let v601 : BitVec 32 := Scalar.select v599 v600 c0_i32_419
  let v606 : BitVec 32 := Scalar.select v604 v605 v601
  let c16_i32_422 : BitVec 32 := 16#32
  let v609 : BitVec 32 := Scalar.muli v606 c16_i32_422
  v609
def k0_off63 (v519 : BitVec 32) (v521 : BitVec 32) (v534 : BitVec 32) (v536 : BitVec 32) (k0_t3 : Fin (k0_t3_loop v519 v521 v534 v536).trips) (c0_i32_400 : BitVec 32) : Fin 2 → Nat :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t3
  let c4_i32_399 : BitVec 32 := 4#32
  let v555 : BitVec 32 := Scalar.muli arg23 c4_i32_399
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v611 : Index := Scalar.indexCast v568
  let c0_423 : Index := 0#32
  ![v611.toNat, 0]
def k0_off64 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c1_i32_365 : BitVec 32 := 1#32
  let arg22 : BitVec 32 := Scf.iv c0_i32_363 c1_i32_365 k0_t1
  let c20_i32_369 : BitVec 32 := 20#32
  let v509 : BitVec 32 := Scalar.remsi arg22 c20_i32_369
  let v620 : Index := Scalar.indexCast v509
  let c0_427 : Index := 0#32
  let c0_428 : Index := 0#32
  ![v620.toNat, 0, 0]
def k0_off65 (v511 : BitVec 32) : Fin 2 → Nat :=
  let v624 : Index := Scalar.indexCast v511
  let c0_430 : Index := 0#32
  ![v624.toNat, 0]
def k0_off66 (v519 : BitVec 32) (v521 : BitVec 32) (v534 : BitVec 32) (v536 : BitVec 32) (k0_t3 : Fin (k0_t3_loop v519 v521 v534 v536).trips) (c0_i32_400 : BitVec 32) : Fin 2 → Nat :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t3
  let c4_i32_399 : BitVec 32 := 4#32
  let v555 : BitVec 32 := Scalar.muli arg23 c4_i32_399
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v628 : Index := Scalar.indexCast v568
  let c0_431 : Index := 0#32
  ![v628.toNat, 0]
def k0_off67 (v519 : BitVec 32) (v521 : BitVec 32) (v534 : BitVec 32) (v536 : BitVec 32) (k0_t3 : Fin (k0_t3_loop v519 v521 v534 v536).trips) (c0_i32_400 : BitVec 32) : Fin 2 → Nat :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t3
  let c4_i32_399 : BitVec 32 := 4#32
  let v555 : BitVec 32 := Scalar.muli arg23 c4_i32_399
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v641 : Index := Scalar.indexCast v568
  let c0_432 : Index := 0#32
  ![v641.toNat, 0]

def k0_chk51 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) : Prop :=
  ((k0_t2_loop v519 v521 v534 v536).OK) ∧
  (∀ k0_t2 : Fin (k0_t2_loop v519 v521 v534 v536).trips, 16 ∣ (k0_mult1 v519 v521 v534 v536 k0_t2).toNat) ∧
  (∀ k0_t2 : Fin (k0_t2_loop v519 v521 v534 v536).trips, 16 ∣ (k0_mult2 v519 v521 v534 v536 k0_t2).toNat) ∧
  (∀ k0_t2 : Fin (k0_t2_loop v519 v521 v534 v536).trips, 16 ∣ (k0_mult3 v519 v521 v534 v536 k0_t2).toNat) ∧
  (∀ k0_t2 : Fin (k0_t2_loop v519 v521 v534 v536).trips, 16 ∣ (k0_mult4 v519 v521 v534 v536 k0_t2).toNat) ∧
  (∀ k0_t2 : Fin (k0_t2_loop v519 v521 v534 v536).trips, ∀ (r : Fin 4), ∀ a, (k0_off58 v519 v521 v534 v536 k0_t2 (BitVec.ofNat 32 r.val)) a + S16x2560.size a ≤ S256x2560.size a) ∧
  (∀ k0_t2 : Fin (k0_t2_loop v519 v521 v534 v536).trips, ∀ a, (k0_off59 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a) ∧
  (∀ k0_t2 : Fin (k0_t2_loop v519 v521 v534 v536).trips, ∀ a, (k0_off60 v511) a + S1x1024.size a ≤ S33x1024.size a) ∧
  (∀ k0_t2 : Fin (k0_t2_loop v519 v521 v534 v536).trips, ∀ (r : Fin 4), ∀ a, (k0_off61 v519 v521 v534 v536 k0_t2 (BitVec.ofNat 32 r.val)) a + S16x128.size a ≤ S256x128.size a) ∧
  (∀ k0_t2 : Fin (k0_t2_loop v519 v521 v534 v536).trips, ∀ (r : Fin 4), ∀ a, (k0_off62 v519 v521 v534 v536 k0_t2 (BitVec.ofNat 32 r.val)) a + S16x1024.size a ≤ S256x1024.size a) ∧
  (∀ k0_t2 : Fin (k0_t2_loop v519 v521 v534 v536).trips, ∀ (r : Fin 4), ∀ (hinb : ∀ a, (k0_off62 v519 v521 v534 v536 k0_t2 (BitVec.ofNat 32 r.val)) a + S16x1024.size a ≤ S256x1024.size a), (Rect.unit (s := S256x1024) (k0_off62 v519 v521 v534 v536 k0_t2 (BitVec.ofNat 32 r.val)) S16x1024.size hinb).PackedRows (EltTy.packing .bf16)) ∧
  ((k0_t3_loop v519 v521 v534 v536).OK) ∧
  (∀ k0_t3 : Fin (k0_t3_loop v519 v521 v534 v536).trips, 16 ∣ (k0_mult5 v519 v521 v534 v536 k0_t3).toNat) ∧
  (∀ k0_t3 : Fin (k0_t3_loop v519 v521 v534 v536).trips, 16 ∣ (k0_mult6 v519 v521 v534 v536 k0_t3).toNat) ∧
  (∀ k0_t3 : Fin (k0_t3_loop v519 v521 v534 v536).trips, 16 ∣ (k0_mult7 v519 v521 v534 v536 k0_t3).toNat) ∧
  (∀ k0_t3 : Fin (k0_t3_loop v519 v521 v534 v536).trips, 16 ∣ (k0_mult8 v519 v521 v534 v536 k0_t3).toNat) ∧
  (∀ k0_t3 : Fin (k0_t3_loop v519 v521 v534 v536).trips, ∀ (r : Fin 4), ∀ a, (k0_off63 v519 v521 v534 v536 k0_t3 (BitVec.ofNat 32 r.val)) a + S16x2560.size a ≤ S256x2560.size a) ∧
  (∀ k0_t3 : Fin (k0_t3_loop v519 v521 v534 v536).trips, ∀ a, (k0_off64 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a) ∧
  (∀ k0_t3 : Fin (k0_t3_loop v519 v521 v534 v536).trips, ∀ a, (k0_off65 v511) a + S1x1024.size a ≤ S33x1024.size a) ∧
  (∀ k0_t3 : Fin (k0_t3_loop v519 v521 v534 v536).trips, ∀ (r : Fin 4), ∀ a, (k0_off66 v519 v521 v534 v536 k0_t3 (BitVec.ofNat 32 r.val)) a + S16x128.size a ≤ S256x128.size a) ∧
  (∀ k0_t3 : Fin (k0_t3_loop v519 v521 v534 v536).trips, ∀ (r : Fin 4), ∀ a, (k0_off67 v519 v521 v534 v536 k0_t3 (BitVec.ofNat 32 r.val)) a + S16x1024.size a ≤ S256x1024.size a) ∧
  (∀ k0_t3 : Fin (k0_t3_loop v519 v521 v534 v536).trips, ∀ (r : Fin 4), ∀ (hinb : ∀ a, (k0_off67 v519 v521 v534 v536 k0_t3 (BitVec.ofNat 32 r.val)) a + S16x1024.size a ≤ S256x1024.size a), (Rect.unit (s := S256x1024) (k0_off67 v519 v521 v534 v536 k0_t3 (BitVec.ofNat 32 r.val)) S16x1024.size hinb).PackedRows (EltTy.packing .bf16))
theorem k0_t2_ok : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536), (k0_t2_loop v519 v521 v534 v536).OK := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 => k0_hw51.1
theorem k0_mult1_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), 16 ∣ (k0_mult1 v519 v521 v534 v536 k0_t2).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 => k0_hw51.2.1 k0_t2
theorem k0_mult2_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), 16 ∣ (k0_mult2 v519 v521 v534 v536 k0_t2).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 => k0_hw51.2.2.1 k0_t2
theorem k0_mult3_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), 16 ∣ (k0_mult3 v519 v521 v534 v536 k0_t2).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 => k0_hw51.2.2.2.1 k0_t2
theorem k0_mult4_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), 16 ∣ (k0_mult4 v519 v521 v534 v536 k0_t2).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 => k0_hw51.2.2.2.2.1 k0_t2
theorem k0_off58_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), ∀ (r : Fin 4), ∀ a, (k0_off58 v519 v521 v534 v536 k0_t2 (BitVec.ofNat 32 r.val)) a + S16x2560.size a ≤ S256x2560.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 r => k0_hw51.2.2.2.2.2.1 k0_t2 r
theorem k0_off59_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), ∀ a, (k0_off59 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 => k0_hw51.2.2.2.2.2.2.1 k0_t2
theorem k0_off60_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), ∀ a, (k0_off60 v511) a + S1x1024.size a ≤ S33x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 => k0_hw51.2.2.2.2.2.2.2.1 k0_t2
theorem k0_off61_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), ∀ (r : Fin 4), ∀ a, (k0_off61 v519 v521 v534 v536 k0_t2 (BitVec.ofNat 32 r.val)) a + S16x128.size a ≤ S256x128.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 r => k0_hw51.2.2.2.2.2.2.2.2.1 k0_t2 r
theorem k0_off62_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), ∀ (r : Fin 4), ∀ a, (k0_off62 v519 v521 v534 v536 k0_t2 (BitVec.ofNat 32 r.val)) a + S16x1024.size a ≤ S256x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 r => k0_hw51.2.2.2.2.2.2.2.2.2.1 k0_t2 r
theorem k0_off62_packedbf16 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t2 : Fin (k0_t2_loop v519 v521 v534 v536).trips), ∀ (r : Fin 4), (Rect.unit (s := S256x1024) (k0_off62 v519 v521 v534 v536 k0_t2 (BitVec.ofNat 32 r.val)) S16x1024.size (k0_off62_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 r)).PackedRows (EltTy.packing .bf16) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 r => k0_hw51.2.2.2.2.2.2.2.2.2.2.1 k0_t2 r (k0_off62_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t2 r)
theorem k0_t3_ok : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536), (k0_t3_loop v519 v521 v534 v536).OK := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 => k0_hw51.2.2.2.2.2.2.2.2.2.2.2.1
theorem k0_mult5_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), 16 ∣ (k0_mult5 v519 v521 v534 v536 k0_t3).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 => k0_hw51.2.2.2.2.2.2.2.2.2.2.2.2.1 k0_t3
theorem k0_mult6_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), 16 ∣ (k0_mult6 v519 v521 v534 v536 k0_t3).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 => k0_hw51.2.2.2.2.2.2.2.2.2.2.2.2.2.1 k0_t3
theorem k0_mult7_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), 16 ∣ (k0_mult7 v519 v521 v534 v536 k0_t3).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 => k0_hw51.2.2.2.2.2.2.2.2.2.2.2.2.2.2.1 k0_t3
theorem k0_mult8_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), 16 ∣ (k0_mult8 v519 v521 v534 v536 k0_t3).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 => k0_hw51.2.2.2.2.2.2.2.2.2.2.2.2.2.2.2.1 k0_t3
theorem k0_off63_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), ∀ (r : Fin 4), ∀ a, (k0_off63 v519 v521 v534 v536 k0_t3 (BitVec.ofNat 32 r.val)) a + S16x2560.size a ≤ S256x2560.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 r => k0_hw51.2.2.2.2.2.2.2.2.2.2.2.2.2.2.2.2.1 k0_t3 r
theorem k0_off64_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), ∀ a, (k0_off64 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 => k0_hw51.2.2.2.2.2.2.2.2.2.2.2.2.2.2.2.2.2.1 k0_t3
theorem k0_off65_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), ∀ a, (k0_off65 v511) a + S1x1024.size a ≤ S33x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 => k0_hw51.2.2.2.2.2.2.2.2.2.2.2.2.2.2.2.2.2.2.1 k0_t3
theorem k0_off66_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), ∀ (r : Fin 4), ∀ a, (k0_off66 v519 v521 v534 v536 k0_t3 (BitVec.ofNat 32 r.val)) a + S16x128.size a ≤ S256x128.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 r => k0_hw51.2.2.2.2.2.2.2.2.2.2.2.2.2.2.2.2.2.2.2.1 k0_t3 r
theorem k0_off67_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), ∀ (r : Fin 4), ∀ a, (k0_off67 v519 v521 v534 v536 k0_t3 (BitVec.ofNat 32 r.val)) a + S16x1024.size a ≤ S256x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 r => k0_hw51.2.2.2.2.2.2.2.2.2.2.2.2.2.2.2.2.2.2.2.2.1 k0_t3 r
theorem k0_off67_packedbf16 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw51 : k0_chk51 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536) (k0_t3 : Fin (k0_t3_loop v519 v521 v534 v536).trips), ∀ (r : Fin 4), (Rect.unit (s := S256x1024) (k0_off67 v519 v521 v534 v536 k0_t3 (BitVec.ofNat 32 r.val)) S16x1024.size (k0_off67_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 r)).PackedRows (EltTy.packing .bf16) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 r => k0_hw51.2.2.2.2.2.2.2.2.2.2.2.2.2.2.2.2.2.2.2.2.2 k0_t3 r (k0_off67_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 v511 v519 v521 v534 v536 k0_hw51 k0_t3 r)

@[reducible] def k0_t4_loop (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : Scf.Loop 32 :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let v501 : BitVec 32 := Scalar.addi c0_i32_363 v500
  let c1_i32_366 : BitVec 32 := 1#32
  ⟨v504, v501, c1_i32_366⟩
def k0_off68 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c19_i32_367 : BitVec 32 := 19#32
  let v505 : BitVec 32 := Scalar.addi arg22 c19_i32_367
  let v555 : Index := Scalar.indexCast v505
  ![v555.toNat]
def k0_cond19 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : BitVec 1 :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c19_i32_367 : BitVec 32 := 19#32
  let v505 : BitVec 32 := Scalar.addi arg22 c19_i32_367
  let v506 : BitVec 1 := Scalar.cmpi .slt v505 v429
  let v507 : BitVec 32 := Scalar.extui v506
  let c0_i32_368 : BitVec 32 := 0#32
  let v508 : BitVec 1 := Scalar.cmpi .ne v507 c0_i32_368
  v508

def k0_off69 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c19_i32_367 : BitVec 32 := 19#32
  let v505 : BitVec 32 := Scalar.addi arg22 c19_i32_367
  let c20_i32_399 : BitVec 32 := 20#32
  let v557 : BitVec 32 := Scalar.remsi v505 c20_i32_399
  ![v557.toNat]
def k0_off70 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c19_i32_367 : BitVec 32 := 19#32
  let v505 : BitVec 32 := Scalar.addi arg22 c19_i32_367
  let c20_i32_399 : BitVec 32 := 20#32
  let v557 : BitVec 32 := Scalar.remsi v505 c20_i32_399
  let c0_i32_400 : BitVec 32 := 0#32
  let c0_i32_401 : BitVec 32 := 0#32
  ![v557.toNat, 0, 0]
def k0_off71 (v556 : BitVec 32) : Fin 3 → Nat :=
  let c0_i32_402 : BitVec 32 := 0#32
  let c0_i32_403 : BitVec 32 := 0#32
  ![v556.toNat, 0, 0]

def k0_chk52 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v556 : BitVec 32) : Prop :=
  (∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off71 v556) a + S1x2560x1024.size a ≤ S33x2560x1024.size a) ∧
  (∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ (hinb : ∀ a, (k0_off71 v556) a + S1x2560x1024.size a ≤ S33x2560x1024.size a), (Rect.unit (s := S33x2560x1024) (k0_off71 v556) S1x2560x1024.size hinb).WholeWords (EltTy.packing .fp8e4m3))
theorem k0_off71_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v556 : BitVec 32) (k0_hw52 : k0_chk52 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v556), ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off71 v556) a + S1x2560x1024.size a ≤ S33x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v556 k0_hw52 k0_h19 => k0_hw52.1 k0_h19
theorem k0_off71_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v556 : BitVec 32) (k0_hw52 : k0_chk52 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v556), ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), (Rect.unit (s := S33x2560x1024) (k0_off71 v556) S1x2560x1024.size (k0_off71_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v556 k0_hw52 k0_h19)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v556 k0_hw52 k0_h19 => k0_hw52.2 k0_h19 (k0_off71_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v556 k0_hw52 k0_h19)

def k0_off72 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let v510 : Index := Scalar.indexCast arg22
  ![v510.toNat]
def k0_off73 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 1 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c20_i32_369 : BitVec 32 := 20#32
  let v509 : BitVec 32 := Scalar.remsi arg22 c20_i32_369
  ![v509.toNat]
def k0_off74 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c20_i32_369 : BitVec 32 := 20#32
  let v509 : BitVec 32 := Scalar.remsi arg22 c20_i32_369
  let c0_i32_370 : BitVec 32 := 0#32
  let c0_i32_371 : BitVec 32 := 0#32
  ![v509.toNat, 0, 0]
def k0_off75 (v511 : BitVec 32) : Fin 3 → Nat :=
  let c0_i32_372 : BitVec 32 := 0#32
  let c0_i32_373 : BitVec 32 := 0#32
  ![v511.toNat, 0, 0]

def k0_chk48 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) : Prop :=
  ((k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).OK) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S34.size a) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off49 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S20.size a) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off50 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ (hinb : ∀ a, (k0_off50 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a), (Rect.unit (s := S20x2560x1024) (k0_off50 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) S1x2560x1024.size hinb).WholeWords (EltTy.packing .fp8e4m3)) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ a, (k0_off52 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S34.size a) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ a, (k0_off53 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S20.size a) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ a, (k0_off54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a) ∧
  (∀ k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (hinb : ∀ a, (k0_off54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a), (Rect.unit (s := S20x2560x1024) (k0_off54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) S1x2560x1024.size hinb).WholeWords (EltTy.packing .fp8e4m3)) ∧
  ((k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).OK) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off68 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S34.size a) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off69 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S20.size a) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off70 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ (hinb : ∀ a, (k0_off70 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a), (Rect.unit (s := S20x2560x1024) (k0_off70 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) S1x2560x1024.size hinb).WholeWords (EltTy.packing .fp8e4m3)) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ a, (k0_off72 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S34.size a) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ a, (k0_off73 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S20.size a) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ a, (k0_off74 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a) ∧
  (∀ k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips, ∀ (hinb : ∀ a, (k0_off74 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a), (Rect.unit (s := S20x2560x1024) (k0_off74 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) S1x2560x1024.size hinb).WholeWords (EltTy.packing .fp8e4m3))
theorem k0_t1_ok : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422), (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).OK := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 => k0_hw48.1
theorem k0_off48_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 k0_h18 => k0_hw48.2.1 k0_t1 k0_h18
theorem k0_off49_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off49 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S20.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 k0_h18 => k0_hw48.2.2.1 k0_t1 k0_h18
theorem k0_off50_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), ∀ a, (k0_off50 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 k0_h18 => k0_hw48.2.2.2.1 k0_t1 k0_h18
theorem k0_off50_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h18 : k0_cond18 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1 = 1#1), (Rect.unit (s := S20x2560x1024) (k0_off50 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) S1x2560x1024.size (k0_off50_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 k0_h18)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 k0_h18 => k0_hw48.2.2.2.2.1 k0_t1 k0_h18 (k0_off50_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 k0_h18)
theorem k0_off52_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ a, (k0_off52 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 => k0_hw48.2.2.2.2.2.1 k0_t1
theorem k0_off53_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ a, (k0_off53 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1.size a ≤ S20.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 => k0_hw48.2.2.2.2.2.2.1 k0_t1
theorem k0_off54_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ a, (k0_off54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 => k0_hw48.2.2.2.2.2.2.2.1 k0_t1
theorem k0_off54_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t1 : Fin (k0_t1_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), (Rect.unit (s := S20x2560x1024) (k0_off54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t1) S1x2560x1024.size (k0_off54_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1 => k0_hw48.2.2.2.2.2.2.2.2.1 k0_t1 (k0_off54_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t1)
theorem k0_t4_ok : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422), (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).OK := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 => k0_hw48.2.2.2.2.2.2.2.2.2.1
theorem k0_off68_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off68 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 k0_h19 => k0_hw48.2.2.2.2.2.2.2.2.2.2.1 k0_t4 k0_h19
theorem k0_off69_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off69 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S20.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 k0_h19 => k0_hw48.2.2.2.2.2.2.2.2.2.2.2.1 k0_t4 k0_h19
theorem k0_off70_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), ∀ a, (k0_off70 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 k0_h19 => k0_hw48.2.2.2.2.2.2.2.2.2.2.2.2.1 k0_t4 k0_h19
theorem k0_off70_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ (k0_h19 : k0_cond19 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 = 1#1), (Rect.unit (s := S20x2560x1024) (k0_off70 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) S1x2560x1024.size (k0_off70_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 k0_h19)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 k0_h19 => k0_hw48.2.2.2.2.2.2.2.2.2.2.2.2.2.1 k0_t4 k0_h19 (k0_off70_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 k0_h19)
theorem k0_off72_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ a, (k0_off72 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S34.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 => k0_hw48.2.2.2.2.2.2.2.2.2.2.2.2.2.2.1 k0_t4
theorem k0_off73_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ a, (k0_off73 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1.size a ≤ S20.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 => k0_hw48.2.2.2.2.2.2.2.2.2.2.2.2.2.2.2.1 k0_t4
theorem k0_off74_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), ∀ a, (k0_off74 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 => k0_hw48.2.2.2.2.2.2.2.2.2.2.2.2.2.2.2.2.1 k0_t4
theorem k0_off74_wordsfp8e4m3 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_hw48 : k0_chk48 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips), (Rect.unit (s := S20x2560x1024) (k0_off74 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) S1x2560x1024.size (k0_off74_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4)).WholeWords (EltTy.packing .fp8e4m3) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4 => k0_hw48.2.2.2.2.2.2.2.2.2.2.2.2.2.2.2.2.2 k0_t4 (k0_off74_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_hw48 k0_t4)

def k0_off76 (v511 : BitVec 32) : Fin 2 → Nat :=
  let c0_374 : Index := 0#32
  let v518 : Index := Scalar.indexCast v511
  ![0, v518.toNat]
def k0_off77 (v511 : BitVec 32) : Fin 2 → Nat :=
  let c1_385 : Index := 1#32
  let v533 : Index := Scalar.indexCast v511
  ![1, v533.toNat]

def k0_chk53 (v511 : BitVec 32) : Prop :=
  (∀ a, (k0_off75 v511) a + S1x2560x1024.size a ≤ S33x2560x1024.size a) ∧
  (∀ (hinb : ∀ a, (k0_off75 v511) a + S1x2560x1024.size a ≤ S33x2560x1024.size a), (Rect.unit (s := S33x2560x1024) (k0_off75 v511) S1x2560x1024.size hinb).WholeWords (EltTy.packing .fp8e4m3)) ∧
  (∀ a, (k0_off76 v511) a + S1x1.size a ≤ S2x33.size a) ∧
  (∀ a, (k0_off77 v511) a + S1x1.size a ≤ S2x33.size a)
theorem k0_off75_inb : ∀ (v511 : BitVec 32) (k0_hw53 : k0_chk53 v511), ∀ a, (k0_off75 v511) a + S1x2560x1024.size a ≤ S33x2560x1024.size a := fun v511 k0_hw53 => k0_hw53.1
theorem k0_off75_wordsfp8e4m3 : ∀ (v511 : BitVec 32) (k0_hw53 : k0_chk53 v511), (Rect.unit (s := S33x2560x1024) (k0_off75 v511) S1x2560x1024.size (k0_off75_inb v511 k0_hw53)).WholeWords (EltTy.packing .fp8e4m3) := fun v511 k0_hw53 => k0_hw53.2.1 (k0_off75_inb v511 k0_hw53)
theorem k0_off76_inb : ∀ (v511 : BitVec 32) (k0_hw53 : k0_chk53 v511), ∀ a, (k0_off76 v511) a + S1x1.size a ≤ S2x33.size a := fun v511 k0_hw53 => k0_hw53.2.2.1
theorem k0_off77_inb : ∀ (v511 : BitVec 32) (k0_hw53 : k0_chk53 v511), ∀ a, (k0_off77 v511) a + S1x1.size a ≤ S2x33.size a := fun v511 k0_hw53 => k0_hw53.2.2.2

@[reducible] def k0_t5_loop (v519 : BitVec 32) (v521 : BitVec 32) (v534 : BitVec 32) (v536 : BitVec 32) : Scf.Loop 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_397 : BitVec 32 := 1#32
  ⟨c0_i32_395, v554, c1_i32_397⟩

def k0_mult9 (v519 : BitVec 32) (v521 : BitVec 32) (v534 : BitVec 32) (v536 : BitVec 32) (k0_t5 : Fin (k0_t5_loop v519 v521 v534 v536).trips) : BitVec 32 :=
  let c0_i32_395 : BitVec 32 := 0#32
  let c1_i32_397 : BitVec 32 := 1#32
  let arg23 : BitVec 32 := Scf.iv c0_i32_395 c1_i32_397 k0_t5
  let c4_i32_399 : BitVec 32 := 4#32
  let v555 : BitVec 32 := Scalar.muli arg23 c4_i32_399
  let c0_i32_400 : BitVec 32 := 0#32
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  v567
def k0_mult10 (v519 : BitVec 32) (v521 : BitVec 32) (v534 : BitVec 32) (v536 : BitVec 32) (k0_t5 : Fin (k0_t5_loop v519 v521 v534 v536).trips) : BitVec 32 :=
  let c0_i32_395 : BitVec 32 := 0#32
  let c1_i32_397 : BitVec 32 := 1#32
  let arg23 : BitVec 32 := Scf.iv c0_i32_395 c1_i32_397 k0_t5
  let c4_i32_405 : BitVec 32 := 4#32
  let v569 : BitVec 32 := Scalar.muli arg23 c4_i32_405
  let c1_i32_406 : BitVec 32 := 1#32
  let v570 : BitVec 32 := Scalar.addi v569 c1_i32_406
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v576 : BitVec 1 := Scalar.cmpi .slt v570 v532
  let c0_i32_381 : BitVec 32 := 0#32
  let v528 : BitVec 32 := Scalar.subi v525 c0_i32_381
  let v577 : BitVec 32 := Scalar.addi v528 v570
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v571 : BitVec 1 := Scalar.cmpi .slt v570 v547
  let v543 : BitVec 32 := Scalar.subi v540 v532
  let v572 : BitVec 32 := Scalar.addi v543 v570
  let c0_i32_407 : BitVec 32 := 0#32
  let v573 : BitVec 32 := Scalar.select v571 v572 c0_i32_407
  let v578 : BitVec 32 := Scalar.select v576 v577 v573
  let c16_i32_410 : BitVec 32 := 16#32
  let v581 : BitVec 32 := Scalar.muli v578 c16_i32_410
  v581
def k0_mult11 (v519 : BitVec 32) (v521 : BitVec 32) (v534 : BitVec 32) (v536 : BitVec 32) (k0_t5 : Fin (k0_t5_loop v519 v521 v534 v536).trips) : BitVec 32 :=
  let c0_i32_395 : BitVec 32 := 0#32
  let c1_i32_397 : BitVec 32 := 1#32
  let arg23 : BitVec 32 := Scf.iv c0_i32_395 c1_i32_397 k0_t5
  let c4_i32_411 : BitVec 32 := 4#32
  let v583 : BitVec 32 := Scalar.muli arg23 c4_i32_411
  let c2_i32_412 : BitVec 32 := 2#32
  let v584 : BitVec 32 := Scalar.addi v583 c2_i32_412
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v590 : BitVec 1 := Scalar.cmpi .slt v584 v532
  let c0_i32_381 : BitVec 32 := 0#32
  let v528 : BitVec 32 := Scalar.subi v525 c0_i32_381
  let v591 : BitVec 32 := Scalar.addi v528 v584
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v585 : BitVec 1 := Scalar.cmpi .slt v584 v547
  let v543 : BitVec 32 := Scalar.subi v540 v532
  let v586 : BitVec 32 := Scalar.addi v543 v584
  let c0_i32_413 : BitVec 32 := 0#32
  let v587 : BitVec 32 := Scalar.select v585 v586 c0_i32_413
  let v592 : BitVec 32 := Scalar.select v590 v591 v587
  let c16_i32_416 : BitVec 32 := 16#32
  let v595 : BitVec 32 := Scalar.muli v592 c16_i32_416
  v595
def k0_mult12 (v519 : BitVec 32) (v521 : BitVec 32) (v534 : BitVec 32) (v536 : BitVec 32) (k0_t5 : Fin (k0_t5_loop v519 v521 v534 v536).trips) : BitVec 32 :=
  let c0_i32_395 : BitVec 32 := 0#32
  let c1_i32_397 : BitVec 32 := 1#32
  let arg23 : BitVec 32 := Scf.iv c0_i32_395 c1_i32_397 k0_t5
  let c4_i32_417 : BitVec 32 := 4#32
  let v597 : BitVec 32 := Scalar.muli arg23 c4_i32_417
  let c3_i32_418 : BitVec 32 := 3#32
  let v598 : BitVec 32 := Scalar.addi v597 c3_i32_418
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v604 : BitVec 1 := Scalar.cmpi .slt v598 v532
  let c0_i32_381 : BitVec 32 := 0#32
  let v528 : BitVec 32 := Scalar.subi v525 c0_i32_381
  let v605 : BitVec 32 := Scalar.addi v528 v598
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v599 : BitVec 1 := Scalar.cmpi .slt v598 v547
  let v543 : BitVec 32 := Scalar.subi v540 v532
  let v600 : BitVec 32 := Scalar.addi v543 v598
  let c0_i32_419 : BitVec 32 := 0#32
  let v601 : BitVec 32 := Scalar.select v599 v600 c0_i32_419
  let v606 : BitVec 32 := Scalar.select v604 v605 v601
  let c16_i32_422 : BitVec 32 := 16#32
  let v609 : BitVec 32 := Scalar.muli v606 c16_i32_422
  v609
def k0_off78 (v519 : BitVec 32) (v521 : BitVec 32) (v534 : BitVec 32) (v536 : BitVec 32) (k0_t5 : Fin (k0_t5_loop v519 v521 v534 v536).trips) (c0_i32_400 : BitVec 32) : Fin 2 → Nat :=
  let c0_i32_395 : BitVec 32 := 0#32
  let c1_i32_397 : BitVec 32 := 1#32
  let arg23 : BitVec 32 := Scf.iv c0_i32_395 c1_i32_397 k0_t5
  let c4_i32_399 : BitVec 32 := 4#32
  let v555 : BitVec 32 := Scalar.muli arg23 c4_i32_399
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v611 : Index := Scalar.indexCast v568
  let c0_423 : Index := 0#32
  ![v611.toNat, 0]
def k0_off79 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c20_i32_369 : BitVec 32 := 20#32
  let v509 : BitVec 32 := Scalar.remsi arg22 c20_i32_369
  let v620 : Index := Scalar.indexCast v509
  let c0_427 : Index := 0#32
  let c0_428 : Index := 0#32
  ![v620.toNat, 0, 0]
def k0_off80 (v511 : BitVec 32) : Fin 2 → Nat :=
  let v624 : Index := Scalar.indexCast v511
  let c0_430 : Index := 0#32
  ![v624.toNat, 0]
def k0_off81 (v519 : BitVec 32) (v521 : BitVec 32) (v534 : BitVec 32) (v536 : BitVec 32) (k0_t5 : Fin (k0_t5_loop v519 v521 v534 v536).trips) (c0_i32_400 : BitVec 32) : Fin 2 → Nat :=
  let c0_i32_395 : BitVec 32 := 0#32
  let c1_i32_397 : BitVec 32 := 1#32
  let arg23 : BitVec 32 := Scf.iv c0_i32_395 c1_i32_397 k0_t5
  let c4_i32_399 : BitVec 32 := 4#32
  let v555 : BitVec 32 := Scalar.muli arg23 c4_i32_399
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v628 : Index := Scalar.indexCast v568
  let c0_431 : Index := 0#32
  ![v628.toNat, 0]
def k0_off82 (v519 : BitVec 32) (v521 : BitVec 32) (v534 : BitVec 32) (v536 : BitVec 32) (k0_t5 : Fin (k0_t5_loop v519 v521 v534 v536).trips) (c0_i32_400 : BitVec 32) : Fin 2 → Nat :=
  let c0_i32_395 : BitVec 32 := 0#32
  let c1_i32_397 : BitVec 32 := 1#32
  let arg23 : BitVec 32 := Scf.iv c0_i32_395 c1_i32_397 k0_t5
  let c4_i32_399 : BitVec 32 := 4#32
  let v555 : BitVec 32 := Scalar.muli arg23 c4_i32_399
  let v556 : BitVec 32 := Scalar.addi v555 c0_i32_400
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let v562 : BitVec 1 := Scalar.cmpi .slt v556 v532
  let c0_i32_381 : BitVec 32 := 0#32
  let v528 : BitVec 32 := Scalar.subi v525 c0_i32_381
  let v563 : BitVec 32 := Scalar.addi v528 v556
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v641 : Index := Scalar.indexCast v568
  let c0_432 : Index := 0#32
  ![v641.toNat, 0]
@[reducible] def k0_t6_loop (v519 : BitVec 32) (v521 : BitVec 32) (v534 : BitVec 32) (v536 : BitVec 32) : Scf.Loop 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let v551 : BitVec 32 := Scalar.addi c0_i32_395 v550
  let c1_i32_398 : BitVec 32 := 1#32
  ⟨v554, v551, c1_i32_398⟩
def k0_mult13 (v519 : BitVec 32) (v521 : BitVec 32) (v534 : BitVec 32) (v536 : BitVec 32) (k0_t6 : Fin (k0_t6_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t6
  let c4_i32_399 : BitVec 32 := 4#32
  let v555 : BitVec 32 := Scalar.muli arg23 c4_i32_399
  let c0_i32_400 : BitVec 32 := 0#32
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  v567
def k0_mult14 (v519 : BitVec 32) (v521 : BitVec 32) (v534 : BitVec 32) (v536 : BitVec 32) (k0_t6 : Fin (k0_t6_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t6
  let c4_i32_405 : BitVec 32 := 4#32
  let v569 : BitVec 32 := Scalar.muli arg23 c4_i32_405
  let c1_i32_406 : BitVec 32 := 1#32
  let v570 : BitVec 32 := Scalar.addi v569 c1_i32_406
  let v576 : BitVec 1 := Scalar.cmpi .slt v570 v532
  let c0_i32_381 : BitVec 32 := 0#32
  let v528 : BitVec 32 := Scalar.subi v525 c0_i32_381
  let v577 : BitVec 32 := Scalar.addi v528 v570
  let v571 : BitVec 1 := Scalar.cmpi .slt v570 v547
  let v543 : BitVec 32 := Scalar.subi v540 v532
  let v572 : BitVec 32 := Scalar.addi v543 v570
  let c0_i32_407 : BitVec 32 := 0#32
  let v573 : BitVec 32 := Scalar.select v571 v572 c0_i32_407
  let v578 : BitVec 32 := Scalar.select v576 v577 v573
  let c16_i32_410 : BitVec 32 := 16#32
  let v581 : BitVec 32 := Scalar.muli v578 c16_i32_410
  v581
def k0_mult15 (v519 : BitVec 32) (v521 : BitVec 32) (v534 : BitVec 32) (v536 : BitVec 32) (k0_t6 : Fin (k0_t6_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t6
  let c4_i32_411 : BitVec 32 := 4#32
  let v583 : BitVec 32 := Scalar.muli arg23 c4_i32_411
  let c2_i32_412 : BitVec 32 := 2#32
  let v584 : BitVec 32 := Scalar.addi v583 c2_i32_412
  let v590 : BitVec 1 := Scalar.cmpi .slt v584 v532
  let c0_i32_381 : BitVec 32 := 0#32
  let v528 : BitVec 32 := Scalar.subi v525 c0_i32_381
  let v591 : BitVec 32 := Scalar.addi v528 v584
  let v585 : BitVec 1 := Scalar.cmpi .slt v584 v547
  let v543 : BitVec 32 := Scalar.subi v540 v532
  let v586 : BitVec 32 := Scalar.addi v543 v584
  let c0_i32_413 : BitVec 32 := 0#32
  let v587 : BitVec 32 := Scalar.select v585 v586 c0_i32_413
  let v592 : BitVec 32 := Scalar.select v590 v591 v587
  let c16_i32_416 : BitVec 32 := 16#32
  let v595 : BitVec 32 := Scalar.muli v592 c16_i32_416
  v595
def k0_mult16 (v519 : BitVec 32) (v521 : BitVec 32) (v534 : BitVec 32) (v536 : BitVec 32) (k0_t6 : Fin (k0_t6_loop v519 v521 v534 v536).trips) : BitVec 32 :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t6
  let c4_i32_417 : BitVec 32 := 4#32
  let v597 : BitVec 32 := Scalar.muli arg23 c4_i32_417
  let c3_i32_418 : BitVec 32 := 3#32
  let v598 : BitVec 32 := Scalar.addi v597 c3_i32_418
  let v604 : BitVec 1 := Scalar.cmpi .slt v598 v532
  let c0_i32_381 : BitVec 32 := 0#32
  let v528 : BitVec 32 := Scalar.subi v525 c0_i32_381
  let v605 : BitVec 32 := Scalar.addi v528 v598
  let v599 : BitVec 1 := Scalar.cmpi .slt v598 v547
  let v543 : BitVec 32 := Scalar.subi v540 v532
  let v600 : BitVec 32 := Scalar.addi v543 v598
  let c0_i32_419 : BitVec 32 := 0#32
  let v601 : BitVec 32 := Scalar.select v599 v600 c0_i32_419
  let v606 : BitVec 32 := Scalar.select v604 v605 v601
  let c16_i32_422 : BitVec 32 := 16#32
  let v609 : BitVec 32 := Scalar.muli v606 c16_i32_422
  v609
def k0_off83 (v519 : BitVec 32) (v521 : BitVec 32) (v534 : BitVec 32) (v536 : BitVec 32) (k0_t6 : Fin (k0_t6_loop v519 v521 v534 v536).trips) (c0_i32_400 : BitVec 32) : Fin 2 → Nat :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t6
  let c4_i32_399 : BitVec 32 := 4#32
  let v555 : BitVec 32 := Scalar.muli arg23 c4_i32_399
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v611 : Index := Scalar.indexCast v568
  let c0_423 : Index := 0#32
  ![v611.toNat, 0]
def k0_off84 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) : Fin 3 → Nat :=
  let c0_i32_363 : BitVec 32 := 0#32
  let c2_i32_46 : BitVec 32 := 2#32
  let c0_i32_39 : BitVec 32 := 0#32
  let v33 : BitVec 32 := Scalar.addi c0_i32_39 v30
  let v37 : BitVec 32 := Scalar.addi v33 v34
  let c0_i32_45 : BitVec 32 := 0#32
  let v39 : BitVec 1 := Scalar.cmpi .sgt v37 c0_i32_45
  let v40 : BitVec 32 := Scalar.extui v39
  let v41 : BitVec 32 := Scalar.addi c2_i32_46 v40
  let c0_i32_50 : BitVec 32 := 0#32
  let v45 : BitVec 32 := Scalar.addi c0_i32_50 v42
  let v49 : BitVec 32 := Scalar.addi v45 v46
  let c0_i32_55 : BitVec 32 := 0#32
  let v52 : BitVec 1 := Scalar.cmpi .sgt v49 c0_i32_55
  let v53 : BitVec 32 := Scalar.extui v52
  let v54 : BitVec 32 := Scalar.addi v41 v53
  let c0_i32_59 : BitVec 32 := 0#32
  let v58 : BitVec 32 := Scalar.addi c0_i32_59 v55
  let v62 : BitVec 32 := Scalar.addi v58 v59
  let c0_i32_64 : BitVec 32 := 0#32
  let v65 : BitVec 1 := Scalar.cmpi .sgt v62 c0_i32_64
  let v66 : BitVec 32 := Scalar.extui v65
  let v67 : BitVec 32 := Scalar.addi v54 v66
  let c0_i32_68 : BitVec 32 := 0#32
  let v71 : BitVec 32 := Scalar.addi c0_i32_68 v68
  let v75 : BitVec 32 := Scalar.addi v71 v72
  let c0_i32_73 : BitVec 32 := 0#32
  let v78 : BitVec 1 := Scalar.cmpi .sgt v75 c0_i32_73
  let v79 : BitVec 32 := Scalar.extui v78
  let v80 : BitVec 32 := Scalar.addi v67 v79
  let c0_i32_77 : BitVec 32 := 0#32
  let v84 : BitVec 32 := Scalar.addi c0_i32_77 v81
  let v88 : BitVec 32 := Scalar.addi v84 v85
  let c0_i32_82 : BitVec 32 := 0#32
  let v91 : BitVec 1 := Scalar.cmpi .sgt v88 c0_i32_82
  let v92 : BitVec 32 := Scalar.extui v91
  let v93 : BitVec 32 := Scalar.addi v80 v92
  let c0_i32_86 : BitVec 32 := 0#32
  let v97 : BitVec 32 := Scalar.addi c0_i32_86 v94
  let v101 : BitVec 32 := Scalar.addi v97 v98
  let c0_i32_91 : BitVec 32 := 0#32
  let v104 : BitVec 1 := Scalar.cmpi .sgt v101 c0_i32_91
  let v105 : BitVec 32 := Scalar.extui v104
  let v106 : BitVec 32 := Scalar.addi v93 v105
  let c0_i32_95 : BitVec 32 := 0#32
  let v110 : BitVec 32 := Scalar.addi c0_i32_95 v107
  let v114 : BitVec 32 := Scalar.addi v110 v111
  let c0_i32_100 : BitVec 32 := 0#32
  let v117 : BitVec 1 := Scalar.cmpi .sgt v114 c0_i32_100
  let v118 : BitVec 32 := Scalar.extui v117
  let v119 : BitVec 32 := Scalar.addi v106 v118
  let c0_i32_104 : BitVec 32 := 0#32
  let v123 : BitVec 32 := Scalar.addi c0_i32_104 v120
  let v127 : BitVec 32 := Scalar.addi v123 v124
  let c0_i32_109 : BitVec 32 := 0#32
  let v130 : BitVec 1 := Scalar.cmpi .sgt v127 c0_i32_109
  let v131 : BitVec 32 := Scalar.extui v130
  let v132 : BitVec 32 := Scalar.addi v119 v131
  let c0_i32_113 : BitVec 32 := 0#32
  let v136 : BitVec 32 := Scalar.addi c0_i32_113 v133
  let v140 : BitVec 32 := Scalar.addi v136 v137
  let c0_i32_118 : BitVec 32 := 0#32
  let v143 : BitVec 1 := Scalar.cmpi .sgt v140 c0_i32_118
  let v144 : BitVec 32 := Scalar.extui v143
  let v145 : BitVec 32 := Scalar.addi v132 v144
  let c0_i32_122 : BitVec 32 := 0#32
  let v149 : BitVec 32 := Scalar.addi c0_i32_122 v146
  let v153 : BitVec 32 := Scalar.addi v149 v150
  let c0_i32_127 : BitVec 32 := 0#32
  let v156 : BitVec 1 := Scalar.cmpi .sgt v153 c0_i32_127
  let v157 : BitVec 32 := Scalar.extui v156
  let v158 : BitVec 32 := Scalar.addi v145 v157
  let c0_i32_131 : BitVec 32 := 0#32
  let v162 : BitVec 32 := Scalar.addi c0_i32_131 v159
  let v166 : BitVec 32 := Scalar.addi v162 v163
  let c0_i32_136 : BitVec 32 := 0#32
  let v169 : BitVec 1 := Scalar.cmpi .sgt v166 c0_i32_136
  let v170 : BitVec 32 := Scalar.extui v169
  let v171 : BitVec 32 := Scalar.addi v158 v170
  let c0_i32_140 : BitVec 32 := 0#32
  let v175 : BitVec 32 := Scalar.addi c0_i32_140 v172
  let v179 : BitVec 32 := Scalar.addi v175 v176
  let c0_i32_145 : BitVec 32 := 0#32
  let v182 : BitVec 1 := Scalar.cmpi .sgt v179 c0_i32_145
  let v183 : BitVec 32 := Scalar.extui v182
  let v184 : BitVec 32 := Scalar.addi v171 v183
  let c0_i32_149 : BitVec 32 := 0#32
  let v188 : BitVec 32 := Scalar.addi c0_i32_149 v185
  let v192 : BitVec 32 := Scalar.addi v188 v189
  let c0_i32_154 : BitVec 32 := 0#32
  let v195 : BitVec 1 := Scalar.cmpi .sgt v192 c0_i32_154
  let v196 : BitVec 32 := Scalar.extui v195
  let v197 : BitVec 32 := Scalar.addi v184 v196
  let c0_i32_158 : BitVec 32 := 0#32
  let v201 : BitVec 32 := Scalar.addi c0_i32_158 v198
  let v205 : BitVec 32 := Scalar.addi v201 v202
  let c0_i32_163 : BitVec 32 := 0#32
  let v208 : BitVec 1 := Scalar.cmpi .sgt v205 c0_i32_163
  let v209 : BitVec 32 := Scalar.extui v208
  let v210 : BitVec 32 := Scalar.addi v197 v209
  let c0_i32_167 : BitVec 32 := 0#32
  let v214 : BitVec 32 := Scalar.addi c0_i32_167 v211
  let v218 : BitVec 32 := Scalar.addi v214 v215
  let c0_i32_172 : BitVec 32 := 0#32
  let v221 : BitVec 1 := Scalar.cmpi .sgt v218 c0_i32_172
  let v222 : BitVec 32 := Scalar.extui v221
  let v223 : BitVec 32 := Scalar.addi v210 v222
  let c0_i32_176 : BitVec 32 := 0#32
  let v227 : BitVec 32 := Scalar.addi c0_i32_176 v224
  let v231 : BitVec 32 := Scalar.addi v227 v228
  let c0_i32_181 : BitVec 32 := 0#32
  let v234 : BitVec 1 := Scalar.cmpi .sgt v231 c0_i32_181
  let v235 : BitVec 32 := Scalar.extui v234
  let v236 : BitVec 32 := Scalar.addi v223 v235
  let c0_i32_185 : BitVec 32 := 0#32
  let v240 : BitVec 32 := Scalar.addi c0_i32_185 v237
  let v244 : BitVec 32 := Scalar.addi v240 v241
  let c0_i32_190 : BitVec 32 := 0#32
  let v247 : BitVec 1 := Scalar.cmpi .sgt v244 c0_i32_190
  let v248 : BitVec 32 := Scalar.extui v247
  let v249 : BitVec 32 := Scalar.addi v236 v248
  let c0_i32_194 : BitVec 32 := 0#32
  let v253 : BitVec 32 := Scalar.addi c0_i32_194 v250
  let v257 : BitVec 32 := Scalar.addi v253 v254
  let c0_i32_199 : BitVec 32 := 0#32
  let v260 : BitVec 1 := Scalar.cmpi .sgt v257 c0_i32_199
  let v261 : BitVec 32 := Scalar.extui v260
  let v262 : BitVec 32 := Scalar.addi v249 v261
  let c0_i32_203 : BitVec 32 := 0#32
  let v266 : BitVec 32 := Scalar.addi c0_i32_203 v263
  let v270 : BitVec 32 := Scalar.addi v266 v267
  let c0_i32_208 : BitVec 32 := 0#32
  let v273 : BitVec 1 := Scalar.cmpi .sgt v270 c0_i32_208
  let v274 : BitVec 32 := Scalar.extui v273
  let v275 : BitVec 32 := Scalar.addi v262 v274
  let c0_i32_212 : BitVec 32 := 0#32
  let v279 : BitVec 32 := Scalar.addi c0_i32_212 v276
  let v283 : BitVec 32 := Scalar.addi v279 v280
  let c0_i32_217 : BitVec 32 := 0#32
  let v286 : BitVec 1 := Scalar.cmpi .sgt v283 c0_i32_217
  let v287 : BitVec 32 := Scalar.extui v286
  let v288 : BitVec 32 := Scalar.addi v275 v287
  let c0_i32_221 : BitVec 32 := 0#32
  let v292 : BitVec 32 := Scalar.addi c0_i32_221 v289
  let v296 : BitVec 32 := Scalar.addi v292 v293
  let c0_i32_226 : BitVec 32 := 0#32
  let v299 : BitVec 1 := Scalar.cmpi .sgt v296 c0_i32_226
  let v300 : BitVec 32 := Scalar.extui v299
  let v301 : BitVec 32 := Scalar.addi v288 v300
  let c0_i32_230 : BitVec 32 := 0#32
  let v305 : BitVec 32 := Scalar.addi c0_i32_230 v302
  let v309 : BitVec 32 := Scalar.addi v305 v306
  let c0_i32_235 : BitVec 32 := 0#32
  let v312 : BitVec 1 := Scalar.cmpi .sgt v309 c0_i32_235
  let v313 : BitVec 32 := Scalar.extui v312
  let v314 : BitVec 32 := Scalar.addi v301 v313
  let c0_i32_239 : BitVec 32 := 0#32
  let v318 : BitVec 32 := Scalar.addi c0_i32_239 v315
  let v322 : BitVec 32 := Scalar.addi v318 v319
  let c0_i32_244 : BitVec 32 := 0#32
  let v325 : BitVec 1 := Scalar.cmpi .sgt v322 c0_i32_244
  let v326 : BitVec 32 := Scalar.extui v325
  let v327 : BitVec 32 := Scalar.addi v314 v326
  let c0_i32_248 : BitVec 32 := 0#32
  let v331 : BitVec 32 := Scalar.addi c0_i32_248 v328
  let v335 : BitVec 32 := Scalar.addi v331 v332
  let c0_i32_253 : BitVec 32 := 0#32
  let v338 : BitVec 1 := Scalar.cmpi .sgt v335 c0_i32_253
  let v339 : BitVec 32 := Scalar.extui v338
  let v340 : BitVec 32 := Scalar.addi v327 v339
  let c0_i32_257 : BitVec 32 := 0#32
  let v344 : BitVec 32 := Scalar.addi c0_i32_257 v341
  let v348 : BitVec 32 := Scalar.addi v344 v345
  let c0_i32_262 : BitVec 32 := 0#32
  let v351 : BitVec 1 := Scalar.cmpi .sgt v348 c0_i32_262
  let v352 : BitVec 32 := Scalar.extui v351
  let v353 : BitVec 32 := Scalar.addi v340 v352
  let c0_i32_266 : BitVec 32 := 0#32
  let v357 : BitVec 32 := Scalar.addi c0_i32_266 v354
  let v361 : BitVec 32 := Scalar.addi v357 v358
  let c0_i32_271 : BitVec 32 := 0#32
  let v364 : BitVec 1 := Scalar.cmpi .sgt v361 c0_i32_271
  let v365 : BitVec 32 := Scalar.extui v364
  let v366 : BitVec 32 := Scalar.addi v353 v365
  let c0_i32_275 : BitVec 32 := 0#32
  let v370 : BitVec 32 := Scalar.addi c0_i32_275 v367
  let v374 : BitVec 32 := Scalar.addi v370 v371
  let c0_i32_280 : BitVec 32 := 0#32
  let v377 : BitVec 1 := Scalar.cmpi .sgt v374 c0_i32_280
  let v378 : BitVec 32 := Scalar.extui v377
  let v379 : BitVec 32 := Scalar.addi v366 v378
  let c0_i32_284 : BitVec 32 := 0#32
  let v383 : BitVec 32 := Scalar.addi c0_i32_284 v380
  let v387 : BitVec 32 := Scalar.addi v383 v384
  let c0_i32_289 : BitVec 32 := 0#32
  let v390 : BitVec 1 := Scalar.cmpi .sgt v387 c0_i32_289
  let v391 : BitVec 32 := Scalar.extui v390
  let v392 : BitVec 32 := Scalar.addi v379 v391
  let c0_i32_293 : BitVec 32 := 0#32
  let v396 : BitVec 32 := Scalar.addi c0_i32_293 v393
  let v400 : BitVec 32 := Scalar.addi v396 v397
  let c0_i32_298 : BitVec 32 := 0#32
  let v403 : BitVec 1 := Scalar.cmpi .sgt v400 c0_i32_298
  let v404 : BitVec 32 := Scalar.extui v403
  let v405 : BitVec 32 := Scalar.addi v392 v404
  let c0_i32_302 : BitVec 32 := 0#32
  let v409 : BitVec 32 := Scalar.addi c0_i32_302 v406
  let v413 : BitVec 32 := Scalar.addi v409 v410
  let c0_i32_307 : BitVec 32 := 0#32
  let v416 : BitVec 1 := Scalar.cmpi .sgt v413 c0_i32_307
  let v417 : BitVec 32 := Scalar.extui v416
  let v418 : BitVec 32 := Scalar.addi v405 v417
  let c0_i32_311 : BitVec 32 := 0#32
  let v421 : BitVec 32 := Scalar.addi c0_i32_311 v419
  let v424 : BitVec 32 := Scalar.addi v421 v422
  let c0_i32_316 : BitVec 32 := 0#32
  let v427 : BitVec 1 := Scalar.cmpi .sgt v424 c0_i32_316
  let v428 : BitVec 32 := Scalar.extui v427
  let v429 : BitVec 32 := Scalar.addi v418 v428
  let v500 : BitVec 32 := Scalar.subi v429 c0_i32_363
  let c1_i32_364 : BitVec 32 := 1#32
  let v502 : BitVec 32 := Scalar.divsi v500 c1_i32_364
  let v503 : BitVec 32 := Scalar.muli v502 c1_i32_364
  let v504 : BitVec 32 := Scalar.addi c0_i32_363 v503
  let c1_i32_366 : BitVec 32 := 1#32
  let arg22 : BitVec 32 := Scf.iv v504 c1_i32_366 k0_t4
  let c20_i32_369 : BitVec 32 := 20#32
  let v509 : BitVec 32 := Scalar.remsi arg22 c20_i32_369
  let v620 : Index := Scalar.indexCast v509
  let c0_427 : Index := 0#32
  let c0_428 : Index := 0#32
  ![v620.toNat, 0, 0]
def k0_off85 (v511 : BitVec 32) : Fin 2 → Nat :=
  let v624 : Index := Scalar.indexCast v511
  let c0_430 : Index := 0#32
  ![v624.toNat, 0]
def k0_off86 (v519 : BitVec 32) (v521 : BitVec 32) (v534 : BitVec 32) (v536 : BitVec 32) (k0_t6 : Fin (k0_t6_loop v519 v521 v534 v536).trips) (c0_i32_400 : BitVec 32) : Fin 2 → Nat :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t6
  let c4_i32_399 : BitVec 32 := 4#32
  let v555 : BitVec 32 := Scalar.muli arg23 c4_i32_399
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v628 : Index := Scalar.indexCast v568
  let c0_431 : Index := 0#32
  ![v628.toNat, 0]
def k0_off87 (v519 : BitVec 32) (v521 : BitVec 32) (v534 : BitVec 32) (v536 : BitVec 32) (k0_t6 : Fin (k0_t6_loop v519 v521 v534 v536).trips) (c0_i32_400 : BitVec 32) : Fin 2 → Nat :=
  let c0_i32_395 : BitVec 32 := 0#32
  let c0_i32_384 : BitVec 32 := 0#32
  let c0_i32_382 : BitVec 32 := 0#32
  let v529 : BitVec 1 := Scalar.cmpi .sgt v521 c0_i32_382
  let c0_i32_377 : BitVec 32 := 0#32
  let v523 : BitVec 32 := Scalar.addi c0_i32_377 v519
  let v524 : BitVec 32 := Scalar.addi v523 v521
  let c15_i32_379 : BitVec 32 := 15#32
  let v526 : BitVec 32 := Scalar.addi v524 c15_i32_379
  let c16_i32_380 : BitVec 32 := 16#32
  let v527 : BitVec 32 := Scalar.divsi v526 c16_i32_380
  let c0_i32_376 : BitVec 32 := 0#32
  let v522 : BitVec 32 := Scalar.addi c0_i32_376 v519
  let c16_i32_378 : BitVec 32 := 16#32
  let v525 : BitVec 32 := Scalar.divsi v522 c16_i32_378
  let v530 : BitVec 32 := Scalar.subi v527 v525
  let c0_i32_383 : BitVec 32 := 0#32
  let v531 : BitVec 32 := Scalar.select v529 v530 c0_i32_383
  let v532 : BitVec 32 := Scalar.addi c0_i32_384 v531
  let c0_i32_391 : BitVec 32 := 0#32
  let v544 : BitVec 1 := Scalar.cmpi .sgt v536 c0_i32_391
  let c128_i32_387 : BitVec 32 := 128#32
  let v538 : BitVec 32 := Scalar.addi c128_i32_387 v534
  let v539 : BitVec 32 := Scalar.addi v538 v536
  let c15_i32_389 : BitVec 32 := 15#32
  let v541 : BitVec 32 := Scalar.addi v539 c15_i32_389
  let c16_i32_390 : BitVec 32 := 16#32
  let v542 : BitVec 32 := Scalar.divsi v541 c16_i32_390
  let c128_i32 : BitVec 32 := 128#32
  let v537 : BitVec 32 := Scalar.addi c128_i32 v534
  let c16_i32_388 : BitVec 32 := 16#32
  let v540 : BitVec 32 := Scalar.divsi v537 c16_i32_388
  let v545 : BitVec 32 := Scalar.subi v542 v540
  let c0_i32_392 : BitVec 32 := 0#32
  let v546 : BitVec 32 := Scalar.select v544 v545 c0_i32_392
  let v547 : BitVec 32 := Scalar.addi v532 v546
  let c3_i32_393 : BitVec 32 := 3#32
  let v548 : BitVec 32 := Scalar.addi v547 c3_i32_393
  let c4_i32_394 : BitVec 32 := 4#32
  let v549 : BitVec 32 := Scalar.divsi v548 c4_i32_394
  let v550 : BitVec 32 := Scalar.subi v549 c0_i32_395
  let c1_i32_396 : BitVec 32 := 1#32
  let v552 : BitVec 32 := Scalar.divsi v550 c1_i32_396
  let v553 : BitVec 32 := Scalar.muli v552 c1_i32_396
  let v554 : BitVec 32 := Scalar.addi c0_i32_395 v553
  let c1_i32_398 : BitVec 32 := 1#32
  let arg23 : BitVec 32 := Scf.iv v554 c1_i32_398 k0_t6
  let c4_i32_399 : BitVec 32 := 4#32
  let v555 : BitVec 32 := Scalar.muli arg23 c4_i32_399
  let v556 : BitVec 32 := Scalar.addi v555 c0_i32_400
  let v562 : BitVec 1 := Scalar.cmpi .slt v556 v532
  let c0_i32_381 : BitVec 32 := 0#32
  let v528 : BitVec 32 := Scalar.subi v525 c0_i32_381
  let v563 : BitVec 32 := Scalar.addi v528 v556
  let v557 : BitVec 1 := Scalar.cmpi .slt v556 v547
  let v543 : BitVec 32 := Scalar.subi v540 v532
  let v558 : BitVec 32 := Scalar.addi v543 v556
  let c0_i32_401 : BitVec 32 := 0#32
  let v559 : BitVec 32 := Scalar.select v557 v558 c0_i32_401
  let v564 : BitVec 32 := Scalar.select v562 v563 v559
  let c16_i32_404 : BitVec 32 := 16#32
  let v567 : BitVec 32 := Scalar.muli v564 c16_i32_404
  let v568 : BitVec 32 := v567
  let v641 : Index := Scalar.indexCast v568
  let c0_432 : Index := 0#32
  ![v641.toNat, 0]

def k0_chk54 (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) : Prop :=
  ((k0_t5_loop v519 v521 v534 v536).OK) ∧
  (∀ k0_t5 : Fin (k0_t5_loop v519 v521 v534 v536).trips, 16 ∣ (k0_mult9 v519 v521 v534 v536 k0_t5).toNat) ∧
  (∀ k0_t5 : Fin (k0_t5_loop v519 v521 v534 v536).trips, 16 ∣ (k0_mult10 v519 v521 v534 v536 k0_t5).toNat) ∧
  (∀ k0_t5 : Fin (k0_t5_loop v519 v521 v534 v536).trips, 16 ∣ (k0_mult11 v519 v521 v534 v536 k0_t5).toNat) ∧
  (∀ k0_t5 : Fin (k0_t5_loop v519 v521 v534 v536).trips, 16 ∣ (k0_mult12 v519 v521 v534 v536 k0_t5).toNat) ∧
  (∀ k0_t5 : Fin (k0_t5_loop v519 v521 v534 v536).trips, ∀ (r : Fin 4), ∀ a, (k0_off78 v519 v521 v534 v536 k0_t5 (BitVec.ofNat 32 r.val)) a + S16x2560.size a ≤ S256x2560.size a) ∧
  (∀ k0_t5 : Fin (k0_t5_loop v519 v521 v534 v536).trips, ∀ a, (k0_off79 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a) ∧
  (∀ k0_t5 : Fin (k0_t5_loop v519 v521 v534 v536).trips, ∀ a, (k0_off80 v511) a + S1x1024.size a ≤ S33x1024.size a) ∧
  (∀ k0_t5 : Fin (k0_t5_loop v519 v521 v534 v536).trips, ∀ (r : Fin 4), ∀ a, (k0_off81 v519 v521 v534 v536 k0_t5 (BitVec.ofNat 32 r.val)) a + S16x128.size a ≤ S256x128.size a) ∧
  (∀ k0_t5 : Fin (k0_t5_loop v519 v521 v534 v536).trips, ∀ (r : Fin 4), ∀ a, (k0_off82 v519 v521 v534 v536 k0_t5 (BitVec.ofNat 32 r.val)) a + S16x1024.size a ≤ S256x1024.size a) ∧
  (∀ k0_t5 : Fin (k0_t5_loop v519 v521 v534 v536).trips, ∀ (r : Fin 4), ∀ (hinb : ∀ a, (k0_off82 v519 v521 v534 v536 k0_t5 (BitVec.ofNat 32 r.val)) a + S16x1024.size a ≤ S256x1024.size a), (Rect.unit (s := S256x1024) (k0_off82 v519 v521 v534 v536 k0_t5 (BitVec.ofNat 32 r.val)) S16x1024.size hinb).PackedRows (EltTy.packing .bf16)) ∧
  ((k0_t6_loop v519 v521 v534 v536).OK) ∧
  (∀ k0_t6 : Fin (k0_t6_loop v519 v521 v534 v536).trips, 16 ∣ (k0_mult13 v519 v521 v534 v536 k0_t6).toNat) ∧
  (∀ k0_t6 : Fin (k0_t6_loop v519 v521 v534 v536).trips, 16 ∣ (k0_mult14 v519 v521 v534 v536 k0_t6).toNat) ∧
  (∀ k0_t6 : Fin (k0_t6_loop v519 v521 v534 v536).trips, 16 ∣ (k0_mult15 v519 v521 v534 v536 k0_t6).toNat) ∧
  (∀ k0_t6 : Fin (k0_t6_loop v519 v521 v534 v536).trips, 16 ∣ (k0_mult16 v519 v521 v534 v536 k0_t6).toNat) ∧
  (∀ k0_t6 : Fin (k0_t6_loop v519 v521 v534 v536).trips, ∀ (r : Fin 4), ∀ a, (k0_off83 v519 v521 v534 v536 k0_t6 (BitVec.ofNat 32 r.val)) a + S16x2560.size a ≤ S256x2560.size a) ∧
  (∀ k0_t6 : Fin (k0_t6_loop v519 v521 v534 v536).trips, ∀ a, (k0_off84 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a) ∧
  (∀ k0_t6 : Fin (k0_t6_loop v519 v521 v534 v536).trips, ∀ a, (k0_off85 v511) a + S1x1024.size a ≤ S33x1024.size a) ∧
  (∀ k0_t6 : Fin (k0_t6_loop v519 v521 v534 v536).trips, ∀ (r : Fin 4), ∀ a, (k0_off86 v519 v521 v534 v536 k0_t6 (BitVec.ofNat 32 r.val)) a + S16x128.size a ≤ S256x128.size a) ∧
  (∀ k0_t6 : Fin (k0_t6_loop v519 v521 v534 v536).trips, ∀ (r : Fin 4), ∀ a, (k0_off87 v519 v521 v534 v536 k0_t6 (BitVec.ofNat 32 r.val)) a + S16x1024.size a ≤ S256x1024.size a) ∧
  (∀ k0_t6 : Fin (k0_t6_loop v519 v521 v534 v536).trips, ∀ (r : Fin 4), ∀ (hinb : ∀ a, (k0_off87 v519 v521 v534 v536 k0_t6 (BitVec.ofNat 32 r.val)) a + S16x1024.size a ≤ S256x1024.size a), (Rect.unit (s := S256x1024) (k0_off87 v519 v521 v534 v536 k0_t6 (BitVec.ofNat 32 r.val)) S16x1024.size hinb).PackedRows (EltTy.packing .bf16))
theorem k0_t5_ok : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536), (k0_t5_loop v519 v521 v534 v536).OK := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 => k0_hw54.1
theorem k0_mult9_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), 16 ∣ (k0_mult9 v519 v521 v534 v536 k0_t5).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 => k0_hw54.2.1 k0_t5
theorem k0_mult10_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), 16 ∣ (k0_mult10 v519 v521 v534 v536 k0_t5).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 => k0_hw54.2.2.1 k0_t5
theorem k0_mult11_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), 16 ∣ (k0_mult11 v519 v521 v534 v536 k0_t5).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 => k0_hw54.2.2.2.1 k0_t5
theorem k0_mult12_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), 16 ∣ (k0_mult12 v519 v521 v534 v536 k0_t5).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 => k0_hw54.2.2.2.2.1 k0_t5
theorem k0_off78_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), ∀ (r : Fin 4), ∀ a, (k0_off78 v519 v521 v534 v536 k0_t5 (BitVec.ofNat 32 r.val)) a + S16x2560.size a ≤ S256x2560.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 r => k0_hw54.2.2.2.2.2.1 k0_t5 r
theorem k0_off79_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), ∀ a, (k0_off79 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 => k0_hw54.2.2.2.2.2.2.1 k0_t5
theorem k0_off80_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), ∀ a, (k0_off80 v511) a + S1x1024.size a ≤ S33x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 => k0_hw54.2.2.2.2.2.2.2.1 k0_t5
theorem k0_off81_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), ∀ (r : Fin 4), ∀ a, (k0_off81 v519 v521 v534 v536 k0_t5 (BitVec.ofNat 32 r.val)) a + S16x128.size a ≤ S256x128.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 r => k0_hw54.2.2.2.2.2.2.2.2.1 k0_t5 r
theorem k0_off82_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), ∀ (r : Fin 4), ∀ a, (k0_off82 v519 v521 v534 v536 k0_t5 (BitVec.ofNat 32 r.val)) a + S16x1024.size a ≤ S256x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 r => k0_hw54.2.2.2.2.2.2.2.2.2.1 k0_t5 r
theorem k0_off82_packedbf16 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t5 : Fin (k0_t5_loop v519 v521 v534 v536).trips), ∀ (r : Fin 4), (Rect.unit (s := S256x1024) (k0_off82 v519 v521 v534 v536 k0_t5 (BitVec.ofNat 32 r.val)) S16x1024.size (k0_off82_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 r)).PackedRows (EltTy.packing .bf16) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 r => k0_hw54.2.2.2.2.2.2.2.2.2.2.1 k0_t5 r (k0_off82_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t5 r)
theorem k0_t6_ok : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536), (k0_t6_loop v519 v521 v534 v536).OK := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 => k0_hw54.2.2.2.2.2.2.2.2.2.2.2.1
theorem k0_mult13_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), 16 ∣ (k0_mult13 v519 v521 v534 v536 k0_t6).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 => k0_hw54.2.2.2.2.2.2.2.2.2.2.2.2.1 k0_t6
theorem k0_mult14_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), 16 ∣ (k0_mult14 v519 v521 v534 v536 k0_t6).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 => k0_hw54.2.2.2.2.2.2.2.2.2.2.2.2.2.1 k0_t6
theorem k0_mult15_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), 16 ∣ (k0_mult15 v519 v521 v534 v536 k0_t6).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 => k0_hw54.2.2.2.2.2.2.2.2.2.2.2.2.2.2.1 k0_t6
theorem k0_mult16_dvd : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), 16 ∣ (k0_mult16 v519 v521 v534 v536 k0_t6).toNat := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 => k0_hw54.2.2.2.2.2.2.2.2.2.2.2.2.2.2.2.1 k0_t6
theorem k0_off83_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), ∀ (r : Fin 4), ∀ a, (k0_off83 v519 v521 v534 v536 k0_t6 (BitVec.ofNat 32 r.val)) a + S16x2560.size a ≤ S256x2560.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 r => k0_hw54.2.2.2.2.2.2.2.2.2.2.2.2.2.2.2.2.1 k0_t6 r
theorem k0_off84_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), ∀ a, (k0_off84 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4) a + S1x2560x1024.size a ≤ S20x2560x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 => k0_hw54.2.2.2.2.2.2.2.2.2.2.2.2.2.2.2.2.2.1 k0_t6
theorem k0_off85_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), ∀ a, (k0_off85 v511) a + S1x1024.size a ≤ S33x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 => k0_hw54.2.2.2.2.2.2.2.2.2.2.2.2.2.2.2.2.2.2.1 k0_t6
theorem k0_off86_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), ∀ (r : Fin 4), ∀ a, (k0_off86 v519 v521 v534 v536 k0_t6 (BitVec.ofNat 32 r.val)) a + S16x128.size a ≤ S256x128.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 r => k0_hw54.2.2.2.2.2.2.2.2.2.2.2.2.2.2.2.2.2.2.2.1 k0_t6 r
theorem k0_off87_inb : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), ∀ (r : Fin 4), ∀ a, (k0_off87 v519 v521 v534 v536 k0_t6 (BitVec.ofNat 32 r.val)) a + S16x1024.size a ≤ S256x1024.size a := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 r => k0_hw54.2.2.2.2.2.2.2.2.2.2.2.2.2.2.2.2.2.2.2.2.1 k0_t6 r
theorem k0_off87_packedbf16 : ∀ (v30 : BitVec 32) (v34 : BitVec 32) (v42 : BitVec 32) (v46 : BitVec 32) (v55 : BitVec 32) (v59 : BitVec 32) (v68 : BitVec 32) (v72 : BitVec 32) (v81 : BitVec 32) (v85 : BitVec 32) (v94 : BitVec 32) (v98 : BitVec 32) (v107 : BitVec 32) (v111 : BitVec 32) (v120 : BitVec 32) (v124 : BitVec 32) (v133 : BitVec 32) (v137 : BitVec 32) (v146 : BitVec 32) (v150 : BitVec 32) (v159 : BitVec 32) (v163 : BitVec 32) (v172 : BitVec 32) (v176 : BitVec 32) (v185 : BitVec 32) (v189 : BitVec 32) (v198 : BitVec 32) (v202 : BitVec 32) (v211 : BitVec 32) (v215 : BitVec 32) (v224 : BitVec 32) (v228 : BitVec 32) (v237 : BitVec 32) (v241 : BitVec 32) (v250 : BitVec 32) (v254 : BitVec 32) (v263 : BitVec 32) (v267 : BitVec 32) (v276 : BitVec 32) (v280 : BitVec 32) (v289 : BitVec 32) (v293 : BitVec 32) (v302 : BitVec 32) (v306 : BitVec 32) (v315 : BitVec 32) (v319 : BitVec 32) (v328 : BitVec 32) (v332 : BitVec 32) (v341 : BitVec 32) (v345 : BitVec 32) (v354 : BitVec 32) (v358 : BitVec 32) (v367 : BitVec 32) (v371 : BitVec 32) (v380 : BitVec 32) (v384 : BitVec 32) (v393 : BitVec 32) (v397 : BitVec 32) (v406 : BitVec 32) (v410 : BitVec 32) (v419 : BitVec 32) (v422 : BitVec 32) (k0_t4 : Fin (k0_t4_loop v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422).trips) (v511 : BitVec 32) (v519 : BitVec 32) (v521 : BitVec 32) (v534 : BitVec 32) (v536 : BitVec 32) (k0_hw54 : k0_chk54 v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536) (k0_t6 : Fin (k0_t6_loop v519 v521 v534 v536).trips), ∀ (r : Fin 4), (Rect.unit (s := S256x1024) (k0_off87 v519 v521 v534 v536 k0_t6 (BitVec.ofNat 32 r.val)) S16x1024.size (k0_off87_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 r)).PackedRows (EltTy.packing .bf16) := fun v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 r => k0_hw54.2.2.2.2.2.2.2.2.2.2.2.2.2.2.2.2.2.2.2.2.2 k0_t6 r (k0_off87_inb v30 v34 v42 v46 v55 v59 v68 v72 v81 v85 v94 v98 v107 v111 v120 v124 v133 v137 v146 v150 v159 v163 v172 v176 v185 v189 v198 v202 v211 v215 v224 v228 v237 v241 v250 v254 v263 v267 v276 v280 v289 v293 v302 v306 v315 v319 v328 v332 v341 v345 v354 v358 v367 v371 v380 v384 v393 v397 v406 v410 v419 v422 k0_t4 v511 v519 v521 v534 v536 k0_hw54 k0_t6 r)
-- ==== ReferenceIdeal.lean ====
abbrev S2x128x2560 : Shape := ⟨3, ![2, 128, 2560]⟩
abbrev S2x128 : Shape := ⟨2, ![2, 128]⟩
abbrev S33x2560x1024 : Shape := ⟨3, ![33, 2560, 1024]⟩
abbrev S33x1024 : Shape := ⟨2, ![33, 1024]⟩
abbrev S2x33 : Shape := ⟨2, ![2, 33]⟩
abbrev S33 : Shape := ⟨1, ![33]⟩
abbrev S1x33 : Shape := ⟨2, ![1, 33]⟩
abbrev S33x1 : Shape := ⟨2, ![33, 1]⟩
abbrev S33x33 : Shape := ⟨2, ![33, 33]⟩
abbrev S2x1x33 : Shape := ⟨3, ![2, 1, 33]⟩
abbrev S_ : Shape := ⟨0, ![]⟩
abbrev S2x33x33 : Shape := ⟨3, ![2, 33, 33]⟩
abbrev S128 : Shape := ⟨1, ![128]⟩
abbrev S1x128x1 : Shape := ⟨3, ![1, 128, 1]⟩
abbrev S2x128x33 : Shape := ⟨3, ![2, 128, 33]⟩
abbrev S2x128x33x1024 : Shape := ⟨4, ![2, 128, 33, 1024]⟩
abbrev S1x1x33x1024 : Shape := ⟨4, ![1, 1, 33, 1024]⟩
abbrev S2x128x1x1 : Shape := ⟨4, ![2, 128, 1, 1]⟩
abbrev S2x128x33x1 : Shape := ⟨4, ![2, 128, 33, 1]⟩
abbrev S2x128x1024 : Shape := ⟨3, ![2, 128, 1024]⟩
abbrev S256x1024 : Shape := ⟨2, ![256, 1024]⟩

abbrev nBuf : Space → Nat
  | .hbm => 52
  | .vmem => 4
  | .smem => 0
  | _ => 0

abbrev bufTy : (tb : Table) → Fin (tcTables nBuf tb) → BufTy
  | .hbm, ⟨0, _⟩ => ⟨S2x128x2560, .fp8e4m3⟩
  | .hbm, ⟨1, _⟩ => ⟨S2x128, .f32⟩
  | .hbm, ⟨2, _⟩ => ⟨S33x2560x1024, .fp8e4m3⟩
  | .hbm, ⟨3, _⟩ => ⟨S33x1024, .f32⟩
  | .hbm, ⟨4, _⟩ => ⟨S2x33, .i32⟩
  | .hbm, ⟨5, _⟩ => ⟨S2x128x2560, .bf16⟩
  | .hbm, ⟨6, _⟩ => ⟨S33x2560x1024, .bf16⟩
  | .hbm, ⟨7, _⟩ => ⟨S33, .i32⟩
  | .hbm, ⟨8, _⟩ => ⟨S1x33, .i32⟩
  | .hbm, ⟨9, _⟩ => ⟨S33x1, .i32⟩
  | .hbm, ⟨10, _⟩ => ⟨S33x33, .i32⟩
  | .hbm, ⟨11, _⟩ => ⟨S33x33, .i32⟩
  | .hbm, ⟨12, _⟩ => ⟨S33x33, .i1⟩
  | .hbm, ⟨13, _⟩ => ⟨S2x1x33, .i32⟩
  | .hbm, ⟨14, _⟩ => ⟨S_, .i32⟩
  | .hbm, ⟨15, _⟩ => ⟨S_, .i32⟩
  | .hbm, ⟨16, _⟩ => ⟨S2x33x33, .i1⟩
  | .hbm, ⟨17, _⟩ => ⟨S2x33x33, .i32⟩
  | .hbm, ⟨18, _⟩ => ⟨S2x33x33, .i32⟩
  | .hbm, ⟨19, _⟩ => ⟨S2x33x33, .i32⟩
  | .hbm, ⟨20, _⟩ => ⟨S_, .i32⟩
  | .hbm, ⟨21, _⟩ => ⟨S2x33, .i32⟩
  | .hbm, ⟨22, _⟩ => ⟨S2x33, .i32⟩
  | .hbm, ⟨23, _⟩ => ⟨S128, .i32⟩
  | .hbm, ⟨24, _⟩ => ⟨S2x1x33, .i32⟩
  | .hbm, ⟨25, _⟩ => ⟨S1x128x1, .i32⟩
  | .hbm, ⟨26, _⟩ => ⟨S2x128x33, .i32⟩
  | .hbm, ⟨27, _⟩ => ⟨S2x128x33, .i32⟩
  | .hbm, ⟨28, _⟩ => ⟨S2x128x33, .i1⟩
  | .hbm, ⟨29, _⟩ => ⟨S1x128x1, .i32⟩
  | .hbm, ⟨30, _⟩ => ⟨S2x1x33, .i32⟩
  | .hbm, ⟨31, _⟩ => ⟨S2x128x33, .i32⟩
  | .hbm, ⟨32, _⟩ => ⟨S2x128x33, .i32⟩
  | .hbm, ⟨33, _⟩ => ⟨S2x128x33, .i1⟩
  | .hbm, ⟨34, _⟩ => ⟨S2x128x33, .i1⟩
  | .hbm, ⟨35, _⟩ => ⟨S2x128x33x1024, .f32⟩
  | .hbm, ⟨36, _⟩ => ⟨S1x1x33x1024, .f32⟩
  | .hbm, ⟨37, _⟩ => ⟨S2x128x33x1024, .f32⟩
  | .hbm, ⟨38, _⟩ => ⟨S2x128x33x1024, .f32⟩
  | .hbm, ⟨39, _⟩ => ⟨S2x128x1x1, .f32⟩
  | .hbm, ⟨40, _⟩ => ⟨S2x128x33x1024, .f32⟩
  | .hbm, ⟨41, _⟩ => ⟨S2x128x33x1024, .f32⟩
  | .hbm, ⟨42, _⟩ => ⟨S2x128x33x1, .i1⟩
  | .hbm, ⟨43, _⟩ => ⟨S_, .f32⟩
  | .hbm, ⟨44, _⟩ => ⟨S_, .f32⟩
  | .hbm, ⟨45, _⟩ => ⟨S2x128x33x1024, .i1⟩
  | .hbm, ⟨46, _⟩ => ⟨S2x128x33x1024, .f32⟩
  | .hbm, ⟨47, _⟩ => ⟨S2x128x33x1024, .f32⟩
  | .hbm, ⟨48, _⟩ => ⟨S_, .f32⟩
  | .hbm, ⟨49, _⟩ => ⟨S2x128x1024, .f32⟩
  | .hbm, ⟨50, _⟩ => ⟨S2x128x1024, .bf16⟩
  | .hbm, ⟨51, _⟩ => ⟨S256x1024, .bf16⟩
  | .local _ .vmem, ⟨0, _⟩ => ⟨S2x128x2560, .fp8e4m3⟩
  | .local _ .vmem, ⟨1, _⟩ => ⟨S33x2560x1024, .fp8e4m3⟩
  | .local _ .vmem, ⟨2, _⟩ => ⟨S2x128x2560, .bf16⟩
  | .local _ .vmem, ⟨3, _⟩ => ⟨S33x2560x1024, .bf16⟩
  | _, _ => ⟨S2x128x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x128x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33x2560x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S33x2560x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelIdeal.Facts.lean ====
/-
  The side conditions the program states (shapes, rectangles in range, whole words), one theorem each.
-/
module

public import proofs.«01_k».proof.KernelIdeal
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096
-- one theorem at a time: the kernel's `decide` over every grid point of a production-shape program holds
-- gigabytes while it runs, and run in parallel (Lean's default) a module of fifty such closed forms passed
-- 10 GiB resident (a 224-point ring kernel's); in turn it peaks near 2 GiB and finishes no later
set_option Elab.async false

namespace Cert.KernelIdeal.Gen

open Idealize.ShloMosaic Idealize.SL.Sem
/-! ## The facts over the vocabulary (`Facts₀`) -/

theorem shapeCasts_S2x128x2560_S256x2560 : S2x128x2560.ShapeCasts S256x2560 := by decide
theorem inb_S20_S1_0 : ∀ a, (![0] : Fin 1 → Nat) a + S1.size a ≤ S20.size a := by decide
theorem squeezes_S1_S_ : S1.Squeezes S_ := by decide
theorem inb_S20x2560x1024_S1x2560x1024_0_0_0 : ∀ a, (![0, 0, 0] : Fin 3 → Nat) a + S1x2560x1024.size a ≤ S20x2560x1024.size a := by decide
theorem squeezes_S1x2560x1024_S2560x1024 : S1x2560x1024.Squeezes S2560x1024 := by decide
theorem inb_S33x2560x1024_S1x2560x1024_0_0_0 : ∀ a, (![0, 0, 0] : Fin 3 → Nat) a + S1x2560x1024.size a ≤ S33x2560x1024.size a := by decide
theorem wordsfp8e4m3_S33x2560x1024_S1x2560x1024_0_0_0 : (Rect.unit (s := S33x2560x1024) ![0, 0, 0] S1x2560x1024.size inb_S33x2560x1024_S1x2560x1024_0_0_0).WholeWords (EltTy.packing .fp8e4m3) := by decide
theorem wordsfp8e4m3_S20x2560x1024_S1x2560x1024_0_0_0 : (Rect.unit (s := S20x2560x1024) ![0, 0, 0] S1x2560x1024.size inb_S20x2560x1024_S1x2560x1024_0_0_0).WholeWords (EltTy.packing .fp8e4m3) := by decide
theorem inb_S20_S1_1 : ∀ a, (![1] : Fin 1 → Nat) a + S1.size a ≤ S20.size a := by decide
theorem inb_S20x2560x1024_S1x2560x1024_1_0_0 : ∀ a, (![1, 0, 0] : Fin 3 → Nat) a + S1x2560x1024.size a ≤ S20x2560x1024.size a := by decide
theorem inb_S33x2560x1024_S1x2560x1024_1_0_0 : ∀ a, (![1, 0, 0] : Fin 3 → Nat) a + S1x2560x1024.size a ≤ S33x2560x1024.size a := by decide
theorem wordsfp8e4m3_S33x2560x1024_S1x2560x1024_1_0_0 : (Rect.unit (s := S33x2560x1024) ![1, 0, 0] S1x2560x1024.size inb_S33x2560x1024_S1x2560x1024_1_0_0).WholeWords (EltTy.packing .fp8e4m3) := by decide
theorem wordsfp8e4m3_S20x2560x1024_S1x2560x1024_1_0_0 : (Rect.unit (s := S20x2560x1024) ![1, 0, 0] S1x2560x1024.size inb_S20x2560x1024_S1x2560x1024_1_0_0).WholeWords (EltTy.packing .fp8e4m3) := by decide
theorem inb_S256x1024_S256x1024_0_0 : ∀ a, (![0, 0] : Fin 2 → Nat) a + S256x1024.size a ≤ S256x1024.size a := by decide
theorem h_S256x1024 : 0 < S256x1024.numel := by decide
theorem shapeCasts_S256x1024_S256x1024 : S256x1024.ShapeCasts S256x1024 := by decide
theorem packedbf16_S256x1024_S256x1024_0_0 : (Rect.unit (s := S256x1024) ![0, 0] S256x1024.size inb_S256x1024_S256x1024_0_0).PackedRows (EltTy.packing .bf16) := by decide
theorem inb_S34_S1_0 : ∀ a, (![0] : Fin 1 → Nat) a + S1.size a ≤ S34.size a := by decide
theorem numel1_S1 : S1.numel = 1 := by decide
theorem inb_S34_S1_1 : ∀ a, (![1] : Fin 1 → Nat) a + S1.size a ≤ S34.size a := by decide
theorem inb_S2x33_S1x1_0_0 : ∀ a, (![0, 0] : Fin 2 → Nat) a + S1x1.size a ≤ S2x33.size a := by decide
theorem numel1_S1x1 : S1x1.numel = 1 := by decide
theorem inb_S2x33_S1x1_1_0 : ∀ a, (![1, 0] : Fin 2 → Nat) a + S1x1.size a ≤ S2x33.size a := by decide
theorem inb_S2x33_S1x1_0_1 : ∀ a, (![0, 1] : Fin 2 → Nat) a + S1x1.size a ≤ S2x33.size a := by decide
theorem inb_S2x33_S1x1_1_1 : ∀ a, (![1, 1] : Fin 2 → Nat) a + S1x1.size a ≤ S2x33.size a := by decide
theorem inb_S2x33_S1x1_0_2 : ∀ a, (![0, 2] : Fin 2 → Nat) a + S1x1.size a ≤ S2x33.size a := by decide
theorem inb_S2x33_S1x1_1_2 : ∀ a, (![1, 2] : Fin 2 → Nat) a + S1x1.size a ≤ S2x33.size a := by decide
theorem inb_S34_S1_2 : ∀ a, (![2] : Fin 1 → Nat) a + S1.size a ≤ S34.size a := by decide
theorem inb_S2x33_S1x1_0_3 : ∀ a, (![0, 3] : Fin 2 → Nat) a + S1x1.size a ≤ S2x33.size a := by decide
theorem inb_S2x33_S1x1_1_3 : ∀ a, (![1, 3] : Fin 2 → Nat) a + S1x1.size a ≤ S2x33.size a := by decide
theorem inb_S2x33_S1x1_0_4 : ∀ a, (![0, 4] : Fin 2 → Nat) a + S1x1.size a ≤ S2x33.size a := by decide
theorem inb_S2x33_S1x1_1_4 : ∀ a, (![1, 4] : Fin 2 → Nat) a + S1x1.size a ≤ S2x33.size a := by decide
theorem inb_S2x33_S1x1_0_5 : ∀ a, (![0, 5] : Fin 2 → Nat) a + S1x1.size a ≤ S2x33.size a := by decide
theorem inb_S2x33_S1x1_1_5 : ∀ a, (![1, 5] : Fin 2 → Nat) a + S1x1.size a ≤ S2x33.size a := by decide
theorem inb_S2x33_S1x1_0_6 : ∀ a, (![0, 6] : Fin 2 → Nat) a + S1x1.size a ≤ S2x33.size a := by decide
theorem inb_S2x33_S1x1_1_6 : ∀ a, (![1, 6] : Fin 2 → Nat) a + S1x1.size a ≤ S2x33.size a := by decide
theorem inb_S2x33_S1x1_0_7 : ∀ a, (![0, 7] : Fin 2 → Nat) a + S1x1.size a ≤ S2x33.size a := by decide
theorem inb_S2x33_S1x1_1_7 : ∀ a, (![1, 7] : Fin 2 → Nat) a + S1x1.size a ≤ S2x33.size a := by decide
theorem inb_S2x33_S1x1_0_8 : ∀ a, (![0, 8] : Fin 2 → Nat) a + S1x1.size a ≤ S2x33.size a := by decide
theorem inb_S2x33_S1x1_1_8 : ∀ a, (![1, 8] : Fin 2 → Nat) a + S1x1.size a ≤ S2x33.size a := by decide
theorem inb_S2x33_S1x1_0_9 : ∀ a, (![0, 9] : Fin 2 → Nat) a + S1x1.size a ≤ S2x33.size a := by decide
theorem inb_S2x33_S1x1_1_9 : ∀ a, (![1, 9] : Fin 2 → Nat) a + S1x1.size a ≤ S2x33.size a := by decide
theorem inb_S2x33_S1x1_0_10 : ∀ a, (![0, 10] : Fin 2 → Nat) a + S1x1.size a ≤ S2x33.size a := by decide
theorem inb_S2x33_S1x1_1_10 : ∀ a, (![1, 10] : Fin 2 → Nat) a + S1x1.size a ≤ S2x33.size a := by decide
theorem inb_S2x33_S1x1_0_11 : ∀ a, (![0, 11] : Fin 2 → Nat) a + S1x1.size a ≤ S2x33.size a := by decide
theorem inb_S2x33_S1x1_1_11 : ∀ a, (![1, 11] : Fin 2 → Nat) a + S1x1.size a ≤ S2x33.size a := by decide
theorem inb_S2x33_S1x1_0_12 : ∀ a, (![0, 12] : Fin 2 → Nat) a + S1x1.size a ≤ S2x33.size a := by decide
theorem inb_S2x33_S1x1_1_12 : ∀ a, (![1, 12] : Fin 2 → Nat) a + S1x1.size a ≤ S2x33.size a := by decide
theorem inb_S2x33_S1x1_0_13 : ∀ a, (![0, 13] : Fin 2 → Nat) a + S1x1.size a ≤ S2x33.size a := by decide
theorem inb_S2x33_S1x1_1_13 : ∀ a, (![1, 13] : Fin 2 → Nat) a + S1x1.size a ≤ S2x33.size a := by decide
theorem inb_S2x33_S1x1_0_14 : ∀ a, (![0, 14] : Fin 2 → Nat) a + S1x1.size a ≤ S2x33.size a := by decide
theorem inb_S2x33_S1x1_1_14 : ∀ a, (![1, 14] : Fin 2 → Nat) a + S1x1.size a ≤ S2x33.size a := by decide
theorem inb_S2x33_S1x1_0_15 : ∀ a, (![0, 15] : Fin 2 → Nat) a + S1x1.size a ≤ S2x33.size a := by decide
theorem inb_S2x33_S1x1_1_15 : ∀ a, (![1, 15] : Fin 2 → Nat) a + S1x1.size a ≤ S2x33.size a := by decide
theorem inb_S2x33_S1x1_0_16 : ∀ a, (![0, 16] : Fin 2 → Nat) a + S1x1.size a ≤ S2x33.size a := by decide
theorem inb_S2x33_S1x1_1_16 : ∀ a, (![1, 16] : Fin 2 → Nat) a + S1x1.size a ≤ S2x33.size a := by decide
theorem inb_S2x33_S1x1_0_17 : ∀ a, (![0, 17] : Fin 2 → Nat) a + S1x1.size a ≤ S2x33.size a := by decide
theorem inb_S2x33_S1x1_1_17 : ∀ a, (![1, 17] : Fin 2 → Nat) a + S1x1.size a ≤ S2x33.size a := by decide
theorem inb_S2x33_S1x1_0_18 : ∀ a, (![0, 18] : Fin 2 → Nat) a + S1x1.size a ≤ S2x33.size a := by decide
theorem inb_S2x33_S1x1_1_18 : ∀ a, (![1, 18] : Fin 2 → Nat) a + S1x1.size a ≤ S2x33.size a := by decide
theorem inb_S2x33_S1x1_0_19 : ∀ a, (![0, 19] : Fin 2 → Nat) a + S1x1.size a ≤ S2x33.size a := by decide
theorem inb_S2x33_S1x1_1_19 : ∀ a, (![1, 19] : Fin 2 → Nat) a + S1x1.size a ≤ S2x33.size a := by decide
theorem inb_S2x33_S1x1_0_20 : ∀ a, (![0, 20] : Fin 2 → Nat) a + S1x1.size a ≤ S2x33.size a := by decide
theorem inb_S2x33_S1x1_1_20 : ∀ a, (![1, 20] : Fin 2 → Nat) a + S1x1.size a ≤ S2x33.size a := by decide
theorem inb_S2x33_S1x1_0_21 : ∀ a, (![0, 21] : Fin 2 → Nat) a + S1x1.size a ≤ S2x33.size a := by decide
theorem inb_S2x33_S1x1_1_21 : ∀ a, (![1, 21] : Fin 2 → Nat) a + S1x1.size a ≤ S2x33.size a := by decide
theorem inb_S2x33_S1x1_0_22 : ∀ a, (![0, 22] : Fin 2 → Nat) a + S1x1.size a ≤ S2x33.size a := by decide
theorem inb_S2x33_S1x1_1_22 : ∀ a, (![1, 22] : Fin 2 → Nat) a + S1x1.size a ≤ S2x33.size a := by decide
theorem inb_S2x33_S1x1_0_23 : ∀ a, (![0, 23] : Fin 2 → Nat) a + S1x1.size a ≤ S2x33.size a := by decide
theorem inb_S2x33_S1x1_1_23 : ∀ a, (![1, 23] : Fin 2 → Nat) a + S1x1.size a ≤ S2x33.size a := by decide
theorem inb_S2x33_S1x1_0_24 : ∀ a, (![0, 24] : Fin 2 → Nat) a + S1x1.size a ≤ S2x33.size a := by decide
theorem inb_S2x33_S1x1_1_24 : ∀ a, (![1, 24] : Fin 2 → Nat) a + S1x1.size a ≤ S2x33.size a := by decide
theorem inb_S2x33_S1x1_0_25 : ∀ a, (![0, 25] : Fin 2 → Nat) a + S1x1.size a ≤ S2x33.size a := by decide
theorem inb_S2x33_S1x1_1_25 : ∀ a, (![1, 25] : Fin 2 → Nat) a + S1x1.size a ≤ S2x33.size a := by decide
theorem inb_S2x33_S1x1_0_26 : ∀ a, (![0, 26] : Fin 2 → Nat) a + S1x1.size a ≤ S2x33.size a := by decide
theorem inb_S2x33_S1x1_1_26 : ∀ a, (![1, 26] : Fin 2 → Nat) a + S1x1.size a ≤ S2x33.size a := by decide
theorem inb_S2x33_S1x1_0_27 : ∀ a, (![0, 27] : Fin 2 → Nat) a + S1x1.size a ≤ S2x33.size a := by decide
theorem inb_S2x33_S1x1_1_27 : ∀ a, (![1, 27] : Fin 2 → Nat) a + S1x1.size a ≤ S2x33.size a := by decide
theorem inb_S2x33_S1x1_0_28 : ∀ a, (![0, 28] : Fin 2 → Nat) a + S1x1.size a ≤ S2x33.size a := by decide
theorem inb_S2x33_S1x1_1_28 : ∀ a, (![1, 28] : Fin 2 → Nat) a + S1x1.size a ≤ S2x33.size a := by decide
theorem inb_S2x33_S1x1_0_29 : ∀ a, (![0, 29] : Fin 2 → Nat) a + S1x1.size a ≤ S2x33.size a := by decide
theorem inb_S2x33_S1x1_1_29 : ∀ a, (![1, 29] : Fin 2 → Nat) a + S1x1.size a ≤ S2x33.size a := by decide
theorem inb_S2x33_S1x1_0_30 : ∀ a, (![0, 30] : Fin 2 → Nat) a + S1x1.size a ≤ S2x33.size a := by decide
theorem inb_S2x33_S1x1_1_30 : ∀ a, (![1, 30] : Fin 2 → Nat) a + S1x1.size a ≤ S2x33.size a := by decide
theorem inb_S2x33_S1x1_0_31 : ∀ a, (![0, 31] : Fin 2 → Nat) a + S1x1.size a ≤ S2x33.size a := by decide
theorem inb_S2x33_S1x1_1_31 : ∀ a, (![1, 31] : Fin 2 → Nat) a + S1x1.size a ≤ S2x33.size a := by decide
theorem inb_S2x33_S1x1_0_32 : ∀ a, (![0, 32] : Fin 2 → Nat) a + S1x1.size a ≤ S2x33.size a := by decide
theorem inb_S2x33_S1x1_1_32 : ∀ a, (![1, 32] : Fin 2 → Nat) a + S1x1.size a ≤ S2x33.size a := by decide
theorem inb_S20_S1_2 : ∀ a, (![2] : Fin 1 → Nat) a + S1.size a ≤ S20.size a := by decide
theorem inb_S20x2560x1024_S1x2560x1024_2_0_0 : ∀ a, (![2, 0, 0] : Fin 3 → Nat) a + S1x2560x1024.size a ≤ S20x2560x1024.size a := by decide
theorem wordsfp8e4m3_S20x2560x1024_S1x2560x1024_2_0_0 : (Rect.unit (s := S20x2560x1024) ![2, 0, 0] S1x2560x1024.size inb_S20x2560x1024_S1x2560x1024_2_0_0).WholeWords (EltTy.packing .fp8e4m3) := by decide
theorem inb_S34_S1_3 : ∀ a, (![3] : Fin 1 → Nat) a + S1.size a ≤ S34.size a := by decide
theorem inb_S20_S1_3 : ∀ a, (![3] : Fin 1 → Nat) a + S1.size a ≤ S20.size a := by decide
theorem inb_S20x2560x1024_S1x2560x1024_3_0_0 : ∀ a, (![3, 0, 0] : Fin 3 → Nat) a + S1x2560x1024.size a ≤ S20x2560x1024.size a := by decide
theorem wordsfp8e4m3_S20x2560x1024_S1x2560x1024_3_0_0 : (Rect.unit (s := S20x2560x1024) ![3, 0, 0] S1x2560x1024.size inb_S20x2560x1024_S1x2560x1024_3_0_0).WholeWords (EltTy.packing .fp8e4m3) := by decide
theorem inb_S34_S1_4 : ∀ a, (![4] : Fin 1 → Nat) a + S1.size a ≤ S34.size a := by decide
theorem inb_S20_S1_4 : ∀ a, (![4] : Fin 1 → Nat) a + S1.size a ≤ S20.size a := by decide
theorem inb_S20x2560x1024_S1x2560x1024_4_0_0 : ∀ a, (![4, 0, 0] : Fin 3 → Nat) a + S1x2560x1024.size a ≤ S20x2560x1024.size a := by decide
theorem wordsfp8e4m3_S20x2560x1024_S1x2560x1024_4_0_0 : (Rect.unit (s := S20x2560x1024) ![4, 0, 0] S1x2560x1024.size inb_S20x2560x1024_S1x2560x1024_4_0_0).WholeWords (EltTy.packing .fp8e4m3) := by decide
theorem inb_S34_S1_5 : ∀ a, (![5] : Fin 1 → Nat) a + S1.size a ≤ S34.size a := by decide
theorem inb_S20_S1_5 : ∀ a, (![5] : Fin 1 → Nat) a + S1.size a ≤ S20.size a := by decide
theorem inb_S20x2560x1024_S1x2560x1024_5_0_0 : ∀ a, (![5, 0, 0] : Fin 3 → Nat) a + S1x2560x1024.size a ≤ S20x2560x1024.size a := by decide
theorem wordsfp8e4m3_S20x2560x1024_S1x2560x1024_5_0_0 : (Rect.unit (s := S20x2560x1024) ![5, 0, 0] S1x2560x1024.size inb_S20x2560x1024_S1x2560x1024_5_0_0).WholeWords (EltTy.packing .fp8e4m3) := by decide
theorem inb_S34_S1_6 : ∀ a, (![6] : Fin 1 → Nat) a + S1.size a ≤ S34.size a := by decide
theorem inb_S20_S1_6 : ∀ a, (![6] : Fin 1 → Nat) a + S1.size a ≤ S20.size a := by decide
theorem inb_S20x2560x1024_S1x2560x1024_6_0_0 : ∀ a, (![6, 0, 0] : Fin 3 → Nat) a + S1x2560x1024.size a ≤ S20x2560x1024.size a := by decide
theorem wordsfp8e4m3_S20x2560x1024_S1x2560x1024_6_0_0 : (Rect.unit (s := S20x2560x1024) ![6, 0, 0] S1x2560x1024.size inb_S20x2560x1024_S1x2560x1024_6_0_0).WholeWords (EltTy.packing .fp8e4m3) := by decide
theorem inb_S34_S1_7 : ∀ a, (![7] : Fin 1 → Nat) a + S1.size a ≤ S34.size a := by decide
theorem inb_S20_S1_7 : ∀ a, (![7] : Fin 1 → Nat) a + S1.size a ≤ S20.size a := by decide
theorem inb_S20x2560x1024_S1x2560x1024_7_0_0 : ∀ a, (![7, 0, 0] : Fin 3 → Nat) a + S1x2560x1024.size a ≤ S20x2560x1024.size a := by decide
theorem wordsfp8e4m3_S20x2560x1024_S1x2560x1024_7_0_0 : (Rect.unit (s := S20x2560x1024) ![7, 0, 0] S1x2560x1024.size inb_S20x2560x1024_S1x2560x1024_7_0_0).WholeWords (EltTy.packing .fp8e4m3) := by decide
theorem inb_S34_S1_8 : ∀ a, (![8] : Fin 1 → Nat) a + S1.size a ≤ S34.size a := by decide
theorem inb_S20_S1_8 : ∀ a, (![8] : Fin 1 → Nat) a + S1.size a ≤ S20.size a := by decide
theorem inb_S20x2560x1024_S1x2560x1024_8_0_0 : ∀ a, (![8, 0, 0] : Fin 3 → Nat) a + S1x2560x1024.size a ≤ S20x2560x1024.size a := by decide
theorem wordsfp8e4m3_S20x2560x1024_S1x2560x1024_8_0_0 : (Rect.unit (s := S20x2560x1024) ![8, 0, 0] S1x2560x1024.size inb_S20x2560x1024_S1x2560x1024_8_0_0).WholeWords (EltTy.packing .fp8e4m3) := by decide
theorem inb_S34_S1_9 : ∀ a, (![9] : Fin 1 → Nat) a + S1.size a ≤ S34.size a := by decide
theorem inb_S20_S1_9 : ∀ a, (![9] : Fin 1 → Nat) a + S1.size a ≤ S20.size a := by decide
theorem inb_S20x2560x1024_S1x2560x1024_9_0_0 : ∀ a, (![9, 0, 0] : Fin 3 → Nat) a + S1x2560x1024.size a ≤ S20x2560x1024.size a := by decide
theorem wordsfp8e4m3_S20x2560x1024_S1x2560x1024_9_0_0 : (Rect.unit (s := S20x2560x1024) ![9, 0, 0] S1x2560x1024.size inb_S20x2560x1024_S1x2560x1024_9_0_0).WholeWords (EltTy.packing .fp8e4m3) := by decide
theorem inb_S34_S1_10 : ∀ a, (![10] : Fin 1 → Nat) a + S1.size a ≤ S34.size a := by decide
theorem inb_S20_S1_10 : ∀ a, (![10] : Fin 1 → Nat) a + S1.size a ≤ S20.size a := by decide
theorem inb_S20x2560x1024_S1x2560x1024_10_0_0 : ∀ a, (![10, 0, 0] : Fin 3 → Nat) a + S1x2560x1024.size a ≤ S20x2560x1024.size a := by decide
theorem wordsfp8e4m3_S20x2560x1024_S1x2560x1024_10_0_0 : (Rect.unit (s := S20x2560x1024) ![10, 0, 0] S1x2560x1024.size inb_S20x2560x1024_S1x2560x1024_10_0_0).WholeWords (EltTy.packing .fp8e4m3) := by decide
theorem inb_S34_S1_11 : ∀ a, (![11] : Fin 1 → Nat) a + S1.size a ≤ S34.size a := by decide
theorem inb_S20_S1_11 : ∀ a, (![11] : Fin 1 → Nat) a + S1.size a ≤ S20.size a := by decide
theorem inb_S20x2560x1024_S1x2560x1024_11_0_0 : ∀ a, (![11, 0, 0] : Fin 3 → Nat) a + S1x2560x1024.size a ≤ S20x2560x1024.size a := by decide
theorem wordsfp8e4m3_S20x2560x1024_S1x2560x1024_11_0_0 : (Rect.unit (s := S20x2560x1024) ![11, 0, 0] S1x2560x1024.size inb_S20x2560x1024_S1x2560x1024_11_0_0).WholeWords (EltTy.packing .fp8e4m3) := by decide
theorem inb_S34_S1_12 : ∀ a, (![12] : Fin 1 → Nat) a + S1.size a ≤ S34.size a := by decide
theorem inb_S20_S1_12 : ∀ a, (![12] : Fin 1 → Nat) a + S1.size a ≤ S20.size a := by decide
theorem inb_S20x2560x1024_S1x2560x1024_12_0_0 : ∀ a, (![12, 0, 0] : Fin 3 → Nat) a + S1x2560x1024.size a ≤ S20x2560x1024.size a := by decide
theorem wordsfp8e4m3_S20x2560x1024_S1x2560x1024_12_0_0 : (Rect.unit (s := S20x2560x1024) ![12, 0, 0] S1x2560x1024.size inb_S20x2560x1024_S1x2560x1024_12_0_0).WholeWords (EltTy.packing .fp8e4m3) := by decide
theorem inb_S34_S1_13 : ∀ a, (![13] : Fin 1 → Nat) a + S1.size a ≤ S34.size a := by decide
theorem inb_S20_S1_13 : ∀ a, (![13] : Fin 1 → Nat) a + S1.size a ≤ S20.size a := by decide
theorem inb_S20x2560x1024_S1x2560x1024_13_0_0 : ∀ a, (![13, 0, 0] : Fin 3 → Nat) a + S1x2560x1024.size a ≤ S20x2560x1024.size a := by decide
theorem wordsfp8e4m3_S20x2560x1024_S1x2560x1024_13_0_0 : (Rect.unit (s := S20x2560x1024) ![13, 0, 0] S1x2560x1024.size inb_S20x2560x1024_S1x2560x1024_13_0_0).WholeWords (EltTy.packing .fp8e4m3) := by decide
theorem inb_S34_S1_14 : ∀ a, (![14] : Fin 1 → Nat) a + S1.size a ≤ S34.size a := by decide
theorem inb_S20_S1_14 : ∀ a, (![14] : Fin 1 → Nat) a + S1.size a ≤ S20.size a := by decide
theorem inb_S20x2560x1024_S1x2560x1024_14_0_0 : ∀ a, (![14, 0, 0] : Fin 3 → Nat) a + S1x2560x1024.size a ≤ S20x2560x1024.size a := by decide
theorem wordsfp8e4m3_S20x2560x1024_S1x2560x1024_14_0_0 : (Rect.unit (s := S20x2560x1024) ![14, 0, 0] S1x2560x1024.size inb_S20x2560x1024_S1x2560x1024_14_0_0).WholeWords (EltTy.packing .fp8e4m3) := by decide
theorem inb_S34_S1_15 : ∀ a, (![15] : Fin 1 → Nat) a + S1.size a ≤ S34.size a := by decide
theorem inb_S20_S1_15 : ∀ a, (![15] : Fin 1 → Nat) a + S1.size a ≤ S20.size a := by decide
theorem inb_S20x2560x1024_S1x2560x1024_15_0_0 : ∀ a, (![15, 0, 0] : Fin 3 → Nat) a + S1x2560x1024.size a ≤ S20x2560x1024.size a := by decide
theorem wordsfp8e4m3_S20x2560x1024_S1x2560x1024_15_0_0 : (Rect.unit (s := S20x2560x1024) ![15, 0, 0] S1x2560x1024.size inb_S20x2560x1024_S1x2560x1024_15_0_0).WholeWords (EltTy.packing .fp8e4m3) := by decide
theorem inb_S34_S1_16 : ∀ a, (![16] : Fin 1 → Nat) a + S1.size a ≤ S34.size a := by decide
theorem inb_S20_S1_16 : ∀ a, (![16] : Fin 1 → Nat) a + S1.size a ≤ S20.size a := by decide
theorem inb_S20x2560x1024_S1x2560x1024_16_0_0 : ∀ a, (![16, 0, 0] : Fin 3 → Nat) a + S1x2560x1024.size a ≤ S20x2560x1024.size a := by decide
theorem wordsfp8e4m3_S20x2560x1024_S1x2560x1024_16_0_0 : (Rect.unit (s := S20x2560x1024) ![16, 0, 0] S1x2560x1024.size inb_S20x2560x1024_S1x2560x1024_16_0_0).WholeWords (EltTy.packing .fp8e4m3) := by decide
theorem inb_S34_S1_17 : ∀ a, (![17] : Fin 1 → Nat) a + S1.size a ≤ S34.size a := by decide
theorem inb_S20_S1_17 : ∀ a, (![17] : Fin 1 → Nat) a + S1.size a ≤ S20.size a := by decide
theorem inb_S20x2560x1024_S1x2560x1024_17_0_0 : ∀ a, (![17, 0, 0] : Fin 3 → Nat) a + S1x2560x1024.size a ≤ S20x2560x1024.size a := by decide
theorem wordsfp8e4m3_S20x2560x1024_S1x2560x1024_17_0_0 : (Rect.unit (s := S20x2560x1024) ![17, 0, 0] S1x2560x1024.size inb_S20x2560x1024_S1x2560x1024_17_0_0).WholeWords (EltTy.packing .fp8e4m3) := by decide
theorem inb_S34_S1_18 : ∀ a, (![18] : Fin 1 → Nat) a + S1.size a ≤ S34.size a := by decide
theorem inb_S20_S1_18 : ∀ a, (![18] : Fin 1 → Nat) a + S1.size a ≤ S20.size a := by decide
theorem inb_S20x2560x1024_S1x2560x1024_18_0_0 : ∀ a, (![18, 0, 0] : Fin 3 → Nat) a + S1x2560x1024.size a ≤ S20x2560x1024.size a := by decide
theorem wordsfp8e4m3_S20x2560x1024_S1x2560x1024_18_0_0 : (Rect.unit (s := S20x2560x1024) ![18, 0, 0] S1x2560x1024.size inb_S20x2560x1024_S1x2560x1024_18_0_0).WholeWords (EltTy.packing .fp8e4m3) := by decide
theorem inb_S2x128_S1x128_0_0 : ∀ a, (![0, 0] : Fin 2 → Nat) a + S1x128.size a ≤ S2x128.size a := by decide
theorem h_S1x128 : 0 < S1x128.numel := by decide
theorem shapeCasts_S1x128_S1x128 : S1x128.ShapeCasts S1x128 := by decide
theorem broadcasts_S1x128_S128x128 : S1x128.Broadcasts S128x128 := by decide
theorem transposes_S128x128_p1_0_S128x128 : S128x128.Transposes [1, 0] S128x128 := by decide
theorem inb_S256x128_S128x128_0_0 : ∀ a, (![0, 0] : Fin 2 → Nat) a + S128x128.size a ≤ S256x128.size a := by decide
theorem h_S128x128 : 0 < S128x128.numel := by decide
theorem shapeCasts_S128x128_S128x128 : S128x128.ShapeCasts S128x128 := by decide
theorem inb_S2x128_S1x128_1_0 : ∀ a, (![1, 0] : Fin 2 → Nat) a + S1x128.size a ≤ S2x128.size a := by decide
theorem inb_S256x128_S128x128_128_0 : ∀ a, (![128, 0] : Fin 2 → Nat) a + S128x128.size a ≤ S256x128.size a := by decide
theorem inb_S256x2560_S256x2560_0_0 : ∀ a, (![0, 0] : Fin 2 → Nat) a + S256x2560.size a ≤ S256x2560.size a := by decide
theorem h_S256x2560 : 0 < S256x2560.numel := by decide
theorem bitsLt_fp8e4m3_bf16 : FTy.bits .fp8e4m3 < FTy.bits .bf16 := by decide
theorem shapeCasts_S256x2560_S256x2560 : S256x2560.ShapeCasts S256x2560 := by decide
theorem packedbf16_S256x2560_S256x2560_0_0 : (Rect.unit (s := S256x2560) ![0, 0] S256x2560.size inb_S256x2560_S256x2560_0_0).PackedRows (EltTy.packing .bf16) := by decide
theorem h_S16x2560 : 0 < S16x2560.numel := by decide
theorem concatenates_S16x2560_S16x2560_S16x2560_S16x2560_S64x2560_d0 : Shape.Concatenates [S16x2560, S16x2560, S16x2560, S16x2560] S64x2560 0 := by decide
theorem h_S1x2560x1024 : 0 < S1x2560x1024.numel := by decide
theorem shapeCasts_S1x2560x1024_S2560x1024 : S1x2560x1024.ShapeCasts S2560x1024 := by decide
theorem h_S1x1024 : 0 < S1x1024.numel := by decide
theorem broadcasts_S1x1024_S64x1024 : S1x1024.Broadcasts S64x1024 := by decide
theorem h_S16x128 : 0 < S16x128.numel := by decide
theorem concatenates_S16x128_S16x128_S16x128_S16x128_S16x128_S16x128_S16x128_S16x128_S16x1024_d1 : Shape.Concatenates [S16x128, S16x128, S16x128, S16x128, S16x128, S16x128, S16x128, S16x128] S16x1024 1 := by decide
theorem slices_S64x1024_o0_0_S16x1024 : S64x1024.Slices ![0, 0] S16x1024 := by decide
theorem iota_S16x1024_d0_w32 : S16x1024.Iotas .tc 32 [0] := by decide
theorem h_S16x1024 : 0 < S16x1024.numel := by decide
theorem bitsLt_bf16_f32 : FTy.bits .bf16 < FTy.bits .f32 := by decide
theorem shapeCasts_S16x1024_S16x1024 : S16x1024.ShapeCasts S16x1024 := by decide
theorem slices_S64x1024_o16_0_S16x1024 : S64x1024.Slices ![16, 0] S16x1024 := by decide
theorem slices_S64x1024_o32_0_S16x1024 : S64x1024.Slices ![32, 0] S16x1024 := by decide
theorem slices_S64x1024_o48_0_S16x1024 : S64x1024.Slices ![48, 0] S16x1024 := by decide
theorem dot_S64x2560_S2560x1024_S64x1024_1_0_0_1_n_n_wf : DotDims.WF S64x2560 S2560x1024 S64x1024 [1] [0] [0] [1] [] [] := by decide
theorem hcc0_scratch10 : 0 + S20.numel ≤ 25 := by decide
theorem hcc0_scratch11 : 20 + S_.numel ≤ 25 := by decide
theorem hcc0_scratch12 : 21 + S_.numel ≤ 25 := by decide
theorem hcc0_scratch13 : 22 + S_.numel ≤ 25 := by decide
theorem hcc0_scratch14 : 23 + S_.numel ≤ 25 := by decide
theorem hcc0_scratch15 : 24 + S_.numel ≤ 25 := by decide

/-- The program's facts over its vocabulary, proved: the instance its windows take. -/
instance facts₀ : Cert.KernelIdeal.Facts₀ where
  shapeCasts_S2x128x2560_S256x2560 := @shapeCasts_S2x128x2560_S256x2560
  inb_S20_S1_0 := @inb_S20_S1_0
  squeezes_S1_S_ := @squeezes_S1_S_
  inb_S20x2560x1024_S1x2560x1024_0_0_0 := @inb_S20x2560x1024_S1x2560x1024_0_0_0
  squeezes_S1x2560x1024_S2560x1024 := @squeezes_S1x2560x1024_S2560x1024
  inb_S33x2560x1024_S1x2560x1024_0_0_0 := @inb_S33x2560x1024_S1x2560x1024_0_0_0
  wordsfp8e4m3_S33x2560x1024_S1x2560x1024_0_0_0 := @wordsfp8e4m3_S33x2560x1024_S1x2560x1024_0_0_0
  wordsfp8e4m3_S20x2560x1024_S1x2560x1024_0_0_0 := @wordsfp8e4m3_S20x2560x1024_S1x2560x1024_0_0_0
  inb_S20_S1_1 := @inb_S20_S1_1
  inb_S20x2560x1024_S1x2560x1024_1_0_0 := @inb_S20x2560x1024_S1x2560x1024_1_0_0
  inb_S33x2560x1024_S1x2560x1024_1_0_0 := @inb_S33x2560x1024_S1x2560x1024_1_0_0
  wordsfp8e4m3_S33x2560x1024_S1x2560x1024_1_0_0 := @wordsfp8e4m3_S33x2560x1024_S1x2560x1024_1_0_0
  wordsfp8e4m3_S20x2560x1024_S1x2560x1024_1_0_0 := @wordsfp8e4m3_S20x2560x1024_S1x2560x1024_1_0_0
  inb_S256x1024_S256x1024_0_0 := @inb_S256x1024_S256x1024_0_0
  h_S256x1024 := @h_S256x1024
  shapeCasts_S256x1024_S256x1024 := @shapeCasts_S256x1024_S256x1024
  packedbf16_S256x1024_S256x1024_0_0 := @packedbf16_S256x1024_S256x1024_0_0
  inb_S34_S1_0 := @inb_S34_S1_0
  numel1_S1 := @numel1_S1
  inb_S34_S1_1 := @inb_S34_S1_1
  inb_S2x33_S1x1_0_0 := @inb_S2x33_S1x1_0_0
  numel1_S1x1 := @numel1_S1x1
  inb_S2x33_S1x1_1_0 := @inb_S2x33_S1x1_1_0
  inb_S2x33_S1x1_0_1 := @inb_S2x33_S1x1_0_1
  inb_S2x33_S1x1_1_1 := @inb_S2x33_S1x1_1_1
  inb_S2x33_S1x1_0_2 := @inb_S2x33_S1x1_0_2
  inb_S2x33_S1x1_1_2 := @inb_S2x33_S1x1_1_2
  inb_S34_S1_2 := @inb_S34_S1_2
  inb_S2x33_S1x1_0_3 := @inb_S2x33_S1x1_0_3
  inb_S2x33_S1x1_1_3 := @inb_S2x33_S1x1_1_3
  inb_S2x33_S1x1_0_4 := @inb_S2x33_S1x1_0_4
  inb_S2x33_S1x1_1_4 := @inb_S2x33_S1x1_1_4
  inb_S2x33_S1x1_0_5 := @inb_S2x33_S1x1_0_5
  inb_S2x33_S1x1_1_5 := @inb_S2x33_S1x1_1_5
  inb_S2x33_S1x1_0_6 := @inb_S2x33_S1x1_0_6
  inb_S2x33_S1x1_1_6 := @inb_S2x33_S1x1_1_6
  inb_S2x33_S1x1_0_7 := @inb_S2x33_S1x1_0_7
  inb_S2x33_S1x1_1_7 := @inb_S2x33_S1x1_1_7
  inb_S2x33_S1x1_0_8 := @inb_S2x33_S1x1_0_8
  inb_S2x33_S1x1_1_8 := @inb_S2x33_S1x1_1_8
  inb_S2x33_S1x1_0_9 := @inb_S2x33_S1x1_0_9
  inb_S2x33_S1x1_1_9 := @inb_S2x33_S1x1_1_9
  inb_S2x33_S1x1_0_10 := @inb_S2x33_S1x1_0_10
  inb_S2x33_S1x1_1_10 := @inb_S2x33_S1x1_1_10
  inb_S2x33_S1x1_0_11 := @inb_S2x33_S1x1_0_11
  inb_S2x33_S1x1_1_11 := @inb_S2x33_S1x1_1_11
  inb_S2x33_S1x1_0_12 := @inb_S2x33_S1x1_0_12
  inb_S2x33_S1x1_1_12 := @inb_S2x33_S1x1_1_12
  inb_S2x33_S1x1_0_13 := @inb_S2x33_S1x1_0_13
  inb_S2x33_S1x1_1_13 := @inb_S2x33_S1x1_1_13
  inb_S2x33_S1x1_0_14 := @inb_S2x33_S1x1_0_14
  inb_S2x33_S1x1_1_14 := @inb_S2x33_S1x1_1_14
  inb_S2x33_S1x1_0_15 := @inb_S2x33_S1x1_0_15
  inb_S2x33_S1x1_1_15 := @inb_S2x33_S1x1_1_15
  inb_S2x33_S1x1_0_16 := @inb_S2x33_S1x1_0_16
  inb_S2x33_S1x1_1_16 := @inb_S2x33_S1x1_1_16
  inb_S2x33_S1x1_0_17 := @inb_S2x33_S1x1_0_17
  inb_S2x33_S1x1_1_17 := @inb_S2x33_S1x1_1_17
  inb_S2x33_S1x1_0_18 := @inb_S2x33_S1x1_0_18
  inb_S2x33_S1x1_1_18 := @inb_S2x33_S1x1_1_18
  inb_S2x33_S1x1_0_19 := @inb_S2x33_S1x1_0_19
  inb_S2x33_S1x1_1_19 := @inb_S2x33_S1x1_1_19
  inb_S2x33_S1x1_0_20 := @inb_S2x33_S1x1_0_20
  inb_S2x33_S1x1_1_20 := @inb_S2x33_S1x1_1_20
  inb_S2x33_S1x1_0_21 := @inb_S2x33_S1x1_0_21
  inb_S2x33_S1x1_1_21 := @inb_S2x33_S1x1_1_21
  inb_S2x33_S1x1_0_22 := @inb_S2x33_S1x1_0_22
  inb_S2x33_S1x1_1_22 := @inb_S2x33_S1x1_1_22
  inb_S2x33_S1x1_0_23 := @inb_S2x33_S1x1_0_23
  inb_S2x33_S1x1_1_23 := @inb_S2x33_S1x1_1_23
  inb_S2x33_S1x1_0_24 := @inb_S2x33_S1x1_0_24
  inb_S2x33_S1x1_1_24 := @inb_S2x33_S1x1_1_24
  inb_S2x33_S1x1_0_25 := @inb_S2x33_S1x1_0_25
  inb_S2x33_S1x1_1_25 := @inb_S2x33_S1x1_1_25
  inb_S2x33_S1x1_0_26 := @inb_S2x33_S1x1_0_26
  inb_S2x33_S1x1_1_26 := @inb_S2x33_S1x1_1_26
  inb_S2x33_S1x1_0_27 := @inb_S2x33_S1x1_0_27
  inb_S2x33_S1x1_1_27 := @inb_S2x33_S1x1_1_27
  inb_S2x33_S1x1_0_28 := @inb_S2x33_S1x1_0_28
  inb_S2x33_S1x1_1_28 := @inb_S2x33_S1x1_1_28
  inb_S2x33_S1x1_0_29 := @inb_S2x33_S1x1_0_29
  inb_S2x33_S1x1_1_29 := @inb_S2x33_S1x1_1_29
  inb_S2x33_S1x1_0_30 := @inb_S2x33_S1x1_0_30
  inb_S2x33_S1x1_1_30 := @inb_S2x33_S1x1_1_30
  inb_S2x33_S1x1_0_31 := @inb_S2x33_S1x1_0_31
  inb_S2x33_S1x1_1_31 := @inb_S2x33_S1x1_1_31
  inb_S2x33_S1x1_0_32 := @inb_S2x33_S1x1_0_32
  inb_S2x33_S1x1_1_32 := @inb_S2x33_S1x1_1_32
  inb_S20_S1_2 := @inb_S20_S1_2
  inb_S20x2560x1024_S1x2560x1024_2_0_0 := @inb_S20x2560x1024_S1x2560x1024_2_0_0
  wordsfp8e4m3_S20x2560x1024_S1x2560x1024_2_0_0 := @wordsfp8e4m3_S20x2560x1024_S1x2560x1024_2_0_0
  inb_S34_S1_3 := @inb_S34_S1_3
  inb_S20_S1_3 := @inb_S20_S1_3
  inb_S20x2560x1024_S1x2560x1024_3_0_0 := @inb_S20x2560x1024_S1x2560x1024_3_0_0
  wordsfp8e4m3_S20x2560x1024_S1x2560x1024_3_0_0 := @wordsfp8e4m3_S20x2560x1024_S1x2560x1024_3_0_0
  inb_S34_S1_4 := @inb_S34_S1_4
  inb_S20_S1_4 := @inb_S20_S1_4
  inb_S20x2560x1024_S1x2560x1024_4_0_0 := @inb_S20x2560x1024_S1x2560x1024_4_0_0
  wordsfp8e4m3_S20x2560x1024_S1x2560x1024_4_0_0 := @wordsfp8e4m3_S20x2560x1024_S1x2560x1024_4_0_0
  inb_S34_S1_5 := @inb_S34_S1_5
  inb_S20_S1_5 := @inb_S20_S1_5
  inb_S20x2560x1024_S1x2560x1024_5_0_0 := @inb_S20x2560x1024_S1x2560x1024_5_0_0
  wordsfp8e4m3_S20x2560x1024_S1x2560x1024_5_0_0 := @wordsfp8e4m3_S20x2560x1024_S1x2560x1024_5_0_0
  inb_S34_S1_6 := @inb_S34_S1_6
  inb_S20_S1_6 := @inb_S20_S1_6
  inb_S20x2560x1024_S1x2560x1024_6_0_0 := @inb_S20x2560x1024_S1x2560x1024_6_0_0
  wordsfp8e4m3_S20x2560x1024_S1x2560x1024_6_0_0 := @wordsfp8e4m3_S20x2560x1024_S1x2560x1024_6_0_0
  inb_S34_S1_7 := @inb_S34_S1_7
  inb_S20_S1_7 := @inb_S20_S1_7
  inb_S20x2560x1024_S1x2560x1024_7_0_0 := @inb_S20x2560x1024_S1x2560x1024_7_0_0
  wordsfp8e4m3_S20x2560x1024_S1x2560x1024_7_0_0 := @wordsfp8e4m3_S20x2560x1024_S1x2560x1024_7_0_0
  inb_S34_S1_8 := @inb_S34_S1_8
  inb_S20_S1_8 := @inb_S20_S1_8
  inb_S20x2560x1024_S1x2560x1024_8_0_0 := @inb_S20x2560x1024_S1x2560x1024_8_0_0
  wordsfp8e4m3_S20x2560x1024_S1x2560x1024_8_0_0 := @wordsfp8e4m3_S20x2560x1024_S1x2560x1024_8_0_0
  inb_S34_S1_9 := @inb_S34_S1_9
  inb_S20_S1_9 := @inb_S20_S1_9
  inb_S20x2560x1024_S1x2560x1024_9_0_0 := @inb_S20x2560x1024_S1x2560x1024_9_0_0
  wordsfp8e4m3_S20x2560x1024_S1x2560x1024_9_0_0 := @wordsfp8e4m3_S20x2560x1024_S1x2560x1024_9_0_0
  inb_S34_S1_10 := @inb_S34_S1_10
  inb_S20_S1_10 := @inb_S20_S1_10
  inb_S20x2560x1024_S1x2560x1024_10_0_0 := @inb_S20x2560x1024_S1x2560x1024_10_0_0
  wordsfp8e4m3_S20x2560x1024_S1x2560x1024_10_0_0 := @wordsfp8e4m3_S20x2560x1024_S1x2560x1024_10_0_0
  inb_S34_S1_11 := @inb_S34_S1_11
  inb_S20_S1_11 := @inb_S20_S1_11
  inb_S20x2560x1024_S1x2560x1024_11_0_0 := @inb_S20x2560x1024_S1x2560x1024_11_0_0
  wordsfp8e4m3_S20x2560x1024_S1x2560x1024_11_0_0 := @wordsfp8e4m3_S20x2560x1024_S1x2560x1024_11_0_0
  inb_S34_S1_12 := @inb_S34_S1_12
  inb_S20_S1_12 := @inb_S20_S1_12
  inb_S20x2560x1024_S1x2560x1024_12_0_0 := @inb_S20x2560x1024_S1x2560x1024_12_0_0
  wordsfp8e4m3_S20x2560x1024_S1x2560x1024_12_0_0 := @wordsfp8e4m3_S20x2560x1024_S1x2560x1024_12_0_0
  inb_S34_S1_13 := @inb_S34_S1_13
  inb_S20_S1_13 := @inb_S20_S1_13
  inb_S20x2560x1024_S1x2560x1024_13_0_0 := @inb_S20x2560x1024_S1x2560x1024_13_0_0
  wordsfp8e4m3_S20x2560x1024_S1x2560x1024_13_0_0 := @wordsfp8e4m3_S20x2560x1024_S1x2560x1024_13_0_0
  inb_S34_S1_14 := @inb_S34_S1_14
  inb_S20_S1_14 := @inb_S20_S1_14
  inb_S20x2560x1024_S1x2560x1024_14_0_0 := @inb_S20x2560x1024_S1x2560x1024_14_0_0
  wordsfp8e4m3_S20x2560x1024_S1x2560x1024_14_0_0 := @wordsfp8e4m3_S20x2560x1024_S1x2560x1024_14_0_0
  inb_S34_S1_15 := @inb_S34_S1_15
  inb_S20_S1_15 := @inb_S20_S1_15
  inb_S20x2560x1024_S1x2560x1024_15_0_0 := @inb_S20x2560x1024_S1x2560x1024_15_0_0
  wordsfp8e4m3_S20x2560x1024_S1x2560x1024_15_0_0 := @wordsfp8e4m3_S20x2560x1024_S1x2560x1024_15_0_0
  inb_S34_S1_16 := @inb_S34_S1_16
  inb_S20_S1_16 := @inb_S20_S1_16
  inb_S20x2560x1024_S1x2560x1024_16_0_0 := @inb_S20x2560x1024_S1x2560x1024_16_0_0
  wordsfp8e4m3_S20x2560x1024_S1x2560x1024_16_0_0 := @wordsfp8e4m3_S20x2560x1024_S1x2560x1024_16_0_0
  inb_S34_S1_17 := @inb_S34_S1_17
  inb_S20_S1_17 := @inb_S20_S1_17
  inb_S20x2560x1024_S1x2560x1024_17_0_0 := @inb_S20x2560x1024_S1x2560x1024_17_0_0
  wordsfp8e4m3_S20x2560x1024_S1x2560x1024_17_0_0 := @wordsfp8e4m3_S20x2560x1024_S1x2560x1024_17_0_0
  inb_S34_S1_18 := @inb_S34_S1_18
  inb_S20_S1_18 := @inb_S20_S1_18
  inb_S20x2560x1024_S1x2560x1024_18_0_0 := @inb_S20x2560x1024_S1x2560x1024_18_0_0
  wordsfp8e4m3_S20x2560x1024_S1x2560x1024_18_0_0 := @wordsfp8e4m3_S20x2560x1024_S1x2560x1024_18_0_0
  inb_S2x128_S1x128_0_0 := @inb_S2x128_S1x128_0_0
  h_S1x128 := @h_S1x128
  shapeCasts_S1x128_S1x128 := @shapeCasts_S1x128_S1x128
  broadcasts_S1x128_S128x128 := @broadcasts_S1x128_S128x128
  transposes_S128x128_p1_0_S128x128 := @transposes_S128x128_p1_0_S128x128
  inb_S256x128_S128x128_0_0 := @inb_S256x128_S128x128_0_0
  h_S128x128 := @h_S128x128
  shapeCasts_S128x128_S128x128 := @shapeCasts_S128x128_S128x128
  inb_S2x128_S1x128_1_0 := @inb_S2x128_S1x128_1_0
  inb_S256x128_S128x128_128_0 := @inb_S256x128_S128x128_128_0
  inb_S256x2560_S256x2560_0_0 := @inb_S256x2560_S256x2560_0_0
  h_S256x2560 := @h_S256x2560
  bitsLt_fp8e4m3_bf16 := @bitsLt_fp8e4m3_bf16
  shapeCasts_S256x2560_S256x2560 := @shapeCasts_S256x2560_S256x2560
  packedbf16_S256x2560_S256x2560_0_0 := @packedbf16_S256x2560_S256x2560_0_0
  h_S16x2560 := @h_S16x2560
  concatenates_S16x2560_S16x2560_S16x2560_S16x2560_S64x2560_d0 := @concatenates_S16x2560_S16x2560_S16x2560_S16x2560_S64x2560_d0
  h_S1x2560x1024 := @h_S1x2560x1024
  shapeCasts_S1x2560x1024_S2560x1024 := @shapeCasts_S1x2560x1024_S2560x1024
  h_S1x1024 := @h_S1x1024
  broadcasts_S1x1024_S64x1024 := @broadcasts_S1x1024_S64x1024
  h_S16x128 := @h_S16x128
  concatenates_S16x128_S16x128_S16x128_S16x128_S16x128_S16x128_S16x128_S16x128_S16x1024_d1 := @concatenates_S16x128_S16x128_S16x128_S16x128_S16x128_S16x128_S16x128_S16x128_S16x1024_d1
  slices_S64x1024_o0_0_S16x1024 := @slices_S64x1024_o0_0_S16x1024
  iota_S16x1024_d0_w32 := @iota_S16x1024_d0_w32
  h_S16x1024 := @h_S16x1024
  bitsLt_bf16_f32 := @bitsLt_bf16_f32
  shapeCasts_S16x1024_S16x1024 := @shapeCasts_S16x1024_S16x1024
  slices_S64x1024_o16_0_S16x1024 := @slices_S64x1024_o16_0_S16x1024
  slices_S64x1024_o32_0_S16x1024 := @slices_S64x1024_o32_0_S16x1024
  slices_S64x1024_o48_0_S16x1024 := @slices_S64x1024_o48_0_S16x1024
  dot_S64x2560_S2560x1024_S64x1024_1_0_0_1_n_n_wf := @dot_S64x2560_S2560x1024_S64x1024_1_0_0_1_n_n_wf
  hcc0_scratch10 := @hcc0_scratch10
  hcc0_scratch11 := @hcc0_scratch11
  hcc0_scratch12 := @hcc0_scratch12
  hcc0_scratch13 := @hcc0_scratch13
  hcc0_scratch14 := @hcc0_scratch14
  hcc0_scratch15 := @hcc0_scratch15

/-! ## The facts over the windows (`Facts`) -/

/-- Every fact the program states, proved: the instance its functions and a certificate's claims take. -/
instance facts : Cert.KernelIdeal.Facts where

end Cert.KernelIdeal.Gen
-- ==== Proof.KernelIdeal.Launch.lean ====
/-
  The launch of the program: its one region, the buffers beside it, and @main as a chain of its items.
-/
module

public import proofs.«01_k».proof.Proof.KernelIdeal.Facts
public import Idealize.ShloMosaic.Lib.Pipeline.Kit
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => [] | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts (cfg0.spec) := by decide
theorem block_pos0 : ∀ w : Fin 0, 0 < ((cfg0.spec) w).block.numel := fun w => w.elim0
/-- The windows' arrays and the staging memrefs are whole buffers. -/
theorem arr_whole0 : ∀ w : Fin 0, ((cfg0.spec) w).arr.IsWhole := fun  | ⟨_, h⟩ => absurd h (Nat.not_lt_zero _)
theorem stage_whole0 : ∀ (w : Fin 0) (s : Fin ((cfg0.spec) w).nbuf), (((cfg0.spec) w).stage s).IsWhole := fun  | ⟨_, h⟩ => absurd h (Nat.not_lt_zero _)
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- No grid: one point. -/
theorem N_0 : grid0.N = 1 := by decide
/-- The point. -/
def t0_0 : Fin grid0.N := ⟨0, by rw [N_0]; decide⟩
theorem fin_N0 (t : Fin grid0.N) : t = t0_0 := by
  obtain ⟨t, ht⟩ := t; have := N_0; simp only [t0_0, Fin.mk.injEq]; omega

/-- The core's scoped buffers that are no staging buffer of custom_call 0, each whole at some contents:
    `cc0_scratch3`, `cc0_scratch4`, `cc0_scratch5`, `cc0_scratch6`, `cc0_scratch7`, `cc0_scratch8`, `cc0_scratch9`, `cc0_scratch0`, `cc0_scratch1`, `cc0_scratch2`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) (cfg0.spec) c : sProp (MT nD τ sig Ix Val Name U Lvl))
      = iprop((∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f) ∗ (∃ f : Buf Val ((c : Thread nD τ).loc cc0_scratch5), ((c : Thread nD τ).loc cc0_scratch5) ↦{fullShare} f) ∗ (∃ f : Buf Val ((c : Thread nD τ).loc cc0_scratch6), ((c : Thread nD τ).loc cc0_scratch6) ↦{fullShare} f) ∗ (∃ f : Buf Val ((c : Thread nD τ).loc cc0_scratch7), ((c : Thread nD τ).loc cc0_scratch7) ↦{fullShare} f) ∗ (∃ f : Buf Val ((c : Thread nD τ).loc cc0_scratch8), ((c : Thread nD τ).loc cc0_scratch8) ↦{fullShare} f) ∗ (∃ f : Buf Val ((c : Thread nD τ).loc cc0_scratch9), ((c : Thread nD τ).loc cc0_scratch9) ↦{fullShare} f) ∗ (∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f)) :=
  Pipeline.scopedRest_eq_of_list (cfg0.spec) c [cc0_scratch3, cc0_scratch4, cc0_scratch5, cc0_scratch6, cc0_scratch7, cc0_scratch8, cc0_scratch9, cc0_scratch0, cc0_scratch1, cc0_scratch2] (by decide) (by decide)
/-- Its unscoped buffers that are no window's array, each whole at contents `V`:
    `main_arg0`, `main_arg1`, `main_arg2`, `main_arg3`, `main_arg4`, `main_v0`, `main_v1`. -/
theorem unscopedRest0_eq {Ix : Type} [DecidableEq Ix] {Val : EltTy → Type} {Name : Type} [DecidableEq Name] {U : Type} [URA U] {Lvl : Type} (c : Dev nD) (V : (b : Ref sig .tc) → Buf Val ((c : Thread nD τ).loc b)) :
    (Pipeline.unscopedRest (Ix := Ix) (Name := Name) (U := U) (Lvl := Lvl) (cfg0.spec) c V : sProp (MT nD τ sig Ix Val Name U Lvl))
      = iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_v0) ↦{fullShare} V main_v0) ∗ (((c : Thread nD τ).loc main_v1) ↦{fullShare} V main_v1)) :=
  Pipeline.unscopedRest_eq_of_list (cfg0.spec) c V [main_arg0, main_arg1, main_arg2, main_arg3, main_arg4, main_v0, main_v1] (by decide) (by decide)

/-! ## @main as segments and as a chain of items (Lib/Pipeline/Regions.lean `θ_run_regions_kit`, `Pipeline.chain`) -/

/-- 1 host operation of @main, in order. -/
abbrev hostOps0 : List (HloOp τ sig (Elt F)) :=
  [ StableHlo.reshape main_arg0 main_v0 (rfl : (.fp8e4m3 : EltTy) = .fp8e4m3) shapeCasts_S2x128x2560_S256x2560 ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  StableHlo.reshape_bufs_sub ..
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- @main is the run of the certificate's segments: its host segments over the `hostOpsJ` and its regions at
    pipelines 0, in @main's order (`Pipeline.Seg.run`; `θ_run_regions_kit`'s `hmain` by
    `fun c Q => by rw [Gen.main_segs …]`). -/
theorem main_segs {Ix : Type} [DecidableEq Ix] {Name : Type} [DecidableEq Name] {U : Type} [URA U] {Lvl : Type} [Preorder Lvl]
    (a : (p : Fin 1) → (pcfgs (F := F) p).Adm) (pdats : (p : Fin 1) → (c : Dev nD) → Pipeline.Dat τ (Elt F) Ix Name U Lvl (Pipeline.pin (pcfgs (F := F)) a p) c)
    (ι : Ix) (𝒱 : Variants) (L : GSem nD τ sig → Finset Ix) (lv : GSem nD τ sig → Ix → Lvl)
    (H0 : Pipeline.HostSeg (Ix := Ix) (Name := Name) (U := U) (Lvl := Lvl) (pcfgs (F := F)) defs₀ 𝒱 L lv)
    (R0 : Pipeline.RegionSeg (pcfgs (F := F)) a pdats ι defs₀ 𝒱 L lv 0)
    (h0 : H0.prog = StableHlo.seq hostOps0)
    (c : Dev nD) :
    main c = Pipeline.Seg.run [.host H0, .region R0] := by
  simp only [Pipeline.Seg.run]
  rw [h0]
  rfl

end Cert.KernelIdeal.Gen

end
-- ==== Proof.KernelIdeal.Words.lean ====
/-
  The scalar words of the grouped product: what the first phase of the kernel computes from the counts, as functions
  of the counts alone — the running starts of the runs, the number of experts to work on, and the list of them —, and
  how one word of scalar memory is read and written.
-/
module

public import proofs.«01_k».proof.Proof.KernelIdeal.Launch
public import Idealize.ShloMosaic.Lib.Pipeline.FrameBody
public import Idealize.ShloMosaic.Lib.Pipeline.Routed
public import Idealize.ShloMosaic.Lib.Transfers
public import Idealize.ShloMosaic.Lib.Scf
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The index `(s, e)` of the counts. -/
abbrev ixC (s : Fin 2) (e : Fin 33) : S2x33.Idx := fun | 0 => s | 1 => e

/-- The index `i` of the list of experts. -/
abbrev ixO (i : Fin 34) : S34.Idx := fun | 0 => i

/-- The count of expert `e` in sequence `s`, read off the contents of the counts; zero outside the table. -/
def wd (C : S2x33.Idx → BitVec 32) (s e : ℕ) : BitVec 32 :=
  if h : s < 2 ∧ e < 33 then C (ixC ⟨s, h.1⟩ ⟨e, h.2⟩) else 0#32

/-- Where the run of expert `e` starts in sequence `s`: the sum of the counts before it. -/
def stW (C : S2x33.Idx → BitVec 32) (s : ℕ) : ℕ → BitVec 32
  | 0 => 0#32
  | e + 1 => Scalar.addi (stW C s e) (wd C s e)

/-- The rows of expert `e` in both sequences, as the kernel adds them. -/
def totW (C : S2x33.Idx → BitVec 32) (e : ℕ) : BitVec 32 :=
  Scalar.addi (Scalar.addi 0#32 (wd C 0 e)) (wd C 1 e)

/-- How many experts are listed once the experts `2, …, e + 1` were looked at: the first two, and each later one that has rows. -/
def nwW (C : S2x33.Idx → BitVec 32) : ℕ → BitVec 32
  | 0 => 2#32
  | e + 1 => Scalar.addi (nwW C e) (Scalar.extui (Scalar.cmpi .sgt (totW C (e + 2)) 0#32))

/-- The table of starts after `n` of its words were written, in the order the kernel writes them (expert by expert, each
    expert's two sequences in turn), over contents `f`. -/
def stF (C f : S2x33.Idx → BitVec 32) : ℕ → S2x33.Idx → BitVec 32
  | 0 => f
  | n + 1 => fun i => if (i 0 : ℕ) = n % 2 ∧ (i 1 : ℕ) = n / 2 then stW C (n % 2) (n / 2) else stF C f n i

/-- The list of experts after `n` of its words were written, over contents `f`: the first two experts at their own places,
    then each later expert at the place the number of experts listed so far names. -/
def orF (C : S2x33.Idx → BitVec 32) (f : S34.Idx → BitVec 32) : ℕ → S34.Idx → BitVec 32
  | 0 => f
  | n + 1 => fun i => if (i 0 : ℕ) = (if n < 2 then n else (nwW C (n - 2)).toNat) then BitVec.ofNat 32 n else orF C f n i

/-- A one-element rectangle of a whole buffer reads that element. -/
theorem read_unit {Val : EltTy → Type} (b : Ref sig .tc) (off size : Fin b.ty.shape.rank → ℕ) (inb) (f : b.ty.Contents Val)
    (x : (Rect.unit off size inb).shape.Idx) (i : b.ty.shape.Idx) (hi : ∀ a, (i a : ℕ) = off a + x a) :
    ((Memref.whole b).access (Rect.unit off size inb)).read Val f x = f i := by
  show f ((Rect.unit off size inb).emb x) = f i
  congr 1; funext a; apply Fin.ext
  rw [Rect.emb_apply, hi a]; simp

/-- Storing through a rectangle of a whole buffer: inside the rectangle the stored value, outside what was there. -/
theorem write_unit {Val : EltTy → Type} (b : Ref sig .tc) (off size : Fin b.ty.shape.rank → ℕ) (inb) (f : b.ty.Contents Val)
    (w : (Rect.unit off size inb).shape.Idx → Val b.ty.elt) (g : b.ty.Contents Val)
    (hin : ∀ (i : b.ty.shape.Idx) (x : (Rect.unit off size inb).shape.Idx), (∀ a, (i a : ℕ) = off a + x a) → g i = w x)
    (hout : ∀ i : b.ty.shape.Idx, (¬ ∀ a, off a ≤ i a ∧ (i a : ℕ) < off a + size a) → g i = f i) :
    ((Memref.whole b).access (Rect.unit off size inb)).write Val f w Finset.univ = g := by
  funext i
  by_cases h : ∀ a, off a ≤ i a ∧ (i a : ℕ) < off a + size a
  · obtain ⟨x, hx⟩ : ∃ x : (Rect.unit off size inb).shape.Idx, (Rect.unit off size inb).emb x = i := by
      refine ⟨fun a => ⟨(i a : ℕ) - off a, ?_⟩, ?_⟩
      · have := h a; show (i a : ℕ) - off a < size a; omega
      · funext a; apply Fin.ext; rw [Rect.emb_apply]; have := h a
        show off a + 1 * ((i a : ℕ) - off a) = i a; omega
    have := View.write_emb_of_mem (v := (Memref.whole b).access (Rect.unit off size inb)) f w (Finset.mem_univ x)
    have e : ((Memref.whole b).access (Rect.unit off size inb)).emb x = i := hx
    rw [e] at this
    refine (this.trans ?_)
    refine Eq.trans ?_ (hin i x ?_).symm
    · rfl
    · intro a; rw [← hx, Rect.emb_apply]; simp
  · rw [hout i h]
    apply View.write_of_not_mem
    rw [View.setOn_univ]
    intro hm
    apply h
    have : i ∈ (Rect.unit off size inb).set := by
      have h2 := View.set_slice (v := (Memref.whole b).view) (Rect.unit off size inb)
      have h3 : i ∈ ((Memref.whole b).view.slice (Rect.unit off size inb)).set := hm
      rw [h2, Finset.mem_map] at h3
      obtain ⟨j, hj, e⟩ := h3
      have : j = i := e
      exact this ▸ hj
    exact Rect.mem_set_unit.mp this

end Cert.KernelIdeal.Hand

end
-- ==== Proof.KernelIdeal.Prologue.lean ====
/-
  The first phase of the kernel's body: the steps on scalar memory.
-/
module

public import proofs.«01_k».proof.Proof.KernelIdeal.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- A program of the kernel's body, run to a postcondition on its result. -/
abbrev WP (c : Dev nD) {α : Type} (p : Prog (TpuEff nD τ sig (Elt F) Λ₀ .tc) α) (K : α → sProp 𝕄) : sProp 𝕄 :=
  wp frame (wpE (defs₀ (F := F)) Variants.none (c : Thread nD τ) none) Set.univ p K

/-- The scalar buffers in the first phase: the counts landed, `n` words of the starts written and `k` words of the list,
    beside anything else held. -/
def Pro (c : Dev nD) (C f : S2x33.Idx → BitVec 32) (g : S34.Idx → BitVec 32) (R : sProp 𝕄) (n k : ℕ) : sProp 𝕄 :=
  iprop(((Memref.whole cc0_scratch0).view.loc (c : Thread nD τ) ↦{fullShare} C)
    ∗ ((Memref.whole cc0_scratch1).view.loc (c : Thread nD τ) ↦{fullShare} (stF C f n))
    ∗ ((Memref.whole cc0_scratch2).view.loc (c : Thread nD τ) ↦{fullShare} (orF C g k)) ∗ R)

section Steps

variable (c : Dev nD) {C f : S2x33.Idx → BitVec 32} {g : S34.Idx → BitVec 32} {n k : ℕ}

/-- A program in sequence runs to the second's run. -/
theorem step_bind {P : sProp 𝕄} {α β : Type} {p : Prog (TpuEff nD τ sig (Elt F) Λ₀ .tc) α} {q : α → Prog (TpuEff nD τ sig (Elt F) Λ₀ .tc) β}
    {K : β → sProp 𝕄} (h : P ⊢ WP c p (fun a => WP c (q a) K)) : P ⊢ WP c (p >>= q) K := by
  unfold WP; rw [wp_bind]; exact h

/-- A finished program. -/
theorem step_pure {P : sProp 𝕄} {α : Type} {a : α} {K : α → sProp 𝕄} (h : P ⊢ K a) : P ⊢ WP c (pure a) K :=
  h.trans (by show K a ⊢ wp frame _ Set.univ (Prog.ret a) K; rw [wp_ret]; exact fupd_intro)

/-- A side condition that holds is assumed. -/
theorem step_assume {P : sProp 𝕄} {A : Prop} {d : Decidable A} {K : PLift A → sProp 𝕄} (h : A) (hk : P ⊢ K ⟨h⟩) :
    P ⊢ WP c (Prog.lift (TpuEff.assume A d)) K :=
  (step_pure c hk).trans (wp_assume (k := Prog.ret) Variants.none (c : Thread nD τ) none Set.univ h)

/-- Reading a count. -/
theorem step_count {R : sProp 𝕄} {s e : ℕ} {inb} {K : Elt F .i32 → sProp 𝕄}
    (hk : Pro c C f g R n k ⊢ K (wd C s e)) :
    Pro c C f g R n k ⊢ WP c (smemLoad (s := S2x33) (e := .i32) (Memref.whole cc0_scratch0) (Rect.unit (s := S2x33) ![s, e] S1x1.size inb) numel1_S1x1 rfl) K := by
  have e1 : ((Memref.whole cc0_scratch0).access (Rect.unit (s := S2x33) ![s, e] S1x1.size inb)).read (Elt F) C (Shape.Idx.first (numel1_S1x1.symm ▸ Nat.one_pos)) = wd C s e := by
    have h0 := inb 0; have h1' := inb 1
    simp [S2x33, S1x1] at h0 h1'
    unfold wd
    rw [dif_pos ⟨by omega, by omega⟩]
    refine read_unit (Val := Elt F) cc0_scratch0 ![s, e] S1x1.size inb C _ (ixC ⟨s, by omega⟩ ⟨e, by omega⟩) ?_
    intro a; fin_cases a
    · exact rfl
    · exact rfl
  rw [← e1] at hk
  unfold Pro at hk ⊢
  iintro ⟨H0, H1, H2, HR⟩
  unfold smemLoad
  iapply (wp_smemLoadElt Variants.none (c : Thread nD τ) none Set.univ (m := Memref.whole cc0_scratch0) (r := Rect.unit (s := S2x33) ![s, e] S1x1.size inb)
    (S := Finset.univ) (Finset.subset_univ _)) $$ H0
  iintro H0
  iapply (step_pure c (K := K) .rfl)
  iapply hk
  isplitl [H0]; · iexact H0
  isplitl [H1]; · iexact H1
  isplitl [H2] <;> iassumption

/-- Reading a start in the first phase: whatever it holds. -/
theorem step_dead_start {R : sProp 𝕄} {s e : ℕ} {inb} {K : Elt F .i32 → sProp 𝕄}
    (hk : ∀ v, Pro c C f g R n k ⊢ K v) :
    Pro c C f g R n k ⊢ WP c (smemLoad (s := S2x33) (e := .i32) (Memref.whole cc0_scratch1) (Rect.unit (s := S2x33) ![s, e] S1x1.size inb) numel1_S1x1 rfl) K := by
  have hk := hk (((Memref.whole cc0_scratch1).access (Rect.unit (s := S2x33) ![s, e] S1x1.size inb)).read (Elt F) (stF C f n) (Shape.Idx.first (numel1_S1x1.symm ▸ Nat.one_pos)))
  unfold Pro at hk ⊢
  iintro ⟨H0, H1, H2, HR⟩
  unfold smemLoad
  iapply (wp_smemLoadElt Variants.none (c : Thread nD τ) none Set.univ (m := Memref.whole cc0_scratch1) (r := Rect.unit (s := S2x33) ![s, e] S1x1.size inb)
    (S := Finset.univ) (Finset.subset_univ _)) $$ H1
  iintro H1
  iapply (step_pure c (K := K) .rfl)
  iapply hk
  isplitl [H0]; · iexact H0
  isplitl [H1]; · iexact H1
  isplitl [H2] <;> iassumption

/-- Reading a word of the list of experts in the first phase: whatever it holds. -/
theorem step_dead_order {R : sProp 𝕄} {off : Fin 1 → ℕ} {inb} {K : Elt F .i32 → sProp 𝕄}
    (hk : ∀ v, Pro c C f g R n k ⊢ K v) :
    Pro c C f g R n k ⊢ WP c (smemLoad (s := S34) (e := .i32) (Memref.whole cc0_scratch2) (Rect.unit (s := S34) off S1.size inb) numel1_S1 rfl) K := by
  have hk := hk (((Memref.whole cc0_scratch2).access (Rect.unit (s := S34) off S1.size inb)).read (Elt F) (orF C g k) (Shape.Idx.first (numel1_S1.symm ▸ Nat.one_pos)))
  unfold Pro at hk ⊢
  iintro ⟨H0, H1, H2, HR⟩
  unfold smemLoad
  iapply (wp_smemLoadElt Variants.none (c : Thread nD τ) none Set.univ (m := Memref.whole cc0_scratch2) (r := Rect.unit (s := S34) off S1.size inb)
    (S := Finset.univ) (Finset.subset_univ _)) $$ H2
  iintro H2
  iapply (step_pure c (K := K) .rfl)
  iapply hk
  isplitl [H0]; · iexact H0
  isplitl [H1]; · iexact H1
  isplitl [H2] <;> iassumption

/-- Writing a start. -/
theorem step_start {R : sProp 𝕄} {s e : ℕ} {inb} {v : Elt F .i32} {K : PUnit → sProp 𝕄}
    (hs : s = n % 2) (he : e = n / 2) (hv : v = stW C (n % 2) (n / 2))
    (hk : Pro c C f g R (n + 1) k ⊢ K ⟨⟩) :
    Pro c C f g R n k ⊢ WP c (Prog.lift (.store (s := S2x33) (e := .i32) (Memref.whole cc0_scratch1) (Rect.unit (s := S2x33) ![s, e] S1x1.size inb) (fun _ => v) Finset.univ (View.stores_smem_one rfl numel1_S1x1) (.inl rfl))) K := by
  have e1 : ((Memref.whole cc0_scratch1).access (Rect.unit (s := S2x33) ![s, e] S1x1.size inb)).write (Elt F) (stF C f n) (fun _ => v) Finset.univ = stF C f (n + 1) := by
    refine write_unit (Val := Elt F) cc0_scratch1 ![s, e] S1x1.size inb (stF C f n) (fun _ => v) (stF C f (n + 1)) ?_ ?_
    · intro i x hi
      have h0 : (i 0 : ℕ) = s + (x 0 : ℕ) := hi 0
      have h1 : (i 1 : ℕ) = e + (x 1 : ℕ) := hi 1
      have x0 : (x 0 : ℕ) < 1 := (x 0).isLt
      have x1 : (x 1 : ℕ) < 1 := (x 1).isLt
      exact (if_pos ⟨by omega, by omega⟩).trans hv.symm
    · intro i hi
      refine if_neg fun h => hi ?_
      intro a; fin_cases a
      · exact ⟨by show s ≤ i 0; omega, by show (i 0 : ℕ) < s + 1; omega⟩
      · exact ⟨by show e ≤ i 1; omega, by show (i 1 : ℕ) < e + 1; omega⟩
  unfold Pro at hk ⊢
  rw [← e1] at hk
  iintro ⟨H0, H1, H2, HR⟩
  iapply (wp_store (k := Prog.ret) Variants.none (c : Thread nD τ) none Set.univ (m := Memref.whole cc0_scratch1) (r := Rect.unit (s := S2x33) ![s, e] S1x1.size inb)
    (S := Finset.univ) (Finset.subset_univ _)) $$ H1
  iintro H1
  iapply (step_pure c (K := K) .rfl)
  iapply hk
  isplitl [H0]; · iexact H0
  isplitl [H1]; · iexact H1
  isplitl [H2] <;> iassumption

/-- Writing a word of the list of experts. -/
theorem step_order {R : sProp 𝕄} {off : Fin 1 → ℕ} {inb} {v : Elt F .i32} {K : PUnit → sProp 𝕄}
    (hs : off 0 = if k < 2 then k else (nwW C (k - 2)).toNat) (hv : v = BitVec.ofNat 32 k)
    (hk : Pro c C f g R n (k + 1) ⊢ K ⟨⟩) :
    Pro c C f g R n k ⊢ WP c (Prog.lift (.store (s := S34) (e := .i32) (Memref.whole cc0_scratch2) (Rect.unit (s := S34) off S1.size inb) (fun _ => v) Finset.univ (View.stores_smem_one rfl numel1_S1) (.inl rfl))) K := by
  have e1 : ((Memref.whole cc0_scratch2).access (Rect.unit (s := S34) off S1.size inb)).write (Elt F) (orF C g k) (fun _ => v) Finset.univ = orF C g (k + 1) := by
    refine write_unit (Val := Elt F) cc0_scratch2 off S1.size inb (orF C g k) (fun _ => v) (orF C g (k + 1)) ?_ ?_
    · intro i x hi
      have h0 := hi 0
      have x0 : (x 0 : ℕ) < 1 := (x 0).isLt
      exact (if_pos (by omega)).trans hv.symm
    · intro i hi
      refine if_neg fun h => hi ?_
      intro a; fin_cases a
      exact ⟨by show off 0 ≤ i 0; omega, by show (i 0 : ℕ) < off 0 + 1; omega⟩
  unfold Pro at hk ⊢
  rw [← e1] at hk
  iintro ⟨H0, H1, H2, HR⟩
  iapply (wp_store (k := Prog.ret) Variants.none (c : Thread nD τ) none Set.univ (m := Memref.whole cc0_scratch2) (r := Rect.unit (s := S34) off S1.size inb)
    (S := Finset.univ) (Finset.subset_univ _)) $$ H2
  iintro H2
  iapply (step_pure c (K := K) .rfl)
  iapply hk
  isplitl [H0]; · iexact H0
  isplitl [H1]; · iexact H1
  isplitl [H2] <;> iassumption

/-- A program run to one postcondition, the rest of the body kept apart. -/
theorem step_cut {P Q : sProp 𝕄} {α : Type} {v : α} {p : Prog (TpuEff nD τ sig (Elt F) Λ₀ .tc) α} {K : α → sProp 𝕄}
    (h : ∀ K' : α → sProp 𝕄, (Q ⊢ K' v) → (P ⊢ WP c p K')) (hk : Q ⊢ K v) : P ⊢ WP c p K := h K hk

/-- The side condition on the place the list's next word is written at, from the bound of the list's length. -/
theorem chk_of {C : S2x33.Idx → BitVec 32} {k : ℕ} {A : Prop} (e : (∀ a, (![(nwW C (k - 1)).toNat] : Fin 1 → ℕ) a + S1.size a ≤ S34.size a) = A)
    (hw : ∀ j, j ≤ 30 → (nwW C j).toNat ≤ 33) (hkk : k ≤ 31) : A := by
  rw [← e]; intro a
  have := hw (k - 1) (by omega)
  have ha : a = 0 := by omega
  subst ha
  show (nwW C (k - 1)).toNat + 1 ≤ 34
  omega

/-- A side condition on the place the list's next word is written at. -/
theorem step_chk {R : sProp 𝕄} {A : Prop} {d : Decidable A} {K : PLift A → sProp 𝕄}
    (e : (∀ a, (![(nwW C (k - 1)).toNat] : Fin 1 → ℕ) a + S1.size a ≤ S34.size a) = A) (hw : ∀ j, j ≤ 30 → (nwW C j).toNat ≤ 33) (hkk : k ≤ 31)
    (hk : Pro c C f g R n k ⊢ K ⟨chk_of e hw hkk⟩) :
    Pro c C f g R n k ⊢ WP c (Prog.lift (TpuEff.assume A d)) K :=
  step_assume c (chk_of e hw hkk) hk

end Steps

end Cert.KernelIdeal.Hand

end
-- ==== Proof.KernelIdeal.Ring.lean ====
/-
  The ring of twenty weight slots: where one slot lies, what a copy of one expert's weights into it delivers, and the
  steps of the body that issue such a copy and wait for it.
-/
module

public import proofs.«01_k».proof.Proof.KernelIdeal.Prologue
public import Idealize.ShloMosaic.Lib.ValueLayout
public import Idealize.ShloMosaic.Lib.Ring

@[expose] public section

noncomputable section

namespace Cert.KernelIdeal.Hand

open Cert.KernelIdeal Cert.KernelIdeal.Gen
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ
local notation "EC" => (countersEmb (U := Pipeline.UC sig nD τ))

/-- The counter cells, inside the logic's element. -/
abbrev ECt : UEmb Counters (MT nD τ sig Unit (Elt F) ℕ (Pipeline.UC sig nD τ) ℕ) := countersEmb (U := Pipeline.UC sig nD τ)

/-- One expert's weights in the array of weights, as the body names it. -/
abbrev wSrc (off : Fin 3 → ℕ) (inb : ∀ a, off a + S1x2560x1024.size a ≤ S33x2560x1024.size a) : Memref sig .tc .hbm S2560x1024 .fp8e4m3 :=
  ((Memref.whole main_arg2).slice (Rect.unit (s := S33x2560x1024) off S1x2560x1024.size inb) (fun _ => rfl)).squeeze S2560x1024 squeezes_S1x2560x1024_S2560x1024

/-- One slot of the ring, as the body names it. -/
abbrev wDst (off : Fin 3 → ℕ) (inb : ∀ a, off a + S1x2560x1024.size a ≤ S20x2560x1024.size a) : Memref sig .tc .vmem S2560x1024 .fp8e4m3 :=
  ((Memref.whole cc0_scratch3).slice (Rect.unit (s := S20x2560x1024) off S1x2560x1024.size inb) (fun _ => rfl)).squeeze S2560x1024 squeezes_S1x2560x1024_S2560x1024

/-- One slot's semaphore, as the body names it. -/
abbrev wSem (off : Fin 1 → ℕ) (inb : ∀ a, off a + S1.size a ≤ S20.size a) : DmaSem sig :=
  ((cc0_scratch10.slice (Rect.unit (s := S20) off S1.size inb)).squeeze S_ squeezes_S1_S_).sem

/-- The semaphore of slot `j`. -/
def slotSem (j : Fin 20) : DmaSem sig := wSem ![(j : ℕ)] (by intro a; have := j.isLt; fin_cases a; show (j : ℕ) + 1 ≤ 20; omega)

/-- The elements of slot `j`. -/
def slotSet (j : Fin 20) : Finset S20x2560x1024.Idx := Finset.univ.filter (fun i => (i 0 : ℕ) = j)

/-- The credits of one slot's copy. -/
def slotN : ℕ := (wDst ![0, 0, 0] inb_S20x2560x1024_S1x2560x1024_0_0_0).view.dmaCredit

theorem slotN_pos : 0 < slotN := View.dmaCredit_pos _ (by decide)

/-- The contents of the ring's buffer with expert `e` in every slot. -/
def bufW (W : S33x2560x1024.Idx → Elt F .fp8e4m3) (e : ℕ) : S20x2560x1024.Idx → Elt F .fp8e4m3 :=
  fun i => W (ix3 (Fin.ofNat 33 e) (i 1) (i 2))

theorem ix2_eta (x : S2560x1024.Idx) : ix2 (x 0) (x 1) = x := by
  funext a; fin_cases a <;> rfl

/-- An index of one slot, with the leading axis of size one back. -/
theorem slot_reshape (h : S2560x1024.numel = (⟨3, ![1, 2560, 1024]⟩ : Shape).numel) (x : S2560x1024.Idx) :
    Shape.reshapeEquiv h x = ix3 (⟨0, Nat.one_pos⟩ : Fin 1) (x 0) (x 1) :=
  (congrArg (Shape.reshapeEquiv h) (ix2_eta x).symm).trans (reshapeEquiv_ix2_1ab (a := 2560) (b := 1024) h (x 0) (x 1))

/-- Where an element of a slot lies in the ring's buffer. -/
theorem wDst_emb (off : Fin 3 → ℕ) (inb) (x : S2560x1024.Idx) (i : S20x2560x1024.Idx)
    (h0 : (i 0 : ℕ) = off 0) (h1 : (i 1 : ℕ) = off 1 + x 0) (h2 : (i 2 : ℕ) = off 2 + x 1) : (wDst off inb).view.emb x = i := by
  show (Rect.unit (s := S20x2560x1024) off S1x2560x1024.size inb).emb (Shape.reshapeEquiv _ x) = i
  refine (congrArg (Rect.emb _) (slot_reshape _ x)).trans ?_
  funext a; apply Fin.ext
  refine (Rect.emb_apply _ _ _).trans ?_
  fin_cases a
  · show off 0 + 1 * 0 = i 0; omega
  · show off 1 + 1 * (x 0 : ℕ) = i 1; omega
  · show off 2 + 1 * (x 1 : ℕ) = i 2; omega

/-- Where an element of one expert's weights lies in the array of weights. -/
theorem wSrc_emb (off : Fin 3 → ℕ) (inb) (x : S2560x1024.Idx) (i : S33x2560x1024.Idx)
    (h0 : (i 0 : ℕ) = off 0) (h1 : (i 1 : ℕ) = off 1 + x 0) (h2 : (i 2 : ℕ) = off 2 + x 1) : (wSrc off inb).view.emb x = i := by
  show (Rect.unit (s := S33x2560x1024) off S1x2560x1024.size inb).emb (Shape.reshapeEquiv _ x) = i
  refine (congrArg (Rect.emb _) (slot_reshape _ x)).trans ?_
  funext a; apply Fin.ext
  refine (Rect.emb_apply _ _ _).trans ?_
  fin_cases a
  · show off 0 + 1 * 0 = i 0; omega
  · show off 1 + 1 * (x 0 : ℕ) = i 1; omega
  · show off 2 + 1 * (x 1 : ℕ) = i 2; omega

/-- The elements a slot's memref names. -/
theorem wDst_set (off : Fin 3 → ℕ) (inb) (j : Fin 20) (h : off = ![(j : ℕ), 0, 0]) : (wDst off inb).view.set = slotSet j := by
  subst h
  ext i
  simp only [slotSet, Finset.mem_filter, Finset.mem_univ, true_and]
  constructor
  · intro hi
    obtain ⟨x, -, hx⟩ := Finset.mem_map.mp hi
    have h0 : (wDst ![(j : ℕ), 0, 0] inb).view.emb x = ix3 j (x 0) (x 1) :=
      wDst_emb _ inb x _ rfl (Nat.zero_add _).symm (Nat.zero_add _).symm
    rw [← hx, h0]
  · intro hi
    refine Finset.mem_map.mpr ⟨ix2 (i 1) (i 2), Finset.mem_univ _, ?_⟩
    exact wDst_emb _ inb (ix2 (i 1) (i 2)) i hi (Nat.zero_add _).symm (Nat.zero_add _).symm

/-- A slot's semaphore, wherever its index comes from. -/
theorem wSem_eq (off : Fin 1 → ℕ) (inb) (j : Fin 20) (h : off = ![(j : ℕ)]) : wSem off inb = slotSem j := by
  subst h; rfl

/-- What a copy of expert `e` writes into slot `j`. -/
theorem copy_eq (c : Dev nD) (offd : Fin 3 → ℕ) (inbd) (offs : Fin 3 → ℕ) (inbs) (j : Fin 20) (e : ℕ) (he : e < 33)
    (hd : offd = ![(j : ℕ), 0, 0]) (hs : offs = ![e, 0, 0]) (W : S33x2560x1024.Idx → Elt F .fp8e4m3) (f : S20x2560x1024.Idx → Elt F .fp8e4m3)
    (i : S20x2560x1024.Idx) (hi : i ∈ slotSet j) :
    (wDst offd inbd).view.write (Elt F) f (ReadAs.same.apply ((wSrc offs inbs).view.read (Elt F) W)) Finset.univ i = bufW W e i := by
  have hi : (i 0 : ℕ) = j := by simpa [slotSet] using hi
  subst hd hs
  have e1 : (wDst ![(j : ℕ), 0, 0] inbd).view.emb (ix2 (i 1) (i 2)) = i :=
    wDst_emb _ inbd (ix2 (i 1) (i 2)) i hi (Nat.zero_add _).symm (Nat.zero_add _).symm
  have e2 : (wSrc ![e, 0, 0] inbs).view.emb (ix2 (i 1) (i 2)) = ix3 (Fin.ofNat 33 e) (i 1) (i 2) :=
    wSrc_emb _ inbs (ix2 (i 1) (i 2)) _ (Nat.mod_eq_of_lt he) (Nat.zero_add _).symm (Nat.zero_add _).symm
  have h := View.write_emb_of_mem (v := (wDst ![(j : ℕ), 0, 0] inbd).view) f (ReadAs.same.apply ((wSrc ![e, 0, 0] inbs).view.read (Elt F) W))
    (Finset.mem_univ (ix2 (i 1) (i 2)))
  refine (congrArg (View.write (Elt F) (wDst ![(j : ℕ), 0, 0] inbd).view f _ Finset.univ) e1.symm).trans (h.trans ?_)
  show W ((wSrc ![e, 0, 0] inbs).view.emb (ix2 (i 1) (i 2))) = _
  rw [e2]
  rfl

/-- What one copy holds of the array of weights. -/
abbrev wShare (j : Fin 20) : PosShare TreeShare := shareTok fullShare 20 j

/-- The array of weights at one slot's share. -/
abbrev wTok (c : Dev nD) (W : S33x2560x1024.Idx → Elt F .fp8e4m3) (j : Fin 20) : sProp 𝕄 :=
  ((Memref.whole main_arg2).view.loc (c : Thread nD τ) ↦{wShare j} W)

/-- The elements of slot `j`, holding `f`. -/
abbrev slotIs (c : Dev nD) (j : Fin 20) (f : S20x2560x1024.Idx → Elt F .fp8e4m3) : sProp 𝕄 :=
  ((Memref.whole cc0_scratch3).view.loc (c : Thread nD τ) ↦[slotSet j]{fullShare} f)

/-- Slot `j` with no copy under way: its semaphore at zero, its elements, its share of the weights. -/
def slotFree (c : Dev nD) (W : S33x2560x1024.Idx → Elt F .fp8e4m3) (j : Fin 20) : sProp 𝕄 :=
  iprop(semVal ((c : Thread nD τ), .dma (slotSem j)) 0 ∗ (∃ f, slotIs c j f) ∗ wTok c W j)

/-- Slot `j` with the copy of expert `e` under way. -/
def slotFly (c : Dev nD) (W : S33x2560x1024.Idx → Elt F .fp8e4m3) (j : Fin 20) (e : ℕ) : sProp 𝕄 :=
  Flight ECt (c : Thread nD τ) (.dma (slotSem j)) () slotN iprop(slotIs c j (bufW W e) ∗ wTok c W j)

/-- Slot `j` with expert `e` landed. -/
def slotFull (c : Dev nD) (W : S33x2560x1024.Idx → Elt F .fp8e4m3) (j : Fin 20) (e : ℕ) : sProp 𝕄 :=
  iprop(semVal ((c : Thread nD τ), .dma (slotSem j)) 0 ∗ slotIs c j (bufW W e) ∗ wTok c W j)

theorem slotFull_free (c : Dev nD) (W : S33x2560x1024.Idx → Elt F .fp8e4m3) (j : Fin 20) (e : ℕ) : slotFull c W j e ⊢ slotFree c W j := by
  unfold slotFull slotFree
  iintro ⟨Hv, Hs, Hw⟩
  isplitl [Hv]; · iexact Hv
  isplitl [Hs]; · iexists _; iexact Hs
  iexact Hw

/-- A copy under way beside something else held: the copy delivers that too. -/
theorem flight_frame (c : Dev nD) {sm : SemLoc sig} {N : ℕ} {D X : sProp 𝕄} :
    iprop(Flight ECt (c : Thread nD τ) sm () N D ∗ X) ⊢ (Flight ECt (c : Thread nD τ) sm () N iprop(D ∗ X) : sProp 𝕄) := by
  unfold Flight
  iintro ⟨⟨⟨%R, HR, %hcap, %hpeek⟩, Hcred⟩, HX⟩
  isplitl [HR HX]
  · iexists iprop(R ∗ X)
    isplitl [HR HX]
    · isplitl [HR]; · iexact HR
      iexact HX
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD]; · iexact HD
      iexact HX
    · ipureintro
      intro K
      refine BIBase.Entails.trans ?_ (hpeek K)
      iintro ⟨⟨HR, HX⟩, HK⟩
      isplitl [HR]; · iexact HR
      iintro HR
      iapply HK
      isplitl [HR]; · iexact HR
      iexact HX
  · iexact Hcred

/-- Issuing the copy of expert `e` into slot `j`. -/
theorem step_issue (c : Dev nD) (W : S33x2560x1024.Idx → Elt F .fp8e4m3) {P P' : sProp 𝕄} {offd : Fin 3 → ℕ} {inbd} {offs : Fin 3 → ℕ} {inbs}
    {offm : Fin 1 → ℕ} {inbm} {h1 h2 h3} {K : PUnit → sProp 𝕄} (j : Fin 20) (e : ℕ) (he : e < 33)
    (hd : offd = ![(j : ℕ), 0, 0]) (hs : offs = ![e, 0, 0]) (hm : offm = ![(j : ℕ)])
    (hP : P ⊢ iprop(slotFree c W j ∗ P')) (hk : iprop(slotFly c W j e ∗ P') ⊢ K ⟨⟩) :
    P ⊢ WP c (Prog.lift (.enqueueDma (wSrc offs inbs) (.here (wDst offd inbd)) (.dma (wSem offm inbm)) h1 h2 h3)) K := by
  refine hP.trans ?_
  have hSd : (wDst offd inbd).view.set ⊆ slotSet j := (wDst_set offd inbd j hd).le
  obtain rfl : offm = ![(j : ℕ)] := hm
  unfold slotFree
  iintro ⟨⟨Hv, ⟨%f, Hs⟩, Hw⟩, HP⟩
  ihave Hw := (pointsTo_split_subset (Finset.subset_univ (wSrc offs inbs).view.set)).1 $$ Hw
  icases Hw with ⟨Hw, Hw'⟩
  iapply (wp_dmaLocal (k := Prog.ret) ECt Variants.none (c : Thread nD τ) none () slotN (src := wSrc offs inbs) (dst := wDst offd inbd) (sm := .dma (slotSem j)) rfl
    slotN_pos hSd) $$ [Hw Hs Hv]
  · isplitl [Hw]; · iexact Hw
    isplitl [Hs]; · iexact Hs
    iexact Hv
  iintro Hf
  iapply (step_pure c (K := K) .rfl)
  iapply hk
  isplitr [HP]
  · ihave Hf := (flight_frame c) $$ [Hf Hw']
    · isplitl [Hf]; · iexact Hf
      iexact Hw'
    unfold slotFly
    iapply (Flight_mono ECt (c : Thread nD τ) (D' := iprop(slotIs c j (bufW W e) ∗ wTok c W j)) ?_) $$ Hf
    iintro ⟨⟨Hs, Hw⟩, Hw'⟩
    isplitl [Hs]
    · iapply (Entails.of_eq (pointsTo_congr (fun i hi => copy_eq c offd inbd offs inbs j e he hd hs W f i hi))) $$ Hs
    · iapply (pointsTo_split_subset (Finset.subset_univ (wSrc offs inbs).view.set)).2
      isplitl [Hw]; · iexact Hw
      iexact Hw'
  · iexact HP

/-- Waiting for the copy of expert `e` into slot `j`. -/
theorem step_wait (c : Dev nD) (W : S33x2560x1024.Idx → Elt F .fp8e4m3) {P P' : sProp 𝕄} {Wt : Waits sig Unit} {offd : Fin 3 → ℕ} {inbd} {offs : Fin 3 → ℕ} {inbs}
    {offm : Fin 1 → ℕ} {inbm} {h1 h2} {K : PUnit → sProp 𝕄} (j : Fin 20) (e : ℕ) (hm : offm = ![(j : ℕ)])
    (hP : P ⊢ iprop(slotFly c W j e ∗ (∃ Wt : Waits sig Unit, owes (c : Thread nD τ) 0 Wt) ∗ P'))
    (hk : iprop(slotFull c W j e ∗ (∃ Wt : Waits sig Unit, owes (c : Thread nD τ) 0 Wt) ∗ P') ⊢ K ⟨⟩) :
    P ⊢ WP c (Prog.lift (.waitDma2 (wSem offm inbm) (wSrc offs inbs) (wDst offd inbd) h1 h2)) K := by
  refine hP.trans ?_
  obtain rfl : offm = ![(j : ℕ)] := hm
  iintro ⟨Hf, ⟨%Wt, HO⟩, HP⟩
  unfold slotFly
  iapply (wp_waitLocal (k := Prog.ret) ECt Variants.none (c : Thread nD τ) none () (srcw := wSrc offs inbs) (dstw := wDst offd inbd) (hsrc := h1) (hdst := h2) (sem := slotSem j) (N := slotN) rfl) $$ [Hf HO]
  · isplitl [Hf]; · iexact Hf
    iexact HO
  iintro ⟨⟨Hs, Hw⟩, Hv, HO⟩
  iapply (step_pure c (K := K) .rfl)
  iapply hk
  unfold slotFull
  isplitl [Hv Hs Hw]
  · isplitl [Hv]; · iexact Hv
    isplitl [Hs]; · iexact Hs
    iexact Hw
  isplitl [HO]; · iexists _; iexact HO
  iexact HP

end Cert.KernelIdeal.Hand
-- ==== Proof.KernelIdeal.Slots.lean ====
/-
  The ring of twenty weight slots as a whole: which slot holds which place of the list of experts while the places
  `lo, …, hi - 1` are under way, taking a slot out of it and putting it back.
-/
module

public import proofs.«01_k».proof.Proof.KernelIdeal.Ring

@[expose] public section

noncomputable section

namespace Cert.KernelIdeal.Hand

open Cert.KernelIdeal Cert.KernelIdeal.Gen
open Idealize.ShloMosaic Idealize.ShloMosaic.TcCoe Idealize.ShloMosaic.Tactic Idealize.ShloMosaic.Transfers Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The first place at or after `lo` that slot `j` serves. -/
def pos (lo : ℕ) (j : Fin 20) : ℕ := lo + ((j : ℕ) + 20 - lo % 20) % 20

/-- The slots while the places `lo, …, hi - 1` are under way: the expert on its way into the slot, if any. -/
def stR (ord : ℕ → ℕ) (lo hi : ℕ) (j : Fin 20) : Option ℕ := if pos lo j < hi then some (ord (pos lo j)) else none

/-- A slot in one of its states. -/
def slotAt (c : Dev nD) (W : S33x2560x1024.Idx → Elt F .fp8e4m3) (j : Fin 20) : Option ℕ → sProp 𝕄
  | none => slotFree c W j
  | some e => slotFly c W j e

/-- The ring while the places `lo, …, hi - 1` are under way. -/
def ring (c : Dev nD) (W : S33x2560x1024.Idx → Elt F .fp8e4m3) (ord : ℕ → ℕ) (lo hi : ℕ) : sProp 𝕄 :=
  Ring.AtW (σ := fun _ : Fin 20 => Option ℕ) (slotAt c W) (stR ord lo hi)

/-- The slot that serves place `i`. -/
def slotOf (i : ℕ) : Fin 20 := ⟨i % 20, Nat.mod_lt _ (by decide)⟩

theorem stR_issue (ord : ℕ → ℕ) (lo hi : ℕ) (h : lo ≤ hi) (h' : hi < lo + 20) :
    stR ord lo (hi + 1) = Function.update (stR ord lo hi) (slotOf hi) (some (ord hi)) := by
  funext j
  by_cases hj : j = slotOf hi
  · subst hj
    rw [Function.update_self]
    have : pos lo (slotOf hi) = hi := by
      show lo + (hi % 20 + 20 - lo % 20) % 20 = hi
      omega
    unfold stR
    rw [this, if_pos (Nat.lt_succ_self hi)]
  · rw [Function.update_of_ne hj]
    have hne : (j : ℕ) ≠ hi % 20 := fun e => hj (Fin.ext e)
    have hjl := j.isLt
    have : pos lo j ≠ hi := by
      show lo + ((j : ℕ) + 20 - lo % 20) % 20 ≠ hi
      omega
    unfold stR
    by_cases hp : pos lo j < hi
    · rw [if_pos hp, if_pos (Nat.lt_succ_of_lt hp)]
    · rw [if_neg hp, if_neg (by omega)]

theorem stR_free (ord : ℕ → ℕ) (lo hi : ℕ) (h : lo ≤ hi) (h' : hi < lo + 20) : stR ord lo hi (slotOf hi) = none := by
  have : pos lo (slotOf hi) = hi := by
    show lo + (hi % 20 + 20 - lo % 20) % 20 = hi
    omega
  unfold stR
  rw [this, if_neg (Nat.lt_irrefl hi)]

theorem stR_wait (ord : ℕ → ℕ) (lo hi : ℕ) (h : lo < hi) (h' : hi ≤ lo + 20) :
    stR ord (lo + 1) hi = Function.update (stR ord lo hi) (slotOf lo) none := by
  funext j
  have hjl := j.isLt
  by_cases hj : j = slotOf lo
  · subst hj
    rw [Function.update_self]
    have : pos (lo + 1) (slotOf lo) = lo + 20 := by
      show lo + 1 + (lo % 20 + 20 - (lo + 1) % 20) % 20 = lo + 20
      omega
    unfold stR
    rw [this, if_neg (by omega)]
  · rw [Function.update_of_ne hj]
    have hne : (j : ℕ) ≠ lo % 20 := fun e => hj (Fin.ext e)
    have : pos (lo + 1) j = pos lo j := by
      show lo + 1 + ((j : ℕ) + 20 - (lo + 1) % 20) % 20 = lo + ((j : ℕ) + 20 - lo % 20) % 20
      omega
    unfold stR
    rw [this]

theorem stR_fly (ord : ℕ → ℕ) (lo hi : ℕ) (h : lo < hi) : stR ord lo hi (slotOf lo) = some (ord lo) := by
  have : pos lo (slotOf lo) = lo := by
    show lo + (lo % 20 + 20 - lo % 20) % 20 = lo
    omega
  unfold stR
  rw [this, if_pos h]

/-- The ring's next slot, free, and what puts it back with its copy under way. -/
theorem ring_issue (c : Dev nD) (W : S33x2560x1024.Idx → Elt F .fp8e4m3) (ord : ℕ → ℕ) (lo hi : ℕ) (h : lo ≤ hi) (h' : hi < lo + 20) :
    ring c W ord lo hi ⊢ iprop(slotFree c W (slotOf hi) ∗ (slotFly c W (slotOf hi) (ord hi) -∗ ring c W ord lo (hi + 1))) := by
  unfold ring
  rw [Ring.AtW_focus _ _ (slotOf hi), stR_free ord lo hi h h', stR_issue ord lo hi h h']
  show iprop(slotFree c W (slotOf hi) ∗ _) ⊢ _
  have back : iprop(slotFly c W (slotOf hi) (ord hi) ∗ Ring.restW (σ := fun _ : Fin 20 => Option ℕ) (slotAt c W) (stR ord lo hi) (slotOf hi)) ⊢ _ :=
    Ring.AtW_update (σ := fun _ : Fin 20 => Option ℕ) (slotAt c W) (stR ord lo hi) (slotOf hi) (some (ord hi))
  iintro ⟨H, HR⟩
  isplitl [H]; · iexact H
  iintro H
  iapply back
  isplitl [H]; · iexact H
  iexact HR

/-- The ring's oldest slot, its copy under way, and what puts it back free. -/
theorem ring_wait (c : Dev nD) (W : S33x2560x1024.Idx → Elt F .fp8e4m3) (ord : ℕ → ℕ) (lo hi : ℕ) (h : lo < hi) (h' : hi ≤ lo + 20) :
    ring c W ord lo hi ⊢ iprop(slotFly c W (slotOf lo) (ord lo) ∗ (slotFree c W (slotOf lo) -∗ ring c W ord (lo + 1) hi)) := by
  unfold ring
  rw [Ring.AtW_focus _ _ (slotOf lo), stR_fly ord lo hi h, stR_wait ord lo hi h h']
  show iprop(slotFly c W (slotOf lo) (ord lo) ∗ _) ⊢ _
  have back : iprop(slotFree c W (slotOf lo) ∗ Ring.restW (σ := fun _ : Fin 20 => Option ℕ) (slotAt c W) (stR ord lo hi) (slotOf lo)) ⊢ _ :=
    Ring.AtW_update (σ := fun _ : Fin 20 => Option ℕ) (slotAt c W) (stR ord lo hi) (slotOf lo) none
  iintro ⟨H, HR⟩
  isplitl [H]; · iexact H
  iintro H
  iapply back
  isplitl [H]; · iexact H
  iexact HR

theorem slotSet_disjoint (b b' : Fin 20) (h : b ≠ b') : Disjoint (slotSet b) (slotSet b') := by
  rw [Finset.disjoint_left]
  intro i hi hi'
  have h1 : (i 0 : ℕ) = b := by simpa [slotSet] using hi
  have h2 : (i 0 : ℕ) = b' := by simpa [slotSet] using hi'
  exact h (Fin.ext (h1.symm.trans h2))

theorem slotSet_cover : Finset.univ.biUnion slotSet = Finset.univ := by
  ext i
  simp only [Finset.mem_biUnion, Finset.mem_univ, true_and, iff_true]
  exact ⟨i 0, by simp [slotSet]⟩

/-- All slots free, in one conjunction each of their parts. -/
theorem ring_free (c : Dev nD) (W : S33x2560x1024.Idx → Elt F .fp8e4m3) (ord : ℕ → ℕ) (lo : ℕ) :
    ring c W ord lo lo = bigSep Finset.univ (fun j : Fin 20 => slotFree c W j) := by
  unfold ring Ring.AtW
  refine BI.bigSep_congr fun j _ => ?_
  have : stR ord lo lo j = none := by unfold stR pos; rw [if_neg (by omega)]
  rw [this]; rfl

theorem free_split (c : Dev nD) (W : S33x2560x1024.Idx → Elt F .fp8e4m3) :
    (bigSep Finset.univ (fun j : Fin 20 => slotFree c W j) : sProp 𝕄) = iprop(bigSep Finset.univ (fun j : Fin 20 => semVal ((c : Thread nD τ), .dma (slotSem j)) 0)
      ∗ bigSep Finset.univ (fun j : Fin 20 => iprop(∃ f, slotIs c j f)) ∗ bigSep Finset.univ (fun j : Fin 20 => wTok c W j)) := by
  unfold slotFree
  erw [BI.bigSep_sep, BI.bigSep_sep]
  rfl

theorem slots_any (c : Dev nD) (f : S20x2560x1024.Idx → Elt F .fp8e4m3) :
    (bigSep Finset.univ (fun j : Fin 20 => slotIs c j f) : sProp 𝕄) ⊢ bigSep Finset.univ (fun j : Fin 20 => iprop(∃ f, slotIs c j f)) := by
  refine BI.bigSep_mono fun j _ => ?_
  show slotIs c j f ⊢ iprop(∃ f, slotIs c j f)
  iintro H; iexists f; iexact H

/-- The ring from its parts at the start. -/
theorem ring_in (c : Dev nD) (W : S33x2560x1024.Idx → Elt F .fp8e4m3) (ord : ℕ → ℕ) (f : S20x2560x1024.Idx → Elt F .fp8e4m3) :
    iprop(bigSep Finset.univ (fun j : Fin 20 => semVal ((c : Thread nD τ), .dma (slotSem j)) 0)
      ∗ ((Memref.whole cc0_scratch3).view.loc (c : Thread nD τ) ↦{fullShare} f)
      ∗ ((Memref.whole main_arg2).view.loc (c : Thread nD τ) ↦{fullShare} W))
    ⊢ (iprop(ring c W ord 0 0 ∗ ((Memref.whole main_arg2).view.loc (c : Thread nD τ) ↦{shareDrop fullShare 20} W)) : sProp 𝕄) := by
  rw [ring_free]
  iintro ⟨Hv, Hb, Hw⟩
  ihave Hw := (pointsTo_toks_split fullShare 20) $$ Hw
  icases Hw with ⟨Hd, Hw⟩
  isplitr [Hd]
  · ihave Hb := (Entails.of_eq (Ring.pointsTo_blocks (ℓ := (Memref.whole cc0_scratch3).view.loc (c : Thread nD τ)) slotSet slotSet_disjoint slotSet_cover f)) $$ Hb
    iapply (Entails.of_eq (free_split c W).symm)
    isplitl [Hv]; · iexact Hv
    isplitl [Hb]
    · iapply (slots_any c f) $$ Hb
    · iexact Hw
  · iexact Hd

/-- The ring's parts at the end. -/
theorem ring_out (c : Dev nD) (W : S33x2560x1024.Idx → Elt F .fp8e4m3) (ord : ℕ → ℕ) (lo : ℕ) (f₀ : S20x2560x1024.Idx → Elt F .fp8e4m3) :
    (iprop(ring c W ord lo lo ∗ ((Memref.whole main_arg2).view.loc (c : Thread nD τ) ↦{shareDrop fullShare 20} W)) : sProp 𝕄) ⊢
    iprop(bigSep Finset.univ (fun j : Fin 20 => semVal ((c : Thread nD τ), .dma (slotSem j)) 0)
      ∗ (∃ f, ((Memref.whole cc0_scratch3).view.loc (c : Thread nD τ) ↦{fullShare} f))
      ∗ ((Memref.whole main_arg2).view.loc (c : Thread nD τ) ↦{fullShare} W)) := by
  rw [ring_free, free_split]
  iintro ⟨⟨Hv, Hb, Hw⟩, Hd⟩
  isplitl [Hv]; · iexact Hv
  isplitl [Hb]
  · iapply (Ring.pointsTo_blocks_join_exists (ℓ := (Memref.whole cc0_scratch3).view.loc (c : Thread nD τ)) slotSet slotSet_disjoint slotSet_cover f₀) $$ Hb
  · iapply (pointsTo_toks_join fullShare 20)
    isplitl [Hd]; · iexact Hd
    iexact Hw

end Cert.KernelIdeal.Hand
-- ==== Proof.KernelIdeal.Nums.lean ====
/-
  The kernel's index arithmetic in natural numbers: the words it computes from bounded words, and the side conditions on
  its loop over the listed experts.
-/
module

public import proofs.«01_k».proof.Proof.KernelIdeal.Slots

@[expose] public section

noncomputable section

namespace Cert.KernelIdeal.Hand

open Cert.KernelIdeal Cert.KernelIdeal.Gen
open Idealize.ShloMosaic Idealize.ShloMosaic.TcCoe

/-! ### Words of natural numbers -/

theorem w_add (a b : ℕ) : Scalar.addi (BitVec.ofNat 32 a) (BitVec.ofNat 32 b) = BitVec.ofNat 32 (a + b) := by
  show BitVec.ofNat 32 a + BitVec.ofNat 32 b = _
  rw [BitVec.ofNat_add]

theorem w_mul (a b : ℕ) : Scalar.muli (BitVec.ofNat 32 a) (BitVec.ofNat 32 b) = BitVec.ofNat 32 (a * b) := by
  show BitVec.ofNat 32 a * BitVec.ofNat 32 b = _
  rw [BitVec.ofNat_mul]

theorem w_sub {a b : ℕ} (h : b ≤ a) : Scalar.subi (BitVec.ofNat 32 a) (BitVec.ofNat 32 b) = BitVec.ofNat 32 (a - b) := by
  show BitVec.ofNat 32 a - BitVec.ofNat 32 b = _
  obtain ⟨d, rfl⟩ := Nat.exists_eq_add_of_le h
  rw [BitVec.ofNat_add, Nat.add_sub_cancel_left]
  rw [BitVec.add_comm, BitVec.add_sub_cancel]

theorem w_nat {a : ℕ} (h : a < 2 ^ 31) : (BitVec.ofNat 32 a).toNat = a := by
  rw [BitVec.toNat_ofNat]; exact Nat.mod_eq_of_lt (by omega)

theorem w_int {a : ℕ} (h : a < 2 ^ 31) : (BitVec.ofNat 32 a).toInt = a := by
  rw [BitVec.toInt_eq_toNat_of_lt (by rw [w_nat h]; omega), w_nat h]

theorem w_msb {a : ℕ} (h : a < 2 ^ 31) : (BitVec.ofNat 32 a).msb = false := by
  rw [BitVec.msb_eq_false_iff_two_mul_lt, w_nat h]; omega

theorem w_corner {a d : ℕ} (ha : a < 2 ^ 31) (hd : 0 < d) (hd' : d < 2 ^ 31) : ¬ IntOp.SDivCorner (BitVec.ofNat 32 a) (BitVec.ofNat 32 d) := by
  rintro (h | ⟨h, -⟩)
  · have := congrArg BitVec.toNat h; rw [w_nat hd'] at this; simp at this; omega
  · have := congrArg BitVec.msb h; rw [w_msb ha] at this; exact absurd this (by decide)

theorem w_div {a d : ℕ} (ha : a < 2 ^ 31) (hd : 0 < d) (hd' : d < 2 ^ 31) :
    Scalar.divsi (BitVec.ofNat 32 a) (BitVec.ofNat 32 d) = BitVec.ofNat 32 (a / d) := by
  show (if IntOp.SDivCorner _ _ then _ else _) = _
  rw [if_neg (w_corner ha hd hd'), BitVec.sdiv_eq, w_msb ha, w_msb hd']
  apply BitVec.eq_of_toNat_eq
  show (BitVec.udiv _ _).toNat = _
  rw [BitVec.udiv_eq, BitVec.toNat_udiv, w_nat ha, w_nat hd', w_nat (lt_of_le_of_lt (Nat.div_le_self _ _) ha)]

theorem w_rem {a d : ℕ} (ha : a < 2 ^ 31) (hd : 0 < d) (hd' : d < 2 ^ 31) :
    Scalar.remsi (BitVec.ofNat 32 a) (BitVec.ofNat 32 d) = BitVec.ofNat 32 (a % d) := by
  show (if IntOp.SDivCorner _ _ then _ else _) = _
  rw [if_neg (w_corner ha hd hd'), BitVec.srem_eq, w_msb ha, w_msb hd']
  apply BitVec.eq_of_toNat_eq
  show (BitVec.umod _ _).toNat = _
  rw [BitVec.umod_eq, BitVec.toNat_umod, w_nat ha, w_nat hd', w_nat (lt_of_le_of_lt (Nat.mod_le _ _) ha)]

theorem w_slt {a b : ℕ} (ha : a < 2 ^ 31) (hb : b < 2 ^ 31) :
    Scalar.cmpi .slt (BitVec.ofNat 32 a) (BitVec.ofNat 32 b) = BitVec.ofBool (decide (a < b)) := by
  show BitVec.ofBool (BitVec.slt _ _) = _
  rw [BitVec.slt_eq_decide, w_int ha, w_int hb]; simp

theorem w_sgt {a b : ℕ} (ha : a < 2 ^ 31) (hb : b < 2 ^ 31) :
    Scalar.cmpi .sgt (BitVec.ofNat 32 a) (BitVec.ofNat 32 b) = BitVec.ofBool (decide (b < a)) := by
  show BitVec.ofBool (BitVec.slt _ _) = _
  rw [BitVec.slt_eq_decide, w_int ha, w_int hb]; simp

theorem w_sel {p : Prop} [Decidable p] (a b : ℕ) :
    Scalar.select (BitVec.ofBool (decide p)) (BitVec.ofNat 32 a) (BitVec.ofNat 32 b) = BitVec.ofNat 32 (if p then a else b) := by
  show (if _ = _ then _ else _) = _
  by_cases h : p <;> simp [h]

theorem w_ne {p : Prop} [Decidable p] :
    (Scalar.cmpi .ne (Scalar.extui (BitVec.ofBool (decide p)) : BitVec 32) 0#32 = 1#1) ↔ p := by
  by_cases h : p
  · simp only [h, decide_true, iff_true]; decide
  · simp only [h, decide_false, iff_false]; decide

theorem w_iv (t : ℕ) : Scf.iv 0#32 1#32 t = BitVec.ofNat 32 t := by
  show 0#32 + BitVec.ofNat 32 t * 1#32 = _
  rw [BitVec.mul_one, BitVec.zero_add]

theorem w_trips {k : ℕ} (h : k < 2 ^ 31) : Scf.trips 0#32 (BitVec.ofNat 32 k) 1#32 = k := by
  unfold Scf.trips; rw [w_int h]
  have h0 : (0#32 : BitVec 32).toInt = 0 := by decide
  have h1 : (1#32 : BitVec 32).toInt = 1 := by decide
  rw [h0, h1]; omega

theorem w_trips0 {k : ℕ} (h : k < 2 ^ 31) : Scf.trips (BitVec.ofNat 32 k) (BitVec.ofNat 32 k) 1#32 = 0 := by
  unfold Scf.trips; rw [w_int h]
  have h1 : (1#32 : BitVec 32).toInt = 1 := by decide
  rw [h1]; omega

theorem w_ok {k : ℕ} (h : k < 2 ^ 31) : Scf.OK 0#32 (BitVec.ofNat 32 k) 1#32 := by
  refine ⟨by decide, ?_⟩
  rw [w_trips h]
  have h0 : (0#32 : BitVec 32).toInt = 0 := by decide
  have h1 : (1#32 : BitVec 32).toInt = 1 := by decide
  rw [h0, h1]; omega

theorem w_ok0 {k : ℕ} (h : k < 2 ^ 31) : Scf.OK (BitVec.ofNat 32 k) (BitVec.ofNat 32 k) 1#32 := by
  refine ⟨by decide, ?_⟩
  rw [w_trips0 h, w_int h]; omega

theorem w_ofNat (a : BitVec 32) : BitVec.ofNat 32 a.toNat = a := by simp

/-! ### The number of listed experts -/

/-- The first two experts are listed, and at most every expert looked at since. -/
theorem nwW_bound (C : S2x33.Idx → BitVec 32) (j : ℕ) (h : j ≤ 100) : ∃ k, nwW C j = BitVec.ofNat 32 k ∧ 2 ≤ k ∧ k ≤ j + 2 := by
  induction j with
  | zero => exact ⟨2, rfl, le_refl _, le_refl _⟩
  | succ j ih =>
    obtain ⟨k, hk, h2, h3⟩ := ih (by omega)
    have hb : ∀ b : BitVec 1, (Scalar.extui b : BitVec 32) = BitVec.ofNat 32 0 ∨ (Scalar.extui b : BitVec 32) = BitVec.ofNat 32 1 := by decide
    rcases hb (Scalar.cmpi .sgt (totW C (j + 2)) 0#32) with e | e
    · exact ⟨k, by show Scalar.addi (nwW C j) _ = _; rw [hk, e, w_add]; rfl, h2, by omega⟩
    · exact ⟨k + 1, by show Scalar.addi (nwW C j) _ = _; rw [hk, e, w_add], by omega, by omega⟩

/-- The number of listed experts. -/
def nw (C : S2x33.Idx → BitVec 32) : ℕ := (nwW C 31).toNat

theorem nw_bound (C : S2x33.Idx → BitVec 32) : 2 ≤ nw C ∧ nw C ≤ 33 := by
  obtain ⟨k, hk, h2, h3⟩ := nwW_bound C 31 (by omega)
  unfold nw; rw [hk, w_nat (by omega)]; omega

theorem nw_le (C : S2x33.Idx → BitVec 32) : ∀ j, j ≤ 30 → (nwW C j).toNat ≤ 33 := by
  intro j hj
  obtain ⟨k, hk, h2, h3⟩ := nwW_bound C j (by omega)
  rw [hk, w_nat (by omega)]; omega

theorem nw_word (C : S2x33.Idx → BitVec 32) : nwW C 31 = BitVec.ofNat 32 (nw C) := (w_ofNat _).symm

/-! ### The loop over the listed experts -/

/-- The loop over the listed experts, -/
abbrev L1 (n : BitVec 32) : Scf.Loop 32 := ⟨0#32, Scalar.addi 0#32 (Scalar.muli (Scalar.divsi (Scalar.subi n 0#32) 1#32) 1#32), 1#32⟩
/-- and its remainder, which has no trip. -/
abbrev L4 (n : BitVec 32) : Scf.Loop 32 := ⟨Scalar.addi 0#32 (Scalar.muli (Scalar.divsi (Scalar.subi n 0#32) 1#32) 1#32), Scalar.addi 0#32 (Scalar.subi n 0#32), 1#32⟩

theorem ub1 {k : ℕ} (h : k < 2 ^ 31) : Scalar.addi 0#32 (Scalar.muli (Scalar.divsi (Scalar.subi (BitVec.ofNat 32 k) 0#32) 1#32) 1#32) = BitVec.ofNat 32 k := by
  rw [show (0#32 : BitVec 32) = BitVec.ofNat 32 0 from rfl, show (1#32 : BitVec 32) = BitVec.ofNat 32 1 from rfl, w_sub (Nat.zero_le _), w_div (by omega) (by omega) (by omega),
    w_mul, w_add]
  simp

theorem ub4 (k : ℕ) : Scalar.addi 0#32 (Scalar.subi (BitVec.ofNat 32 k) 0#32) = BitVec.ofNat 32 k := by
  rw [show (0#32 : BitVec 32) = BitVec.ofNat 32 0 from rfl, w_sub (Nat.zero_le _), w_add]
  simp

theorem L1_eq {k : ℕ} (h : k < 2 ^ 31) : L1 (BitVec.ofNat 32 k) = ⟨0#32, BitVec.ofNat 32 k, 1#32⟩ := by
  unfold L1; rw [ub1 h]
theorem L4_eq {k : ℕ} (h : k < 2 ^ 31) : L4 (BitVec.ofNat 32 k) = ⟨BitVec.ofNat 32 k, BitVec.ofNat 32 k, 1#32⟩ := by
  unfold L4; rw [ub1 h, ub4]

theorem L1_trips {k : ℕ} (h : k < 2 ^ 31) : (L1 (BitVec.ofNat 32 k)).trips = k := by rw [L1_eq h]; exact w_trips h
theorem L4_trips {k : ℕ} (h : k < 2 ^ 31) : (L4 (BitVec.ofNat 32 k)).trips = 0 := by rw [L4_eq h]; exact w_trips0 h

/-- Whether the loop asks for the slot nineteen places ahead. -/
abbrev condW (n i : BitVec 32) : BitVec 1 := Scalar.cmpi .ne (Scalar.extui (Scalar.cmpi .slt (Scalar.addi i 19#32) n) : BitVec 32) 0#32

theorem condW_iff {k t : ℕ} (hk : k < 2 ^ 30) (ht : t < 2 ^ 30) : condW (BitVec.ofNat 32 k) (Scf.iv 0#32 1#32 t) = 1#1 ↔ t + 19 < k := by
  unfold condW; rw [w_iv, show (19#32 : BitVec 32) = BitVec.ofNat 32 19 from rfl, w_add, w_slt (by omega) (by omega)]
  exact w_ne

/-- The slot of the place nineteen ahead, -/
abbrev slA (i : BitVec 32) : BitVec 32 := Scalar.remsi (Scalar.addi i 19#32) 20#32
/-- and of the place itself. -/
abbrev slB (i : BitVec 32) : BitVec 32 := Scalar.remsi i 20#32

theorem slA_eq {t : ℕ} (ht : t < 2 ^ 30) : (slA (Scf.iv 0#32 1#32 t)).toNat = (t + 19) % 20 := by
  unfold slA; rw [w_iv, show (19#32 : BitVec 32) = BitVec.ofNat 32 19 from rfl, w_add, show (20#32 : BitVec 32) = BitVec.ofNat 32 20 from rfl,
    w_rem (by omega) (by omega) (by omega), w_nat (by omega)]
theorem slB_eq {t : ℕ} (ht : t < 2 ^ 30) : (slB (Scf.iv 0#32 1#32 t)).toNat = t % 20 := by
  unfold slB; rw [w_iv, show (20#32 : BitVec 32) = BitVec.ofNat 32 20 from rfl,
    w_rem (by omega) (by omega) (by omega), w_nat (by omega)]

/-- A slice of one slot or of one expert holds whole words. -/
theorem words3 {s : Shape} {e : EltTy} (hs : s.rank = 3) (r : Rect s) (h : ∀ a : Fin s.rank, (a : ℕ) = 1 → r.stride a = 1 ∧ r.off a = 0 ∧ r.size a = s.size a) :
    r.WholeWords (EltTy.packing e) :=
  Or.inr ⟨by omega, h _ (by show s.rank - 2 = 1; omega)⟩

/-- The side conditions of the loop over the listed experts, in the number of them. -/
def Chk48 (n : BitVec 32) : Prop :=
  (L1 n).OK ∧
  (∀ t : Fin (L1 n).trips, condW n (Scf.iv 0#32 1#32 t) = 1#1 → ∀ a, (![(Scalar.indexCast (Scalar.addi (Scf.iv 0#32 1#32 t) 19#32)).toNat] : Fin 1 → ℕ) a + S1.size a ≤ S34.size a) ∧
  (∀ t : Fin (L1 n).trips, condW n (Scf.iv 0#32 1#32 t) = 1#1 → ∀ a, (![(slA (Scf.iv 0#32 1#32 t)).toNat] : Fin 1 → ℕ) a + S1.size a ≤ S20.size a) ∧
  (∀ t : Fin (L1 n).trips, condW n (Scf.iv 0#32 1#32 t) = 1#1 → ∀ a, (![(slA (Scf.iv 0#32 1#32 t)).toNat, 0, 0] : Fin 3 → ℕ) a + S1x2560x1024.size a ≤ S20x2560x1024.size a) ∧
  (∀ t : Fin (L1 n).trips, condW n (Scf.iv 0#32 1#32 t) = 1#1 → ∀ (hinb : ∀ a, (![(slA (Scf.iv 0#32 1#32 t)).toNat, 0, 0] : Fin 3 → ℕ) a + S1x2560x1024.size a ≤ S20x2560x1024.size a),
    (Rect.unit (s := S20x2560x1024) ![(slA (Scf.iv 0#32 1#32 t)).toNat, 0, 0] S1x2560x1024.size hinb).WholeWords (EltTy.packing .fp8e4m3)) ∧
  (∀ t : Fin (L1 n).trips, ∀ a, (![(Scalar.indexCast (Scf.iv 0#32 1#32 t)).toNat] : Fin 1 → ℕ) a + S1.size a ≤ S34.size a) ∧
  (∀ t : Fin (L1 n).trips, ∀ a, (![(slB (Scf.iv 0#32 1#32 t)).toNat] : Fin 1 → ℕ) a + S1.size a ≤ S20.size a) ∧
  (∀ t : Fin (L1 n).trips, ∀ a, (![(slB (Scf.iv 0#32 1#32 t)).toNat, 0, 0] : Fin 3 → ℕ) a + S1x2560x1024.size a ≤ S20x2560x1024.size a) ∧
  (∀ t : Fin (L1 n).trips, ∀ (hinb : ∀ a, (![(slB (Scf.iv 0#32 1#32 t)).toNat, 0, 0] : Fin 3 → ℕ) a + S1x2560x1024.size a ≤ S20x2560x1024.size a),
    (Rect.unit (s := S20x2560x1024) ![(slB (Scf.iv 0#32 1#32 t)).toNat, 0, 0] S1x2560x1024.size hinb).WholeWords (EltTy.packing .fp8e4m3)) ∧
  (L4 n).OK ∧
  (∀ t : Fin (L4 n).trips, condW n (Scf.iv (L4 n).lb 1#32 t) = 1#1 → ∀ a, (![(Scalar.indexCast (Scalar.addi (Scf.iv (L4 n).lb 1#32 t) 19#32)).toNat] : Fin 1 → ℕ) a + S1.size a ≤ S34.size a) ∧
  (∀ t : Fin (L4 n).trips, condW n (Scf.iv (L4 n).lb 1#32 t) = 1#1 → ∀ a, (![(slA (Scf.iv (L4 n).lb 1#32 t)).toNat] : Fin 1 → ℕ) a + S1.size a ≤ S20.size a) ∧
  (∀ t : Fin (L4 n).trips, condW n (Scf.iv (L4 n).lb 1#32 t) = 1#1 → ∀ a, (![(slA (Scf.iv (L4 n).lb 1#32 t)).toNat, 0, 0] : Fin 3 → ℕ) a + S1x2560x1024.size a ≤ S20x2560x1024.size a) ∧
  (∀ t : Fin (L4 n).trips, condW n (Scf.iv (L4 n).lb 1#32 t) = 1#1 → ∀ (hinb : ∀ a, (![(slA (Scf.iv (L4 n).lb 1#32 t)).toNat, 0, 0] : Fin 3 → ℕ) a + S1x2560x1024.size a ≤ S20x2560x1024.size a),
    (Rect.unit (s := S20x2560x1024) ![(slA (Scf.iv (L4 n).lb 1#32 t)).toNat, 0, 0] S1x2560x1024.size hinb).WholeWords (EltTy.packing .fp8e4m3)) ∧
  (∀ t : Fin (L4 n).trips, ∀ a, (![(Scalar.indexCast (Scf.iv (L4 n).lb 1#32 t)).toNat] : Fin 1 → ℕ) a + S1.size a ≤ S34.size a) ∧
  (∀ t : Fin (L4 n).trips, ∀ a, (![(slB (Scf.iv (L4 n).lb 1#32 t)).toNat] : Fin 1 → ℕ) a + S1.size a ≤ S20.size a) ∧
  (∀ t : Fin (L4 n).trips, ∀ a, (![(slB (Scf.iv (L4 n).lb 1#32 t)).toNat, 0, 0] : Fin 3 → ℕ) a + S1x2560x1024.size a ≤ S20x2560x1024.size a) ∧
  (∀ t : Fin (L4 n).trips, ∀ (hinb : ∀ a, (![(slB (Scf.iv (L4 n).lb 1#32 t)).toNat, 0, 0] : Fin 3 → ℕ) a + S1x2560x1024.size a ≤ S20x2560x1024.size a),
    (Rect.unit (s := S20x2560x1024) ![(slB (Scf.iv (L4 n).lb 1#32 t)).toNat, 0, 0] S1x2560x1024.size hinb).WholeWords (EltTy.packing .fp8e4m3))

theorem b1 {N x : ℕ} (h : x < N) : ∀ a, (![x] : Fin 1 → ℕ) a + S1.size a ≤ (⟨1, ![N]⟩ : Shape).size a := by
  intro a; have : a = 0 := by omega
  subst this; exact h

theorem b3 {N x : ℕ} (h : x < N) : ∀ a, (![x, 0, 0] : Fin 3 → ℕ) a + S1x2560x1024.size a ≤ (⟨3, ![N, 2560, 1024]⟩ : Shape).size a := by
  intro a; fin_cases a
  · exact h
  · exact Nat.le_of_eq (Nat.zero_add _)
  · exact Nat.le_of_eq (Nat.zero_add _)

theorem words_slot {N x : ℕ} {e : EltTy} (hinb : ∀ a, (![x, 0, 0] : Fin 3 → ℕ) a + S1x2560x1024.size a ≤ (⟨3, ![N, 2560, 1024]⟩ : Shape).size a) :
    (Rect.unit (s := ⟨3, ![N, 2560, 1024]⟩) ![x, 0, 0] S1x2560x1024.size hinb).WholeWords (EltTy.packing e) :=
  Or.inr ⟨by show 2 ≤ 3; omega, rfl, rfl, rfl⟩

/-- They hold of the number of experts listed. -/
theorem chk48_of {k : ℕ} (h : k ≤ 33) : Chk48 (BitVec.ofNat 32 k) := by
  have t1 := L1_trips (k := k) (by omega)
  have t4 := L4_trips (k := k) (by omega)
  have hA : ∀ t : Fin (L1 (BitVec.ofNat 32 k)).trips, (slA (Scf.iv 0#32 1#32 t)).toNat < 20 := fun t => by
    have := t.isLt; rw [slA_eq (by omega)]; omega
  have hB : ∀ t : Fin (L1 (BitVec.ofNat 32 k)).trips, (slB (Scf.iv 0#32 1#32 t)).toNat < 20 := fun t => by
    have := t.isLt; rw [slB_eq (by omega)]; omega
  have h4 : ∀ (P : Fin (L4 (BitVec.ofNat 32 k)).trips → Prop) (t : Fin (L4 (BitVec.ofNat 32 k)).trips), P t := fun P t => by
    have := t.isLt; omega
  refine ⟨?_, ?_, ?_, ?_, ?_, ?_, ?_, ?_, ?_, ?_, ?_, ?_, ?_, ?_, ?_, ?_, ?_, ?_⟩
  · rw [L1_eq (by omega)]; exact w_ok (by omega)
  · intro t hc
    have := t.isLt
    rw [condW_iff (by omega) (by omega)] at hc
    refine b1 ?_
    show (Scalar.addi (Scf.iv 0#32 1#32 t) 19#32).toNat < 34
    rw [w_iv, show (19#32 : BitVec 32) = BitVec.ofNat 32 19 from rfl, w_add, w_nat (by omega)]; omega
  · exact fun t hc => b1 (hA t)
  · exact fun t hc => b3 (hA t)
  · exact fun t hc hinb => words_slot hinb
  · intro t
    have := t.isLt
    refine b1 ?_
    show (Scf.iv 0#32 1#32 t).toNat < 34
    rw [w_iv, w_nat (by omega)]; omega
  · exact fun t => b1 (hB t)
  · exact fun t => b3 (hB t)
  · exact fun t hinb => words_slot hinb
  · rw [L4_eq (by omega)]; exact w_ok0 (by omega)
  all_goals exact h4 _

end Cert.KernelIdeal.Hand

end
-- ==== Proof.KernelIdeal.Prefetch.lean ====
/-
  The steps on the finished scalar tables, and asking for the first weight slots.
-/
module

public import proofs.«01_k».proof.Proof.KernelIdeal.Nums

@[expose] public section

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The expert at place `i` of a list. -/
def ordF (G : S34.Idx → BitVec 32) (i : ℕ) : ℕ := (G (ixO (Fin.ofNat 34 i))).toNat

/-- After the experts below `m` were looked at, the listed places hold experts below `m`. -/
theorem orF_lt (C : S2x33.Idx → BitVec 32) (g : S34.Idx → BitVec 32) (m : ℕ) (hm : m ≤ 31) (i : Fin 34) (hi : (i : ℕ) < (nwW C m).toNat) :
    ∃ e, e < m + 2 ∧ orF C g (m + 2) (ixO i) = BitVec.ofNat 32 e := by
  induction m with
  | zero =>
    have hi : (i : ℕ) < 2 := hi
    by_cases h1 : (i : ℕ) = 1
    · exact ⟨1, by omega, if_pos h1⟩
    · exact ⟨0, by omega, (if_neg h1).trans (if_pos (show (i : ℕ) = 0 by omega))⟩
  | succ m ih =>
    by_cases h : (i : ℕ) = (nwW C m).toNat
    · exact ⟨m + 2, by omega, if_pos (show (i : ℕ) = (if m + 2 < 2 then m + 2 else (nwW C (m + 2 - 2)).toNat) by rw [if_neg (by omega)]; exact h)⟩
    · obtain ⟨k, hk, h2, h3⟩ := nwW_bound C m (by omega)
      have hlt : (i : ℕ) < (nwW C m).toNat := by
        have hb : ∀ b : BitVec 1, (Scalar.extui b : BitVec 32) = BitVec.ofNat 32 0 ∨ (Scalar.extui b : BitVec 32) = BitVec.ofNat 32 1 := by decide
        have hi : (i : ℕ) < (Scalar.addi (nwW C m) (Scalar.extui (Scalar.cmpi .sgt (totW C (m + 2)) 0#32))).toNat := hi
        rw [hk, w_nat (by omega)] at h ⊢
        rcases hb (Scalar.cmpi .sgt (totW C (m + 2)) 0#32) with e | e
        · rw [hk, e, w_add, w_nat (by omega)] at hi; omega
        · rw [hk, e, w_add, w_nat (by omega)] at hi; omega
      obtain ⟨e, he, h'⟩ := ih (by omega) hlt
      exact ⟨e, by omega, (if_neg (show ¬ (i : ℕ) = (if m + 2 < 2 then m + 2 else (nwW C (m + 2 - 2)).toNat) by rw [if_neg (by omega)]; exact h)).trans h'⟩

/-- The listed experts are experts. -/
theorem ord_lt (C : S2x33.Idx → BitVec 32) (g : S34.Idx → BitVec 32) {i : ℕ} (hi : i < nw C) : ordF (orF C g 33) i < 33 := by
  have := nw_bound C
  obtain ⟨e, he, h⟩ := orF_lt C g 31 (le_refl _) (Fin.ofNat 34 i) (by
    show i % 34 < _; rw [Nat.mod_eq_of_lt (by omega)]; exact hi)
  unfold ordF
  have h : orF C g 33 (ixO (Fin.ofNat 34 i)) = BitVec.ofNat 32 e := h
  rw [h, w_nat (by omega)]; exact he

section Steps

variable (c : Dev nD) {C f : S2x33.Idx → BitVec 32} {g : S34.Idx → BitVec 32} {W : S33x2560x1024.Idx → Elt F .fp8e4m3}

/-- Reading a place of the list of experts. -/
theorem step_ord {R : sProp 𝕄} {n k : ℕ} {off : Fin 1 → ℕ} {inb} {K : Elt F .i32 → sProp 𝕄} (i : ℕ) (hoff : off 0 = i)
    (hk : Pro c C f g R n k ⊢ K (orF C g k (ixO (Fin.ofNat 34 i)))) :
    Pro c C f g R n k ⊢ WP c (smemLoad (s := S34) (e := .i32) (Memref.whole cc0_scratch2) (Rect.unit (s := S34) off S1.size inb) numel1_S1 rfl) K := by
  have e1 : ((Memref.whole cc0_scratch2).access (Rect.unit (s := S34) off S1.size inb)).read (Elt F) (orF C g k) (Shape.Idx.first (numel1_S1.symm ▸ Nat.one_pos)) = orF C g k (ixO (Fin.ofNat 34 i)) := by
    have h0 := inb 0
    simp [S34, S1] at h0
    refine read_unit (Val := Elt F) cc0_scratch2 off S1.size inb _ _ (ixO (Fin.ofNat 34 i)) ?_
    intro a; fin_cases a
    show i % 34 = off 0 + 0
    rw [hoff] at h0 ⊢
    rw [Nat.mod_eq_of_lt (by omega)]; rfl
  rw [← e1] at hk
  unfold Pro at hk ⊢
  iintro ⟨H0, H1, H2, HR⟩
  unfold smemLoad
  iapply (wp_smemLoadElt Variants.none (c : Thread nD τ) none Set.univ (m := Memref.whole cc0_scratch2) (r := Rect.unit (s := S34) off S1.size inb)
    (S := Finset.univ) (Finset.subset_univ _)) $$ H2
  iintro H2
  iapply (step_pure c (K := K) .rfl)
  iapply hk
  isplitl [H0]; · iexact H0
  isplitl [H1]; · iexact H1
  isplitl [H2] <;> iassumption

/-- Reading a start. -/
theorem step_st {R : sProp 𝕄} {n k : ℕ} {off : Fin 2 → ℕ} {inb} {K : Elt F .i32 → sProp 𝕄} (s e : ℕ) (hoff : off = ![s, e])
    (hk : Pro c C f g R n k ⊢ K (stF C f n (ixC (Fin.ofNat 2 s) (Fin.ofNat 33 e)))) :
    Pro c C f g R n k ⊢ WP c (smemLoad (s := S2x33) (e := .i32) (Memref.whole cc0_scratch1) (Rect.unit (s := S2x33) off S1x1.size inb) numel1_S1x1 rfl) K := by
  have e1 : ((Memref.whole cc0_scratch1).access (Rect.unit (s := S2x33) off S1x1.size inb)).read (Elt F) (stF C f n) (Shape.Idx.first (numel1_S1x1.symm ▸ Nat.one_pos)) = stF C f n (ixC (Fin.ofNat 2 s) (Fin.ofNat 33 e)) := by
    subst hoff
    have h0 := inb 0; have h1' := inb 1
    simp [S2x33, S1x1] at h0 h1'
    refine read_unit (Val := Elt F) cc0_scratch1 ![s, e] S1x1.size inb _ _ _ ?_
    intro a; fin_cases a
    · show s % 2 = s + 0; rw [Nat.mod_eq_of_lt (by omega)]; rfl
    · show e % 33 = e + 0; rw [Nat.mod_eq_of_lt (by omega)]; rfl
  rw [← e1] at hk
  unfold Pro at hk ⊢
  iintro ⟨H0, H1, H2, HR⟩
  unfold smemLoad
  iapply (wp_smemLoadElt Variants.none (c : Thread nD τ) none Set.univ (m := Memref.whole cc0_scratch1) (r := Rect.unit (s := S2x33) off S1x1.size inb)
    (S := Finset.univ) (Finset.subset_univ _)) $$ H1
  iintro H1
  iapply (step_pure c (K := K) .rfl)
  iapply hk
  isplitl [H0]; · iexact H0
  isplitl [H1]; · iexact H1
  isplitl [H2] <;> iassumption

/-- Reading a count at a computed place. -/
theorem step_ct {R : sProp 𝕄} {n k : ℕ} {off : Fin 2 → ℕ} {inb} {K : Elt F .i32 → sProp 𝕄} (s e : ℕ) (hoff : off = ![s, e])
    (hk : Pro c C f g R n k ⊢ K (wd C s e)) :
    Pro c C f g R n k ⊢ WP c (smemLoad (s := S2x33) (e := .i32) (Memref.whole cc0_scratch0) (Rect.unit (s := S2x33) off S1x1.size inb) numel1_S1x1 rfl) K := by
  subst hoff; exact step_count c hk

/-- A state's frame may be changed. -/
theorem Pro_mono {R R' : sProp 𝕄} {n k : ℕ} (h : R ⊢ R') : Pro c C f g R n k ⊢ Pro c C f g R' n k := by
  unfold Pro
  iintro ⟨H0, H1, H2, HR⟩
  isplitl [H0]; · iexact H0
  isplitl [H1]; · iexact H1
  isplitl [H2]; · iexact H2
  iapply h; iexact HR

/-- A part of the frame may be taken in front. -/
theorem Pro_swap {A R : sProp 𝕄} {n k : ℕ} : Pro c C f g iprop(A ∗ R) n k ⊢ iprop(A ∗ Pro c C f g R n k) := by
  unfold Pro
  iintro ⟨H0, H1, H2, HA, HR⟩
  isplitl [HA]; · iexact HA
  isplitl [H0]; · iexact H0
  isplitl [H1]; · iexact H1
  isplitl [H2] <;> iassumption

/-- And put back. -/
theorem Pro_back {A R : sProp 𝕄} {n k : ℕ} : iprop(A ∗ Pro c C f g R n k) ⊢ Pro c C f g iprop(A ∗ R) n k := by
  unfold Pro
  iintro ⟨HA, H0, H1, H2, HR⟩
  isplitl [H0]; · iexact H0
  isplitl [H1]; · iexact H1
  isplitl [H2]; · iexact H2
  isplitl [HA] <;> iassumption

/-- Asking for the next slot of the ring. -/
theorem step_ask {R : sProp 𝕄} {n k : ℕ} {offd : Fin 3 → ℕ} {inbd} {offs : Fin 3 → ℕ} {inbs}
    {offm : Fin 1 → ℕ} {inbm} {h1 h2 h3} {K : PUnit → sProp 𝕄} (ord : ℕ → ℕ) (lo hi : ℕ) (h : lo ≤ hi) (h' : hi < lo + 20) (he : ord hi < 33)
    (hd : offd = ![hi % 20, 0, 0]) (hs : offs = ![ord hi, 0, 0]) (hm : offm = ![hi % 20])
    (hk : Pro c C f g iprop(ring c W ord lo (hi + 1) ∗ R) n k ⊢ K ⟨⟩) :
    Pro c C f g iprop(ring c W ord lo hi ∗ R) n k ⊢
      WP c (Prog.lift (.enqueueDma (wSrc offs inbs) (.here (wDst offd inbd)) (.dma (wSem offm inbm)) h1 h2 h3)) K := by
  refine step_issue c W (P' := iprop((slotFly c W (slotOf hi) (ord hi) -∗ ring c W ord lo (hi + 1)) ∗ Pro c C f g R n k)) (slotOf hi) (ord hi) he hd hs hm ?_ ?_
  · refine (Pro_swap c).trans ?_
    iintro ⟨H, HP⟩
    ihave H := (ring_issue c W ord lo hi h h') $$ H
    icases H with ⟨Ha, Hb⟩
    isplitl [Ha]; · iexact Ha
    isplitl [Hb]; · iexact Hb
    iexact HP
  · refine BIBase.Entails.trans ?_ ((Pro_back c).trans hk)
    iintro ⟨H, Hb, HP⟩
    isplitr [HP]
    · iapply Hb; iexact H
    · iexact HP

/-- Asking for a slot when there is an expert for it. -/
theorem step_pre {R : sProp 𝕄} {n k : ℕ} {N : ℕ} (ord : ℕ → ℕ) {α : Type} {cnd : BitVec 1} {p : cnd = 1#1 → Prog (TpuEff nD τ sig (Elt F) Λ₀ .tc) α}
    {K : α → sProp 𝕄} (i : ℕ) {Q : Prog (TpuEff nD τ sig (Elt F) Λ₀ .tc) α}
    (hN : N = nw C) (hc : Scalar.cmpi .ne (Scalar.extui (Scalar.cmpi .sgt (nwW C 31) (BitVec.ofNat 32 i)) : BitVec 32) 0#32 = cnd) (hi : i < 100)
    (ht : ∀ h, i < N → (Pro c C f g iprop(ring c W ord 0 (i + 1) ∗ R) n k ⊢ WP c Q K) →
      Pro c C f g iprop(ring c W ord 0 i ∗ R) n k ⊢ WP c (p h) K)
    (hk : Pro c C f g iprop(ring c W ord 0 (min (i + 1) N) ∗ R) n k ⊢ WP c Q K) :
    Pro c C f g iprop(ring c W ord 0 (min i N) ∗ R) n k ⊢ WP c (if h : cnd = 1#1 then p h else Q) K := by
  have hb := nw_bound C
  have key : cnd = 1#1 ↔ i < N := by
    rw [← hc, nw_word, w_sgt (by omega) (by omega), w_ne, hN]
  by_cases h : cnd = 1#1
  · rw [dif_pos h]
    have hlt := key.1 h
    rw [Nat.min_eq_left (by omega)] at hk
    rw [Nat.min_eq_left (by omega)]
    exact ht h hlt hk
  · rw [dif_neg h]
    have hlt : ¬ i < N := fun hl => h (key.2 hl)
    rw [Nat.min_eq_right (by omega)] at hk
    rw [Nat.min_eq_right (by omega)]
    exact hk

end Steps

end Cert.KernelIdeal.Hand

end
-- ==== Proof.KernelIdeal.Run1.lean ====
/-
  The first phase run: the scalar tables are filled expert by expert, up to the last two experts.
-/
module

public import proofs.«01_k».proof.Proof.KernelIdeal.Prefetch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The side condition of the loop over the listed experts, at its place. -/
theorem chk48P {C : S2x33.Idx → BitVec 32} {A : Prop} (e : Chk48 (nwW C 31) = A) : A := by
  rw [← e, nw_word]; exact chk48_of (nw_bound C).2

/-- That side condition, assumed. -/
theorem step_chk48 (c : Dev nD) {C f : S2x33.Idx → BitVec 32} {g : S34.Idx → BitVec 32} {n k : ℕ} {R : sProp 𝕄} {A : Prop} {d : Decidable A} {K : PLift A → sProp 𝕄}
    (e : Chk48 (nwW C 31) = A) (hk : Pro c C f g R n k ⊢ K ⟨chk48P e⟩) :
    Pro c C f g R n k ⊢ WP c (Prog.lift (TpuEff.assume A d)) K :=
  step_assume c (chk48P e) hk

set_option maxHeartbeats 8000000 in
/-- What of the kernel is left to run once the tables hold all but the last two experts, and that running the kernel comes down to it. -/
def run1 (c : Dev nD) (C : S2x33.Idx → BitVec 32) :
    { p : Prog (TpuEff nD τ sig (Elt F) Λ₀ .tc) PUnit // ∀ (f : S2x33.Idx → BitVec 32) (g : S34.Idx → BitVec 32) (R P0 : sProp 𝕄) (K : PUnit → sProp 𝕄),
      (∀ K', (Pro c C f g R 1 2 ⊢ K' (stW C 0 1)) → P0 ⊢ WP c (k0_part15 (F := F) (Memref.whole main_arg4) (Memref.isWhole_whole _) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15) K') →
      (Pro c C f g R 62 31 ⊢ WP c p K) → P0 ⊢ WP c (cc0_grouped_matmul (Memref.whole main_arg4) (Memref.isWhole_whole _) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15) K } := by
  refine ⟨?p, fun f g R P0 K h15 hk => ?_⟩
  rotate_left

  unfold cc0_grouped_matmul
  with_reducible refine step_bind (F := F) c ?_
  refine h15 _ ?_
  repeat (
    with_reducible refine step_bind (F := F) c ?_
    refine step_cut (F := F) (Q := ?_) (v := ?_) c ?_ ?_
    pick_goal 3
    intro K' hk'
    first | unfold k0_part16 | unfold k0_part17 | unfold k0_part18 | unfold k0_part19 | unfold k0_part20 | unfold k0_part21 | unfold k0_part22 | unfold k0_part23 | unfold k0_part24 | unfold k0_part25 | unfold k0_part26 | unfold k0_part27 | unfold k0_part28 | unfold k0_part29
    repeat first
      | with_reducible refine step_bind (F := F) c ?_
      | with_reducible refine step_count (F := F) c ?_
      | ((with_reducible refine step_dead_start (F := F) c ?_); intro _)
      | ((with_reducible refine step_dead_order (F := F) c ?_); intro _)
      | ((with_reducible refine step_start (F := F) c ?_ ?_ ?_ ?_); rfl; rfl; rfl)
      | ((with_reducible refine step_order (F := F) c ?_ ?_ ?_); rfl; rfl)
      | with_reducible refine step_pure (F := F) c ?_
      | ((with_reducible refine step_chk (F := F) c ?_ (nw_le C) (by decide) ?_); rfl)
    exact hk')

  exact hk

end Cert.KernelIdeal.Hand

end
-- ==== Proof.KernelIdeal.Run2.lean ====
/-
  The first phase run to its end: the last two experts are listed and the first nineteen weight slots are asked for.
-/
module

public import proofs.«01_k».proof.Proof.KernelIdeal.Run1

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- Programs in sequence, joined again. -/
theorem step_join (c : Dev nD) {P : sProp 𝕄} {α β : Type} {p : Prog (TpuEff nD τ sig (Elt F) Λ₀ .tc) α} {q : α → Prog (TpuEff nD τ sig (Elt F) Λ₀ .tc) β}
    {K : β → sProp 𝕄} (h : P ⊢ WP c (p >>= q) K) : P ⊢ WP c p (fun a => WP c (q a) K) := by
  unfold WP at h; rw [wp_bind] at h; exact h

set_option maxHeartbeats 16000000 in
/-- What is left to run with the last two experts listed and the third slot asked for, and that the run comes down to it. -/
def run2 (c : Dev nD) (C : S2x33.Idx → BitVec 32) (W : S33x2560x1024.Idx → Elt F .fp8e4m3) :
    { p : Prog (TpuEff nD τ sig (Elt F) Λ₀ .tc) PUnit // ∀ (f : S2x33.Idx → BitVec 32) (g : S34.Idx → BitVec 32) (R : sProp 𝕄) (K : PUnit → sProp 𝕄),
      (Pro c C f g iprop(ring c W (ordF (orF C g 33)) 0 (min 3 (nw C)) ∗ R) 66 33 ⊢ WP c p K) →
      Pro c C f g iprop(ring c W (ordF (orF C g 33)) 0 (min 2 (nw C)) ∗ R) 62 31 ⊢ WP c (run1 c C).1 K } := by
  refine ⟨?p, fun f g R K hk => ?_⟩
  rotate_left
  unfold run1
  dsimp only
  with_reducible refine step_bind (F := F) c ?_
  refine step_cut (F := F) (Q := ?_) (v := ?_) c ?_ ?_
  pick_goal 3
  · intro K' hk'
    unfold k0_part30
    repeat first
      | with_reducible refine step_bind (F := F) c ?_
      | with_reducible refine step_count (F := F) c ?_
      | ((with_reducible refine step_dead_start (F := F) c ?_); intro _)
      | ((with_reducible refine step_dead_order (F := F) c ?_); intro _)
      | ((with_reducible refine step_start (F := F) c ?_ ?_ ?_ ?_); rfl; rfl; rfl)
      | ((with_reducible refine step_order (F := F) c ?_ ?_ ?_); rfl; rfl)
      | ((with_reducible refine step_chk (F := F) c ?_ (nw_le C) (by decide) ?_); rfl)
      | ((with_reducible refine step_chk48 (F := F) c ?_ ?_); rfl)

    refine step_pre (F := F) (N := nw C) c (ordF (orF C g 33)) 2 rfl ?_ (by decide) ?_ ?_
    · rfl
    · intro h hlt hk''
      with_reducible refine step_bind (F := F) c ?_
      refine step_ord (F := F) c 2 rfl ?_
      with_reducible refine step_bind (F := F) c ?_
      refine step_assume (F := F) c ⟨fun _ => b3 (ord_lt C g hlt), fun _ hinb => words_slot hinb⟩ ?_
      with_reducible refine step_bind (F := F) c ?_
      refine step_ask (F := F) c (ordF (orF C g 33)) 0 2 (by decide) (by decide) (ord_lt C g hlt) rfl rfl rfl ?_
      exact hk''
    refine step_pure (F:=F) c ?_
    exact hk'
  with_reducible exact hk

end Cert.KernelIdeal.Hand

end
-- ==== Proof.KernelIdeal.Run3.lean ====
/-
  The asking for the third to the thirteenth slot's weights.
-/
module

public import proofs.«01_k».proof.Proof.KernelIdeal.Run2

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 16000000 in
/-- What is left to run with the slots up to the thirteenth asked for, and that the run comes down to it. -/
def run3 (c : Dev nD) (C : S2x33.Idx → BitVec 32) (W : S33x2560x1024.Idx → Elt F .fp8e4m3) :
    { p : Prog (TpuEff nD τ sig (Elt F) Λ₀ .tc) PUnit // ∀ (f : S2x33.Idx → BitVec 32) (g : S34.Idx → BitVec 32) (R : sProp 𝕄) (K : PUnit → sProp 𝕄),
      (Pro c C f g iprop(ring c W (ordF (orF C g 33)) 0 (min 13 (nw C)) ∗ R) 66 33 ⊢ WP c p K) →
      Pro c C f g iprop(ring c W (ordF (orF C g 33)) 0 (min 3 (nw C)) ∗ R) 66 33 ⊢ WP c (run2 c C W).1 K } := by
  refine ⟨?p, fun f g R K hk => ?_⟩
  rotate_left
  unfold run2
  dsimp only
  with_reducible refine step_bind (F := F) c ?_
  refine step_cut (F := F) (Q := ?_) (v := ?_) c ?_ ?_
  pick_goal 3
  · intro K' hk'
    unfold k0_part31
    iterate 10
      refine step_pre (F := F) (N := nw C) c (ordF (orF C g 33)) _ rfl ?_ (by decide) ?_ ?_
      · rfl
      · intro h hlt hk''
        with_reducible refine step_bind (F := F) c ?_
        refine step_ord (F := F) c _ rfl ?_
        with_reducible refine step_bind (F := F) c ?_
        refine step_assume (F := F) c ⟨fun _ => b3 (ord_lt C g hlt), fun _ hinb => words_slot hinb⟩ ?_
        with_reducible refine step_bind (F := F) c ?_
        refine step_ask (F := F) c (ordF (orF C g 33)) 0 _ (by decide) (by decide) (ord_lt C g hlt) rfl rfl rfl ?_
        exact hk''
    refine step_pure (F := F) c ?_
    exact hk'
  with_reducible exact hk

end Cert.KernelIdeal.Hand

end
-- ==== Proof.KernelIdeal.Run4.lean ====
/-
  The asking for the fourteenth to the nineteenth slot's weights.
-/
module

public import proofs.«01_k».proof.Proof.KernelIdeal.Run3

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

set_option maxHeartbeats 16000000 in
/-- What is left to run with the first nineteen slots asked for, and that the run comes down to it. -/
def run4 (c : Dev nD) (C : S2x33.Idx → BitVec 32) (W : S33x2560x1024.Idx → Elt F .fp8e4m3) :
    { p : Prog (TpuEff nD τ sig (Elt F) Λ₀ .tc) PUnit // ∀ (f : S2x33.Idx → BitVec 32) (g : S34.Idx → BitVec 32) (R : sProp 𝕄) (K : PUnit → sProp 𝕄),
      (Pro c C f g iprop(ring c W (ordF (orF C g 33)) 0 (min 19 (nw C)) ∗ R) 66 33 ⊢ WP c p K) →
      Pro c C f g iprop(ring c W (ordF (orF C g 33)) 0 (min 13 (nw C)) ∗ R) 66 33 ⊢ WP c (run3 c C W).1 K } := by
  refine ⟨?p, fun f g R K hk => ?_⟩
  rotate_left
  unfold run3
  dsimp only
  with_reducible refine step_bind (F := F) c ?_
  · unfold k0_part32
    iterate 6
      refine step_pre (F := F) (N := nw C) c (ordF (orF C g 33)) _ rfl ?_ (by decide) ?_ ?_
      · rfl
      · intro h hlt hk''
        with_reducible refine step_bind (F := F) c ?_
        refine step_ord (F := F) c _ rfl ?_
        with_reducible refine step_bind (F := F) c ?_
        refine step_assume (F := F) c ⟨fun _ => b3 (ord_lt C g hlt), fun _ hinb => words_slot hinb⟩ ?_
        with_reducible refine step_bind (F := F) c ?_
        refine step_ask (F := F) c (ordF (orF C g 33)) 0 _ (by decide) (by decide) (ord_lt C g hlt) rfl rfl rfl ?_
        exact hk''
    refine step_join (F := F) c ?_
    with_reducible exact hk

end Cert.KernelIdeal.Hand

end
-- ==== Proof.KernelIdeal.Steps.lean ====
/-
  General steps of a program of the body: loads, stores, copies of whole buffers, loops.
-/
module

public import proofs.«01_k».proof.Proof.KernelIdeal.Prefetch

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- Separation is commutative, as an equality. -/
instance sep_comm' {M : Type} [RA M] : _root_.Std.Commutative (α := sProp M) BIBase.sep :=
  ⟨fun P Q => _root_.Std.Commutative.comm (op := fun P Q : sProp M => BI.sep P Q) P Q⟩

/-- Separation is associative, as an equality. -/
instance sep_assoc' {M : Type} [RA M] : _root_.Std.Associative (α := sProp M) BIBase.sep :=
  ⟨fun P Q R => _root_.Std.Associative.assoc (op := fun P Q : sProp M => BI.sep P Q) P Q R⟩

/-- A memref's buffer held whole, with its contents. -/
abbrev has (c : Dev nD) {sp : Space} {s : Shape} {e : EltTy} (m : Memref sig .tc sp s e) (f : Buf (Elt F) (m.view.loc (c : Thread nD τ))) : sProp 𝕄 :=
  (m.view.loc (c : Thread nD τ) ↦{fullShare} f)

/-- The waits recorded so far, whatever they are. -/
abbrev anyOwes (c : Dev nD) : sProp 𝕄 := iprop(∃ Wt : Waits sig Unit, owes (c : Thread nD τ) 0 Wt)

section Steps

variable (c : Dev nD)

/-- Loading from a buffer held whole. -/
theorem step_get {P P' : sProp 𝕄} {cs : CoreSpace} {s : Shape} {e : EltTy} (m : Memref sig .tc cs s e) {f : Buf (Elt F) (m.view.loc (c : Thread nD τ))} {r : Rect s} {h}
    {K : (r.shape.Idx → Elt F e) → sProp 𝕄} {v}
    (hv : (m.access r).read (Elt F) f = v)
    (hP : P ⊢ iprop(has c m f ∗ P')) (hk : iprop(has c m f ∗ P') ⊢ K v) :
    P ⊢ WP c (Prog.lift (.load m r.toLoadRect h)) K := by
  refine hP.trans ?_
  subst hv
  iintro ⟨H0, HR⟩
  iapply (wp_load_rect (k := Prog.ret) Variants.none (c : Thread nD τ) none Set.univ (m := m) (r := r)
    (S := Finset.univ) (Finset.subset_univ _)) $$ H0
  iintro H0
  iapply (step_pure c (K := K) .rfl)
  iapply hk
  isplitl [H0] <;> iassumption

/-- Storing into a buffer held whole. -/
theorem step_set {P P' : sProp 𝕄} {cs : CoreSpace} {s : Shape} {e : EltTy} (m : Memref sig .tc cs s e) {f : Buf (Elt F) (m.view.loc (c : Thread nD τ))} {r : Rect s} {hx hm}
    {w : r.shape.Idx → Elt F e} {K : PUnit → sProp 𝕄} {g : Buf (Elt F) (m.view.loc (c : Thread nD τ))}
    (hv : (m.access r).write (Elt F) f w Finset.univ = g)
    (hP : P ⊢ iprop(has c m f ∗ P')) (hk : iprop(has c m g ∗ P') ⊢ K ⟨⟩) :
    P ⊢ WP c (Prog.lift (.store m r w Finset.univ hx hm)) K := by
  refine hP.trans ?_
  subst hv
  iintro ⟨H0, HR⟩
  iapply (wp_store (k := Prog.ret) Variants.none (c : Thread nD τ) none Set.univ (m := m) (r := r)
    (S := Finset.univ) (Finset.subset_univ _)) $$ H0
  iintro H0
  iapply (step_pure c (K := K) .rfl)
  iapply hk
  isplitl [H0] <;> iassumption

/-- Issuing the copy of a whole buffer into a whole buffer: what the copy delivers may be restated. -/
theorem step_send {P P' D : sProp 𝕄} {sp sp' : Space} {s : Shape} {e : EltTy} {src : Memref sig .tc sp s e} {dst : Memref sig .tc sp' s e} {sm : DmaSem sig}
    {h1 h2 h3} {K : PUnit → sProp 𝕄} {N : ℕ} {fs : Buf (Elt F) (src.view.loc (c : Thread nD τ))} {fd : Buf (Elt F) (dst.view.loc (c : Thread nD τ))}
    (hN : dst.view.dmaCredit = N) (h0 : 0 < N) (hS : src.view.set = Finset.univ)
    (hD : iprop((dst.view.loc (c : Thread nD τ) ↦{fullShare} (dst.view.write (Elt F) fd (src.view.read (Elt F) fs) Finset.univ)) ∗ (src.view.loc (c : Thread nD τ) ↦{fullShare} fs)) ⊢ D)
    (hP : P ⊢ iprop(((src.view.loc (c : Thread nD τ) ↦{fullShare} fs) ∗ (dst.view.loc (c : Thread nD τ) ↦{fullShare} fd) ∗ semVal ((c : Thread nD τ), .dma sm) 0) ∗ P'))
    (hk : iprop(Flight ECt (c : Thread nD τ) (.dma sm) () N D ∗ P') ⊢ K ⟨⟩) :
    P ⊢ WP c (Prog.lift (.enqueueDma src (.here dst) (.dma sm) h1 h2 h3)) K := by
  refine hP.trans ?_
  iintro ⟨⟨Hs, Hd, Hv⟩, HP⟩
  iapply (wp_dmaLocal (k := Prog.ret) ECt Variants.none (c : Thread nD τ) none () N (src := src) (dst := dst) (sm := .dma sm) (Sd := Finset.univ) hN
    h0 (Finset.subset_univ _)) $$ [Hs Hd Hv]
  · rw [hS]
    isplitl [Hs]; · iexact Hs
    isplitl [Hd]; · iexact Hd
    iexact Hv
  iintro Hf
  iapply (step_pure c (K := K) .rfl)
  iapply hk
  isplitr [HP]
  · iapply (Flight_mono ECt (c : Thread nD τ) ?_) $$ Hf
    rw [hS]
    exact hD
  · iexact HP

/-- Waiting for a copy under way. -/
theorem step_await {P P' D : sProp 𝕄} {s s' : Shape} {e e' : EltTy} {sp sp' : Space} {src : Memref sig .tc sp' s' e'} {dst : Memref sig .tc sp s e} {sem : DmaSem sig} {h1 h2} {K : PUnit → sProp 𝕄} {N : ℕ}
    (hN : dst.view.dmaCredit = N)
    (hP : P ⊢ iprop((Flight ECt (c : Thread nD τ) (.dma sem) () N D ∗ anyOwes c) ∗ P'))
    (hk : iprop(D ∗ semVal ((c : Thread nD τ), .dma sem) 0 ∗ anyOwes c ∗ P') ⊢ K ⟨⟩) :
    P ⊢ WP c (Prog.lift (.waitDma2 sem src dst h1 h2)) K := by
  refine hP.trans ?_
  iintro ⟨⟨Hf, ⟨%Wt, HO⟩⟩, HP⟩
  iapply (wp_waitLocal (k := Prog.ret) ECt Variants.none (c : Thread nD τ) none () (srcw := src) (dstw := dst) (hsrc := h1) (hdst := h2) (sem := sem) (N := N) hN) $$ [Hf HO]
  · isplitl [Hf]; · iexact Hf
    iexact HO
  iintro ⟨HD, Hv, HO⟩
  iapply (step_pure c (K := K) .rfl)
  iapply hk
  isplitl [HD]; · iexact HD
  isplitl [Hv]; · iexact Hv
  isplitl [HO]; · iexists _; iexact HO
  iexact HP

/-- A loop of no trips. -/
theorem step_for0 {P : sProp 𝕄} {l : Scf.Loop 32} {ok} {body : Fin l.trips → PUnit → Prog (TpuEff nD τ sig (Elt F) Λ₀ .tc) PUnit} {K : PUnit → sProp 𝕄}
    (h0 : l.trips = 0) (hk : P ⊢ K ⟨⟩) : P ⊢ WP c (Scf.Loop.for l ok ⟨⟩ body) K := by
  refine BIBase.Entails.trans ?_ (Scf.wp_for frame _ Set.univ l.lb l.ub l.st ok ⟨⟩ body (fun _ _ => P) (fun k _ => absurd k.isLt (by
    have h0 : Scf.trips l.lb l.ub l.st = 0 := h0
    omega)))
  iintro HP
  isplitl [HP]; · iexact HP
  iintro %_ HP
  iapply hk; iexact HP

/-- A loop, by an invariant of the trips done. -/
theorem step_for {P : sProp 𝕄} {l : Scf.Loop 32} {ok} {body : Fin l.trips → PUnit → Prog (TpuEff nD τ sig (Elt F) Λ₀ .tc) PUnit} {K : PUnit → sProp 𝕄}
    (I : ℕ → sProp 𝕄) {n : ℕ} (hn : l.trips = n) (hP : P ⊢ I 0) (hb : ∀ t : Fin l.trips, I t ⊢ WP c (body t ⟨⟩) (fun _ => I (t + 1))) (hk : I n ⊢ K ⟨⟩) :
    P ⊢ WP c (Scf.Loop.for l ok ⟨⟩ body) K := by
  subst hn
  refine hP.trans (BIBase.Entails.trans ?_ (Scf.wp_for frame _ Set.univ l.lb l.ub l.st ok ⟨⟩ body (fun k _ => I k) (fun k _ => hb k)))
  iintro HP
  isplitl [HP]; · iexact HP
  iintro %_ HP
  iapply hk; iexact HP

end Steps

end Cert.KernelIdeal.Hand

end
-- ==== Proof.KernelIdeal.Run5.lean ====
/-
  The activations and the scales waited for and laid out as the loops read them.
-/
module

public import proofs.«01_k».proof.Proof.KernelIdeal.Run4
public import proofs.«01_k».proof.Proof.KernelIdeal.Steps

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The activations as the loops read them. -/
def xbF (X : S256x2560.Idx → Elt F .fp8e4m3) : S256x2560.Idx → F .bf16 :=
  shapeCast S256x2560 (extf .bf16 (X : FVec F S256x2560 .fp8e4m3) bitsLt_fp8e4m3_bf16) shapeCasts_S256x2560_S256x2560

/-- One sequence's row of scales. -/
def xsRow (XS : S2x128.Idx → F .f32) (s : ℕ) : S1x128.Idx → F .f32 := fun x => XS (ix2 (Fin.ofNat 2 s) (x 1))

/-- One sequence's scales down a column, the same in every lane. -/
def xcV (XS : S2x128.Idx → F .f32) (s : ℕ) : S128x128.Idx → F .f32 :=
  shapeCast S128x128 (transpose S128x128 [1, 0] (broadcastTo S128x128 (shapeCast S1x128 (xsRow XS s : FVec F S1x128 .f32) shapeCasts_S1x128_S1x128 : FVec F S1x128 .f32) broadcasts_S1x128_S128x128) transposes_S128x128_p1_0_S128x128 : FVec F S128x128 .f32) shapeCasts_S128x128_S128x128

/-- Both sequences' scales down a column. -/
def xcF (XS : S2x128.Idx → F .f32) : S256x128.Idx → F .f32 := fun i =>
  if (i 0 : ℕ) < 128 then xcV XS 0 (ix2 (Fin.ofNat 128 (i 0)) (i 1)) else xcV XS 1 (ix2 (Fin.ofNat 128 ((i 0 : ℕ) - 128)) (i 1))

/-- The first sequence's scales written. -/
def xcH (XS : S2x128.Idx → F .f32) (a : S256x128.Idx → F .f32) : S256x128.Idx → F .f32 := fun i =>
  if (i 0 : ℕ) < 128 then xcV XS 0 (ix2 (Fin.ofNat 128 (i 0)) (i 1)) else a i

theorem read_xs (XS : S2x128.Idx → F .f32) (s : ℕ) (hs : s < 2) (inb) :
    ((Memref.whole cc0_scratch6).access (Rect.unit (s := S2x128) ![s, 0] S1x128.size inb)).read (Elt F) XS = xsRow XS s := by
  funext x
  refine read_unit (Val := Elt F) cc0_scratch6 ![s, 0] S1x128.size inb XS x (ix2 (Fin.ofNat 2 s) (x 1)) ?_
  have hx : (x 0 : ℕ) < 1 := (x 0).isLt
  intro a; fin_cases a
  · show s % 2 = s + (x 0 : ℕ); omega
  · show (x 1 : ℕ) = 0 + (x 1 : ℕ); omega

theorem write_xc0 (XS : S2x128.Idx → F .f32) (a : S256x128.Idx → F .f32) (inb) :
    ((Memref.whole cc0_scratch7).access (Rect.unit (s := S256x128) ![0, 0] S128x128.size inb)).write (Elt F) a (xcV XS 0) Finset.univ = xcH XS a := by
  refine write_unit (Val := Elt F) cc0_scratch7 ![0, 0] S128x128.size inb a (xcV XS 0) (xcH XS a) ?_ ?_
  · intro i x hi
    have h0 : (i 0 : ℕ) = 0 + (x 0 : ℕ) := hi 0
    have h1 : (i 1 : ℕ) = 0 + (x 1 : ℕ) := hi 1
    have x0 : (x 0 : ℕ) < 128 := (x 0).isLt
    refine (if_pos (by omega)).trans (congrArg (xcV XS 0) ?_)
    funext a; apply Fin.ext; fin_cases a
    · show (i 0 : ℕ) % 128 = x 0; omega
    · show (i 1 : ℕ) = x 1; omega
  · intro i hi
    refine if_neg fun h => hi ?_
    have h1 : (i 1 : ℕ) < 128 := (i 1).isLt
    intro a; fin_cases a
    · exact ⟨Nat.zero_le _, by show (i 0 : ℕ) < 0 + 128; omega⟩
    · exact ⟨Nat.zero_le _, by show (i 1 : ℕ) < 0 + 128; omega⟩

theorem write_xc1 (XS : S2x128.Idx → F .f32) (a : S256x128.Idx → F .f32) (inb) :
    ((Memref.whole cc0_scratch7).access (Rect.unit (s := S256x128) ![128, 0] S128x128.size inb)).write (Elt F) (xcH XS a) (xcV XS 1) Finset.univ = xcF XS := by
  refine write_unit (Val := Elt F) cc0_scratch7 ![128, 0] S128x128.size inb (xcH XS a) (xcV XS 1) (xcF XS) ?_ ?_
  · intro i x hi
    have h0 : (i 0 : ℕ) = 128 + (x 0 : ℕ) := hi 0
    have h1 : (i 1 : ℕ) = 0 + (x 1 : ℕ) := hi 1
    have x0 : (x 0 : ℕ) < 128 := (x 0).isLt
    refine (if_neg (by omega)).trans (congrArg (xcV XS 1) ?_)
    funext a; apply Fin.ext; fin_cases a
    · show ((i 0 : ℕ) - 128) % 128 = x 0; omega
    · show (i 1 : ℕ) = x 1; omega
  · intro i hi
    have h0 : (i 0 : ℕ) < 256 := (i 0).isLt
    have h1 : (i 1 : ℕ) < 128 := (i 1).isLt
    by_cases h : (i 0 : ℕ) < 128
    · exact (if_pos h).trans (if_pos h).symm
    · refine absurd ?_ hi
      intro a; fin_cases a
      · exact ⟨by show 128 ≤ (i 0 : ℕ); omega, by show (i 0 : ℕ) < 128 + 128; omega⟩
      · exact ⟨Nat.zero_le _, by show (i 1 : ℕ) < 0 + 128; omega⟩

theorem read_x8 (X : S256x2560.Idx → Elt F .fp8e4m3) (inb) :
    ((Memref.whole cc0_scratch4).access (Rect.unit (s := S256x2560) ![0, 0] S256x2560.size inb)).read (Elt F) X = X := by
  funext x
  refine read_unit (Val := Elt F) cc0_scratch4 ![0, 0] S256x2560.size inb X x x ?_
  intro a; fin_cases a <;> exact (Nat.zero_add _).symm

theorem write_xb (X : S256x2560.Idx → Elt F .fp8e4m3) (a : S256x2560.Idx → F .bf16) (inb) :
    ((Memref.whole cc0_scratch5).access (Rect.unit (s := S256x2560) ![0, 0] S256x2560.size inb)).write (Elt F) a (xbF X) Finset.univ = xbF X := by
  refine write_unit (Val := Elt F) cc0_scratch5 ![0, 0] S256x2560.size inb a (xbF X) (xbF X) ?_ ?_
  · intro i x hi
    congr 1
    funext a; apply Fin.ext
    refine (hi a).trans ?_
    fin_cases a <;> exact Nat.zero_add _
  · intro i hi
    refine absurd (fun a => ?_) hi
    have := (i a).isLt
    fin_cases a
    · exact ⟨Nat.zero_le _, lt_of_lt_of_eq this (Nat.zero_add _).symm⟩
    · exact ⟨Nat.zero_le _, lt_of_lt_of_eq this (Nat.zero_add _).symm⟩

/-- The credits of the copies of the activations, their scales and the experts' scales. -/
def nX : ℕ := (Memref.whole cc0_scratch4).view.dmaCredit
def nXS : ℕ := (Memref.whole cc0_scratch6).view.dmaCredit
def nWS : ℕ := (Memref.whole cc0_scratch8).view.dmaCredit

/-- What the copies deliver. -/
abbrev dX (c : Dev nD) (X : S256x2560.Idx → Elt F .fp8e4m3) : sProp 𝕄 := iprop(has c (Memref.whole cc0_scratch4) X ∗ has c (Memref.whole main_v0) X)
abbrev dXS (c : Dev nD) (XS : S2x128.Idx → F .f32) : sProp 𝕄 := iprop(has c (Memref.whole cc0_scratch6) XS ∗ has c (Memref.whole main_arg1) XS)
abbrev dWS (c : Dev nD) (WS : S33x1024.Idx → F .f32) : sProp 𝕄 := iprop(has c (Memref.whole cc0_scratch8) WS ∗ has c (Memref.whole main_arg3) WS)

/-- The copies under way. -/
abbrev flX (c : Dev nD) (X : S256x2560.Idx → Elt F .fp8e4m3) : sProp 𝕄 := Flight ECt (c : Thread nD τ) (.dma cc0_scratch12.sem) () nX (dX c X)
abbrev flXS (c : Dev nD) (XS : S2x128.Idx → F .f32) : sProp 𝕄 := Flight ECt (c : Thread nD τ) (.dma cc0_scratch13.sem) () nXS (dXS c XS)
abbrev flWS (c : Dev nD) (WS : S33x1024.Idx → F .f32) : sProp 𝕄 := Flight ECt (c : Thread nD τ) (.dma cc0_scratch14.sem) () nWS (dWS c WS)

/-- A semaphore at zero. -/
abbrev off0 (c : Dev nD) (sm : DmaSem sig) : sProp 𝕄 := semVal ((c : Thread nD τ), .dma sm) 0

/-- The state before the activations and the scales are waited for. -/
def MidIn (c : Dev nD) (X : S256x2560.Idx → Elt F .fp8e4m3) (XS : S2x128.Idx → F .f32) (WS : S33x1024.Idx → F .f32) (a5 : S256x2560.Idx → F .bf16) (a7 : S256x128.Idx → F .f32) (Z : sProp 𝕄) : sProp 𝕄 :=
  iprop(anyOwes c ∗ flXS c XS ∗ flX c X ∗ flWS c WS ∗ has c (Memref.whole cc0_scratch5) a5 ∗ has c (Memref.whole cc0_scratch7) a7 ∗ Z)

/-- The state after. -/
def MidOut (c : Dev nD) (X : S256x2560.Idx → Elt F .fp8e4m3) (XS : S2x128.Idx → F .f32) (WS : S33x1024.Idx → F .f32) (Z : sProp 𝕄) : sProp 𝕄 :=
  iprop(anyOwes c ∗ dXS c XS ∗ off0 c cc0_scratch13.sem ∗ dX c X ∗ off0 c cc0_scratch12.sem ∗ dWS c WS ∗ off0 c cc0_scratch14.sem
    ∗ has c (Memref.whole cc0_scratch5) (xbF X) ∗ has c (Memref.whole cc0_scratch7) (xcF XS) ∗ Z)

set_option maxHeartbeats 16000000 in
/-- What is left to run with the activations and the scales at hand, and that the run comes down to it. -/
def run5 (c : Dev nD) (C : S2x33.Idx → BitVec 32) (W : S33x2560x1024.Idx → Elt F .fp8e4m3) :
    { p : Prog (TpuEff nD τ sig (Elt F) Λ₀ .tc) PUnit // ∀ (X : S256x2560.Idx → Elt F .fp8e4m3) (XS : S2x128.Idx → F .f32) (WS : S33x1024.Idx → F .f32)
        (a5 : S256x2560.Idx → F .bf16) (a7 : S256x128.Idx → F .f32) (Z : sProp 𝕄) (K : PUnit → sProp 𝕄),
      (MidOut c X XS WS Z ⊢ WP c p K) → MidIn c X XS WS a5 a7 Z ⊢ WP c (run4 c C W).1 K } := by
  refine ⟨?p, fun X XS WS a5 a7 Z K hk => ?_⟩
  rotate_left
  unfold run4
  dsimp only
  with_reducible refine step_bind (F := F) c ?_
  with_reducible refine step_bind (F := F) c ?_
  refine step_await (F := F) c (D := dXS c XS) (N := nXS) (P' := iprop(flX c X ∗ flWS c WS ∗ has c (Memref.whole cc0_scratch5) a5 ∗ has c (Memref.whole cc0_scratch7) a7 ∗ Z)) rfl ?_ ?_
  · unfold MidIn
    exact Entails.of_eq (by simp only [flX, flXS, flWS, dX, dXS, dWS, off0]; (try dsimp only [Space.vmem, Space.smem]); ac_rfl)
  with_reducible refine step_bind (F := F) c ?_
  refine step_get (F := F) c (Memref.whole cc0_scratch6) (f := XS) (P' := iprop(has c (Memref.whole main_arg1) XS ∗ off0 c cc0_scratch13.sem ∗ anyOwes c ∗ flX c X ∗ flWS c WS ∗ has c (Memref.whole cc0_scratch5) a5 ∗ has c (Memref.whole cc0_scratch7) a7 ∗ Z)) (read_xs XS 0 (by decide) _) ?_ ?_
  · exact Entails.of_eq (by simp only [flX, flXS, flWS, dX, dXS, dWS, off0]; (try dsimp only [Space.vmem, Space.smem]); ac_rfl)
  with_reducible refine step_bind (F := F) c ?_
  refine step_get (F := F) c (Memref.whole cc0_scratch7) (f := a7) (P' := iprop(dXS c XS ∗ off0 c cc0_scratch13.sem ∗ anyOwes c ∗ flX c X ∗ flWS c WS ∗ has c (Memref.whole cc0_scratch5) a5 ∗ Z)) rfl ?_ ?_
  · exact Entails.of_eq (by simp only [flX, flXS, flWS, dX, dXS, dWS, off0]; (try dsimp only [Space.vmem, Space.smem]); ac_rfl)
  with_reducible refine step_bind (F := F) c ?_
  refine step_set (F := F) c (Memref.whole cc0_scratch7) (f := a7) (P' := iprop(dXS c XS ∗ off0 c cc0_scratch13.sem ∗ anyOwes c ∗ flX c X ∗ flWS c WS ∗ has c (Memref.whole cc0_scratch5) a5 ∗ Z)) (write_xc0 XS a7 _) .rfl ?_
  with_reducible refine step_bind (F := F) c ?_
  refine step_get (F := F) c (Memref.whole cc0_scratch6) (f := XS) (P' := iprop(has c (Memref.whole main_arg1) XS ∗ off0 c cc0_scratch13.sem ∗ anyOwes c ∗ flX c X ∗ flWS c WS ∗ has c (Memref.whole cc0_scratch5) a5 ∗ has c (Memref.whole cc0_scratch7) (xcH XS a7) ∗ Z)) (read_xs XS 1 (by decide) _) ?_ ?_
  · exact Entails.of_eq (by simp only [flX, flXS, flWS, dX, dXS, dWS, off0]; (try dsimp only [Space.vmem, Space.smem]); ac_rfl)
  with_reducible refine step_bind (F := F) c ?_
  refine step_get (F := F) c (Memref.whole cc0_scratch7) (f := xcH XS a7) (P' := iprop(dXS c XS ∗ off0 c cc0_scratch13.sem ∗ anyOwes c ∗ flX c X ∗ flWS c WS ∗ has c (Memref.whole cc0_scratch5) a5 ∗ Z)) rfl ?_ ?_
  · exact Entails.of_eq (by simp only [flX, flXS, flWS, dX, dXS, dWS, off0]; (try dsimp only [Space.vmem, Space.smem]); ac_rfl)
  with_reducible refine step_bind (F := F) c ?_
  refine step_set (F := F) c (Memref.whole cc0_scratch7) (f := xcH XS a7) (P' := iprop(dXS c XS ∗ off0 c cc0_scratch13.sem ∗ anyOwes c ∗ flX c X ∗ flWS c WS ∗ has c (Memref.whole cc0_scratch5) a5 ∗ Z)) (write_xc1 XS a7 _) .rfl ?_
  with_reducible refine step_bind (F := F) c ?_
  refine step_await (F := F) c (D := dX c X) (N := nX) (P' := iprop(dXS c XS ∗ off0 c cc0_scratch13.sem ∗ flWS c WS ∗ has c (Memref.whole cc0_scratch5) a5 ∗ has c (Memref.whole cc0_scratch7) (xcF XS) ∗ Z)) rfl ?_ ?_
  · exact Entails.of_eq (by simp only [flX, flXS, flWS, dX, dXS, dWS, off0]; (try dsimp only [Space.vmem, Space.smem]); ac_rfl)
  refine step_pure (F := F) c ?_
  with_reducible refine step_bind (F := F) c ?_
  refine step_get (F := F) c (Memref.whole cc0_scratch4) (f := X) (P' := iprop(has c (Memref.whole main_v0) X ∗ off0 c cc0_scratch12.sem ∗ anyOwes c ∗ dXS c XS ∗ off0 c cc0_scratch13.sem ∗ flWS c WS ∗ has c (Memref.whole cc0_scratch5) a5 ∗ has c (Memref.whole cc0_scratch7) (xcF XS) ∗ Z)) (read_x8 X _) ?_ ?_
  · exact Entails.of_eq (by simp only [flX, flXS, flWS, dX, dXS, dWS, off0]; (try dsimp only [Space.vmem, Space.smem]); ac_rfl)
  with_reducible refine step_bind (F := F) c ?_
  refine step_get (F := F) c (Memref.whole cc0_scratch5) (f := a5) (P' := iprop(dX c X ∗ off0 c cc0_scratch12.sem ∗ anyOwes c ∗ dXS c XS ∗ off0 c cc0_scratch13.sem ∗ flWS c WS ∗ has c (Memref.whole cc0_scratch7) (xcF XS) ∗ Z)) rfl ?_ ?_
  · exact Entails.of_eq (by simp only [flX, flXS, flWS, dX, dXS, dWS, off0]; (try dsimp only [Space.vmem, Space.smem]); ac_rfl)
  with_reducible refine step_bind (F := F) c ?_
  refine step_set (F := F) c (Memref.whole cc0_scratch5) (f := a5) (P' := iprop(dX c X ∗ off0 c cc0_scratch12.sem ∗ anyOwes c ∗ dXS c XS ∗ off0 c cc0_scratch13.sem ∗ flWS c WS ∗ has c (Memref.whole cc0_scratch7) (xcF XS) ∗ Z)) (write_xb X a5 _) .rfl ?_
  with_reducible refine step_bind (F := F) c ?_
  refine step_await (F := F) c (D := dWS c WS) (N := nWS) (P' := iprop(dX c X ∗ off0 c cc0_scratch12.sem ∗ dXS c XS ∗ off0 c cc0_scratch13.sem ∗ has c (Memref.whole cc0_scratch5) (xbF X) ∗ has c (Memref.whole cc0_scratch7) (xcF XS) ∗ Z)) rfl ?_ ?_
  · exact Entails.of_eq (by simp only [flX, flXS, flWS, dX, dXS, dWS, off0]; (try dsimp only [Space.vmem, Space.smem]); ac_rfl)
  refine BIBase.Entails.trans (Q := MidOut c X XS WS Z) ?_ ?_
  · unfold MidOut
    exact Entails.of_eq (by simp only [flX, flXS, flWS, dX, dXS, dWS, off0]; (try dsimp only [Space.vmem, Space.smem]); ac_rfl)
  with_reducible exact hk

end Cert.KernelIdeal.Hand

end
-- ==== Proof.KernelIdeal.TileNums.lean ====
/-
  The tiles of one expert's rows: which sixteen rows each trip of the inner loop works on, as the kernel's words and as
  natural numbers, and the side conditions on that loop.
-/
module

public import proofs.«01_k».proof.Proof.KernelIdeal.Nums

@[expose] public section

noncomputable section

namespace Cert.KernelIdeal.Hand

open Cert.KernelIdeal Cert.KernelIdeal.Gen
open Idealize.ShloMosaic Idealize.ShloMosaic.TcCoe

/-! ### The kernel's words: `a`, `b` the start and the count of the expert's run in the first sequence, `s`, `n` in the second -/

abbrev lo0W (a : BitVec 32) : BitVec 32 := Scalar.addi 0#32 a
abbrev hi0W (a b : BitVec 32) : BitVec 32 := Scalar.addi (Scalar.addi 0#32 a) b
abbrev m0W (a b : BitVec 32) : BitVec 32 :=
  Scalar.addi 0#32 (Scalar.select (Scalar.cmpi .sgt b 0#32) (Scalar.subi (Scalar.divsi (Scalar.addi (hi0W a b) 15#32) 16#32) (Scalar.divsi (lo0W a) 16#32)) 0#32)
abbrev f0W (a : BitVec 32) : BitVec 32 := Scalar.subi (Scalar.divsi (lo0W a) 16#32) 0#32
abbrev lo1W (s : BitVec 32) : BitVec 32 := Scalar.addi 128#32 s
abbrev hi1W (s n : BitVec 32) : BitVec 32 := Scalar.addi (Scalar.addi 128#32 s) n
abbrev f1W (a b s : BitVec 32) : BitVec 32 := Scalar.subi (Scalar.divsi (lo1W s) 16#32) (m0W a b)
abbrev m1W (a b s n : BitVec 32) : BitVec 32 :=
  Scalar.addi (m0W a b) (Scalar.select (Scalar.cmpi .sgt n 0#32) (Scalar.subi (Scalar.divsi (Scalar.addi (hi1W s n) 15#32) 16#32) (Scalar.divsi (lo1W s) 16#32)) 0#32)
abbrev ntW (a b s n : BitVec 32) : BitVec 32 := Scalar.divsi (Scalar.addi (m1W a b s n) 3#32) 4#32
abbrev qW (i r : BitVec 32) : BitVec 32 := Scalar.addi (Scalar.muli i 4#32) r
abbrev tbW (a b s n q : BitVec 32) : BitVec 32 :=
  Scalar.muli (Scalar.select (Scalar.cmpi .slt q (m0W a b)) (Scalar.addi (f0W a) q) (Scalar.select (Scalar.cmpi .slt q (m1W a b s n)) (Scalar.addi (f1W a b s) q) 0#32)) 16#32
abbrev tloW (a b s n q : BitVec 32) : BitVec 32 :=
  Scalar.select (Scalar.cmpi .slt q (m0W a b)) (lo0W a) (Scalar.select (Scalar.cmpi .slt q (m1W a b s n)) (lo1W s) 0#32)
abbrev thiW (a b s n q : BitVec 32) : BitVec 32 :=
  Scalar.select (Scalar.cmpi .slt q (m0W a b)) (hi0W a b) (Scalar.select (Scalar.cmpi .slt q (m1W a b s n)) (hi1W s n) 0#32)

/-! ### The same numbers -/

/-- Tiles of the first sequence, -/
def m0N (a b : ℕ) : ℕ := if 0 < b then (a + b + 15) / 16 - a / 16 else 0
/-- of both, -/
def m1N (a b s n : ℕ) : ℕ := m0N a b + (if 0 < n then (128 + s + n + 15) / 16 - (128 + s) / 16 else 0)
/-- trips of four tiles, -/
def ntN (a b s n : ℕ) : ℕ := (m1N a b s n + 3) / 4
/-- the first row of tile `q`, -/
def tbN (a b s n q : ℕ) : ℕ := (if q < m0N a b then a / 16 + q else if q < m1N a b s n then (128 + s) / 16 - m0N a b + q else 0) * 16
/-- and the rows of the expert around it. -/
def tloN (a b s n q : ℕ) : ℕ := if q < m0N a b then a else if q < m1N a b s n then 128 + s else 0
def thiN (a b s n q : ℕ) : ℕ := if q < m0N a b then a + b else if q < m1N a b s n then 128 + s + n else 0

theorem m0N_le {a b : ℕ} (h : a + b ≤ 128) : m0N a b ≤ 8 := by unfold m0N; split <;> omega
theorem m1N_le {a b s n : ℕ} (h : a + b ≤ 128) (h' : s + n ≤ 128) : m1N a b s n ≤ 16 := by
  have := m0N_le h; unfold m1N; split <;> omega
theorem ntN_le {a b s n : ℕ} (h : a + b ≤ 128) (h' : s + n ≤ 128) : ntN a b s n ≤ 4 := by
  have := m1N_le h h'; unfold ntN; omega
theorem tbN_le {a b s n : ℕ} (h : a + b ≤ 128) (h' : s + n ≤ 128) (q : ℕ) : tbN a b s n q ≤ 240 := by
  have := m0N_le h
  unfold tbN
  split
  · rename_i hq; unfold m0N at hq; split at hq <;> omega
  · split
    · rename_i hq hq'; unfold m1N at hq'; split at hq' <;> omega
    · omega

section
variable {a b s n : ℕ} (h : a + b ≤ 128) (h' : s + n ≤ 128)
include h h'

local notation "𝔴" => BitVec.ofNat 32

theorem m0W_eq : m0W (𝔴 a) (𝔴 b) = 𝔴 (m0N a b) := by
  unfold m0W
  rw [show hi0W (𝔴 a) (𝔴 b) = 𝔴 (a + b) by rw [hi0W, w_add, w_add, Nat.zero_add],
    show lo0W (𝔴 a) = 𝔴 a by rw [lo0W, w_add, Nat.zero_add], w_add, w_div (by omega) (by omega) (by omega), w_div (by omega) (by omega) (by omega),
    w_sub (by omega), w_sgt (by omega) (by omega), w_sel, w_add]
  unfold m0N; rw [Nat.zero_add]

theorem m1W_eq : m1W (𝔴 a) (𝔴 b) (𝔴 s) (𝔴 n) = 𝔴 (m1N a b s n) := by
  unfold m1W
  rw [m0W_eq h h', show hi1W (𝔴 s) (𝔴 n) = 𝔴 (128 + s + n) by rw [hi1W, w_add, w_add],
    show lo1W (𝔴 s) = 𝔴 (128 + s) by rw [lo1W, w_add], w_add, w_div (by omega) (by omega) (by omega), w_div (by omega) (by omega) (by omega),
    w_sub (by omega), w_sgt (by omega) (by omega), w_sel, w_add]
  rfl

theorem ntW_eq : ntW (𝔴 a) (𝔴 b) (𝔴 s) (𝔴 n) = 𝔴 (ntN a b s n) := by
  have := m1N_le h h'
  unfold ntW
  rw [m1W_eq h h', w_add, w_div (by omega) (by omega) (by omega)]; rfl

theorem tbW_eq {q : ℕ} (hq : q < 1000) : tbW (𝔴 a) (𝔴 b) (𝔴 s) (𝔴 n) (𝔴 q) = 𝔴 (tbN a b s n q) := by
  have h0 := m0N_le h
  have h1 := m1N_le h h'
  unfold tbW f0W f1W
  rw [m1W_eq h h', m0W_eq h h', show lo1W (𝔴 s) = 𝔴 (128 + s) by rw [lo1W, w_add], show lo0W (𝔴 a) = 𝔴 a by rw [lo0W, w_add, Nat.zero_add],
    w_div (by omega) (by omega) (by omega), w_div (by omega) (by omega) (by omega), w_sub (by omega), w_sub (by omega), w_slt (by omega) (by omega),
    w_slt (by omega) (by omega), w_add, w_add, w_sel, w_sel, w_mul]
  rfl

theorem tloW_eq {q : ℕ} (hq : q < 1000) : tloW (𝔴 a) (𝔴 b) (𝔴 s) (𝔴 n) (𝔴 q) = 𝔴 (tloN a b s n q) := by
  have h0 := m0N_le h
  have h1 := m1N_le h h'
  unfold tloW
  rw [m1W_eq h h', m0W_eq h h', show lo1W (𝔴 s) = 𝔴 (128 + s) by rw [lo1W, w_add], show lo0W (𝔴 a) = 𝔴 a by rw [lo0W, w_add, Nat.zero_add],
    w_slt (by omega) (by omega), w_slt (by omega) (by omega), w_sel, w_sel]
  rfl

theorem thiW_eq {q : ℕ} (hq : q < 1000) : thiW (𝔴 a) (𝔴 b) (𝔴 s) (𝔴 n) (𝔴 q) = 𝔴 (thiN a b s n q) := by
  have h0 := m0N_le h
  have h1 := m1N_le h h'
  unfold thiW
  rw [m1W_eq h h', m0W_eq h h', show hi1W (𝔴 s) (𝔴 n) = 𝔴 (128 + s + n) by rw [hi1W, w_add, w_add], show hi0W (𝔴 a) (𝔴 b) = 𝔴 (a + b) by rw [hi0W, w_add, w_add, Nat.zero_add],
    w_slt (by omega) (by omega), w_slt (by omega) (by omega), w_sel, w_sel]
  rfl

theorem qW_eq (t r : ℕ) : qW (Scf.iv 0#32 1#32 t) (𝔴 r) = 𝔴 (t * 4 + r) := by
  unfold qW; rw [w_iv, w_mul, w_add]

end

/-! ### The side conditions -/

/-- The side conditions of the inner loop at place `t1` of the list. -/
def Chk51 {N1 : ℕ} (t1 : Fin N1) (e a b s n : BitVec 32) : Prop :=
  (L1 (ntW a b s n)).OK ∧
  (∀ t : Fin (L1 (ntW a b s n)).trips, 16 ∣ (tbW a b s n (qW (Scf.iv 0#32 1#32 t) 0#32)).toNat) ∧
  (∀ t : Fin (L1 (ntW a b s n)).trips, 16 ∣ (tbW a b s n (qW (Scf.iv 0#32 1#32 t) 1#32)).toNat) ∧
  (∀ t : Fin (L1 (ntW a b s n)).trips, 16 ∣ (tbW a b s n (qW (Scf.iv 0#32 1#32 t) 2#32)).toNat) ∧
  (∀ t : Fin (L1 (ntW a b s n)).trips, 16 ∣ (tbW a b s n (qW (Scf.iv 0#32 1#32 t) 3#32)).toNat) ∧
  (∀ t : Fin (L1 (ntW a b s n)).trips, ∀ r : Fin 4, ∀ x, (![(tbW a b s n (qW (Scf.iv 0#32 1#32 t) (BitVec.ofNat 32 r.val))).toNat, 0] : Fin 2 → ℕ) x + S16x2560.size x ≤ S256x2560.size x) ∧
  (∀ t : Fin (L1 (ntW a b s n)).trips, ∀ x, (![(slB (Scf.iv 0#32 1#32 t1)).toNat, 0, 0] : Fin 3 → ℕ) x + S1x2560x1024.size x ≤ S20x2560x1024.size x) ∧
  (∀ t : Fin (L1 (ntW a b s n)).trips, ∀ x, (![(Scalar.indexCast e).toNat, 0] : Fin 2 → ℕ) x + S1x1024.size x ≤ S33x1024.size x) ∧
  (∀ t : Fin (L1 (ntW a b s n)).trips, ∀ r : Fin 4, ∀ x, (![(tbW a b s n (qW (Scf.iv 0#32 1#32 t) (BitVec.ofNat 32 r.val))).toNat, 0] : Fin 2 → ℕ) x + S16x128.size x ≤ S256x128.size x) ∧
  (∀ t : Fin (L1 (ntW a b s n)).trips, ∀ r : Fin 4, ∀ x, (![(tbW a b s n (qW (Scf.iv 0#32 1#32 t) (BitVec.ofNat 32 r.val))).toNat, 0] : Fin 2 → ℕ) x + S16x1024.size x ≤ S256x1024.size x) ∧
  (∀ t : Fin (L1 (ntW a b s n)).trips, ∀ r : Fin 4, ∀ hinb : (∀ x, (![(tbW a b s n (qW (Scf.iv 0#32 1#32 t) (BitVec.ofNat 32 r.val))).toNat, 0] : Fin 2 → ℕ) x + S16x1024.size x ≤ S256x1024.size x),
    (Rect.unit (s := S256x1024) ![(tbW a b s n (qW (Scf.iv 0#32 1#32 t) (BitVec.ofNat 32 r.val))).toNat, 0] S16x1024.size hinb).PackedRows (EltTy.packing .bf16)) ∧
  (L4 (ntW a b s n)).OK ∧
  (∀ t : Fin (L4 (ntW a b s n)).trips, 16 ∣ (tbW a b s n (qW (Scf.iv (L4 (ntW a b s n)).lb 1#32 t) 0#32)).toNat) ∧
  (∀ t : Fin (L4 (ntW a b s n)).trips, 16 ∣ (tbW a b s n (qW (Scf.iv (L4 (ntW a b s n)).lb 1#32 t) 1#32)).toNat) ∧
  (∀ t : Fin (L4 (ntW a b s n)).trips, 16 ∣ (tbW a b s n (qW (Scf.iv (L4 (ntW a b s n)).lb 1#32 t) 2#32)).toNat) ∧
  (∀ t : Fin (L4 (ntW a b s n)).trips, 16 ∣ (tbW a b s n (qW (Scf.iv (L4 (ntW a b s n)).lb 1#32 t) 3#32)).toNat) ∧
  (∀ t : Fin (L4 (ntW a b s n)).trips, ∀ r : Fin 4, ∀ x, (![(tbW a b s n (qW (Scf.iv (L4 (ntW a b s n)).lb 1#32 t) (BitVec.ofNat 32 r.val))).toNat, 0] : Fin 2 → ℕ) x + S16x2560.size x ≤ S256x2560.size x) ∧
  (∀ t : Fin (L4 (ntW a b s n)).trips, ∀ x, (![(slB (Scf.iv 0#32 1#32 t1)).toNat, 0, 0] : Fin 3 → ℕ) x + S1x2560x1024.size x ≤ S20x2560x1024.size x) ∧
  (∀ t : Fin (L4 (ntW a b s n)).trips, ∀ x, (![(Scalar.indexCast e).toNat, 0] : Fin 2 → ℕ) x + S1x1024.size x ≤ S33x1024.size x) ∧
  (∀ t : Fin (L4 (ntW a b s n)).trips, ∀ r : Fin 4, ∀ x, (![(tbW a b s n (qW (Scf.iv (L4 (ntW a b s n)).lb 1#32 t) (BitVec.ofNat 32 r.val))).toNat, 0] : Fin 2 → ℕ) x + S16x128.size x ≤ S256x128.size x) ∧
  (∀ t : Fin (L4 (ntW a b s n)).trips, ∀ r : Fin 4, ∀ x, (![(tbW a b s n (qW (Scf.iv (L4 (ntW a b s n)).lb 1#32 t) (BitVec.ofNat 32 r.val))).toNat, 0] : Fin 2 → ℕ) x + S16x1024.size x ≤ S256x1024.size x) ∧
  (∀ t : Fin (L4 (ntW a b s n)).trips, ∀ r : Fin 4, ∀ hinb : (∀ x, (![(tbW a b s n (qW (Scf.iv (L4 (ntW a b s n)).lb 1#32 t) (BitVec.ofNat 32 r.val))).toNat, 0] : Fin 2 → ℕ) x + S16x1024.size x ≤ S256x1024.size x),
    (Rect.unit (s := S256x1024) ![(tbW a b s n (qW (Scf.iv (L4 (ntW a b s n)).lb 1#32 t) (BitVec.ofNat 32 r.val))).toNat, 0] S16x1024.size hinb).PackedRows (EltTy.packing .bf16))

/-- Sixteen whole rows from a row at most 240 lie in the array. -/
theorem b2 {N x : ℕ} (hx : x ≤ 240) : ∀ a, (![x, 0] : Fin 2 → ℕ) a + (⟨2, ![16, N]⟩ : Shape).size a ≤ (⟨2, ![256, N]⟩ : Shape).size a := by
  intro a; fin_cases a
  · show x + 16 ≤ 256; omega
  · exact Nat.le_of_eq (Nat.zero_add _)

theorem packed2 {x : ℕ} (hx : 16 ∣ x) (hinb : ∀ a, (![x, 0] : Fin 2 → ℕ) a + S16x1024.size a ≤ S256x1024.size a) :
    (Rect.unit (s := S256x1024) ![x, 0] S16x1024.size hinb).PackedRows (EltTy.packing .bf16) :=
  Or.inr ⟨(by decide : 2 ≤ S256x1024.rank), rfl, Or.inl ⟨by
    show (2 : ℕ) ∣ x
    exact Nat.dvd_trans (by decide) hx, by
    show (2 : ℕ) ∣ 16
    decide⟩⟩

/-- They hold of runs that lie in their sequences. -/
theorem chk51_of {N1 : ℕ} {t1 : Fin N1} {e : BitVec 32} {a b s n : ℕ} (ht1 : (t1 : ℕ) < 100) (he : e.toNat < 33) (h : a + b ≤ 128) (h' : s + n ≤ 128) :
    Chk51 t1 e (BitVec.ofNat 32 a) (BitVec.ofNat 32 b) (BitVec.ofNat 32 s) (BitVec.ofNat 32 n) := by
  have hn := ntN_le h h'
  have hnt := ntW_eq h h'
  have key : ∀ k (t : ℕ) (r : ℕ), t < 4 → r < 4 → k = BitVec.ofNat 32 r →
      16 ∣ (tbW (BitVec.ofNat 32 a) (BitVec.ofNat 32 b) (BitVec.ofNat 32 s) (BitVec.ofNat 32 n) (qW (Scf.iv 0#32 1#32 t) k)).toNat ∧
      (tbW (BitVec.ofNat 32 a) (BitVec.ofNat 32 b) (BitVec.ofNat 32 s) (BitVec.ofNat 32 n) (qW (Scf.iv 0#32 1#32 t) k)).toNat ≤ 240 := by
    rintro k t r ht hr rfl
    rw [qW_eq h h', tbW_eq h h' (by omega), w_nat (by have := tbN_le h h' (t * 4 + r); omega)]
    exact ⟨Nat.dvd_mul_left _ _, tbN_le h h' _⟩
  unfold Chk51
  rw [hnt]
  have t1' := L1_trips (k := ntN a b s n) (by omega)
  have t4' := L4_trips (k := ntN a b s n) (by omega)
  have h4 : ∀ (P : Fin (L4 (BitVec.ofNat 32 (ntN a b s n))).trips → Prop) (t : Fin (L4 (BitVec.ofNat 32 (ntN a b s n))).trips), P t := fun P t => by
    have := t.isLt; omega
  have lt : ∀ t : Fin (L1 (BitVec.ofNat 32 (ntN a b s n))).trips, (t : ℕ) < 4 := fun t => by have := t.isLt; omega
  refine ⟨?_, ?_, ?_, ?_, ?_, ?_, ?_, ?_, ?_, ?_, ?_, ?_, ?_, ?_, ?_, ?_, ?_, ?_, ?_, ?_, ?_, ?_⟩
  · rw [L1_eq (by omega)]; exact w_ok (by omega)
  · exact fun t => (key _ t 0 (lt t) (by omega) rfl).1
  · exact fun t => (key _ t 1 (lt t) (by omega) rfl).1
  · exact fun t => (key _ t 2 (lt t) (by omega) rfl).1
  · exact fun t => (key _ t 3 (lt t) (by omega) rfl).1
  · exact fun t r => b2 (key _ t r (lt t) r.isLt rfl).2
  · exact fun t => b3 (by rw [slB_eq (by omega)]; omega)
  · intro t x; fin_cases x
    · exact he
    · exact Nat.le_of_eq (Nat.zero_add _)
  · exact fun t r => b2 (key _ t r (lt t) r.isLt rfl).2
  · exact fun t r => b2 (key _ t r (lt t) r.isLt rfl).2
  · exact fun t r hinb => packed2 (key _ t r (lt t) r.isLt rfl).1 hinb
  · rw [L4_eq (by omega)]; exact w_ok0 (by omega)
  all_goals exact h4 _

end Cert.KernelIdeal.Hand

end
-- ==== Proof.KernelIdeal.Tile.lean ====
/-
  The inner loop's state and its steps: the rows of the activations, the weights of the slot at hand, the scales, and the
  result, as one trip of four tiles reads and writes them.
-/
module

public import proofs.«01_k».proof.Proof.KernelIdeal.TileNums
public import proofs.«01_k».proof.Proof.KernelIdeal.Prefetch

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ### What the steps compute -/

/-- Sixteen rows of an array, from row `b`. -/
def rowsB {α : Type} {N : ℕ} (A : (⟨2, ![256, N]⟩ : Shape).Idx → α) (b : ℕ) : (⟨2, ![16, N]⟩ : Shape).Idx → α :=
  fun x => A (ix2 (Fin.ofNat 256 (b + (x 0 : ℕ))) (x 1))

/-- One expert's weights. -/
def slotV {α : Type} (W : S33x2560x1024.Idx → α) (e : ℕ) : S1x2560x1024.Idx → α := fun x => W (ix3 (Fin.ofNat 33 e) (x 1) (x 2))

/-- One expert's scales. -/
def wsRow {α : Type} (WS : S33x1024.Idx → α) (e : ℕ) : S1x1024.Idx → α := fun x => WS (ix2 (Fin.ofNat 33 e) (x 1))

/-- An array with sixteen rows replaced, from row `b`. -/
def putB {α : Type} (Y : S256x1024.Idx → α) (b : ℕ) (v : S16x1024.Idx → α) : S256x1024.Idx → α :=
  fun i => if b ≤ (i 0 : ℕ) ∧ (i 0 : ℕ) < b + 16 then v (ix2 (Fin.ofNat 16 ((i 0 : ℕ) - b)) (i 1)) else Y i

/-- The products of four tiles of rows with one expert's weights, scaled by the expert. -/
def res64 (W : S33x2560x1024.Idx → Elt F .fp8e4m3) (e : ℕ) (XB : S256x2560.Idx → F .bf16) (WS : S33x1024.Idx → F .f32) (b0 b1 b2 b3 : ℕ) : FVec F S64x1024 .f32 :=
  mulf (matmul dot_S64x2560_S2560x1024_S64x1024_1_0_0_1_n_n none
      (concatenate S64x2560 0 [⟨S16x2560, rowsB XB b0⟩, ⟨S16x2560, rowsB XB b1⟩, ⟨S16x2560, rowsB XB b2⟩, ⟨S16x2560, rowsB XB b3⟩] concatenates_S16x2560_S16x2560_S16x2560_S16x2560_S64x2560_d0)
      (shapeCast S2560x1024 (slotV W e : Vec F S1x2560x1024 .fp8e4m3) shapeCasts_S1x2560x1024_S2560x1024 : FVec F S2560x1024 .fp8e4m3)
      (constant S64x1024 .f32 0x00000000#32))
    (broadcastTo S64x1024 (wsRow WS e) broadcasts_S1x1024_S64x1024)

/-- Which rows of a tile belong to the expert. -/
def maskB (b lo hi : BitVec 32) : IVec S16x1024 1 :=
  andi (cmpi .sge (addi (broadcast S16x1024 b) (iota .tc S16x1024 32 [0] iota_S16x1024_d0_w32)) (broadcast S16x1024 lo))
    (cmpi .slt (addi (broadcast S16x1024 b) (iota .tc S16x1024 32 [0] iota_S16x1024_d0_w32)) (broadcast S16x1024 hi))

/-- The result with one tile's rows written: where the rows belong to the expert the scaled product, elsewhere what was there. -/
def tileB (XC : S256x128.Idx → F .f32) (b lo hi : BitVec 32) (v : FVec F S16x1024 .f32) (Y : S256x1024.Idx → F .bf16) : S256x1024.Idx → F .bf16 :=
  putB Y b.toNat (shapeCast S16x1024 (truncf .bf16 (select (maskB b lo hi)
    (mulf v (concatenate S16x1024 1 [⟨S16x128, rowsB XC b.toNat⟩, ⟨S16x128, rowsB XC b.toNat⟩, ⟨S16x128, rowsB XC b.toNat⟩, ⟨S16x128, rowsB XC b.toNat⟩, ⟨S16x128, rowsB XC b.toNat⟩, ⟨S16x128, rowsB XC b.toNat⟩, ⟨S16x128, rowsB XC b.toNat⟩, ⟨S16x128, rowsB XC b.toNat⟩] concatenates_S16x128_S16x128_S16x128_S16x128_S16x128_S16x128_S16x128_S16x128_S16x1024_d1))
    (extf .f32 (rowsB Y b.toNat : FVec F S16x1024 .bf16) bitsLt_bf16_f32)) bitsLt_bf16_f32) shapeCasts_S16x1024_S16x1024)

/-- The result after one trip of the inner loop. -/
def tripB (W : S33x2560x1024.Idx → Elt F .fp8e4m3) (e : ℕ) (XB : S256x2560.Idx → F .bf16) (XC : S256x128.Idx → F .f32) (WS : S33x1024.Idx → F .f32)
    (a b s n i : BitVec 32) (Y : S256x1024.Idx → F .bf16) : S256x1024.Idx → F .bf16 :=
  let r := res64 W e XB WS (tbW a b s n (qW i 0#32)).toNat (tbW a b s n (qW i 1#32)).toNat (tbW a b s n (qW i 2#32)).toNat (tbW a b s n (qW i 3#32)).toNat
  tileB XC (tbW a b s n (qW i 3#32)) (tloW a b s n (qW i 3#32)) (thiW a b s n (qW i 3#32)) (extractStridedSlice S16x1024 ![48, 0] r slices_S64x1024_o48_0_S16x1024)
  (tileB XC (tbW a b s n (qW i 2#32)) (tloW a b s n (qW i 2#32)) (thiW a b s n (qW i 2#32)) (extractStridedSlice S16x1024 ![32, 0] r slices_S64x1024_o32_0_S16x1024)
  (tileB XC (tbW a b s n (qW i 1#32)) (tloW a b s n (qW i 1#32)) (thiW a b s n (qW i 1#32)) (extractStridedSlice S16x1024 ![16, 0] r slices_S64x1024_o16_0_S16x1024)
  (tileB XC (tbW a b s n (qW i 0#32)) (tloW a b s n (qW i 0#32)) (thiW a b s n (qW i 0#32)) (extractStridedSlice S16x1024 ![0, 0] r slices_S64x1024_o0_0_S16x1024) Y)))

/-- The result after `k` trips. -/
def tripsB (W : S33x2560x1024.Idx → Elt F .fp8e4m3) (e : ℕ) (XB : S256x2560.Idx → F .bf16) (XC : S256x128.Idx → F .f32) (WS : S33x1024.Idx → F .f32)
    (a b s n : BitVec 32) (Y : S256x1024.Idx → F .bf16) : ℕ → S256x1024.Idx → F .bf16
  | 0 => Y
  | k + 1 => tripB W e XB XC WS a b s n (Scf.iv 0#32 1#32 k) (tripsB W e XB XC WS a b s n Y k)

/-! ### The state and its steps -/

/-- The inner loop's state: the activations, their scales, the experts' scales, the slot's weights and the result, beside anything else held. -/
def Inn (c : Dev nD) (W : S33x2560x1024.Idx → Elt F .fp8e4m3) (j : Fin 20) (e : ℕ) (XB : S256x2560.Idx → F .bf16) (XC : S256x128.Idx → F .f32)
    (WS : S33x1024.Idx → F .f32) (R : sProp 𝕄) (Y : S256x1024.Idx → F .bf16) : sProp 𝕄 :=
  iprop(((Memref.whole cc0_scratch5).view.loc (c : Thread nD τ) ↦{fullShare} XB)
    ∗ ((Memref.whole cc0_scratch7).view.loc (c : Thread nD τ) ↦{fullShare} XC)
    ∗ ((Memref.whole cc0_scratch8).view.loc (c : Thread nD τ) ↦{fullShare} WS)
    ∗ slotIs c j (bufW W e)
    ∗ ((Memref.whole cc0_scratch9).view.loc (c : Thread nD τ) ↦{fullShare} Y) ∗ R)

section Steps

variable (c : Dev nD) {W : S33x2560x1024.Idx → Elt F .fp8e4m3} {j : Fin 20} {e : ℕ} {XB : S256x2560.Idx → F .bf16} {XC : S256x128.Idx → F .f32}
  {WS : S33x1024.Idx → F .f32} {Y : S256x1024.Idx → F .bf16}

/-- Loading sixteen rows of the activations. -/
theorem step_xb {R : sProp 𝕄} {off : Fin 2 → ℕ} {inb} {h} {K : Vec F S16x2560 .bf16 → sProp 𝕄} (b : ℕ) (hoff : off = ![b, 0])
    (hk : Inn c W j e XB XC WS R Y ⊢ K (rowsB XB b)) :
    Inn c W j e XB XC WS R Y ⊢ WP c (Prog.lift (.load (s := S256x2560) (e := .bf16) (Memref.whole cc0_scratch5) (Rect.unit (s := S256x2560) off S16x2560.size inb).toLoadRect h)) K := by
  have e1 : ((Memref.whole cc0_scratch5).access (Rect.unit (s := S256x2560) off S16x2560.size inb)).read (Elt F) XB = rowsB XB b := by
    subst hoff
    have h0 := inb 0
    simp [S256x2560, S16x2560] at h0
    funext x
    refine read_unit (Val := Elt F) cc0_scratch5 ![b, 0] S16x2560.size inb XB x _ ?_
    have hx : (x 0 : ℕ) < 16 := (x 0).isLt
    intro a; fin_cases a
    · show (b + (x 0 : ℕ)) % 256 = b + (x 0 : ℕ); rw [Nat.mod_eq_of_lt (by omega)]
    · show (x 1 : ℕ) = 0 + (x 1 : ℕ); omega
  rw [← e1] at hk
  unfold Inn at hk ⊢
  iintro ⟨H0, HR⟩
  iapply (wp_load_rect (k := Prog.ret) Variants.none (c : Thread nD τ) none Set.univ (m := Memref.whole cc0_scratch5) (r := Rect.unit (s := S256x2560) off S16x2560.size inb)
    (S := Finset.univ) (Finset.subset_univ _)) $$ H0
  iintro H0
  iapply (step_pure c (K := K) .rfl)
  iapply hk
  isplitl [H0] <;> iassumption

/-- Loading sixteen rows of the activations' scales. -/
theorem step_xc {R : sProp 𝕄} {off : Fin 2 → ℕ} {inb} {h} {K : Vec F S16x128 .f32 → sProp 𝕄} (b : ℕ) (hoff : off = ![b, 0])
    (hk : Inn c W j e XB XC WS R Y ⊢ K (rowsB XC b)) :
    Inn c W j e XB XC WS R Y ⊢ WP c (Prog.lift (.load (s := S256x128) (e := .f32) (Memref.whole cc0_scratch7) (Rect.unit (s := S256x128) off S16x128.size inb).toLoadRect h)) K := by
  have e1 : ((Memref.whole cc0_scratch7).access (Rect.unit (s := S256x128) off S16x128.size inb)).read (Elt F) XC = rowsB XC b := by
    subst hoff
    have h0 := inb 0
    simp [S256x128, S16x128] at h0
    funext x
    refine read_unit (Val := Elt F) cc0_scratch7 ![b, 0] S16x128.size inb XC x _ ?_
    have hx : (x 0 : ℕ) < 16 := (x 0).isLt
    intro a; fin_cases a
    · show (b + (x 0 : ℕ)) % 256 = b + (x 0 : ℕ); rw [Nat.mod_eq_of_lt (by omega)]
    · show (x 1 : ℕ) = 0 + (x 1 : ℕ); omega
  rw [← e1] at hk
  unfold Inn at hk ⊢
  iintro ⟨H0, H1, HR⟩
  iapply (wp_load_rect (k := Prog.ret) Variants.none (c : Thread nD τ) none Set.univ (m := Memref.whole cc0_scratch7) (r := Rect.unit (s := S256x128) off S16x128.size inb)
    (S := Finset.univ) (Finset.subset_univ _)) $$ H1
  iintro H1
  iapply (step_pure c (K := K) .rfl)
  iapply hk
  isplitl [H0]; · iexact H0
  isplitl [H1] <;> iassumption

/-- Loading the expert's scales. -/
theorem step_ws {R : sProp 𝕄} {off : Fin 2 → ℕ} {inb} {h} {K : Vec F S1x1024 .f32 → sProp 𝕄} (hoff : off = ![e, 0])
    (hk : Inn c W j e XB XC WS R Y ⊢ K (wsRow WS e)) :
    Inn c W j e XB XC WS R Y ⊢ WP c (Prog.lift (.load (s := S33x1024) (e := .f32) (Memref.whole cc0_scratch8) (Rect.unit (s := S33x1024) off S1x1024.size inb).toLoadRect h)) K := by
  have e1 : ((Memref.whole cc0_scratch8).access (Rect.unit (s := S33x1024) off S1x1024.size inb)).read (Elt F) WS = wsRow WS e := by
    subst hoff
    have h0 := inb 0
    simp [S33x1024, S1x1024] at h0
    funext x
    refine read_unit (Val := Elt F) cc0_scratch8 ![e, 0] S1x1024.size inb WS x _ ?_
    have hx : (x 0 : ℕ) < 1 := (x 0).isLt
    intro a; fin_cases a
    · show e % 33 = e + (x 0 : ℕ); rw [Nat.mod_eq_of_lt (by omega)]; omega
    · show (x 1 : ℕ) = 0 + (x 1 : ℕ); omega
  rw [← e1] at hk
  unfold Inn at hk ⊢
  iintro ⟨H0, H1, H2, HR⟩
  iapply (wp_load_rect (k := Prog.ret) Variants.none (c : Thread nD τ) none Set.univ (m := Memref.whole cc0_scratch8) (r := Rect.unit (s := S33x1024) off S1x1024.size inb)
    (S := Finset.univ) (Finset.subset_univ _)) $$ H2
  iintro H2
  iapply (step_pure c (K := K) .rfl)
  iapply hk
  isplitl [H0]; · iexact H0
  isplitl [H1]; · iexact H1
  isplitl [H2] <;> iassumption

/-- Loading the weights of the slot at hand. -/
theorem step_slot {R : sProp 𝕄} {off : Fin 3 → ℕ} {inb} {h} {K : Vec F S1x2560x1024 .fp8e4m3 → sProp 𝕄} (hoff : off = ![(j : ℕ), 0, 0])
    (hk : Inn c W j e XB XC WS R Y ⊢ K (slotV W e)) :
    Inn c W j e XB XC WS R Y ⊢ WP c (Prog.lift (.load (s := S20x2560x1024) (e := .fp8e4m3) (Memref.whole cc0_scratch3) (Rect.unit (s := S20x2560x1024) off S1x2560x1024.size inb).toLoadRect h)) K := by
  subst hoff
  have e1 : ((Memref.whole cc0_scratch3).access (Rect.unit (s := S20x2560x1024) ![(j : ℕ), 0, 0] S1x2560x1024.size inb)).read (Elt F) (bufW W e) = slotV W e := by
    funext x
    refine (read_unit (Val := Elt F) cc0_scratch3 ![(j : ℕ), 0, 0] S1x2560x1024.size inb (bufW W e) x (ix3 j (x 1) (x 2)) ?_).trans rfl
    have hx : (x 0 : ℕ) < 1 := (x 0).isLt
    intro a; fin_cases a
    · show (j : ℕ) = (j : ℕ) + (x 0 : ℕ); omega
    · show (x 1 : ℕ) = 0 + (x 1 : ℕ); omega
    · show (x 2 : ℕ) = 0 + (x 2 : ℕ); omega
  have e2 : ((Memref.whole cc0_scratch3).access (Rect.unit (s := S20x2560x1024) ![(j : ℕ), 0, 0] S1x2560x1024.size inb)).set ⊆ slotSet j := by
    intro i hi
    obtain ⟨x, -, hx⟩ := Finset.mem_map.mp hi
    rw [← hx]
    refine Finset.mem_filter.mpr ⟨Finset.mem_univ _, ?_⟩
    refine (Rect.emb_apply (Rect.unit (s := S20x2560x1024) ![(j : ℕ), 0, 0] S1x2560x1024.size inb) x 0).trans ?_
    have h1 : (x 0 : ℕ) < 1 := (x 0).isLt
    show (j : ℕ) + 1 * (x 0 : ℕ) = j
    omega
  rw [← e1] at hk
  unfold Inn slotIs at hk ⊢
  iintro ⟨H0, H1, H2, H3, HR⟩
  iapply (wp_load_rect (k := Prog.ret) Variants.none (c : Thread nD τ) none Set.univ (m := Memref.whole cc0_scratch3) (r := Rect.unit (s := S20x2560x1024) ![(j : ℕ), 0, 0] S1x2560x1024.size inb)
    (S := slotSet j) e2) $$ H3
  iintro H3
  iapply (step_pure c (K := K) .rfl)
  iapply hk
  isplitl [H0]; · iexact H0
  isplitl [H1]; · iexact H1
  isplitl [H2]; · iexact H2
  isplitl [H3] <;> iassumption

/-- Loading sixteen rows of the result. -/
theorem step_y {R : sProp 𝕄} {off : Fin 2 → ℕ} {inb} {h} {K : Vec F S16x1024 .bf16 → sProp 𝕄} (b : ℕ) (hoff : off = ![b, 0])
    (hk : Inn c W j e XB XC WS R Y ⊢ K (rowsB Y b)) :
    Inn c W j e XB XC WS R Y ⊢ WP c (Prog.lift (.load (s := S256x1024) (e := .bf16) (Memref.whole cc0_scratch9) (Rect.unit (s := S256x1024) off S16x1024.size inb).toLoadRect h)) K := by
  have e1 : ((Memref.whole cc0_scratch9).access (Rect.unit (s := S256x1024) off S16x1024.size inb)).read (Elt F) Y = rowsB Y b := by
    subst hoff
    have h0 := inb 0
    simp [S256x1024, S16x1024] at h0
    funext x
    refine read_unit (Val := Elt F) cc0_scratch9 ![b, 0] S16x1024.size inb Y x _ ?_
    have hx : (x 0 : ℕ) < 16 := (x 0).isLt
    intro a; fin_cases a
    · show (b + (x 0 : ℕ)) % 256 = b + (x 0 : ℕ); rw [Nat.mod_eq_of_lt (by omega)]
    · show (x 1 : ℕ) = 0 + (x 1 : ℕ); omega
  rw [← e1] at hk
  unfold Inn at hk ⊢
  iintro ⟨H0, H1, H2, H3, H4, HR⟩
  iapply (wp_load_rect (k := Prog.ret) Variants.none (c : Thread nD τ) none Set.univ (m := Memref.whole cc0_scratch9) (r := Rect.unit (s := S256x1024) off S16x1024.size inb)
    (S := Finset.univ) (Finset.subset_univ _)) $$ H4
  iintro H4
  iapply (step_pure c (K := K) .rfl)
  iapply hk
  isplitl [H0]; · iexact H0
  isplitl [H1]; · iexact H1
  isplitl [H2]; · iexact H2
  isplitl [H3]; · iexact H3
  isplitl [H4] <;> iassumption

/-- Storing sixteen rows of the result. -/
theorem step_put {R : sProp 𝕄} {off : Fin 2 → ℕ} {inb} {hx hm} {v : Vec F S16x1024 .bf16} {K : PUnit → sProp 𝕄} (b : ℕ) (hoff : off = ![b, 0])
    (hk : Inn c W j e XB XC WS R (putB Y b v) ⊢ K ⟨⟩) :
    Inn c W j e XB XC WS R Y ⊢ WP c (Prog.lift (.store (s := S256x1024) (e := .bf16) (Memref.whole cc0_scratch9) (Rect.unit (s := S256x1024) off S16x1024.size inb) v Finset.univ hx hm)) K := by
  have e1 : ((Memref.whole cc0_scratch9).access (Rect.unit (s := S256x1024) off S16x1024.size inb)).write (Elt F) Y v Finset.univ = putB Y b v := by
    subst hoff
    refine write_unit (Val := Elt F) cc0_scratch9 ![b, 0] S16x1024.size inb Y v (putB Y b v) ?_ ?_
    · intro i x hi
      have h0 : (i 0 : ℕ) = b + (x 0 : ℕ) := hi 0
      have h1 : (i 1 : ℕ) = 0 + (x 1 : ℕ) := hi 1
      have x0 : (x 0 : ℕ) < 16 := (x 0).isLt
      refine (if_pos ⟨by omega, by omega⟩).trans (congrArg v ?_)
      funext a; apply Fin.ext; fin_cases a
      · show ((i 0 : ℕ) - b) % 16 = x 0; rw [Nat.mod_eq_of_lt (by omega)]; omega
      · show (i 1 : ℕ) = x 1; omega
    · intro i hi
      refine if_neg fun h => hi ?_
      have h1 : (i 1 : ℕ) < 1024 := (i 1).isLt
      intro a; fin_cases a
      · exact ⟨h.1, h.2⟩
      · exact ⟨Nat.zero_le _, by show (i 1 : ℕ) < 0 + 1024; omega⟩
  unfold Inn at hk ⊢
  rw [← e1] at hk
  iintro ⟨H0, H1, H2, H3, H4, HR⟩
  iapply (wp_store (k := Prog.ret) Variants.none (c : Thread nD τ) none Set.univ (m := Memref.whole cc0_scratch9) (r := Rect.unit (s := S256x1024) off S16x1024.size inb)
    (S := Finset.univ) (Finset.subset_univ _)) $$ H4
  iintro H4
  iapply (step_pure c (K := K) .rfl)
  iapply hk
  isplitl [H0]; · iexact H0
  isplitl [H1]; · iexact H1
  isplitl [H2]; · iexact H2
  isplitl [H3]; · iexact H3
  isplitl [H4] <;> iassumption

end Steps

end Cert.KernelIdeal.Hand

end
-- ==== Proof.KernelIdeal.Run6.lean ====
/-
  The loops over the listed experts and their tiles.
-/
module

public import proofs.«01_k».proof.Proof.KernelIdeal.Run5
public import proofs.«01_k».proof.Proof.KernelIdeal.Tile

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

section Lemmas

variable (c : Dev nD) {C f : S2x33.Idx → BitVec 32} {g : S34.Idx → BitVec 32}

theorem step_ordV {R : sProp 𝕄} {n k : ℕ} {off : Fin 1 → ℕ} {inb} {K : Elt F .i32 → sProp 𝕄} (i : ℕ) (hoff : off 0 = i)
    (hk : ∀ v : BitVec 32, v = orF C g k (ixO (Fin.ofNat 34 i)) → Pro c C f g R n k ⊢ K v) :
    Pro c C f g R n k ⊢ WP c (smemLoad (s := S34) (e := .i32) (Memref.whole cc0_scratch2) (Rect.unit (s := S34) off S1.size inb) numel1_S1 rfl) K :=
  step_ord c i hoff (hk _ rfl)

theorem step_stV {R : sProp 𝕄} {n k : ℕ} {off : Fin 2 → ℕ} {inb} {K : Elt F .i32 → sProp 𝕄} (s e : ℕ) (hoff : off = ![s, e])
    (hk : ∀ v : BitVec 32, v = stF C f n (ixC (Fin.ofNat 2 s) (Fin.ofNat 33 e)) → Pro c C f g R n k ⊢ K v) :
    Pro c C f g R n k ⊢ WP c (smemLoad (s := S2x33) (e := .i32) (Memref.whole cc0_scratch1) (Rect.unit (s := S2x33) off S1x1.size inb) numel1_S1x1 rfl) K :=
  step_st c s e hoff (hk _ rfl)

theorem step_ctV {R : sProp 𝕄} {n k : ℕ} {off : Fin 2 → ℕ} {inb} {K : Elt F .i32 → sProp 𝕄} (s e : ℕ) (hoff : off = ![s, e])
    (hk : ∀ v : BitVec 32, v = wd C s e → Pro c C f g R n k ⊢ K v) :
    Pro c C f g R n k ⊢ WP c (smemLoad (s := S2x33) (e := .i32) (Memref.whole cc0_scratch0) (Rect.unit (s := S2x33) off S1x1.size inb) numel1_S1x1 rfl) K :=
  step_ct c s e hoff (hk _ rfl)

/-- The loop's asking for the slot nineteen places ahead, or not. -/
theorem step_pre2 {W : S33x2560x1024.Idx → Elt F .fp8e4m3} {R : sProp 𝕄} {n k : ℕ} (ord : ℕ → ℕ) {α : Type} {cnd : BitVec 1} {p : cnd = 1#1 → Prog (TpuEff nD τ sig (Elt F) Λ₀ .tc) α}
    {K : α → sProp 𝕄} (i : ℕ) {Q : Prog (TpuEff nD τ sig (Elt F) Λ₀ .tc) α}
    (hc : condW (nwW C 31) (Scf.iv 0#32 1#32 i) = cnd) (hi : i < 100)
    (ht : ∀ h, i + 19 < nw C → (Pro c C f g iprop(ring c W ord i (i + 20) ∗ R) n k ⊢ WP c Q K) →
      Pro c C f g iprop(ring c W ord i (i + 19) ∗ R) n k ⊢ WP c (p h) K)
    (hk : Pro c C f g iprop(ring c W ord i (min (i + 20) (nw C)) ∗ R) n k ⊢ WP c Q K) :
    Pro c C f g iprop(ring c W ord i (min (i + 19) (nw C)) ∗ R) n k ⊢ WP c (if h : cnd = 1#1 then p h else Q) K := by
  have hb := nw_bound C
  have key : cnd = 1#1 ↔ i + 19 < nw C := by
    rw [← hc, nw_word]; exact condW_iff (by omega) (by omega)
  by_cases h : cnd = 1#1
  · have hlt := key.mp h
    rw [dif_pos h]
    rw [show min (i + 20) (nw C) = i + 20 by omega] at hk
    rw [show min (i + 19) (nw C) = i + 19 by omega]
    exact ht h hlt hk
  · have hge : nw C ≤ i + 19 := by
      exact Nat.le_of_not_lt (fun hx => h (key.mpr hx))
    rw [dif_neg h]
    rw [show min (i + 20) (nw C) = nw C by omega] at hk
    rw [show min (i + 19) (nw C) = nw C by omega]
    exact hk

theorem iv_nat {t : ℕ} (h : t < 1000) : (Scf.iv 0#32 1#32 t).toNat = t := by
  rw [w_iv, w_nat (by omega)]

theorem iv19_nat {t : ℕ} (h : t < 1000) : (Scalar.addi (Scf.iv 0#32 1#32 t) 19#32).toNat = t + 19 := by
  rw [w_iv, show (19#32 : BitVec 32) = BitVec.ofNat 32 19 from rfl, w_add, w_nat (by omega)]

theorem b4 {s x : ℕ} (hs : s < 2) (h : x < 33) : ∀ a, (![s, x] : Fin 2 → ℕ) a + S1x1.size a ≤ S2x33.size a := by
  intro a; fin_cases a
  · exact hs
  · exact h

theorem chkP {A B : Prop} (e : A = B) (h : A) : B := e ▸ h

end Lemmas

/-- The start of an expert's run in a sequence, as the table holds it. -/
def stE (C f : S2x33.Idx → BitVec 32) (s e : ℕ) : BitVec 32 := stF C f 66 (ixC (Fin.ofNat 2 s) (Fin.ofNat 33 e))

/-- The runs of every expert lie in their sequences. -/
def Fit (C f : S2x33.Idx → BitVec 32) : Prop := ∀ e, e < 33 → ∃ a b s n : ℕ, stE C f 0 e = BitVec.ofNat 32 a ∧ wd C 0 e = BitVec.ofNat 32 b
  ∧ stE C f 1 e = BitVec.ofNat 32 s ∧ wd C 1 e = BitVec.ofNat 32 n ∧ a + b ≤ 128 ∧ s + n ≤ 128

/-- The result before the loops. -/
def yZ : S256x1024.Idx → F .bf16 :=
  shapeCast S256x1024 (broadcast S256x1024 (Scalar.ofBits .bf16 0x0000#16 : F .bf16) : FVec F S256x1024 .bf16) shapeCasts_S256x1024_S256x1024

/-- The result after the first `i` listed experts. -/
def outY (C f : S2x33.Idx → BitVec 32) (W : S33x2560x1024.Idx → Elt F .fp8e4m3) (XB : S256x2560.Idx → F .bf16) (XC : S256x128.Idx → F .f32) (WS : S33x1024.Idx → F .f32)
    (ord : ℕ → ℕ) : ℕ → S256x1024.Idx → F .bf16
  | 0 => yZ
  | i + 1 => tripsB W (ord i) XB XC WS (stE C f 0 (ord i)) (wd C 0 (ord i)) (stE C f 1 (ord i)) (wd C 1 (ord i)) (outY C f W XB XC WS ord i)
      (L1 (ntW (stE C f 0 (ord i)) (wd C 0 (ord i)) (stE C f 1 (ord i)) (wd C 1 (ord i)))).trips

/-- The credit of the copy of the result. -/
def nY : ℕ := (Memref.whole main_v1).view.dmaCredit

theorem nY_pos : 0 < nY := by unfold nY; decide

/-- The loop's state after `i` listed experts, beside the tables. -/
abbrev LoopR (c : Dev nD) (C f : S2x33.Idx → BitVec 32) (g : S34.Idx → BitVec 32) (W : S33x2560x1024.Idx → Elt F .fp8e4m3) (XB : S256x2560.Idx → F .bf16) (XC : S256x128.Idx → F .f32) (WS : S33x1024.Idx → F .f32)
    (Z : sProp 𝕄) (i : ℕ) : sProp 𝕄 :=
  iprop(anyOwes c ∗ has c (Memref.whole cc0_scratch5) XB ∗ has c (Memref.whole cc0_scratch7) XC ∗ has c (Memref.whole cc0_scratch8) WS
    ∗ has c (Memref.whole cc0_scratch9) (outY C f W XB XC WS (ordF (orF C g 33)) i) ∗ Z)

/-- The loop's state after `i` listed experts. -/
def LoopI (c : Dev nD) (C f : S2x33.Idx → BitVec 32) (g : S34.Idx → BitVec 32) (W : S33x2560x1024.Idx → Elt F .fp8e4m3) (XB : S256x2560.Idx → F .bf16) (XC : S256x128.Idx → F .f32) (WS : S33x1024.Idx → F .f32)
    (Z : sProp 𝕄) (i : ℕ) : sProp 𝕄 :=
  Pro c C f g iprop(ring c W (ordF (orF C g 33)) i (min (i + 19) (nw C)) ∗ LoopR c C f g W XB XC WS Z i) 66 33

set_option maxHeartbeats 16000000 in
/-- The loops and the copy of the result. -/
theorem run6 (c : Dev nD) (C f : S2x33.Idx → BitVec 32) (g : S34.Idx → BitVec 32) (W : S33x2560x1024.Idx → Elt F .fp8e4m3) (XB : S256x2560.Idx → F .bf16) (XC : S256x128.Idx → F .f32)
    (WS : S33x1024.Idx → F .f32) (y0 : S256x1024.Idx → F .bf16) (Z : sProp 𝕄) (K : PUnit → sProp 𝕄) (hF : Fit C f)
    (hk : iprop(has c (Memref.whole main_v1) (outY C f W XB XC WS (ordF (orF C g 33)) (nw C)) ∗ off0 c cc0_scratch15.sem ∗ LoopI c C f g W XB XC WS Z (nw C)) ⊢ K ⟨⟩) :
    LoopI c C f g W XB XC WS iprop(has c (Memref.whole main_v1) y0 ∗ off0 c cc0_scratch15.sem ∗ Z) 0 ⊢ WP c (run5 c C W).1 K := by
  have hnw := nw_bound C
  unfold run5
  dsimp only
  with_reducible refine step_bind (F := F) c ?_
  refine step_for (F := F) c (I := fun i => LoopI c C f g W XB XC WS iprop(has c (Memref.whole main_v1) y0 ∗ off0 c cc0_scratch15.sem ∗ Z) i) (n := nw C) ?_ .rfl ?_ ?_
  · show (L1 (nwW C 31)).trips = nw C
    rw [nw_word]; exact L1_trips (by omega)
  · intro t
    have ht : (t : ℕ) < nw C := lt_of_lt_of_eq t.isLt (show (L1 (nwW C 31)).trips = nw C by rw [nw_word]; exact L1_trips (by omega))
    unfold LoopI
    with_reducible refine step_bind (F := F) c ?_
    unfold k0_part7
    refine step_pre2 (F := F) c (ordF (orF C g 33)) t rfl (by omega) ?_ ?_
    · intro h hlt hk''
      with_reducible refine step_bind (F := F) c ?_
      refine step_ordV (F := F) c (t + 19) (iv19_nat (by omega)) ?_
      intro v hv
      have hv' : v.toNat = ordF (orF C g 33) (t + 19) := by rw [hv]; rfl
      with_reducible refine step_bind (F := F) c ?_
      refine step_assume (F := F) c ⟨fun _ => b3 (hv' ▸ ord_lt C g hlt), fun _ hinb => words_slot hinb⟩ ?_
      with_reducible refine step_bind (F := F) c ?_
      refine step_ask (F := F) c (ordF (orF C g 33)) t (t + 19) (by omega) (by omega) (ord_lt C g hlt)
        (congrArg (fun x : ℕ => (![x, 0, 0] : Fin 3 → ℕ)) (slA_eq (by omega)))
        (congrArg (fun x : ℕ => (![x, 0, 0] : Fin 3 → ℕ)) hv')
        (congrArg (fun x : ℕ => (![x] : Fin 1 → ℕ)) (slA_eq (by omega))) ?_
      exact hk''
    obtain ⟨M, hM⟩ : ∃ M, M = min ((t : ℕ) + 20) (nw C) := ⟨_, rfl⟩
    rw [← hM]
    have hM1 : (t : ℕ) < M := by omega
    have hM2 : M ≤ (t : ℕ) + 20 := by omega
    with_reducible refine step_bind (F := F) c ?_
    refine step_ordV (F := F) c t (iv_nat (by omega)) ?_
    intro v hv
    have he : ordF (orF C g 33) t = v.toNat := by rw [hv]; rfl
    have he33 : v.toNat < 33 := he ▸ ord_lt C g ht
    clear hv
    with_reducible refine step_bind (F := F) c ?_
    refine step_assume (F := F) c ⟨b3 he33, fun hinb => words_slot hinb, b4 (by decide) he33, b4 (by decide) he33⟩ ?_
    with_reducible refine step_bind (F := F) c ?_
    refine step_wait (F := F) (Wt := ∅) c W (slotOf t) v.toNat (P' := iprop((slotFree c W (slotOf t) -∗ ring c W (ordF (orF C g 33)) (t + 1) M)
      ∗ Pro c C f g iprop(has c (Memref.whole cc0_scratch5) XB ∗ has c (Memref.whole cc0_scratch7) XC ∗ has c (Memref.whole cc0_scratch8) WS
    ∗ has c (Memref.whole cc0_scratch9) (outY C f W XB XC WS (ordF (orF C g 33)) t) ∗ has c (Memref.whole main_v1) y0 ∗ off0 c cc0_scratch15.sem ∗ Z) 66 33))
      (congrArg (fun x : ℕ => (![x] : Fin 1 → ℕ)) (slB_eq (by omega))) ?_ ?_
    · rw [← he]
      refine (Pro_swap c).trans ?_
      iintro ⟨H, HP⟩
      ihave H := (ring_wait c W (ordF (orF C g 33)) t M hM1 hM2) $$ H
      icases H with ⟨H, HB⟩
      ihave HP := (Pro_swap c) $$ HP
      icases HP with ⟨HO, HP⟩
      isplitl [H]; · iexact H
      isplitl [HO]; · iexact HO
      isplitl [HB] <;> iassumption
    refine BIBase.Entails.trans (Q := Pro c C f g iprop(slotFull c W (slotOf t) v.toNat ∗ anyOwes c ∗ (slotFree c W (slotOf t) -∗ ring c W (ordF (orF C g 33)) (t + 1) M)
      ∗ has c (Memref.whole cc0_scratch5) XB ∗ has c (Memref.whole cc0_scratch7) XC ∗ has c (Memref.whole cc0_scratch8) WS
    ∗ has c (Memref.whole cc0_scratch9) (outY C f W XB XC WS (ordF (orF C g 33)) t) ∗ has c (Memref.whole main_v1) y0 ∗ off0 c cc0_scratch15.sem ∗ Z) 66 33) ?_ ?_
    · unfold Pro
      exact Entails.of_eq (by (try simp only [anyOwes, has, off0]); (try dsimp only [Space.vmem, Space.smem]); ac_rfl)
    with_reducible refine step_bind (F := F) c ?_
    refine step_stV (F := F) c 0 v.toNat rfl ?_
    intro a ha
    with_reducible refine step_bind (F := F) c ?_
    refine step_ctV (F := F) c 0 v.toNat rfl ?_
    intro b hb
    with_reducible refine step_bind (F := F) c ?_
    refine step_stV (F := F) c 1 v.toNat rfl ?_
    intro s hs
    with_reducible refine step_bind (F := F) c ?_
    refine step_ctV (F := F) c 1 v.toNat rfl ?_
    intro n hn
    have h51 : Chk51 t v a b s n := by
      obtain ⟨a', b', s', n', h1, h2, h3, h4, h5, h6⟩ := hF _ he33
      rw [ha, hb, hs, hn]
      unfold stE at h1 h3
      rw [h1, h2, h3, h4]
      exact chk51_of (by omega) he33 h5 h6
    have h3 : (L4 (ntW a b s n)).trips = 0 := by
      obtain ⟨a', b', s', n', h1, h2, h3, h4, h5, h6⟩ := hF _ he33
      have hle := ntN_le h5 h6
      rw [ha, hb, hs, hn]
      unfold stE at h1 h3
      rw [h1, h2, h3, h4, ntW_eq h5 h6]
      exact L4_trips (by omega)
    with_reducible refine step_bind (F := F) c ?_
    refine step_assume (F := F) c h51 ?_
    refine step_pure (F := F) c ?_
    dsimp only
    have hout : outY C f W XB XC WS (ordF (orF C g 33)) (t + 1) = tripsB W v.toNat XB XC WS a b s n (outY C f W XB XC WS (ordF (orF C g 33)) t) (L1 (ntW a b s n)).trips := by
      rw [ha, hb, hs, hn, ← he]; rfl
    clear ha hb hs hn
    obtain ⟨Y, hY⟩ : ∃ Y, Y = outY C f W XB XC WS (ordF (orF C g 33)) t := ⟨_, rfl⟩
    rw [← hY] at hout ⊢
    clear hY
    with_reducible refine step_bind (F := F) c ?_
    refine step_for (F := F) c (I := fun k => Inn c W (slotOf t) v.toNat XB XC WS
      (Pro c C f g iprop(semVal ((c : Thread nD τ), .dma (slotSem (slotOf t))) 0 ∗ wTok c W (slotOf t) ∗ anyOwes c ∗ (slotFree c W (slotOf t) -∗ ring c W (ordF (orF C g 33)) (t + 1) M)
      ∗ has c (Memref.whole main_v1) y0 ∗ off0 c cc0_scratch15.sem ∗ Z) 66 33) (tripsB W v.toNat XB XC WS a b s n Y k)) (n := (L1 (ntW a b s n)).trips) rfl ?_ ?_ ?_
    · unfold Inn Pro slotFull tripsB
      exact Entails.of_eq (by (try simp only [anyOwes, has, off0]); (try dsimp only [Space.vmem, Space.smem]); ac_rfl)
    · intro t2
      show Inn c W (slotOf t) v.toNat XB XC WS _ (tripsB W v.toNat XB XC WS a b s n Y t2) ⊢ WP c _ (fun _ => Inn c W (slotOf t) v.toNat XB XC WS _ (tripB W v.toNat XB XC WS a b s n (Scf.iv 0#32 1#32 t2) (tripsB W v.toNat XB XC WS a b s n Y t2)))
      generalize tripsB W v.toNat XB XC WS a b s n Y t2 = Y'
      with_reducible refine step_bind (F := F) c ?_
      unfold k0_part1
      refine step_pure (F := F) c ?_
      dsimp only
      with_reducible refine step_bind (F := F) c ?_
      unfold k0_part2
      with_reducible refine step_bind (F := F) c ?_
      refine step_xb (F := F) c (tbW a b s n (qW (Scf.iv 0#32 1#32 t2) 0#32)).toNat rfl ?_
      with_reducible refine step_bind (F := F) c ?_
      refine step_xb (F := F) c (tbW a b s n (qW (Scf.iv 0#32 1#32 t2) 1#32)).toNat rfl ?_
      with_reducible refine step_bind (F := F) c ?_
      refine step_xb (F := F) c (tbW a b s n (qW (Scf.iv 0#32 1#32 t2) 2#32)).toNat rfl ?_
      with_reducible refine step_bind (F := F) c ?_
      refine step_xb (F := F) c (tbW a b s n (qW (Scf.iv 0#32 1#32 t2) 3#32)).toNat rfl ?_
      with_reducible refine step_bind (F := F) c ?_
      refine step_slot (F := F) c (congrArg (fun x : ℕ => (![x, 0, 0] : Fin 3 → ℕ)) (slB_eq (by omega))) ?_
      with_reducible refine step_bind (F := F) c ?_
      refine step_ws (F := F) c rfl ?_
      with_reducible refine step_bind (F := F) c ?_
      refine step_xc (F := F) c (tbW a b s n (qW (Scf.iv 0#32 1#32 t2) 0#32)).toNat rfl ?_
      refine step_pure (F := F) c ?_
      dsimp only
      with_reducible refine step_bind (F := F) c ?_
      unfold k0_part3
      with_reducible refine step_bind (F := F) c ?_
      refine step_y (F := F) c (tbW a b s n (qW (Scf.iv 0#32 1#32 t2) 0#32)).toNat rfl ?_
      with_reducible refine step_bind (F := F) c ?_
      refine step_y (F := F) c (tbW a b s n (qW (Scf.iv 0#32 1#32 t2) 0#32)).toNat rfl ?_
      with_reducible refine step_bind (F := F) c ?_
      refine step_put (F := F) c (tbW a b s n (qW (Scf.iv 0#32 1#32 t2) 0#32)).toNat rfl ?_
      with_reducible refine step_bind (F := F) c ?_
      refine step_xc (F := F) c (tbW a b s n (qW (Scf.iv 0#32 1#32 t2) 1#32)).toNat rfl ?_
      with_reducible refine step_bind (F := F) c ?_
      refine step_y (F := F) c (tbW a b s n (qW (Scf.iv 0#32 1#32 t2) 1#32)).toNat rfl ?_
      with_reducible refine step_bind (F := F) c ?_
      refine step_y (F := F) c (tbW a b s n (qW (Scf.iv 0#32 1#32 t2) 1#32)).toNat rfl ?_
      with_reducible refine step_bind (F := F) c ?_
      refine step_put (F := F) c (tbW a b s n (qW (Scf.iv 0#32 1#32 t2) 1#32)).toNat rfl ?_
      with_reducible refine step_bind (F := F) c ?_
      refine step_xc (F := F) c (tbW a b s n (qW (Scf.iv 0#32 1#32 t2) 2#32)).toNat rfl ?_
      with_reducible refine step_bind (F := F) c ?_
      refine step_y (F := F) c (tbW a b s n (qW (Scf.iv 0#32 1#32 t2) 2#32)).toNat rfl ?_
      refine step_pure (F := F) c ?_
      dsimp only
      with_reducible refine step_bind (F := F) c ?_
      refine step_y (F := F) c (tbW a b s n (qW (Scf.iv 0#32 1#32 t2) 2#32)).toNat rfl ?_
      with_reducible refine step_bind (F := F) c ?_
      refine step_put (F := F) c (tbW a b s n (qW (Scf.iv 0#32 1#32 t2) 2#32)).toNat rfl ?_
      with_reducible refine step_bind (F := F) c ?_
      refine step_xc (F := F) c (tbW a b s n (qW (Scf.iv 0#32 1#32 t2) 3#32)).toNat rfl ?_
      with_reducible refine step_bind (F := F) c ?_
      refine step_y (F := F) c (tbW a b s n (qW (Scf.iv 0#32 1#32 t2) 3#32)).toNat rfl ?_
      with_reducible refine step_bind (F := F) c ?_
      refine step_y (F := F) c (tbW a b s n (qW (Scf.iv 0#32 1#32 t2) 3#32)).toNat rfl ?_
      with_reducible refine step_bind (F := F) c ?_
      refine step_put (F := F) c (tbW a b s n (qW (Scf.iv 0#32 1#32 t2) 3#32)).toNat rfl ?_
      refine step_pure (F := F) c ?_
      exact .rfl
    with_reducible refine step_bind (F := F) c ?_
    refine step_for0 (F := F) c h3 ?_
    refine step_pure (F := F) c ?_
    dsimp only
    rw [← hout]
    unfold LoopR
    generalize outY C f W XB XC WS (ordF (orF C g 33)) (t + 1) = Y'
    refine BIBase.Entails.trans (Q := Pro c C f g iprop((slotFull c W (slotOf t) v.toNat ∗ (slotFree c W (slotOf t) -∗ ring c W (ordF (orF C g 33)) (t + 1) M))
      ∗ anyOwes c ∗ has c (Memref.whole cc0_scratch5) XB ∗ has c (Memref.whole cc0_scratch7) XC ∗ has c (Memref.whole cc0_scratch8) WS
    ∗ has c (Memref.whole cc0_scratch9) Y' ∗ has c (Memref.whole main_v1) y0 ∗ off0 c cc0_scratch15.sem ∗ Z) 66 33) ?_ ?_
    · unfold Inn Pro slotFull
      exact Entails.of_eq (by (try simp only [anyOwes, has, off0]); (try dsimp only [Space.vmem, Space.smem]); ac_rfl)
    refine Pro_mono c ?_
    iintro ⟨⟨H, HB⟩, HR⟩
    ihave H := (slotFull_free c W (slotOf t) v.toNat) $$ H
    isplitl [H HB]
    · iapply HB; iexact H
    iexact HR
  · with_reducible refine step_bind (F := F) c ?_
    refine step_for0 (F := F) c ?_ ?_
    · show (L4 (nwW C 31)).trips = 0
      rw [nw_word]; exact L4_trips (by omega)
    obtain ⟨Y, hY⟩ : ∃ Y, Y = outY C f W XB XC WS (ordF (orF C g 33)) (nw C) := ⟨_, rfl⟩
    unfold LoopI LoopR at hk ⊢
    rw [← hY] at hk ⊢
    with_reducible refine step_bind (F := F) c ?_
    refine step_send (F := F) c (fs := Y) (fd := y0) (N := nY) (D := iprop(has c (Memref.whole main_v1) Y ∗ has c (Memref.whole cc0_scratch9) Y))
      (P' := Pro c C f g iprop(ring c W (ordF (orF C g 33)) (nw C) (min (nw C + 19) (nw C)) ∗ anyOwes c ∗ has c (Memref.whole cc0_scratch5) XB ∗ has c (Memref.whole cc0_scratch7) XC ∗ has c (Memref.whole cc0_scratch8) WS ∗ Z) 66 33)
      rfl nY_pos (View.set_whole _) ?_ ?_ ?_
    · refine Entails.of_eq ?_
      refine congrArg (fun x => iprop(((Memref.whole main_v1).view.loc (c : Thread nD τ) ↦{fullShare} x) ∗ _)) ?_
      exact View.write_whole_univ ..
    · show _ ⊢ iprop((has c (Memref.whole cc0_scratch9) Y ∗ has c (Memref.whole main_v1) y0 ∗ off0 c cc0_scratch15.sem) ∗ _)
      generalize min (nw C + 19) (nw C) = M
      unfold Pro
      exact Entails.of_eq (by (try simp only [anyOwes, has, off0]); (try dsimp only [Space.vmem, Space.smem]); ac_rfl)
    with_reducible refine step_bind (F := F) c ?_
    refine step_await (F := F) c (N := nY) (D := iprop(has c (Memref.whole main_v1) Y ∗ has c (Memref.whole cc0_scratch9) Y))
      (P' := Pro c C f g iprop(ring c W (ordF (orF C g 33)) (nw C) (min (nw C + 19) (nw C)) ∗ has c (Memref.whole cc0_scratch5) XB ∗ has c (Memref.whole cc0_scratch7) XC ∗ has c (Memref.whole cc0_scratch8) WS ∗ Z) 66 33)
      rfl ?_ ?_
    · generalize min (nw C + 19) (nw C) = M
      unfold Pro
      exact Entails.of_eq (by (try simp only [anyOwes, has, off0]); (try dsimp only [Space.vmem, Space.smem]); ac_rfl)
    refine step_pure (F := F) c ?_
    refine BIBase.Entails.trans ?_ hk
    generalize min (nw C + 19) (nw C) = M
    unfold Pro
    exact Entails.of_eq (by (try simp only [anyOwes, has, off0]); (try dsimp only [Space.vmem, Space.smem]); ac_rfl)

end Cert.KernelIdeal.Hand

end
-- ==== Proof.KernelIdeal.Part15.lean ====
/-
  The kernel's first part.
-/
module

public import proofs.«01_k».proof.Proof.KernelIdeal.Run6

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The credit of the copy of the counts. -/
def nC : ℕ := (Memref.whole cc0_scratch0).view.dmaCredit

theorem nC_pos : 0 < nC := by unfold nC; decide
theorem nX_pos : 0 < nX := View.dmaCredit_pos _ (by decide)
theorem nXS_pos : 0 < nXS := View.dmaCredit_pos _ (by decide)
theorem nWS_pos : 0 < nWS := View.dmaCredit_pos _ (by decide)

/-- What the copy of the counts delivers. -/
abbrev dC (c : Dev nD) (C : S2x33.Idx → BitVec 32) : sProp 𝕄 := iprop(has c (Memref.whole cc0_scratch0) C ∗ has c (Memref.whole main_arg4) C)

/-- Storing the whole result buffer. -/
theorem write_y (a : S256x1024.Idx → F .bf16) (inb) :
    ((Memref.whole cc0_scratch9).access (Rect.unit (s := S256x1024) ![0, 0] S256x1024.size inb)).write (Elt F) a (yZ (F := F)) Finset.univ = yZ := by
  refine write_unit (Val := Elt F) cc0_scratch9 ![0, 0] S256x1024.size inb a (yZ (F := F)) (yZ (F := F)) ?_ ?_
  · intro i x hi
    congr 1
    funext a; apply Fin.ext
    refine (hi a).trans ?_
    fin_cases a <;> exact Nat.zero_add _
  · intro i hi
    refine absurd (fun a => ?_) hi
    have := (i a).isLt
    fin_cases a
    · exact ⟨Nat.zero_le _, lt_of_lt_of_eq this (Nat.zero_add _).symm⟩
    · exact ⟨Nat.zero_le _, lt_of_lt_of_eq this (Nat.zero_add _).symm⟩

/-- Asking for the next slot of the ring, with anything held beside. -/
theorem step_ask0 (c : Dev nD) {W : S33x2560x1024.Idx → Elt F .fp8e4m3} {R : sProp 𝕄} {offd : Fin 3 → ℕ} {inbd} {offs : Fin 3 → ℕ} {inbs}
    {offm : Fin 1 → ℕ} {inbm} {h1 h2 h3} {K : PUnit → sProp 𝕄} (ord : ℕ → ℕ) (lo hi : ℕ) (h : lo ≤ hi) (h' : hi < lo + 20) (he : ord hi < 33)
    (hd : offd = ![hi % 20, 0, 0]) (hs : offs = ![ord hi, 0, 0]) (hm : offm = ![hi % 20])
    (hk : iprop(ring c W ord lo (hi + 1) ∗ R) ⊢ K ⟨⟩) :
    iprop(ring c W ord lo hi ∗ R) ⊢
      WP c (Prog.lift (.enqueueDma (wSrc offs inbs) (.here (wDst offd inbd)) (.dma (wSem offm inbm)) h1 h2 h3)) K := by
  refine step_issue c W (P' := iprop((slotFly c W (slotOf hi) (ord hi) -∗ ring c W ord lo (hi + 1)) ∗ R)) (slotOf hi) (ord hi) he hd hs hm ?_ ?_
  · iintro ⟨H, HP⟩
    ihave H := (ring_issue c W ord lo hi h h') $$ H
    icases H with ⟨Ha, Hb⟩
    isplitl [Ha]; · iexact Ha
    isplitl [Hb]; · iexact Hb
    iexact HP
  · refine BIBase.Entails.trans ?_ hk
    iintro ⟨H, Hb, HP⟩
    isplitr [HP]
    · iapply Hb; iexact H
    · iexact HP

/-- The first two places of the list of experts. -/
theorem ord_two (C : S2x33.Idx → BitVec 32) (g : S34.Idx → BitVec 32) (i : ℕ) (hi : i < 2) : ordF (orF C g 33) i = i := by
  have key : ∀ m, m ≤ 31 → orF C g (m + 2) (ixO (Fin.ofNat 34 i)) = BitVec.ofNat 32 i := by
    intro m hm
    have hi' : ((ixO (Fin.ofNat 34 i)) 0 : ℕ) = i := by show i % 34 = i; omega
    induction m with
    | zero =>
      by_cases h1 : i = 1
      · exact (if_pos (hi'.trans h1)).trans (by rw [h1])
      · exact (if_neg (fun h => h1 (hi'.symm.trans h))).trans ((if_pos (show ((ixO (Fin.ofNat 34 i)) 0 : ℕ) = 0 by omega)).trans (by rw [show i = 0 by omega]))
    | succ m ih =>
      obtain ⟨k, hk, h2, h3⟩ := nwW_bound C m (by omega)
      refine (if_neg ?_).trans (ih (by omega))
      rw [hi', if_neg (by omega), show m + 2 - 2 = m by omega, hk, w_nat (by omega)]
      omega
  unfold ordF
  rw [key 31 (by omega), w_nat (by omega)]

/-- What is held beside the tables once the first part is done. -/
def StartR (c : Dev nD) (C : S2x33.Idx → BitVec 32) (W : S33x2560x1024.Idx → Elt F .fp8e4m3) (ord : ℕ → ℕ) (X : S256x2560.Idx → Elt F .fp8e4m3) (XS : S2x128.Idx → F .f32) (WS : S33x1024.Idx → F .f32) (Z : sProp 𝕄) : sProp 𝕄 :=
  iprop(ring c W ord 0 2 ∗ anyOwes c ∗ has c (Memref.whole main_arg4) C ∗ off0 c cc0_scratch11.sem ∗ flXS c XS ∗ flX c X ∗ flWS c WS ∗ has c (Memref.whole cc0_scratch9) yZ ∗ Z)

/-- What is held at the start of the kernel. -/
def StartP (c : Dev nD) (ord : ℕ → ℕ) (C C0 f : S2x33.Idx → BitVec 32) (g : S34.Idx → BitVec 32) (W : S33x2560x1024.Idx → Elt F .fp8e4m3) (X X0 : S256x2560.Idx → Elt F .fp8e4m3) (XS XS0 : S2x128.Idx → F .f32) (WS WS0 : S33x1024.Idx → F .f32) (Y0 : S256x1024.Idx → F .bf16) (Z : sProp 𝕄) : sProp 𝕄 :=
  iprop(anyOwes c ∗ has c (Memref.whole main_arg4) C ∗ has c (Memref.whole cc0_scratch0) C0 ∗ off0 c cc0_scratch11.sem ∗ has c (Memref.whole cc0_scratch1) f ∗ has c (Memref.whole cc0_scratch2) g ∗ ring c W ord 0 0 ∗ has c (Memref.whole main_v0) X ∗ has c (Memref.whole cc0_scratch4) X0 ∗ off0 c cc0_scratch12.sem ∗ has c (Memref.whole main_arg1) XS ∗ has c (Memref.whole cc0_scratch6) XS0 ∗ off0 c cc0_scratch13.sem ∗ has c (Memref.whole main_arg3) WS ∗ has c (Memref.whole cc0_scratch8) WS0 ∗ off0 c cc0_scratch14.sem ∗ has c (Memref.whole cc0_scratch9) Y0 ∗ Z)

set_option maxHeartbeats 16000000 in
/-- The kernel's first part: the copies are sent, the counts waited for and the first words written. -/
theorem part15 (c : Dev nD) (ord : ℕ → ℕ) (ho0 : ord 0 = 0) (ho1 : ord 1 = 1) (C C0 f : S2x33.Idx → BitVec 32) (g : S34.Idx → BitVec 32) (W : S33x2560x1024.Idx → Elt F .fp8e4m3) (X X0 : S256x2560.Idx → Elt F .fp8e4m3) (XS XS0 : S2x128.Idx → F .f32) (WS WS0 : S33x1024.Idx → F .f32) (Y0 : S256x1024.Idx → F .bf16) (Z : sProp 𝕄) (K : BitVec 32 → sProp 𝕄)
    (hk : Pro c C f g (StartR c C W ord X XS WS Z) 1 2 ⊢ K (stW C 0 1)) :
    StartP c ord C C0 f g W X X0 XS XS0 WS WS0 Y0 Z ⊢ WP c (k0_part15 (F := F) (Memref.whole main_arg4) (Memref.isWhole_whole _) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15) K := by
  unfold StartP k0_part15
  with_reducible refine step_bind (F := F) c ?_
  refine step_send (F := F) c (fs := C) (fd := C0) (N := nC) (D := (dC c C)) (P' := iprop(anyOwes c ∗ has c (Memref.whole cc0_scratch1) f ∗ has c (Memref.whole cc0_scratch2) g ∗ ring c W ord 0 0 ∗ has c (Memref.whole main_v0) X ∗ has c (Memref.whole cc0_scratch4) X0 ∗ off0 c cc0_scratch12.sem ∗ has c (Memref.whole main_arg1) XS ∗ has c (Memref.whole cc0_scratch6) XS0 ∗ off0 c cc0_scratch13.sem ∗ has c (Memref.whole main_arg3) WS ∗ has c (Memref.whole cc0_scratch8) WS0 ∗ off0 c cc0_scratch14.sem ∗ has c (Memref.whole cc0_scratch9) Y0 ∗ Z))
    rfl nC_pos (View.set_whole _) ?_ ?_ ?_
  · refine Entails.of_eq (congrArg (fun x => iprop(((Memref.whole cc0_scratch0).view.loc (c : Thread nD τ) ↦{fullShare} x) ∗ _)) ?_)
    exact View.write_whole_univ ..
  · show _ ⊢ iprop((has c (Memref.whole main_arg4) C ∗ has c (Memref.whole cc0_scratch0) C0 ∗ off0 c cc0_scratch11.sem) ∗ _)
    exact Entails.of_eq (by (try simp only [anyOwes, has, off0, flX, flXS, flWS, dX, dXS, dWS]); (try dsimp only [Space.vmem, Space.smem]); ac_rfl)
  refine BIBase.Entails.trans (Q := iprop(ring c W ord 0 0 ∗ Flight ECt (c : Thread nD τ) (.dma cc0_scratch11.sem) () nC (dC c C) ∗ anyOwes c ∗ has c (Memref.whole cc0_scratch1) f ∗ has c (Memref.whole cc0_scratch2) g ∗ has c (Memref.whole main_v0) X ∗ has c (Memref.whole cc0_scratch4) X0 ∗ off0 c cc0_scratch12.sem ∗ has c (Memref.whole main_arg1) XS ∗ has c (Memref.whole cc0_scratch6) XS0 ∗ off0 c cc0_scratch13.sem ∗ has c (Memref.whole main_arg3) WS ∗ has c (Memref.whole cc0_scratch8) WS0 ∗ off0 c cc0_scratch14.sem ∗ has c (Memref.whole cc0_scratch9) Y0 ∗ Z)) ?_ ?_
  · exact Entails.of_eq (by (try simp only [anyOwes, has, off0, flX, flXS, flWS, dX, dXS, dWS]); (try dsimp only [Space.vmem, Space.smem]); ac_rfl)
  with_reducible refine step_bind (F := F) c ?_
  refine step_ask0 (F := F) c ord 0 0 (by decide) (by decide) (by rw [ho0]; decide) rfl (by rw [ho0]) rfl ?_
  refine BIBase.Entails.trans (Q := iprop(ring c W ord 0 1 ∗ Flight ECt (c : Thread nD τ) (.dma cc0_scratch11.sem) () nC (dC c C) ∗ anyOwes c ∗ has c (Memref.whole cc0_scratch1) f ∗ has c (Memref.whole cc0_scratch2) g ∗ has c (Memref.whole main_v0) X ∗ has c (Memref.whole cc0_scratch4) X0 ∗ off0 c cc0_scratch12.sem ∗ has c (Memref.whole main_arg1) XS ∗ has c (Memref.whole cc0_scratch6) XS0 ∗ off0 c cc0_scratch13.sem ∗ has c (Memref.whole main_arg3) WS ∗ has c (Memref.whole cc0_scratch8) WS0 ∗ off0 c cc0_scratch14.sem ∗ has c (Memref.whole cc0_scratch9) Y0 ∗ Z)) ?_ ?_
  · exact Entails.of_eq (by (try simp only [anyOwes, has, off0, flX, flXS, flWS, dX, dXS, dWS]) <;> (try dsimp only [Space.vmem, Space.smem]) <;> ac_rfl)
  with_reducible refine step_bind (F := F) c ?_
  refine step_ask0 (F := F) c ord 0 1 (by decide) (by decide) (by rw [ho1]; decide) rfl (by rw [ho1]) rfl ?_
  with_reducible refine step_bind (F := F) c ?_
  refine step_send (F := F) c (fs := X) (fd := X0) (N := nX) (D := (dX c X)) (P' := iprop(ring c W ord 0 2 ∗ Flight ECt (c : Thread nD τ) (.dma cc0_scratch11.sem) () nC (dC c C) ∗ anyOwes c ∗ has c (Memref.whole cc0_scratch1) f ∗ has c (Memref.whole cc0_scratch2) g ∗ has c (Memref.whole main_arg1) XS ∗ has c (Memref.whole cc0_scratch6) XS0 ∗ off0 c cc0_scratch13.sem ∗ has c (Memref.whole main_arg3) WS ∗ has c (Memref.whole cc0_scratch8) WS0 ∗ off0 c cc0_scratch14.sem ∗ has c (Memref.whole cc0_scratch9) Y0 ∗ Z))
    rfl nX_pos (View.set_whole _) ?_ ?_ ?_
  · refine Entails.of_eq (congrArg (fun x => iprop(((Memref.whole cc0_scratch4).view.loc (c : Thread nD τ) ↦{fullShare} x) ∗ _)) ?_)
    exact View.write_whole_univ ..
  · show _ ⊢ iprop((has c (Memref.whole main_v0) X ∗ has c (Memref.whole cc0_scratch4) X0 ∗ off0 c cc0_scratch12.sem) ∗ _)
    exact Entails.of_eq (by (try simp only [anyOwes, has, off0, flX, flXS, flWS, dX, dXS, dWS]); (try dsimp only [Space.vmem, Space.smem]); ac_rfl)
  with_reducible refine step_bind (F := F) c ?_
  refine step_send (F := F) c (fs := XS) (fd := XS0) (N := nXS) (D := (dXS c XS)) (P' := iprop(Flight ECt (c : Thread nD τ) (.dma cc0_scratch12.sem) () nX (dX c X) ∗ ring c W ord 0 2 ∗ Flight ECt (c : Thread nD τ) (.dma cc0_scratch11.sem) () nC (dC c C) ∗ anyOwes c ∗ has c (Memref.whole cc0_scratch1) f ∗ has c (Memref.whole cc0_scratch2) g ∗ has c (Memref.whole main_arg3) WS ∗ has c (Memref.whole cc0_scratch8) WS0 ∗ off0 c cc0_scratch14.sem ∗ has c (Memref.whole cc0_scratch9) Y0 ∗ Z))
    rfl nXS_pos (View.set_whole _) ?_ ?_ ?_
  · refine Entails.of_eq (congrArg (fun x => iprop(((Memref.whole cc0_scratch6).view.loc (c : Thread nD τ) ↦{fullShare} x) ∗ _)) ?_)
    exact View.write_whole_univ ..
  · show _ ⊢ iprop((has c (Memref.whole main_arg1) XS ∗ has c (Memref.whole cc0_scratch6) XS0 ∗ off0 c cc0_scratch13.sem) ∗ _)
    exact Entails.of_eq (by (try simp only [anyOwes, has, off0, flX, flXS, flWS, dX, dXS, dWS]); (try dsimp only [Space.vmem, Space.smem]); ac_rfl)
  with_reducible refine step_bind (F := F) c ?_
  refine step_send (F := F) c (fs := WS) (fd := WS0) (N := nWS) (D := (dWS c WS)) (P' := iprop(Flight ECt (c : Thread nD τ) (.dma cc0_scratch13.sem) () nXS (dXS c XS) ∗ Flight ECt (c : Thread nD τ) (.dma cc0_scratch12.sem) () nX (dX c X) ∗ ring c W ord 0 2 ∗ Flight ECt (c : Thread nD τ) (.dma cc0_scratch11.sem) () nC (dC c C) ∗ anyOwes c ∗ has c (Memref.whole cc0_scratch1) f ∗ has c (Memref.whole cc0_scratch2) g ∗ has c (Memref.whole cc0_scratch9) Y0 ∗ Z))
    rfl nWS_pos (View.set_whole _) ?_ ?_ ?_
  · refine Entails.of_eq (congrArg (fun x => iprop(((Memref.whole cc0_scratch8).view.loc (c : Thread nD τ) ↦{fullShare} x) ∗ _)) ?_)
    exact View.write_whole_univ ..
  · show _ ⊢ iprop((has c (Memref.whole main_arg3) WS ∗ has c (Memref.whole cc0_scratch8) WS0 ∗ off0 c cc0_scratch14.sem) ∗ _)
    exact Entails.of_eq (by (try simp only [anyOwes, has, off0, flX, flXS, flWS, dX, dXS, dWS]); (try dsimp only [Space.vmem, Space.smem]); ac_rfl)
  with_reducible refine step_bind (F := F) c ?_
  refine step_get (F := F) c (Memref.whole cc0_scratch9) (f := Y0) (P' := iprop(Flight ECt (c : Thread nD τ) (.dma cc0_scratch14.sem) () nWS (dWS c WS) ∗ Flight ECt (c : Thread nD τ) (.dma cc0_scratch13.sem) () nXS (dXS c XS) ∗ Flight ECt (c : Thread nD τ) (.dma cc0_scratch12.sem) () nX (dX c X) ∗ ring c W ord 0 2 ∗ Flight ECt (c : Thread nD τ) (.dma cc0_scratch11.sem) () nC (dC c C) ∗ anyOwes c ∗ has c (Memref.whole cc0_scratch1) f ∗ has c (Memref.whole cc0_scratch2) g ∗ Z)) rfl ?_ ?_
  · exact Entails.of_eq (by (try simp only [anyOwes, has, off0, flX, flXS, flWS, dX, dXS, dWS]); (try dsimp only [Space.vmem, Space.smem]); ac_rfl)
  with_reducible refine step_bind (F := F) c ?_
  refine step_set (F := F) c (Memref.whole cc0_scratch9) (f := Y0) (P' := iprop(Flight ECt (c : Thread nD τ) (.dma cc0_scratch14.sem) () nWS (dWS c WS) ∗ Flight ECt (c : Thread nD τ) (.dma cc0_scratch13.sem) () nXS (dXS c XS) ∗ Flight ECt (c : Thread nD τ) (.dma cc0_scratch12.sem) () nX (dX c X) ∗ ring c W ord 0 2 ∗ Flight ECt (c : Thread nD τ) (.dma cc0_scratch11.sem) () nC (dC c C) ∗ anyOwes c ∗ has c (Memref.whole cc0_scratch1) f ∗ has c (Memref.whole cc0_scratch2) g ∗ Z)) (write_y Y0 _) .rfl ?_
  with_reducible refine step_bind (F := F) c ?_
  refine step_await (F := F) c (D := dC c C) (N := nC) (P' := iprop(has c (Memref.whole cc0_scratch9) yZ ∗ Flight ECt (c : Thread nD τ) (.dma cc0_scratch14.sem) () nWS (dWS c WS) ∗ Flight ECt (c : Thread nD τ) (.dma cc0_scratch13.sem) () nXS (dXS c XS) ∗ Flight ECt (c : Thread nD τ) (.dma cc0_scratch12.sem) () nX (dX c X) ∗ ring c W ord 0 2 ∗ has c (Memref.whole cc0_scratch1) f ∗ has c (Memref.whole cc0_scratch2) g ∗ Z)) rfl ?_ ?_
  · exact Entails.of_eq (by (try simp only [anyOwes, has, off0, flX, flXS, flWS, dX, dXS, dWS]); (try dsimp only [Space.vmem, Space.smem]); ac_rfl)
  refine BIBase.Entails.trans (Q := Pro c C f g (StartR c C W ord X XS WS Z) 0 0) ?_ ?_
  · unfold Pro StartR stF orF
    exact Entails.of_eq (by simp only [anyOwes, has, off0, flX, flXS, flWS, dX, dXS, dWS, dC]; (try dsimp only [Space.vmem, Space.smem]); ac_rfl)
  repeat first
      | with_reducible refine step_bind (F := F) c ?_
      | with_reducible refine step_count (F := F) c ?_
      | ((with_reducible refine step_dead_start (F := F) c ?_); intro _)
      | ((with_reducible refine step_dead_order (F := F) c ?_); intro _)
      | ((with_reducible refine step_start (F := F) c ?_ ?_ ?_ ?_); rfl; rfl; rfl)
      | ((with_reducible refine step_order (F := F) c ?_ ?_ ?_); rfl; rfl)
  refine step_pure (F := F) c ?_
  exact hk

end Cert.KernelIdeal.Hand

end
-- ==== Proof.KernelIdeal.Body.lean ====
/-
  The whole kernel body: from the buffers as the region hands them over to the result written.
-/
module

public import proofs.«01_k».proof.Proof.KernelIdeal.Part15

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- What stays beside the ring while the starts and the order are written. -/
def BesideR (c : Dev nD) (C : S2x33.Idx → BitVec 32) (X : S256x2560.Idx → Elt F .fp8e4m3) (XS : S2x128.Idx → F .f32) (WS : S33x1024.Idx → F .f32) (Z : sProp 𝕄) : sProp 𝕄 :=
  iprop(anyOwes c ∗ has c (Memref.whole main_arg4) C ∗ off0 c cc0_scratch11.sem ∗ flXS c XS ∗ flX c X ∗ flWS c WS ∗ has c (Memref.whole cc0_scratch9) yZ ∗ Z)

/-- What the loop carries along untouched: the arguments, their copies and the semaphores that are done. -/
def DoneZ (c : Dev nD) (C : S2x33.Idx → BitVec 32) (X : S256x2560.Idx → Elt F .fp8e4m3) (XS : S2x128.Idx → F .f32) (WS : S33x1024.Idx → F .f32) (Z : sProp 𝕄) : sProp 𝕄 :=
  iprop(has c (Memref.whole main_arg4) C ∗ off0 c cc0_scratch11.sem ∗ dXS c XS ∗ off0 c cc0_scratch13.sem ∗ dX c X ∗ off0 c cc0_scratch12.sem
    ∗ has c (Memref.whole main_arg3) WS ∗ off0 c cc0_scratch14.sem ∗ Z)

/-- Everything needed for the tiles is at hand: the loop can start. -/
theorem loop_start (c : Dev nD) (C f : S2x33.Idx → BitVec 32) (g : S34.Idx → BitVec 32) (W : S33x2560x1024.Idx → Elt F .fp8e4m3) (X : S256x2560.Idx → Elt F .fp8e4m3) (XS : S2x128.Idx → F .f32) (WS : S33x1024.Idx → F .f32)
    (y0 : S256x1024.Idx → F .bf16) (Z : sProp 𝕄) :
    MidOut c X XS WS iprop(Pro c C f g (ring c W (ordF (orF C g 33)) 0 (min 19 (nw C))) 66 33 ∗ has c (Memref.whole main_arg4) C ∗ off0 c cc0_scratch11.sem
        ∗ has c (Memref.whole cc0_scratch9) yZ ∗ has c (Memref.whole main_v1) y0 ∗ off0 c cc0_scratch15.sem ∗ Z)
      ⊢ LoopI c C f g W (xbF X) (xcF XS) WS iprop(has c (Memref.whole main_v1) y0 ∗ off0 c cc0_scratch15.sem ∗ DoneZ c C X XS WS Z) 0 := by
  unfold LoopI LoopR DoneZ MidOut
  rw [show outY C f W (xbF X) (xcF XS) WS (ordF (orF C g 33)) 0 = yZ from rfl, Nat.zero_add]
  generalize ring c W (ordF (orF C g 33)) 0 (min 19 (nw C)) = ri
  unfold Pro
  generalize stF C f 66 = s1, orF C g 33 = s2, xbF X = xb, xcF XS = xc
  exact Entails.of_eq (by simp only [anyOwes, has, off0, flX, flXS, flWS, dX, dXS, dWS, dC]; (try dsimp only [Space.vmem, Space.smem]); ac_rfl)

/-- From the list of starts to the copies' waits. -/
theorem mid_start (c : Dev nD) (C f : S2x33.Idx → BitVec 32) (g : S34.Idx → BitVec 32) (ri : sProp 𝕄) (X : S256x2560.Idx → Elt F .fp8e4m3) (XS : S2x128.Idx → F .f32) (WS : S33x1024.Idx → F .f32)
    (a5 : S256x2560.Idx → F .bf16) (a7 : S256x128.Idx → F .f32) (Z : sProp 𝕄) :
    Pro c C f g iprop(ri ∗ BesideR c C X XS WS iprop(has c (Memref.whole cc0_scratch5) a5 ∗ has c (Memref.whole cc0_scratch7) a7 ∗ Z)) 66 33
      ⊢ MidIn c X XS WS a5 a7 iprop(Pro c C f g ri 66 33 ∗ has c (Memref.whole main_arg4) C ∗ off0 c cc0_scratch11.sem
        ∗ has c (Memref.whole cc0_scratch9) yZ ∗ Z) := by
  unfold BesideR MidIn Pro
  generalize stF C f 66 = s1, orF C g 33 = s2
  exact Entails.of_eq (by simp only [anyOwes, has, off0, flX, flXS, flWS, dX, dXS, dWS, dC]; (try dsimp only [Space.vmem, Space.smem]); ac_rfl)

/-- The body, from the buffers as handed over to the result written: the result array holds `outY` after all places. -/
theorem body (c : Dev nD) (C C0 f : S2x33.Idx → BitVec 32) (g : S34.Idx → BitVec 32) (W : S33x2560x1024.Idx → Elt F .fp8e4m3) (X X0 : S256x2560.Idx → Elt F .fp8e4m3) (XS XS0 : S2x128.Idx → F .f32) (WS WS0 : S33x1024.Idx → F .f32) (Y0 : S256x1024.Idx → F .bf16)
    (a5 : S256x2560.Idx → F .bf16) (a7 : S256x128.Idx → F .f32) (y0 : S256x1024.Idx → F .bf16) (Z : sProp 𝕄) (K : PUnit → sProp 𝕄) (hF : Fit C f)
    (hk : iprop(has c (Memref.whole main_v1) (outY C f W (xbF X) (xcF XS) WS (ordF (orF C g 33)) (nw C)) ∗ off0 c cc0_scratch15.sem
        ∗ LoopI c C f g W (xbF X) (xcF XS) WS (DoneZ c C X XS WS Z) (nw C)) ⊢ K ⟨⟩) :
    StartP c (ordF (orF C g 33)) C C0 f g W X X0 XS XS0 WS WS0 Y0
        iprop(has c (Memref.whole cc0_scratch5) a5 ∗ has c (Memref.whole cc0_scratch7) a7 ∗ has c (Memref.whole main_v1) y0 ∗ off0 c cc0_scratch15.sem ∗ Z)
      ⊢ WP c (cc0_grouped_matmul (F := F) (Memref.whole main_arg4) (Memref.isWhole_whole _) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15) K := by
  refine (run1 c C).2 f g _ _ K (fun K' h => part15 c (ordF (orF C g 33)) (ord_two C g 0 (by decide)) (ord_two C g 1 (by decide)) C C0 f g W X X0 XS XS0 WS WS0 Y0 _ K' h) ?_
  have e : StartR c C W (ordF (orF C g 33)) X XS WS iprop(has c (Memref.whole cc0_scratch5) a5 ∗ has c (Memref.whole cc0_scratch7) a7 ∗ has c (Memref.whole main_v1) y0 ∗ off0 c cc0_scratch15.sem ∗ Z)
      = iprop(ring c W (ordF (orF C g 33)) 0 (min 2 (nw C)) ∗ BesideR c C X XS WS iprop(has c (Memref.whole cc0_scratch5) a5 ∗ has c (Memref.whole cc0_scratch7) a7 ∗ has c (Memref.whole main_v1) y0 ∗ off0 c cc0_scratch15.sem ∗ Z)) := by
    rw [Nat.min_eq_left (nw_bound C).1]; rfl
  rw [e]
  refine (run2 c C W).2 f g _ _ ?_
  refine (run3 c C W).2 f g _ _ ?_
  refine (run4 c C W).2 f g _ _ ?_
  refine BIBase.Entails.trans (mid_start c C f g _ X XS WS a5 a7 _) ?_
  refine (run5 c C W).2 X XS WS a5 a7 _ _ ?_
  -- `run6` is stated from `run5`'s own program
  refine BIBase.Entails.trans (loop_start c C f g W X XS WS y0 Z) ?_
  exact run6 c C f g W (xbF X) (xcF XS) WS y0 (DoneZ c C X XS WS Z) K hF hk

end Cert.KernelIdeal.Hand

end
-- ==== Proof.KernelIdeal.Counts.lean ====
/-
  What the precondition says of the counts, and what it gives: every run of rows lies in its sequence.
-/
module

public import proofs.«01_k».proof.Proof.KernelIdeal.Run6
public import proofs.«01_k».proof.Pre_counts_fit
public import Idealize.ShloMosaic.PureOps.Reduce
public import Idealize.ShloMosaic.Lib.Routing.Ops

@[expose] public section

set_option maxRecDepth 10000

noncomputable section

/-- The side conditions of the precondition's operations. -/
theorem Cert.Pre_counts_fit.factsHold : Cert.Pre_counts_fit.Facts :=
  ⟨by decide, by decide, by decide, by decide, by decide, by decide⟩

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI

variable {F : FTy → Type} [FloatOps F]

/-- The rows of the experts before `e` in sequence `s`. -/
def smN (C : S2x33.Idx → BitVec 32) (s e : ℕ) : ℕ := ∑ k ∈ Finset.range e, (wd C s k).toNat

/-- The start of a run is the sum of the counts before it. -/
theorem stW_eq (C : S2x33.Idx → BitVec 32) (s : ℕ) : ∀ e, stW C s e = BitVec.ofNat 32 (smN C s e)
  | 0 => rfl
  | e + 1 => by
    show Scalar.addi (stW C s e) (wd C s e) = _
    rw [stW_eq C s e, ← w_ofNat (wd C s e), w_add, smN, smN, Finset.sum_range_succ]

theorem smN_mono (C : S2x33.Idx → BitVec 32) (s : ℕ) {e e' : ℕ} (h : e ≤ e') : smN C s e ≤ smN C s e' :=
  Finset.sum_le_sum_of_subset (Finset.range_mono h)

/-- The table of starts, complete, holds every start. -/
theorem stE_eq (C f : S2x33.Idx → BitVec 32) (s e : ℕ) (hs : s < 2) (he : e < 33) : stE C f s e = stW C s e := by
  have h0 : ((ixC (Fin.ofNat 2 s) (Fin.ofNat 33 e)) 0 : ℕ) = s := Nat.mod_eq_of_lt hs
  have h1 : ((ixC (Fin.ofNat 2 s) (Fin.ofNat 33 e)) 1 : ℕ) = e := Nat.mod_eq_of_lt he
  have key : ∀ n, 2 * e + s < n → stF C f n (ixC (Fin.ofNat 2 s) (Fin.ofNat 33 e)) = stW C s e := by
    intro n hn
    induction n with
    | zero => omega
    | succ n ih =>
      show (if _ then _ else _) = _
      rw [h0, h1]
      by_cases hc : s = n % 2 ∧ e = n / 2
      · rw [if_pos hc, ← hc.1, ← hc.2]
      · rw [if_neg hc]; exact ih (by omega)
  exact key 66 (by omega)

/-- What the precondition says, in naturals: the counts of a sequence add up to at most its 128 rows. -/
def Small (C : S2x33.Idx → BitVec 32) : Prop := ∀ s, s < 2 → smN C s 33 ≤ 128

theorem and_one : ∀ a b : BitVec 1, a &&& b = 1#1 → a = 1#1 ∧ b = 1#1 := by decide

/-- Adding words up is adding the naturals up. -/
theorem fold_add {ι : Type} [DecidableEq ι] (S : Finset ι) (x : ι → BitVec 32) :
    S.fold IntOp.addi 0#32 x = BitVec.ofNat 32 (∑ i ∈ S, (x i).toNat) := by
  induction S using Finset.induction_on with
  | empty => rfl
  | insert a S ha ih =>
    rw [Finset.fold_insert ha, Finset.sum_insert ha, ih, BitVec.ofNat_add, w_ofNat]
    rfl

/-- The precondition read off: `Small`. -/
theorem small_of_pre [Cert.Pre_counts_fit.Facts] (a0 a1 a2 a3) (C : S2x33.Idx → BitVec 32)
    (h : Cert.Pre_counts_fit.fn (F := F) a0 a1 a2 a3 C = fun _ => 1#1) : Small C := by
  have key : ∀ (s : Fin 2) (e : Fin 33), (BitVec.sle 0#32 (C (ixC s e)) = true ∧ BitVec.sle (C (ixC s e)) 128#32 = true)
      ∧ BitVec.sle (Host.reduce IntOp.addi C (constantI Cert.Pre_counts_fit.S_ 32 0#32) Cert.Pre_counts_fit.Facts.reducesTo_S2x33_S2_d1 Cert.Pre_counts_fit.Facts.h_S_ (fun | 0 => s)) 128#32 = true := by
    intro s e
    have h1 := congrFun h (ixC s e)
    unfold Cert.Pre_counts_fit.fn at h1
    dsimp only at h1
    have h2 := and_one _ _ h1
    have h3 := and_one _ _ h2.1
    have ob : ∀ b : Bool, BitVec.ofBool b = 1#1 → b = true := by decide
    refine ⟨⟨ob _ h3.1, ob _ h3.2⟩, ?_⟩
    refine (congrArg (fun i => BitVec.sle (Host.reduce IntOp.addi C (constantI Cert.Pre_counts_fit.S_ 32 0#32) Cert.Pre_counts_fit.Facts.reducesTo_S2x33_S2_d1 Cert.Pre_counts_fit.Facts.h_S_ i) 128#32) ?_).trans (ob _ h2.2)
    funext a
    fin_cases a
    rfl
  intro s hs
  have hle : ∀ e : Fin 33, (C (ixC ⟨s, hs⟩ e)).toNat ≤ 128 := by
    intro e
    obtain ⟨⟨h1, h2⟩, -⟩ := key ⟨s, hs⟩ e
    rw [BitVec.sle_eq_decide, decide_eq_true_eq] at h1 h2
    have e0 : (0#32 : BitVec 32).toInt = 0 := by decide
    have e1 : (128#32 : BitVec 32).toInt = 128 := by decide
    rw [e0] at h1; rw [e1] at h2
    have := BitVec.toInt_eq_toNat_cond (C (ixC ⟨s, hs⟩ e))
    split at this <;> omega
  have hsm : smN C s 33 = ∑ e : Fin 33, (C (ixC ⟨s, hs⟩ e)).toNat := by
    unfold smN
    rw [Finset.sum_range]
    refine Finset.sum_congr rfl fun e _ => ?_
    unfold wd
    rw [dif_pos ⟨hs, e.isLt⟩]
  have hb : smN C s 33 ≤ 33 * 128 := by
    rw [hsm]
    refine (Finset.sum_le_sum fun e _ => hle e).trans ?_
    simp
  have h3 := (key ⟨s, hs⟩ 0).2
  have hR : Cert.Pre_counts_fit.S2x33.Reduces [1] Cert.Pre_counts_fit.S2 := by decide
  rw [Host.reduce_eq_fold_single IntOp.addi C _ Cert.Pre_counts_fit.Facts.reducesTo_S2x33_S2_d1 hR] at h3
  have h4 : (Finset.univ : Finset (Fin 33)).fold IntOp.addi 0#32 (fun e => C (ixC ⟨s, hs⟩ e)) = BitVec.ofNat 32 (smN C s 33) := by
    rw [fold_add, hsm]
  have h5 : (C ∘ hR.lift (fun | 0 => ⟨s, hs⟩)) = (fun e : Fin 33 => C (ixC ⟨s, hs⟩ e)) := by
    funext e
    refine congrArg C ?_
    funext a
    fin_cases a
    · rfl
    · rfl
  have h6 : BitVec.sle (BitVec.ofNat 32 (smN C s 33)) 128#32 = true := by
    rw [← h4, ← h5]; exact h3
  rw [BitVec.sle_eq_decide, decide_eq_true_eq, w_int (by omega)] at h6
  have e1 : (128#32 : BitVec 32).toInt = 128 := by decide
  rw [e1] at h6
  omega

/-- So every run of rows lies in its sequence, whatever the table of starts held before. -/
theorem fit_of_small (C f : S2x33.Idx → BitVec 32) (h : Small C) : Fit C f := by
  intro e he
  have ha : ∀ s, s < 2 → smN C s e + (wd C s e).toNat ≤ 128 := by
    intro s hs
    have h1 : smN C s e + (wd C s e).toNat = smN C s (e + 1) := (Finset.sum_range_succ _ _).symm
    rw [h1]
    exact (smN_mono C s (by omega)).trans (h s hs)
  refine ⟨smN C 0 e, (wd C 0 e).toNat, smN C 1 e, (wd C 1 e).toNat, ?_, (w_ofNat _).symm, ?_, (w_ofNat _).symm, ha 0 (by decide), ha 1 (by decide)⟩
  · rw [stE_eq C f 0 e (by decide) he, stW_eq]
  · rw [stE_eq C f 1 e (by decide) he, stW_eq]

/-! ### The result does not depend on what the tables held before -/

/-- The places of the list of experts that are written. -/
theorem ord_indep (C : S2x33.Idx → BitVec 32) (g g' : S34.Idx → BitVec 32) (i : ℕ) (hi : i < nw C) :
    ordF (orF C g 33) i = ordF (orF C g' 33) i := by
  have hn := nw_bound C
  have hi' : ((ixO (Fin.ofNat 34 i)) 0 : ℕ) = i := by show i % 34 = i; omega
  have one : ∀ n, i ≤ n → n < 2 → orF C g (n + 1) (ixO (Fin.ofNat 34 i)) = orF C g' (n + 1) (ixO (Fin.ofNat 34 i)) := by
    intro n hin hn2
    interval_cases n <;> interval_cases i <;> rfl
  have key : ∀ m, m ≤ 31 → i < (nwW C m).toNat → orF C g (m + 2) (ixO (Fin.ofNat 34 i)) = orF C g' (m + 2) (ixO (Fin.ofNat 34 i)) := by
    intro m hm hlt
    induction m with
    | zero => exact one 1 (by have : (nwW C 0).toNat = 2 := rfl; omega) (by omega)
    | succ m ih =>
      show (if _ then _ else _) = (if _ then _ else _)
      rw [hi', if_neg (by omega : ¬ m + 2 < 2), show m + 2 - 2 = m by omega]
      by_cases hc : i = (nwW C m).toNat
      · rw [if_pos hc, if_pos hc]
      · rw [if_neg hc, if_neg hc]
        refine ih (by omega) ?_
        obtain ⟨k, hk, h2, h3⟩ := nwW_bound C m (by omega)
        have hb : ∀ b : BitVec 1, (Scalar.extui b : BitVec 32) = BitVec.ofNat 32 0 ∨ (Scalar.extui b : BitVec 32) = BitVec.ofNat 32 1 := by decide
        have hs : (nwW C (m + 1)).toNat ≤ k + 1 := by
          rcases hb (Scalar.cmpi .sgt (totW C (m + 2)) 0#32) with e | e
          · show (Scalar.addi (nwW C m) _).toNat ≤ _
            rw [hk, e, w_add, w_nat (by omega)]; omega
          · show (Scalar.addi (nwW C m) _).toNat ≤ _
            rw [hk, e, w_add, w_nat (by omega)]
        rw [hk, w_nat (by omega)] at hc ⊢
        omega
  unfold ordF
  rw [key 31 (by omega) hi]

/-- A listed place names an expert. -/
theorem ord_lt' (C : S2x33.Idx → BitVec 32) (g : S34.Idx → BitVec 32) (i : ℕ) (hi : i < nw C) : ordF (orF C g 33) i < 33 := by
  have hn := nw_bound C
  rw [ord_indep C g (fun _ => 0#32) i hi]
  have : ∀ n, n ≤ 33 → (orF C (fun _ => 0#32) n (ixO (Fin.ofNat 34 i))).toNat < 33 := by
    intro n hn
    induction n with
    | zero => show (0#32 : BitVec 32).toNat < 33; decide
    | succ n ih =>
      show (if _ then _ else _ : BitVec 32).toNat < 33
      by_cases hc : ((ixO (Fin.ofNat 34 i)) 0 : ℕ) = (if n < 2 then n else (nwW C (n - 2)).toNat)
      · rw [if_pos hc, w_nat (by omega)]; omega
      · rw [if_neg hc]; exact ih (by omega)
  exact this 33 (le_refl _)

theorem outY_indep (C f f' : S2x33.Idx → BitVec 32) (W : S33x2560x1024.Idx → Elt F .fp8e4m3) (XB : S256x2560.Idx → F .bf16) (XC : S256x128.Idx → F .f32) (WS : S33x1024.Idx → F .f32)
    (g g' : S34.Idx → BitVec 32) : ∀ i, i ≤ nw C → outY C f W XB XC WS (ordF (orF C g 33)) i = outY C f' W XB XC WS (ordF (orF C g' 33)) i
  | 0, _ => rfl
  | i + 1, hi => by
    have ho := ord_lt' C g' i (by omega)
    unfold outY
    rw [outY_indep C f f' W XB XC WS g g' i (by omega), ord_indep C g g' i (by omega)]
    rw [stE_eq C f 0 _ (by decide) ho, stE_eq C f 1 _ (by decide) ho, stE_eq C f' 0 _ (by decide) ho, stE_eq C f' 1 _ (by decide) ho]

end Cert.KernelIdeal.Hand

end
-- ==== Proof.KernelIdeal.Frame.lean ====
/-
  The run of the program: the region entered with every argument as launched, the body run on it, and the result
  array left at what the body computes. The frame claim and the value of the result follow.
-/
module

public import proofs.«01_k».proof.Proof.KernelIdeal.Body
public import proofs.«01_k».proof.Proof.KernelIdeal.Counts
public import proofs.«01_k».proof.Proof.KernelIdeal.Launch
public import Idealize.ShloMosaic.Lib.Pipeline.FrameBody
public import Idealize.ShloMosaic.Lib.Pipeline.Routed

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ### Up to the region -/

/-- Core `c`'s buffers when the region is entered: after the host's one operation. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- The host's operation writes none but the reshaped activations. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne hb))

/-! ### The kernel's own semaphores and the buffers it is handed -/

/-- The kernel's own semaphores: the ring's twenty, then the five of the single copies. -/
abbrev osem0 : Fin 20 ⊕ Fin 5 → SemLoc sig
  | .inl j => .dma (slotSem j)
  | .inr k => .dma ((![cc0_scratch11.sem, cc0_scratch12.sem, cc0_scratch13.sem, cc0_scratch14.sem, cc0_scratch15.sem] : Fin 5 → DmaSem sig) k)

theorem ownSemFacts0 : Pipeline.OwnSemFacts cfg0.spec osem0 := by decide

/-- Twenty things and five more, regrouped. -/
theorem chain25 (P : Fin 20 → sProp 𝕄) (a b d e f : sProp 𝕄) :
    iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17 ∗ P 18 ∗ P 19 ∗ a ∗ b ∗ d ∗ e ∗ f) = iprop((P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17 ∗ P 18 ∗ P 19) ∗ a ∗ b ∗ d ∗ e ∗ f) := by
  ac_rfl

/-- They come as the ring's and the five. -/
theorem ownSems0_split (c : Dev nD) :
    (Pipeline.ownSems0 (Ix := Unit) (Name := ℕ) (U := Pipeline.UC sig nD τ) (Lvl := ℕ) (Val := Elt F) (τ := τ) osem0 c : sProp 𝕄)
      = iprop(bigSep Finset.univ (fun j : Fin 20 => semVal ((c : Thread nD τ), .dma (slotSem j)) 0)
          ∗ off0 c cc0_scratch11.sem ∗ off0 c cc0_scratch12.sem ∗ off0 c cc0_scratch13.sem ∗ off0 c cc0_scratch14.sem ∗ off0 c cc0_scratch15.sem) := by
  rw [Pipeline.ownSems0_eq_of_list c osem0 [.inl 0, .inl 1, .inl 2, .inl 3, .inl 4, .inl 5, .inl 6, .inl 7, .inl 8, .inl 9, .inl 10, .inl 11, .inl 12, .inl 13, .inl 14, .inl 15, .inl 16, .inl 17, .inl 18, .inl 19,
    .inr 0, .inr 1, .inr 2, .inr 3, .inr 4] (by decide) (by decide),
    BI.bigSep_univ_eq_bigSepL ([0, 1, 2, 3, 4, 5, 6, 7, 8, 9, 10, 11, 12, 13, 14, 15, 16, 17, 18, 19] : List (Fin 20)) (by decide) (by decide)]
  exact chain25 (fun j => semVal ((c : Thread nD τ), .dma (slotSem j)) 0) _ _ _ _ _

/-- The arrays in HBM the body reads and writes. -/
def R0 : Finset (Ref sig .tc) := {main_arg1, main_arg2, main_arg3, main_arg4, main_v0, main_v1}
theorem R0_sub : R0 ⊆ Pipeline.restRefs sig cfg0.spec := by decide

theorem routed_eq (c : Dev nD) (W : (b : Ref sig .tc) → Buf (Elt F) ((c : Thread nD τ).loc b)) :
    (Pipeline.routed R0 c W : sProp 𝕄)
      = iprop(has c (Memref.whole main_arg1) (W main_arg1) ∗ has c (Memref.whole main_arg2) (W main_arg2) ∗ has c (Memref.whole main_arg3) (W main_arg3)
          ∗ has c (Memref.whole main_arg4) (W main_arg4) ∗ has c (Memref.whole main_v0) (W main_v0) ∗ has c (Memref.whole main_v1) (W main_v1)) := by
  unfold Pipeline.routed
  rw [BI.bigSep_eq_bigSepL_of_eq [main_arg1, main_arg2, main_arg3, main_arg4, main_v0, main_v1] (by decide) (by decide)]; rfl

/-! ### The result -/

/-- The result array on core `c`, from the contents the region is entered with. -/
def resY (c : Dev nD) : S256x1024.Idx → F .bf16 :=
  outY (V m c main_arg4) (fun _ => 0#32) (V m c main_arg2) (xbF (V m c main_v0)) (xcF (V m c main_arg1)) (V m c main_arg3)
    (ordF (orF (V m c main_arg4) (fun _ => 0#32) 33)) (nw (V m c main_arg4))

/-- The contents when the region is left: the result array written, nothing else changed. -/
def Y (c : Dev nD) : (b : Ref sig .tc) → Buf (Elt F) ((c : Thread nD τ).loc b) := Function.update (V m c) main_v1 (resY m c)

theorem Y_v1 (c : Dev nD) : Y m c main_v1 = resY m c := Function.update_self ..
theorem Y_of_ne (c : Dev nD) (b : Ref sig .tc) (hb : b ≠ main_v1) : Y m c b = V m c b := Function.update_of_ne hb ..

/-! ### The proof data and the body -/

/-- The proof data of the one region: what it is entered with, then what it is left with. -/
def dats (_ : Fin 1) (c : Dev nD) : Dat τ (Elt F) Unit ℕ (Pipeline.UC sig nD τ) ℕ cfg0 c where
  A w := V m c (Pipeline.arrRef cfg0.spec w)
  after w t := w.elim0
  Φ t := if t.val = 0 then Pipeline.Ends cfg0.spec osem0 R0 c (V m c) else Pipeline.Ends cfg0.spec osem0 R0 c (Y m c)
  q _ := fullShare
  owed _ := 0

/-- The kernel body at the region's one point. -/
abbrev bodyAt0 (t : Fin cfg0.N) : Prog (TpuEff nD τ sig (Elt F) Λ₀ .tc) PUnit :=
  cc0_grouped_matmul (Memref.whole main_arg4) (Memref.isWhole_whole _) (Memref.whole main_v0) (Memref.isWhole_whole _) (Memref.whole main_arg1) (Memref.isWhole_whole _) (Memref.whole main_arg2) (Memref.isWhole_whole _) (Memref.whole main_arg3) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15

theorem defs₀_row (t : Fin cfg0.N) : defs₀ (F := F) .tc cfg0.body (cfg0.bodyArgs t (cfg0.slots t)) = bodyAt0 t := by
  unfold defs₀; rw [Defs.onTc_tc]

theorem ends_body (c : Dev nD) (hS : Small (V m c main_arg4)) :
    (iprop(Pipeline.Ends cfg0.spec osem0 R0 c (V m c) ∗ anyOwes c) : sProp 𝕄)
      ⊢ WP c (bodyAt0 (F := F) t0_0) (fun _ => iprop(Pipeline.Ends cfg0.spec osem0 R0 c (Y m c) ∗ anyOwes c)) := by
  unfold Pipeline.Ends
  rw [routed_eq, routed_eq, ownSems0_split, scopedRest0_eq]
  rw [Y_v1, Y_of_ne m c main_arg1 (by decide), Y_of_ne m c main_arg2 (by decide), Y_of_ne m c main_arg3 (by decide), Y_of_ne m c main_arg4 (by decide), Y_of_ne m c main_v0 (by decide)]
  iintro ⟨⟨⟨H1, H2, H3, H4, Hx, Hy⟩, ⟨Hr, Hs11, Hs12, Hs13, Hs14, Hs15⟩, ⟨⟨%s3, B3⟩, ⟨%s4, B4⟩, ⟨%s5, B5⟩, ⟨%s6, B6⟩, ⟨%s7, B7⟩, ⟨%s8, B8⟩, ⟨%s9, B9⟩, ⟨%s0, B0⟩, ⟨%s1, B1⟩, ⟨%s2, B2⟩⟩, Hp⟩, Ho⟩
  ihave Hring := (ring_in c (V m c main_arg2) (ordF (orF (V m c main_arg4) s2 33)) s3) $$ [Hr B3 H2]
  · isplitl [Hr]; · iexact Hr
    isplitl [B3]; · iexact B3
    iexact H2
  icases Hring with ⟨Hring, H2⟩
  iapply (body c (V m c main_arg4) s0 s1 s2 (V m c main_arg2) (V m c main_v0) s4 (V m c main_arg1) s6 (V m c main_arg3) s8 s9 s5 s7 (V m c main_v1)
    iprop(((Memref.whole main_arg2).view.loc (c : Thread nD τ) ↦{shareDrop fullShare 20} (V m c main_arg2)) ∗ (∃ r, prngReg c r)) _ (fit_of_small _ s1 hS) ?_)
  rotate_left
  · unfold StartP
    isplitl [Ho]; · iexact Ho
    isplitl [H4]; · iexact H4
    isplitl [B0]; · iexact B0
    isplitl [Hs11]; · iexact Hs11
    isplitl [B1]; · iexact B1
    isplitl [B2]; · iexact B2
    isplitl [Hring]; · iexact Hring
    isplitl [Hx]; · iexact Hx
    isplitl [B4]; · iexact B4
    isplitl [Hs12]; · iexact Hs12
    isplitl [H1]; · iexact H1
    isplitl [B6]; · iexact B6
    isplitl [Hs13]; · iexact Hs13
    isplitl [H3]; · iexact H3
    isplitl [B8]; · iexact B8
    isplitl [Hs14]; · iexact Hs14
    isplitl [B9]; · iexact B9
    isplitl [B5]; · iexact B5
    isplitl [B7]; · iexact B7
    isplitl [Hy]; · iexact Hy
    isplitl [Hs15]; · iexact Hs15
    isplitl [H2]; · iexact H2
    iexact Hp
  rw [outY_indep (V m c main_arg4) s1 (fun _ => 0#32) _ _ _ _ s2 (fun _ => 0#32) _ (le_refl _)]
  unfold LoopI LoopR
  rw [Nat.min_eq_right (Nat.le_add_right _ _)]
  rw [show outY (V m c main_arg4) (fun _ => 0#32) (V m c main_arg2) (xbF (V m c main_v0)) (xcF (V m c main_arg1)) (V m c main_arg3)
    (ordF (orF (V m c main_arg4) (fun _ => 0#32) 33)) (nw (V m c main_arg4)) = resY m c from rfl]
  generalize outY (V m c main_arg4) s1 (V m c main_arg2) (xbF (V m c main_v0)) (xcF (V m c main_arg1)) (V m c main_arg3)
    (ordF (orF (V m c main_arg4) s2 33)) (nw (V m c main_arg4)) = y9
  generalize resY m c = yr, stF (V m c main_arg4) s1 66 = s1', xbF (V m c main_v0) = xb, xcF (V m c main_arg1) = xc
  unfold Pro DoneZ dX dXS
  iintro ⟨Hy, Hs15, B0, B1, B2, Hring, Ho, B5, B7, B8, B9, H4, Hs11, ⟨B6, H1⟩, Hs13, ⟨B4, Hx⟩, Hs12, H3, Hs14, H2, Hp⟩
  ihave Hring := (ring_out c (V m c main_arg2) _ _ s3) $$ [Hring H2]
  · isplitl [Hring]; · iexact Hring
    iexact H2
  icases Hring with ⟨Hr, B3, H2⟩
  isplitr [Ho]; swap
  · iexact Ho
  isplitl [H1 H2 H3 H4 Hx Hy]
  · isplitl [H1]; · iexact H1
    isplitl [H2]; · iexact H2
    isplitl [H3]; · iexact H3
    isplitl [H4]; · iexact H4
    isplitl [Hx]; · iexact Hx
    iexact Hy
  isplitl [Hr Hs11 Hs12 Hs13 Hs14 Hs15]
  · isplitl [Hr]; · iexact Hr
    isplitl [Hs11]; · iexact Hs11
    isplitl [Hs12]; · iexact Hs12
    isplitl [Hs13]; · iexact Hs13
    isplitl [Hs14]; · iexact Hs14
    iexact Hs15
  isplitr [Hp]; swap
  · iexact Hp
  isplitl [B3]; · iexact B3
  isplitl [B4]; · iexists _; iexact B4
  isplitl [B5]; · iexists _; iexact B5
  isplitl [B6]; · iexists _; iexact B6
  isplitl [B7]; · iexists _; iexact B7
  isplitl [B8]; · iexists _; iexact B8
  isplitl [B9]; · iexists _; iexact B9
  isplitl [B0]; · iexists _; iexact B0
  isplitl [B1]; · iexists _; iexact B1
  iexists _; iexact B2

theorem body_obligation (hS : ∀ c, Small (V m c main_arg4)) (c : Dev nD) : BodyObligationLoose (dats (F := F) m 0 c) (defs₀ (F := F)) Variants.none () Set.univ := fun t => by
  obtain rfl := fin_N0 t
  rw [defs₀_row]
  rw [show (dats m 0 c).Φ (Fin.castSucc t0_0) = Pipeline.Ends cfg0.spec osem0 R0 c (V m c) from rfl,
    show (dats m 0 c).Φ (Fin.succ t0_0) = Pipeline.Ends cfg0.spec osem0 R0 c (Y m c) from rfl]
  unfold Dat.owesAt Pipeline.owesWithin
  rw [show (dats m 0 c).owed (Fin.castSucc t0_0) = 0 from rfl, show (dats m 0 c).owed (Fin.succ t0_0) = 0 from rfl]
  have hb : ∀ f : Fin cfg0.W → sProp 𝕄, bigSep Finset.univ f = BI.emp := fun f => by
    rw [show (Finset.univ : Finset (Fin cfg0.W)) = ∅ from rfl, BI.bigSep_empty]
  rw [hb, hb]
  refine triple_restated (ends_body m c (hS c)) rfl ?_ ?_
  · iintro ⟨HE, ⟨%W, -, HW⟩, -⟩
    isplitl [HE]; · iexact HE
    iexists W; iexact HW
  · intro _
    iintro ⟨HE, ⟨%W, HW⟩⟩
    isplitl [HE]; · iexact HE
    isplitl [HW]
    · iexists W; isplitr; · ipureintro; exact fun _ _ => Or.inl trivial
      iexact HW
    · iempintro

/-! ### The run -/

/-- What a run ends with: the arguments as launched, the result array at `resY`, and every semaphore at zero. -/
def Final (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ (∀ c : Dev nD, r.2.mem ((c.tc : Thread nD τ).loc main_v1) = resY m c)
    ∧ r.2.sem = fun _ => 0

set_option backward.isDefEq.respectTransparency.types false in
/-- Every execution ends so, from counts that fit. -/
theorem run_main (hS : ∀ c : Dev nD, Small (m ((c.tc : Thread nD τ).loc main_arg4))) :
    θ_run defs (onTc (τ := τ) (main (F := F))) ⟨m, fun _ => 0, ρ⟩ (Final m) :=
  Pipeline.θ_run_frame_routed (Q' := Final m) cfgs (dats m) (0 : Fin 1) launch0 (osem := osem0) ownSemFacts0 defs₀ Variants.none m ρ main
    (hbody := body_obligation m (fun c => by rw [V_of_ne m c main_arg4 (by decide)]; exact hS c))
    (hshare := fun c => (dats m 0 c).share_full fun _ => rfl)
    (howed := fun _ _ => rfl) (V := V m) (hmain := hmain m Variants.none) (hA := fun _ _ => rfl) (R := R0) (hR := R0_sub) (Y := Y m)
    (hin := fun _ => .rfl) (hout := fun _ => .rfl)
    (hQ' := fun r h => by
      have hY : ∀ (c : Dev nD) (b : Ref sig .tc), b ∈ R0 → b ≠ main_v1 → b ≠ main_v0 → r.2.mem ((c.tc : Thread nD τ).loc b) = m ((c.tc : Thread nD τ).loc b) :=
        fun c b hb h1 h0 => (((h.1 c).2.1 b hb).trans (Y_of_ne m c b h1)).trans (V_of_ne m c b h0)
      refine ⟨fun c => ⟨?_, hY c _ (by decide) (by decide) (by decide), hY c _ (by decide) (by decide) (by decide), hY c _ (by decide) (by decide) (by decide),
        hY c _ (by decide) (by decide) (by decide)⟩, fun c => ((h.1 c).2.1 main_v1 (by decide)).trans (Y_v1 m c), h.2⟩
      exact ((h.1 c).2.2 main_arg0 (Finset.mem_sdiff.mpr ⟨Pipeline.mem_restRefs_of main_arg0 (by decide) (by decide), by decide⟩)).trans (V_of_ne m c main_arg0 (by decide)))

end Cert.KernelIdeal.Hand

end
-- ==== Proof.Kernel.Facts.lean ====
/-
  The side conditions the program states (shapes, rectangles in range, whole words), one theorem each.
-/
module

public import proofs.«01_k».proof.Kernel
public import Idealize.ShloMosaic.Lib.Affine
public import Idealize.ShloMosaic.Lib.Decide
public import Idealize.ShloMosaic.Lib.Exec

@[expose] public section

-- a fact under nested conditions takes a `Decidable` instance one implication deeper per condition
set_option synthInstance.maxSize 4096
-- one theorem at a time: the kernel's `decide` over every grid point of a production-shape program holds
-- gigabytes while it runs, and run in parallel (Lean's default) a module of fifty such closed forms passed
-- 10 GiB resident (a 224-point ring kernel's); in turn it peaks near 2 GiB and finishes no later
set_option Elab.async false

namespace Cert.Kernel.Gen

open Idealize.ShloMosaic Idealize.SL.Sem
/-! ## The facts over the vocabulary (`Facts₀`) -/

theorem shapeCasts_S2x128x2560_S256x2560 : S2x128x2560.ShapeCasts S256x2560 := by decide
theorem inb_S20_S1_0 : ∀ a, (![0] : Fin 1 → Nat) a + S1.size a ≤ S20.size a := by decide
theorem squeezes_S1_S_ : S1.Squeezes S_ := by decide
theorem inb_S20x2560x1024_S1x2560x1024_0_0_0 : ∀ a, (![0, 0, 0] : Fin 3 → Nat) a + S1x2560x1024.size a ≤ S20x2560x1024.size a := by decide
theorem squeezes_S1x2560x1024_S2560x1024 : S1x2560x1024.Squeezes S2560x1024 := by decide
theorem inb_S33x2560x1024_S1x2560x1024_0_0_0 : ∀ a, (![0, 0, 0] : Fin 3 → Nat) a + S1x2560x1024.size a ≤ S33x2560x1024.size a := by decide
theorem wordsfp8e4m3_S33x2560x1024_S1x2560x1024_0_0_0 : (Rect.unit (s := S33x2560x1024) ![0, 0, 0] S1x2560x1024.size inb_S33x2560x1024_S1x2560x1024_0_0_0).WholeWords (EltTy.packing .fp8e4m3) := by decide
theorem wordsfp8e4m3_S20x2560x1024_S1x2560x1024_0_0_0 : (Rect.unit (s := S20x2560x1024) ![0, 0, 0] S1x2560x1024.size inb_S20x2560x1024_S1x2560x1024_0_0_0).WholeWords (EltTy.packing .fp8e4m3) := by decide
theorem inb_S20_S1_1 : ∀ a, (![1] : Fin 1 → Nat) a + S1.size a ≤ S20.size a := by decide
theorem inb_S20x2560x1024_S1x2560x1024_1_0_0 : ∀ a, (![1, 0, 0] : Fin 3 → Nat) a + S1x2560x1024.size a ≤ S20x2560x1024.size a := by decide
theorem inb_S33x2560x1024_S1x2560x1024_1_0_0 : ∀ a, (![1, 0, 0] : Fin 3 → Nat) a + S1x2560x1024.size a ≤ S33x2560x1024.size a := by decide
theorem wordsfp8e4m3_S33x2560x1024_S1x2560x1024_1_0_0 : (Rect.unit (s := S33x2560x1024) ![1, 0, 0] S1x2560x1024.size inb_S33x2560x1024_S1x2560x1024_1_0_0).WholeWords (EltTy.packing .fp8e4m3) := by decide
theorem wordsfp8e4m3_S20x2560x1024_S1x2560x1024_1_0_0 : (Rect.unit (s := S20x2560x1024) ![1, 0, 0] S1x2560x1024.size inb_S20x2560x1024_S1x2560x1024_1_0_0).WholeWords (EltTy.packing .fp8e4m3) := by decide
theorem inb_S256x1024_S256x1024_0_0 : ∀ a, (![0, 0] : Fin 2 → Nat) a + S256x1024.size a ≤ S256x1024.size a := by decide
theorem h_S256x1024 : 0 < S256x1024.numel := by decide
theorem shapeCasts_S256x1024_S256x1024 : S256x1024.ShapeCasts S256x1024 := by decide
theorem packedbf16_S256x1024_S256x1024_0_0 : (Rect.unit (s := S256x1024) ![0, 0] S256x1024.size inb_S256x1024_S256x1024_0_0).PackedRows (EltTy.packing .bf16) := by decide
theorem inb_S34_S1_0 : ∀ a, (![0] : Fin 1 → Nat) a + S1.size a ≤ S34.size a := by decide
theorem numel1_S1 : S1.numel = 1 := by decide
theorem inb_S34_S1_1 : ∀ a, (![1] : Fin 1 → Nat) a + S1.size a ≤ S34.size a := by decide
theorem inb_S2x33_S1x1_0_0 : ∀ a, (![0, 0] : Fin 2 → Nat) a + S1x1.size a ≤ S2x33.size a := by decide
theorem numel1_S1x1 : S1x1.numel = 1 := by decide
theorem inb_S2x33_S1x1_1_0 : ∀ a, (![1, 0] : Fin 2 → Nat) a + S1x1.size a ≤ S2x33.size a := by decide
theorem inb_S2x33_S1x1_0_1 : ∀ a, (![0, 1] : Fin 2 → Nat) a + S1x1.size a ≤ S2x33.size a := by decide
theorem inb_S2x33_S1x1_1_1 : ∀ a, (![1, 1] : Fin 2 → Nat) a + S1x1.size a ≤ S2x33.size a := by decide
theorem inb_S2x33_S1x1_0_2 : ∀ a, (![0, 2] : Fin 2 → Nat) a + S1x1.size a ≤ S2x33.size a := by decide
theorem inb_S2x33_S1x1_1_2 : ∀ a, (![1, 2] : Fin 2 → Nat) a + S1x1.size a ≤ S2x33.size a := by decide
theorem inb_S34_S1_2 : ∀ a, (![2] : Fin 1 → Nat) a + S1.size a ≤ S34.size a := by decide
theorem inb_S2x33_S1x1_0_3 : ∀ a, (![0, 3] : Fin 2 → Nat) a + S1x1.size a ≤ S2x33.size a := by decide
theorem inb_S2x33_S1x1_1_3 : ∀ a, (![1, 3] : Fin 2 → Nat) a + S1x1.size a ≤ S2x33.size a := by decide
theorem inb_S2x33_S1x1_0_4 : ∀ a, (![0, 4] : Fin 2 → Nat) a + S1x1.size a ≤ S2x33.size a := by decide
theorem inb_S2x33_S1x1_1_4 : ∀ a, (![1, 4] : Fin 2 → Nat) a + S1x1.size a ≤ S2x33.size a := by decide
theorem inb_S2x33_S1x1_0_5 : ∀ a, (![0, 5] : Fin 2 → Nat) a + S1x1.size a ≤ S2x33.size a := by decide
theorem inb_S2x33_S1x1_1_5 : ∀ a, (![1, 5] : Fin 2 → Nat) a + S1x1.size a ≤ S2x33.size a := by decide
theorem inb_S2x33_S1x1_0_6 : ∀ a, (![0, 6] : Fin 2 → Nat) a + S1x1.size a ≤ S2x33.size a := by decide
theorem inb_S2x33_S1x1_1_6 : ∀ a, (![1, 6] : Fin 2 → Nat) a + S1x1.size a ≤ S2x33.size a := by decide
theorem inb_S2x33_S1x1_0_7 : ∀ a, (![0, 7] : Fin 2 → Nat) a + S1x1.size a ≤ S2x33.size a := by decide
theorem inb_S2x33_S1x1_1_7 : ∀ a, (![1, 7] : Fin 2 → Nat) a + S1x1.size a ≤ S2x33.size a := by decide
theorem inb_S2x33_S1x1_0_8 : ∀ a, (![0, 8] : Fin 2 → Nat) a + S1x1.size a ≤ S2x33.size a := by decide
theorem inb_S2x33_S1x1_1_8 : ∀ a, (![1, 8] : Fin 2 → Nat) a + S1x1.size a ≤ S2x33.size a := by decide
theorem inb_S2x33_S1x1_0_9 : ∀ a, (![0, 9] : Fin 2 → Nat) a + S1x1.size a ≤ S2x33.size a := by decide
theorem inb_S2x33_S1x1_1_9 : ∀ a, (![1, 9] : Fin 2 → Nat) a + S1x1.size a ≤ S2x33.size a := by decide
theorem inb_S2x33_S1x1_0_10 : ∀ a, (![0, 10] : Fin 2 → Nat) a + S1x1.size a ≤ S2x33.size a := by decide
theorem inb_S2x33_S1x1_1_10 : ∀ a, (![1, 10] : Fin 2 → Nat) a + S1x1.size a ≤ S2x33.size a := by decide
theorem inb_S2x33_S1x1_0_11 : ∀ a, (![0, 11] : Fin 2 → Nat) a + S1x1.size a ≤ S2x33.size a := by decide
theorem inb_S2x33_S1x1_1_11 : ∀ a, (![1, 11] : Fin 2 → Nat) a + S1x1.size a ≤ S2x33.size a := by decide
theorem inb_S2x33_S1x1_0_12 : ∀ a, (![0, 12] : Fin 2 → Nat) a + S1x1.size a ≤ S2x33.size a := by decide
theorem inb_S2x33_S1x1_1_12 : ∀ a, (![1, 12] : Fin 2 → Nat) a + S1x1.size a ≤ S2x33.size a := by decide
theorem inb_S2x33_S1x1_0_13 : ∀ a, (![0, 13] : Fin 2 → Nat) a + S1x1.size a ≤ S2x33.size a := by decide
theorem inb_S2x33_S1x1_1_13 : ∀ a, (![1, 13] : Fin 2 → Nat) a + S1x1.size a ≤ S2x33.size a := by decide
theorem inb_S2x33_S1x1_0_14 : ∀ a, (![0, 14] : Fin 2 → Nat) a + S1x1.size a ≤ S2x33.size a := by decide
theorem inb_S2x33_S1x1_1_14 : ∀ a, (![1, 14] : Fin 2 → Nat) a + S1x1.size a ≤ S2x33.size a := by decide
theorem inb_S2x33_S1x1_0_15 : ∀ a, (![0, 15] : Fin 2 → Nat) a + S1x1.size a ≤ S2x33.size a := by decide
theorem inb_S2x33_S1x1_1_15 : ∀ a, (![1, 15] : Fin 2 → Nat) a + S1x1.size a ≤ S2x33.size a := by decide
theorem inb_S2x33_S1x1_0_16 : ∀ a, (![0, 16] : Fin 2 → Nat) a + S1x1.size a ≤ S2x33.size a := by decide
theorem inb_S2x33_S1x1_1_16 : ∀ a, (![1, 16] : Fin 2 → Nat) a + S1x1.size a ≤ S2x33.size a := by decide
theorem inb_S2x33_S1x1_0_17 : ∀ a, (![0, 17] : Fin 2 → Nat) a + S1x1.size a ≤ S2x33.size a := by decide
theorem inb_S2x33_S1x1_1_17 : ∀ a, (![1, 17] : Fin 2 → Nat) a + S1x1.size a ≤ S2x33.size a := by decide
theorem inb_S2x33_S1x1_0_18 : ∀ a, (![0, 18] : Fin 2 → Nat) a + S1x1.size a ≤ S2x33.size a := by decide
theorem inb_S2x33_S1x1_1_18 : ∀ a, (![1, 18] : Fin 2 → Nat) a + S1x1.size a ≤ S2x33.size a := by decide
theorem inb_S2x33_S1x1_0_19 : ∀ a, (![0, 19] : Fin 2 → Nat) a + S1x1.size a ≤ S2x33.size a := by decide
theorem inb_S2x33_S1x1_1_19 : ∀ a, (![1, 19] : Fin 2 → Nat) a + S1x1.size a ≤ S2x33.size a := by decide
theorem inb_S2x33_S1x1_0_20 : ∀ a, (![0, 20] : Fin 2 → Nat) a + S1x1.size a ≤ S2x33.size a := by decide
theorem inb_S2x33_S1x1_1_20 : ∀ a, (![1, 20] : Fin 2 → Nat) a + S1x1.size a ≤ S2x33.size a := by decide
theorem inb_S2x33_S1x1_0_21 : ∀ a, (![0, 21] : Fin 2 → Nat) a + S1x1.size a ≤ S2x33.size a := by decide
theorem inb_S2x33_S1x1_1_21 : ∀ a, (![1, 21] : Fin 2 → Nat) a + S1x1.size a ≤ S2x33.size a := by decide
theorem inb_S2x33_S1x1_0_22 : ∀ a, (![0, 22] : Fin 2 → Nat) a + S1x1.size a ≤ S2x33.size a := by decide
theorem inb_S2x33_S1x1_1_22 : ∀ a, (![1, 22] : Fin 2 → Nat) a + S1x1.size a ≤ S2x33.size a := by decide
theorem inb_S2x33_S1x1_0_23 : ∀ a, (![0, 23] : Fin 2 → Nat) a + S1x1.size a ≤ S2x33.size a := by decide
theorem inb_S2x33_S1x1_1_23 : ∀ a, (![1, 23] : Fin 2 → Nat) a + S1x1.size a ≤ S2x33.size a := by decide
theorem inb_S2x33_S1x1_0_24 : ∀ a, (![0, 24] : Fin 2 → Nat) a + S1x1.size a ≤ S2x33.size a := by decide
theorem inb_S2x33_S1x1_1_24 : ∀ a, (![1, 24] : Fin 2 → Nat) a + S1x1.size a ≤ S2x33.size a := by decide
theorem inb_S2x33_S1x1_0_25 : ∀ a, (![0, 25] : Fin 2 → Nat) a + S1x1.size a ≤ S2x33.size a := by decide
theorem inb_S2x33_S1x1_1_25 : ∀ a, (![1, 25] : Fin 2 → Nat) a + S1x1.size a ≤ S2x33.size a := by decide
theorem inb_S2x33_S1x1_0_26 : ∀ a, (![0, 26] : Fin 2 → Nat) a + S1x1.size a ≤ S2x33.size a := by decide
theorem inb_S2x33_S1x1_1_26 : ∀ a, (![1, 26] : Fin 2 → Nat) a + S1x1.size a ≤ S2x33.size a := by decide
theorem inb_S2x33_S1x1_0_27 : ∀ a, (![0, 27] : Fin 2 → Nat) a + S1x1.size a ≤ S2x33.size a := by decide
theorem inb_S2x33_S1x1_1_27 : ∀ a, (![1, 27] : Fin 2 → Nat) a + S1x1.size a ≤ S2x33.size a := by decide
theorem inb_S2x33_S1x1_0_28 : ∀ a, (![0, 28] : Fin 2 → Nat) a + S1x1.size a ≤ S2x33.size a := by decide
theorem inb_S2x33_S1x1_1_28 : ∀ a, (![1, 28] : Fin 2 → Nat) a + S1x1.size a ≤ S2x33.size a := by decide
theorem inb_S2x33_S1x1_0_29 : ∀ a, (![0, 29] : Fin 2 → Nat) a + S1x1.size a ≤ S2x33.size a := by decide
theorem inb_S2x33_S1x1_1_29 : ∀ a, (![1, 29] : Fin 2 → Nat) a + S1x1.size a ≤ S2x33.size a := by decide
theorem inb_S2x33_S1x1_0_30 : ∀ a, (![0, 30] : Fin 2 → Nat) a + S1x1.size a ≤ S2x33.size a := by decide
theorem inb_S2x33_S1x1_1_30 : ∀ a, (![1, 30] : Fin 2 → Nat) a + S1x1.size a ≤ S2x33.size a := by decide
theorem inb_S2x33_S1x1_0_31 : ∀ a, (![0, 31] : Fin 2 → Nat) a + S1x1.size a ≤ S2x33.size a := by decide
theorem inb_S2x33_S1x1_1_31 : ∀ a, (![1, 31] : Fin 2 → Nat) a + S1x1.size a ≤ S2x33.size a := by decide
theorem inb_S2x33_S1x1_0_32 : ∀ a, (![0, 32] : Fin 2 → Nat) a + S1x1.size a ≤ S2x33.size a := by decide
theorem inb_S2x33_S1x1_1_32 : ∀ a, (![1, 32] : Fin 2 → Nat) a + S1x1.size a ≤ S2x33.size a := by decide
theorem inb_S20_S1_2 : ∀ a, (![2] : Fin 1 → Nat) a + S1.size a ≤ S20.size a := by decide
theorem inb_S20x2560x1024_S1x2560x1024_2_0_0 : ∀ a, (![2, 0, 0] : Fin 3 → Nat) a + S1x2560x1024.size a ≤ S20x2560x1024.size a := by decide
theorem wordsfp8e4m3_S20x2560x1024_S1x2560x1024_2_0_0 : (Rect.unit (s := S20x2560x1024) ![2, 0, 0] S1x2560x1024.size inb_S20x2560x1024_S1x2560x1024_2_0_0).WholeWords (EltTy.packing .fp8e4m3) := by decide
theorem inb_S34_S1_3 : ∀ a, (![3] : Fin 1 → Nat) a + S1.size a ≤ S34.size a := by decide
theorem inb_S20_S1_3 : ∀ a, (![3] : Fin 1 → Nat) a + S1.size a ≤ S20.size a := by decide
theorem inb_S20x2560x1024_S1x2560x1024_3_0_0 : ∀ a, (![3, 0, 0] : Fin 3 → Nat) a + S1x2560x1024.size a ≤ S20x2560x1024.size a := by decide
theorem wordsfp8e4m3_S20x2560x1024_S1x2560x1024_3_0_0 : (Rect.unit (s := S20x2560x1024) ![3, 0, 0] S1x2560x1024.size inb_S20x2560x1024_S1x2560x1024_3_0_0).WholeWords (EltTy.packing .fp8e4m3) := by decide
theorem inb_S34_S1_4 : ∀ a, (![4] : Fin 1 → Nat) a + S1.size a ≤ S34.size a := by decide
theorem inb_S20_S1_4 : ∀ a, (![4] : Fin 1 → Nat) a + S1.size a ≤ S20.size a := by decide
theorem inb_S20x2560x1024_S1x2560x1024_4_0_0 : ∀ a, (![4, 0, 0] : Fin 3 → Nat) a + S1x2560x1024.size a ≤ S20x2560x1024.size a := by decide
theorem wordsfp8e4m3_S20x2560x1024_S1x2560x1024_4_0_0 : (Rect.unit (s := S20x2560x1024) ![4, 0, 0] S1x2560x1024.size inb_S20x2560x1024_S1x2560x1024_4_0_0).WholeWords (EltTy.packing .fp8e4m3) := by decide
theorem inb_S34_S1_5 : ∀ a, (![5] : Fin 1 → Nat) a + S1.size a ≤ S34.size a := by decide
theorem inb_S20_S1_5 : ∀ a, (![5] : Fin 1 → Nat) a + S1.size a ≤ S20.size a := by decide
theorem inb_S20x2560x1024_S1x2560x1024_5_0_0 : ∀ a, (![5, 0, 0] : Fin 3 → Nat) a + S1x2560x1024.size a ≤ S20x2560x1024.size a := by decide
theorem wordsfp8e4m3_S20x2560x1024_S1x2560x1024_5_0_0 : (Rect.unit (s := S20x2560x1024) ![5, 0, 0] S1x2560x1024.size inb_S20x2560x1024_S1x2560x1024_5_0_0).WholeWords (EltTy.packing .fp8e4m3) := by decide
theorem inb_S34_S1_6 : ∀ a, (![6] : Fin 1 → Nat) a + S1.size a ≤ S34.size a := by decide
theorem inb_S20_S1_6 : ∀ a, (![6] : Fin 1 → Nat) a + S1.size a ≤ S20.size a := by decide
theorem inb_S20x2560x1024_S1x2560x1024_6_0_0 : ∀ a, (![6, 0, 0] : Fin 3 → Nat) a + S1x2560x1024.size a ≤ S20x2560x1024.size a := by decide
theorem wordsfp8e4m3_S20x2560x1024_S1x2560x1024_6_0_0 : (Rect.unit (s := S20x2560x1024) ![6, 0, 0] S1x2560x1024.size inb_S20x2560x1024_S1x2560x1024_6_0_0).WholeWords (EltTy.packing .fp8e4m3) := by decide
theorem inb_S34_S1_7 : ∀ a, (![7] : Fin 1 → Nat) a + S1.size a ≤ S34.size a := by decide
theorem inb_S20_S1_7 : ∀ a, (![7] : Fin 1 → Nat) a + S1.size a ≤ S20.size a := by decide
theorem inb_S20x2560x1024_S1x2560x1024_7_0_0 : ∀ a, (![7, 0, 0] : Fin 3 → Nat) a + S1x2560x1024.size a ≤ S20x2560x1024.size a := by decide
theorem wordsfp8e4m3_S20x2560x1024_S1x2560x1024_7_0_0 : (Rect.unit (s := S20x2560x1024) ![7, 0, 0] S1x2560x1024.size inb_S20x2560x1024_S1x2560x1024_7_0_0).WholeWords (EltTy.packing .fp8e4m3) := by decide
theorem inb_S34_S1_8 : ∀ a, (![8] : Fin 1 → Nat) a + S1.size a ≤ S34.size a := by decide
theorem inb_S20_S1_8 : ∀ a, (![8] : Fin 1 → Nat) a + S1.size a ≤ S20.size a := by decide
theorem inb_S20x2560x1024_S1x2560x1024_8_0_0 : ∀ a, (![8, 0, 0] : Fin 3 → Nat) a + S1x2560x1024.size a ≤ S20x2560x1024.size a := by decide
theorem wordsfp8e4m3_S20x2560x1024_S1x2560x1024_8_0_0 : (Rect.unit (s := S20x2560x1024) ![8, 0, 0] S1x2560x1024.size inb_S20x2560x1024_S1x2560x1024_8_0_0).WholeWords (EltTy.packing .fp8e4m3) := by decide
theorem inb_S34_S1_9 : ∀ a, (![9] : Fin 1 → Nat) a + S1.size a ≤ S34.size a := by decide
theorem inb_S20_S1_9 : ∀ a, (![9] : Fin 1 → Nat) a + S1.size a ≤ S20.size a := by decide
theorem inb_S20x2560x1024_S1x2560x1024_9_0_0 : ∀ a, (![9, 0, 0] : Fin 3 → Nat) a + S1x2560x1024.size a ≤ S20x2560x1024.size a := by decide
theorem wordsfp8e4m3_S20x2560x1024_S1x2560x1024_9_0_0 : (Rect.unit (s := S20x2560x1024) ![9, 0, 0] S1x2560x1024.size inb_S20x2560x1024_S1x2560x1024_9_0_0).WholeWords (EltTy.packing .fp8e4m3) := by decide
theorem inb_S34_S1_10 : ∀ a, (![10] : Fin 1 → Nat) a + S1.size a ≤ S34.size a := by decide
theorem inb_S20_S1_10 : ∀ a, (![10] : Fin 1 → Nat) a + S1.size a ≤ S20.size a := by decide
theorem inb_S20x2560x1024_S1x2560x1024_10_0_0 : ∀ a, (![10, 0, 0] : Fin 3 → Nat) a + S1x2560x1024.size a ≤ S20x2560x1024.size a := by decide
theorem wordsfp8e4m3_S20x2560x1024_S1x2560x1024_10_0_0 : (Rect.unit (s := S20x2560x1024) ![10, 0, 0] S1x2560x1024.size inb_S20x2560x1024_S1x2560x1024_10_0_0).WholeWords (EltTy.packing .fp8e4m3) := by decide
theorem inb_S34_S1_11 : ∀ a, (![11] : Fin 1 → Nat) a + S1.size a ≤ S34.size a := by decide
theorem inb_S20_S1_11 : ∀ a, (![11] : Fin 1 → Nat) a + S1.size a ≤ S20.size a := by decide
theorem inb_S20x2560x1024_S1x2560x1024_11_0_0 : ∀ a, (![11, 0, 0] : Fin 3 → Nat) a + S1x2560x1024.size a ≤ S20x2560x1024.size a := by decide
theorem wordsfp8e4m3_S20x2560x1024_S1x2560x1024_11_0_0 : (Rect.unit (s := S20x2560x1024) ![11, 0, 0] S1x2560x1024.size inb_S20x2560x1024_S1x2560x1024_11_0_0).WholeWords (EltTy.packing .fp8e4m3) := by decide
theorem inb_S34_S1_12 : ∀ a, (![12] : Fin 1 → Nat) a + S1.size a ≤ S34.size a := by decide
theorem inb_S20_S1_12 : ∀ a, (![12] : Fin 1 → Nat) a + S1.size a ≤ S20.size a := by decide
theorem inb_S20x2560x1024_S1x2560x1024_12_0_0 : ∀ a, (![12, 0, 0] : Fin 3 → Nat) a + S1x2560x1024.size a ≤ S20x2560x1024.size a := by decide
theorem wordsfp8e4m3_S20x2560x1024_S1x2560x1024_12_0_0 : (Rect.unit (s := S20x2560x1024) ![12, 0, 0] S1x2560x1024.size inb_S20x2560x1024_S1x2560x1024_12_0_0).WholeWords (EltTy.packing .fp8e4m3) := by decide
theorem inb_S34_S1_13 : ∀ a, (![13] : Fin 1 → Nat) a + S1.size a ≤ S34.size a := by decide
theorem inb_S20_S1_13 : ∀ a, (![13] : Fin 1 → Nat) a + S1.size a ≤ S20.size a := by decide
theorem inb_S20x2560x1024_S1x2560x1024_13_0_0 : ∀ a, (![13, 0, 0] : Fin 3 → Nat) a + S1x2560x1024.size a ≤ S20x2560x1024.size a := by decide
theorem wordsfp8e4m3_S20x2560x1024_S1x2560x1024_13_0_0 : (Rect.unit (s := S20x2560x1024) ![13, 0, 0] S1x2560x1024.size inb_S20x2560x1024_S1x2560x1024_13_0_0).WholeWords (EltTy.packing .fp8e4m3) := by decide
theorem inb_S34_S1_14 : ∀ a, (![14] : Fin 1 → Nat) a + S1.size a ≤ S34.size a := by decide
theorem inb_S20_S1_14 : ∀ a, (![14] : Fin 1 → Nat) a + S1.size a ≤ S20.size a := by decide
theorem inb_S20x2560x1024_S1x2560x1024_14_0_0 : ∀ a, (![14, 0, 0] : Fin 3 → Nat) a + S1x2560x1024.size a ≤ S20x2560x1024.size a := by decide
theorem wordsfp8e4m3_S20x2560x1024_S1x2560x1024_14_0_0 : (Rect.unit (s := S20x2560x1024) ![14, 0, 0] S1x2560x1024.size inb_S20x2560x1024_S1x2560x1024_14_0_0).WholeWords (EltTy.packing .fp8e4m3) := by decide
theorem inb_S34_S1_15 : ∀ a, (![15] : Fin 1 → Nat) a + S1.size a ≤ S34.size a := by decide
theorem inb_S20_S1_15 : ∀ a, (![15] : Fin 1 → Nat) a + S1.size a ≤ S20.size a := by decide
theorem inb_S20x2560x1024_S1x2560x1024_15_0_0 : ∀ a, (![15, 0, 0] : Fin 3 → Nat) a + S1x2560x1024.size a ≤ S20x2560x1024.size a := by decide
theorem wordsfp8e4m3_S20x2560x1024_S1x2560x1024_15_0_0 : (Rect.unit (s := S20x2560x1024) ![15, 0, 0] S1x2560x1024.size inb_S20x2560x1024_S1x2560x1024_15_0_0).WholeWords (EltTy.packing .fp8e4m3) := by decide
theorem inb_S34_S1_16 : ∀ a, (![16] : Fin 1 → Nat) a + S1.size a ≤ S34.size a := by decide
theorem inb_S20_S1_16 : ∀ a, (![16] : Fin 1 → Nat) a + S1.size a ≤ S20.size a := by decide
theorem inb_S20x2560x1024_S1x2560x1024_16_0_0 : ∀ a, (![16, 0, 0] : Fin 3 → Nat) a + S1x2560x1024.size a ≤ S20x2560x1024.size a := by decide
theorem wordsfp8e4m3_S20x2560x1024_S1x2560x1024_16_0_0 : (Rect.unit (s := S20x2560x1024) ![16, 0, 0] S1x2560x1024.size inb_S20x2560x1024_S1x2560x1024_16_0_0).WholeWords (EltTy.packing .fp8e4m3) := by decide
theorem inb_S34_S1_17 : ∀ a, (![17] : Fin 1 → Nat) a + S1.size a ≤ S34.size a := by decide
theorem inb_S20_S1_17 : ∀ a, (![17] : Fin 1 → Nat) a + S1.size a ≤ S20.size a := by decide
theorem inb_S20x2560x1024_S1x2560x1024_17_0_0 : ∀ a, (![17, 0, 0] : Fin 3 → Nat) a + S1x2560x1024.size a ≤ S20x2560x1024.size a := by decide
theorem wordsfp8e4m3_S20x2560x1024_S1x2560x1024_17_0_0 : (Rect.unit (s := S20x2560x1024) ![17, 0, 0] S1x2560x1024.size inb_S20x2560x1024_S1x2560x1024_17_0_0).WholeWords (EltTy.packing .fp8e4m3) := by decide
theorem inb_S34_S1_18 : ∀ a, (![18] : Fin 1 → Nat) a + S1.size a ≤ S34.size a := by decide
theorem inb_S20_S1_18 : ∀ a, (![18] : Fin 1 → Nat) a + S1.size a ≤ S20.size a := by decide
theorem inb_S20x2560x1024_S1x2560x1024_18_0_0 : ∀ a, (![18, 0, 0] : Fin 3 → Nat) a + S1x2560x1024.size a ≤ S20x2560x1024.size a := by decide
theorem wordsfp8e4m3_S20x2560x1024_S1x2560x1024_18_0_0 : (Rect.unit (s := S20x2560x1024) ![18, 0, 0] S1x2560x1024.size inb_S20x2560x1024_S1x2560x1024_18_0_0).WholeWords (EltTy.packing .fp8e4m3) := by decide
theorem inb_S2x128_S1x128_0_0 : ∀ a, (![0, 0] : Fin 2 → Nat) a + S1x128.size a ≤ S2x128.size a := by decide
theorem h_S1x128 : 0 < S1x128.numel := by decide
theorem shapeCasts_S1x128_S1x128 : S1x128.ShapeCasts S1x128 := by decide
theorem broadcasts_S1x128_S128x128 : S1x128.Broadcasts S128x128 := by decide
theorem transposes_S128x128_p1_0_S128x128 : S128x128.Transposes [1, 0] S128x128 := by decide
theorem inb_S256x128_S128x128_0_0 : ∀ a, (![0, 0] : Fin 2 → Nat) a + S128x128.size a ≤ S256x128.size a := by decide
theorem h_S128x128 : 0 < S128x128.numel := by decide
theorem shapeCasts_S128x128_S128x128 : S128x128.ShapeCasts S128x128 := by decide
theorem inb_S2x128_S1x128_1_0 : ∀ a, (![1, 0] : Fin 2 → Nat) a + S1x128.size a ≤ S2x128.size a := by decide
theorem inb_S256x128_S128x128_128_0 : ∀ a, (![128, 0] : Fin 2 → Nat) a + S128x128.size a ≤ S256x128.size a := by decide
theorem inb_S256x2560_S256x2560_0_0 : ∀ a, (![0, 0] : Fin 2 → Nat) a + S256x2560.size a ≤ S256x2560.size a := by decide
theorem h_S256x2560 : 0 < S256x2560.numel := by decide
theorem bitsLt_fp8e4m3_bf16 : FTy.bits .fp8e4m3 < FTy.bits .bf16 := by decide
theorem shapeCasts_S256x2560_S256x2560 : S256x2560.ShapeCasts S256x2560 := by decide
theorem packedbf16_S256x2560_S256x2560_0_0 : (Rect.unit (s := S256x2560) ![0, 0] S256x2560.size inb_S256x2560_S256x2560_0_0).PackedRows (EltTy.packing .bf16) := by decide
theorem h_S16x2560 : 0 < S16x2560.numel := by decide
theorem concatenates_S16x2560_S16x2560_S16x2560_S16x2560_S64x2560_d0 : Shape.Concatenates [S16x2560, S16x2560, S16x2560, S16x2560] S64x2560 0 := by decide
theorem h_S1x2560x1024 : 0 < S1x2560x1024.numel := by decide
theorem shapeCasts_S1x2560x1024_S2560x1024 : S1x2560x1024.ShapeCasts S2560x1024 := by decide
theorem h_S1x1024 : 0 < S1x1024.numel := by decide
theorem broadcasts_S1x1024_S64x1024 : S1x1024.Broadcasts S64x1024 := by decide
theorem h_S16x128 : 0 < S16x128.numel := by decide
theorem concatenates_S16x128_S16x128_S16x128_S16x128_S16x128_S16x128_S16x128_S16x128_S16x1024_d1 : Shape.Concatenates [S16x128, S16x128, S16x128, S16x128, S16x128, S16x128, S16x128, S16x128] S16x1024 1 := by decide
theorem slices_S64x1024_o0_0_S16x1024 : S64x1024.Slices ![0, 0] S16x1024 := by decide
theorem iota_S16x1024_d0_w32 : S16x1024.Iotas .tc 32 [0] := by decide
theorem h_S16x1024 : 0 < S16x1024.numel := by decide
theorem bitsLt_bf16_f32 : FTy.bits .bf16 < FTy.bits .f32 := by decide
theorem shapeCasts_S16x1024_S16x1024 : S16x1024.ShapeCasts S16x1024 := by decide
theorem slices_S64x1024_o16_0_S16x1024 : S64x1024.Slices ![16, 0] S16x1024 := by decide
theorem slices_S64x1024_o32_0_S16x1024 : S64x1024.Slices ![32, 0] S16x1024 := by decide
theorem slices_S64x1024_o48_0_S16x1024 : S64x1024.Slices ![48, 0] S16x1024 := by decide
theorem dot_S64x2560_S2560x1024_S64x1024_1_0_0_1_n_n_wf : DotDims.WF S64x2560 S2560x1024 S64x1024 [1] [0] [0] [1] [] [] := by decide
theorem hcc0_scratch10 : 0 + S20.numel ≤ 25 := by decide
theorem hcc0_scratch11 : 20 + S_.numel ≤ 25 := by decide
theorem hcc0_scratch12 : 21 + S_.numel ≤ 25 := by decide
theorem hcc0_scratch13 : 22 + S_.numel ≤ 25 := by decide
theorem hcc0_scratch14 : 23 + S_.numel ≤ 25 := by decide
theorem hcc0_scratch15 : 24 + S_.numel ≤ 25 := by decide

/-- The program's facts over its vocabulary, proved: the instance its windows take. -/
instance facts₀ : Cert.Kernel.Facts₀ where
  shapeCasts_S2x128x2560_S256x2560 := @shapeCasts_S2x128x2560_S256x2560
  inb_S20_S1_0 := @inb_S20_S1_0
  squeezes_S1_S_ := @squeezes_S1_S_
  inb_S20x2560x1024_S1x2560x1024_0_0_0 := @inb_S20x2560x1024_S1x2560x1024_0_0_0
  squeezes_S1x2560x1024_S2560x1024 := @squeezes_S1x2560x1024_S2560x1024
  inb_S33x2560x1024_S1x2560x1024_0_0_0 := @inb_S33x2560x1024_S1x2560x1024_0_0_0
  wordsfp8e4m3_S33x2560x1024_S1x2560x1024_0_0_0 := @wordsfp8e4m3_S33x2560x1024_S1x2560x1024_0_0_0
  wordsfp8e4m3_S20x2560x1024_S1x2560x1024_0_0_0 := @wordsfp8e4m3_S20x2560x1024_S1x2560x1024_0_0_0
  inb_S20_S1_1 := @inb_S20_S1_1
  inb_S20x2560x1024_S1x2560x1024_1_0_0 := @inb_S20x2560x1024_S1x2560x1024_1_0_0
  inb_S33x2560x1024_S1x2560x1024_1_0_0 := @inb_S33x2560x1024_S1x2560x1024_1_0_0
  wordsfp8e4m3_S33x2560x1024_S1x2560x1024_1_0_0 := @wordsfp8e4m3_S33x2560x1024_S1x2560x1024_1_0_0
  wordsfp8e4m3_S20x2560x1024_S1x2560x1024_1_0_0 := @wordsfp8e4m3_S20x2560x1024_S1x2560x1024_1_0_0
  inb_S256x1024_S256x1024_0_0 := @inb_S256x1024_S256x1024_0_0
  h_S256x1024 := @h_S256x1024
  shapeCasts_S256x1024_S256x1024 := @shapeCasts_S256x1024_S256x1024
  packedbf16_S256x1024_S256x1024_0_0 := @packedbf16_S256x1024_S256x1024_0_0
  inb_S34_S1_0 := @inb_S34_S1_0
  numel1_S1 := @numel1_S1
  inb_S34_S1_1 := @inb_S34_S1_1
  inb_S2x33_S1x1_0_0 := @inb_S2x33_S1x1_0_0
  numel1_S1x1 := @numel1_S1x1
  inb_S2x33_S1x1_1_0 := @inb_S2x33_S1x1_1_0
  inb_S2x33_S1x1_0_1 := @inb_S2x33_S1x1_0_1
  inb_S2x33_S1x1_1_1 := @inb_S2x33_S1x1_1_1
  inb_S2x33_S1x1_0_2 := @inb_S2x33_S1x1_0_2
  inb_S2x33_S1x1_1_2 := @inb_S2x33_S1x1_1_2
  inb_S34_S1_2 := @inb_S34_S1_2
  inb_S2x33_S1x1_0_3 := @inb_S2x33_S1x1_0_3
  inb_S2x33_S1x1_1_3 := @inb_S2x33_S1x1_1_3
  inb_S2x33_S1x1_0_4 := @inb_S2x33_S1x1_0_4
  inb_S2x33_S1x1_1_4 := @inb_S2x33_S1x1_1_4
  inb_S2x33_S1x1_0_5 := @inb_S2x33_S1x1_0_5
  inb_S2x33_S1x1_1_5 := @inb_S2x33_S1x1_1_5
  inb_S2x33_S1x1_0_6 := @inb_S2x33_S1x1_0_6
  inb_S2x33_S1x1_1_6 := @inb_S2x33_S1x1_1_6
  inb_S2x33_S1x1_0_7 := @inb_S2x33_S1x1_0_7
  inb_S2x33_S1x1_1_7 := @inb_S2x33_S1x1_1_7
  inb_S2x33_S1x1_0_8 := @inb_S2x33_S1x1_0_8
  inb_S2x33_S1x1_1_8 := @inb_S2x33_S1x1_1_8
  inb_S2x33_S1x1_0_9 := @inb_S2x33_S1x1_0_9
  inb_S2x33_S1x1_1_9 := @inb_S2x33_S1x1_1_9
  inb_S2x33_S1x1_0_10 := @inb_S2x33_S1x1_0_10
  inb_S2x33_S1x1_1_10 := @inb_S2x33_S1x1_1_10
  inb_S2x33_S1x1_0_11 := @inb_S2x33_S1x1_0_11
  inb_S2x33_S1x1_1_11 := @inb_S2x33_S1x1_1_11
  inb_S2x33_S1x1_0_12 := @inb_S2x33_S1x1_0_12
  inb_S2x33_S1x1_1_12 := @inb_S2x33_S1x1_1_12
  inb_S2x33_S1x1_0_13 := @inb_S2x33_S1x1_0_13
  inb_S2x33_S1x1_1_13 := @inb_S2x33_S1x1_1_13
  inb_S2x33_S1x1_0_14 := @inb_S2x33_S1x1_0_14
  inb_S2x33_S1x1_1_14 := @inb_S2x33_S1x1_1_14
  inb_S2x33_S1x1_0_15 := @inb_S2x33_S1x1_0_15
  inb_S2x33_S1x1_1_15 := @inb_S2x33_S1x1_1_15
  inb_S2x33_S1x1_0_16 := @inb_S2x33_S1x1_0_16
  inb_S2x33_S1x1_1_16 := @inb_S2x33_S1x1_1_16
  inb_S2x33_S1x1_0_17 := @inb_S2x33_S1x1_0_17
  inb_S2x33_S1x1_1_17 := @inb_S2x33_S1x1_1_17
  inb_S2x33_S1x1_0_18 := @inb_S2x33_S1x1_0_18
  inb_S2x33_S1x1_1_18 := @inb_S2x33_S1x1_1_18
  inb_S2x33_S1x1_0_19 := @inb_S2x33_S1x1_0_19
  inb_S2x33_S1x1_1_19 := @inb_S2x33_S1x1_1_19
  inb_S2x33_S1x1_0_20 := @inb_S2x33_S1x1_0_20
  inb_S2x33_S1x1_1_20 := @inb_S2x33_S1x1_1_20
  inb_S2x33_S1x1_0_21 := @inb_S2x33_S1x1_0_21
  inb_S2x33_S1x1_1_21 := @inb_S2x33_S1x1_1_21
  inb_S2x33_S1x1_0_22 := @inb_S2x33_S1x1_0_22
  inb_S2x33_S1x1_1_22 := @inb_S2x33_S1x1_1_22
  inb_S2x33_S1x1_0_23 := @inb_S2x33_S1x1_0_23
  inb_S2x33_S1x1_1_23 := @inb_S2x33_S1x1_1_23
  inb_S2x33_S1x1_0_24 := @inb_S2x33_S1x1_0_24
  inb_S2x33_S1x1_1_24 := @inb_S2x33_S1x1_1_24
  inb_S2x33_S1x1_0_25 := @inb_S2x33_S1x1_0_25
  inb_S2x33_S1x1_1_25 := @inb_S2x33_S1x1_1_25
  inb_S2x33_S1x1_0_26 := @inb_S2x33_S1x1_0_26
  inb_S2x33_S1x1_1_26 := @inb_S2x33_S1x1_1_26
  inb_S2x33_S1x1_0_27 := @inb_S2x33_S1x1_0_27
  inb_S2x33_S1x1_1_27 := @inb_S2x33_S1x1_1_27
  inb_S2x33_S1x1_0_28 := @inb_S2x33_S1x1_0_28
  inb_S2x33_S1x1_1_28 := @inb_S2x33_S1x1_1_28
  inb_S2x33_S1x1_0_29 := @inb_S2x33_S1x1_0_29
  inb_S2x33_S1x1_1_29 := @inb_S2x33_S1x1_1_29
  inb_S2x33_S1x1_0_30 := @inb_S2x33_S1x1_0_30
  inb_S2x33_S1x1_1_30 := @inb_S2x33_S1x1_1_30
  inb_S2x33_S1x1_0_31 := @inb_S2x33_S1x1_0_31
  inb_S2x33_S1x1_1_31 := @inb_S2x33_S1x1_1_31
  inb_S2x33_S1x1_0_32 := @inb_S2x33_S1x1_0_32
  inb_S2x33_S1x1_1_32 := @inb_S2x33_S1x1_1_32
  inb_S20_S1_2 := @inb_S20_S1_2
  inb_S20x2560x1024_S1x2560x1024_2_0_0 := @inb_S20x2560x1024_S1x2560x1024_2_0_0
  wordsfp8e4m3_S20x2560x1024_S1x2560x1024_2_0_0 := @wordsfp8e4m3_S20x2560x1024_S1x2560x1024_2_0_0
  inb_S34_S1_3 := @inb_S34_S1_3
  inb_S20_S1_3 := @inb_S20_S1_3
  inb_S20x2560x1024_S1x2560x1024_3_0_0 := @inb_S20x2560x1024_S1x2560x1024_3_0_0
  wordsfp8e4m3_S20x2560x1024_S1x2560x1024_3_0_0 := @wordsfp8e4m3_S20x2560x1024_S1x2560x1024_3_0_0
  inb_S34_S1_4 := @inb_S34_S1_4
  inb_S20_S1_4 := @inb_S20_S1_4
  inb_S20x2560x1024_S1x2560x1024_4_0_0 := @inb_S20x2560x1024_S1x2560x1024_4_0_0
  wordsfp8e4m3_S20x2560x1024_S1x2560x1024_4_0_0 := @wordsfp8e4m3_S20x2560x1024_S1x2560x1024_4_0_0
  inb_S34_S1_5 := @inb_S34_S1_5
  inb_S20_S1_5 := @inb_S20_S1_5
  inb_S20x2560x1024_S1x2560x1024_5_0_0 := @inb_S20x2560x1024_S1x2560x1024_5_0_0
  wordsfp8e4m3_S20x2560x1024_S1x2560x1024_5_0_0 := @wordsfp8e4m3_S20x2560x1024_S1x2560x1024_5_0_0
  inb_S34_S1_6 := @inb_S34_S1_6
  inb_S20_S1_6 := @inb_S20_S1_6
  inb_S20x2560x1024_S1x2560x1024_6_0_0 := @inb_S20x2560x1024_S1x2560x1024_6_0_0
  wordsfp8e4m3_S20x2560x1024_S1x2560x1024_6_0_0 := @wordsfp8e4m3_S20x2560x1024_S1x2560x1024_6_0_0
  inb_S34_S1_7 := @inb_S34_S1_7
  inb_S20_S1_7 := @inb_S20_S1_7
  inb_S20x2560x1024_S1x2560x1024_7_0_0 := @inb_S20x2560x1024_S1x2560x1024_7_0_0
  wordsfp8e4m3_S20x2560x1024_S1x2560x1024_7_0_0 := @wordsfp8e4m3_S20x2560x1024_S1x2560x1024_7_0_0
  inb_S34_S1_8 := @inb_S34_S1_8
  inb_S20_S1_8 := @inb_S20_S1_8
  inb_S20x2560x1024_S1x2560x1024_8_0_0 := @inb_S20x2560x1024_S1x2560x1024_8_0_0
  wordsfp8e4m3_S20x2560x1024_S1x2560x1024_8_0_0 := @wordsfp8e4m3_S20x2560x1024_S1x2560x1024_8_0_0
  inb_S34_S1_9 := @inb_S34_S1_9
  inb_S20_S1_9 := @inb_S20_S1_9
  inb_S20x2560x1024_S1x2560x1024_9_0_0 := @inb_S20x2560x1024_S1x2560x1024_9_0_0
  wordsfp8e4m3_S20x2560x1024_S1x2560x1024_9_0_0 := @wordsfp8e4m3_S20x2560x1024_S1x2560x1024_9_0_0
  inb_S34_S1_10 := @inb_S34_S1_10
  inb_S20_S1_10 := @inb_S20_S1_10
  inb_S20x2560x1024_S1x2560x1024_10_0_0 := @inb_S20x2560x1024_S1x2560x1024_10_0_0
  wordsfp8e4m3_S20x2560x1024_S1x2560x1024_10_0_0 := @wordsfp8e4m3_S20x2560x1024_S1x2560x1024_10_0_0
  inb_S34_S1_11 := @inb_S34_S1_11
  inb_S20_S1_11 := @inb_S20_S1_11
  inb_S20x2560x1024_S1x2560x1024_11_0_0 := @inb_S20x2560x1024_S1x2560x1024_11_0_0
  wordsfp8e4m3_S20x2560x1024_S1x2560x1024_11_0_0 := @wordsfp8e4m3_S20x2560x1024_S1x2560x1024_11_0_0
  inb_S34_S1_12 := @inb_S34_S1_12
  inb_S20_S1_12 := @inb_S20_S1_12
  inb_S20x2560x1024_S1x2560x1024_12_0_0 := @inb_S20x2560x1024_S1x2560x1024_12_0_0
  wordsfp8e4m3_S20x2560x1024_S1x2560x1024_12_0_0 := @wordsfp8e4m3_S20x2560x1024_S1x2560x1024_12_0_0
  inb_S34_S1_13 := @inb_S34_S1_13
  inb_S20_S1_13 := @inb_S20_S1_13
  inb_S20x2560x1024_S1x2560x1024_13_0_0 := @inb_S20x2560x1024_S1x2560x1024_13_0_0
  wordsfp8e4m3_S20x2560x1024_S1x2560x1024_13_0_0 := @wordsfp8e4m3_S20x2560x1024_S1x2560x1024_13_0_0
  inb_S34_S1_14 := @inb_S34_S1_14
  inb_S20_S1_14 := @inb_S20_S1_14
  inb_S20x2560x1024_S1x2560x1024_14_0_0 := @inb_S20x2560x1024_S1x2560x1024_14_0_0
  wordsfp8e4m3_S20x2560x1024_S1x2560x1024_14_0_0 := @wordsfp8e4m3_S20x2560x1024_S1x2560x1024_14_0_0
  inb_S34_S1_15 := @inb_S34_S1_15
  inb_S20_S1_15 := @inb_S20_S1_15
  inb_S20x2560x1024_S1x2560x1024_15_0_0 := @inb_S20x2560x1024_S1x2560x1024_15_0_0
  wordsfp8e4m3_S20x2560x1024_S1x2560x1024_15_0_0 := @wordsfp8e4m3_S20x2560x1024_S1x2560x1024_15_0_0
  inb_S34_S1_16 := @inb_S34_S1_16
  inb_S20_S1_16 := @inb_S20_S1_16
  inb_S20x2560x1024_S1x2560x1024_16_0_0 := @inb_S20x2560x1024_S1x2560x1024_16_0_0
  wordsfp8e4m3_S20x2560x1024_S1x2560x1024_16_0_0 := @wordsfp8e4m3_S20x2560x1024_S1x2560x1024_16_0_0
  inb_S34_S1_17 := @inb_S34_S1_17
  inb_S20_S1_17 := @inb_S20_S1_17
  inb_S20x2560x1024_S1x2560x1024_17_0_0 := @inb_S20x2560x1024_S1x2560x1024_17_0_0
  wordsfp8e4m3_S20x2560x1024_S1x2560x1024_17_0_0 := @wordsfp8e4m3_S20x2560x1024_S1x2560x1024_17_0_0
  inb_S34_S1_18 := @inb_S34_S1_18
  inb_S20_S1_18 := @inb_S20_S1_18
  inb_S20x2560x1024_S1x2560x1024_18_0_0 := @inb_S20x2560x1024_S1x2560x1024_18_0_0
  wordsfp8e4m3_S20x2560x1024_S1x2560x1024_18_0_0 := @wordsfp8e4m3_S20x2560x1024_S1x2560x1024_18_0_0
  inb_S2x128_S1x128_0_0 := @inb_S2x128_S1x128_0_0
  h_S1x128 := @h_S1x128
  shapeCasts_S1x128_S1x128 := @shapeCasts_S1x128_S1x128
  broadcasts_S1x128_S128x128 := @broadcasts_S1x128_S128x128
  transposes_S128x128_p1_0_S128x128 := @transposes_S128x128_p1_0_S128x128
  inb_S256x128_S128x128_0_0 := @inb_S256x128_S128x128_0_0
  h_S128x128 := @h_S128x128
  shapeCasts_S128x128_S128x128 := @shapeCasts_S128x128_S128x128
  inb_S2x128_S1x128_1_0 := @inb_S2x128_S1x128_1_0
  inb_S256x128_S128x128_128_0 := @inb_S256x128_S128x128_128_0
  inb_S256x2560_S256x2560_0_0 := @inb_S256x2560_S256x2560_0_0
  h_S256x2560 := @h_S256x2560
  bitsLt_fp8e4m3_bf16 := @bitsLt_fp8e4m3_bf16
  shapeCasts_S256x2560_S256x2560 := @shapeCasts_S256x2560_S256x2560
  packedbf16_S256x2560_S256x2560_0_0 := @packedbf16_S256x2560_S256x2560_0_0
  h_S16x2560 := @h_S16x2560
  concatenates_S16x2560_S16x2560_S16x2560_S16x2560_S64x2560_d0 := @concatenates_S16x2560_S16x2560_S16x2560_S16x2560_S64x2560_d0
  h_S1x2560x1024 := @h_S1x2560x1024
  shapeCasts_S1x2560x1024_S2560x1024 := @shapeCasts_S1x2560x1024_S2560x1024
  h_S1x1024 := @h_S1x1024
  broadcasts_S1x1024_S64x1024 := @broadcasts_S1x1024_S64x1024
  h_S16x128 := @h_S16x128
  concatenates_S16x128_S16x128_S16x128_S16x128_S16x128_S16x128_S16x128_S16x128_S16x1024_d1 := @concatenates_S16x128_S16x128_S16x128_S16x128_S16x128_S16x128_S16x128_S16x128_S16x1024_d1
  slices_S64x1024_o0_0_S16x1024 := @slices_S64x1024_o0_0_S16x1024
  iota_S16x1024_d0_w32 := @iota_S16x1024_d0_w32
  h_S16x1024 := @h_S16x1024
  bitsLt_bf16_f32 := @bitsLt_bf16_f32
  shapeCasts_S16x1024_S16x1024 := @shapeCasts_S16x1024_S16x1024
  slices_S64x1024_o16_0_S16x1024 := @slices_S64x1024_o16_0_S16x1024
  slices_S64x1024_o32_0_S16x1024 := @slices_S64x1024_o32_0_S16x1024
  slices_S64x1024_o48_0_S16x1024 := @slices_S64x1024_o48_0_S16x1024
  dot_S64x2560_S2560x1024_S64x1024_1_0_0_1_n_n_wf := @dot_S64x2560_S2560x1024_S64x1024_1_0_0_1_n_n_wf
  hcc0_scratch10 := @hcc0_scratch10
  hcc0_scratch11 := @hcc0_scratch11
  hcc0_scratch12 := @hcc0_scratch12
  hcc0_scratch13 := @hcc0_scratch13
  hcc0_scratch14 := @hcc0_scratch14
  hcc0_scratch15 := @hcc0_scratch15

/-! ## The facts over the windows (`Facts`) -/

/-- Every fact the program states, proved: the instance its functions and a certificate's claims take. -/
instance facts : Cert.Kernel.Facts where

end Cert.Kernel.Gen
-- ==== Proof.Kernel.Frame.lean ====
/-
  The kernel as compiled and its idealization are one text: what was proved of every run of the one holds of every run
  of the other.
-/
module

public import proofs.«01_k».proof.Proof.Kernel.Facts
public import proofs.«01_k».proof.Proof.KernelIdeal.Frame

@[expose] public section

set_option maxRecDepth 100000
set_option maxHeartbeats 0

noncomputable section

namespace Cert.Kernel.Hand

open Idealize.ShloMosaic Idealize.ShloMosaic.TcCoe
open Idealize.SL.Sem

variable {F : FTy → Type} [FloatOps F]

/-- The two programs are one text. -/
theorem main_eq : Cert.Kernel.main (F := F) = Cert.KernelIdeal.main (F := F) := by rfl

/-- So are their bodies. -/
theorem body_eq : Cert.Kernel.cc0_grouped_matmul (F := F) = Cert.KernelIdeal.cc0_grouped_matmul (F := F) := by rfl

/-- And their kernels' rows. -/
theorem defs_eq : Cert.Kernel.defs (F := F) = Cert.KernelIdeal.defs (F := F) := by rfl

/-- Every run of the kernel ends with its arguments as launched and every semaphore at zero, from counts that fit. -/
theorem run_main (m : (ℓ : Loc Cert.Kernel.nD Cert.Kernel.τ Cert.Kernel.sig) → Buf (Elt F) ℓ) (ρ : Dev Cert.Kernel.nD → PrngReg)
    (hS : ∀ c : Dev Cert.Kernel.nD, Cert.KernelIdeal.Hand.Small (m ((c.tc : Thread Cert.Kernel.nD Cert.Kernel.τ).loc Cert.Kernel.main_arg4))) :
    θ_run (Cert.Kernel.defs (F := F)) (onTc (τ := Cert.Kernel.τ) (Cert.Kernel.main (F := F))) ⟨m, fun _ => 0, ρ⟩
      (Cert.KernelIdeal.Hand.Final (F := F) m) := by
  rw [defs_eq, main_eq]
  exact Cert.KernelIdeal.Hand.run_main m ρ hS

end Cert.Kernel.Hand

end
-- ==== Proof.KernelIdeal.Elem.lean ====
/-
  What the kernel's arithmetic writes over the extended reals, element by element: one tile, one trip of four tiles, one
  expert's trips.
-/
module

public import proofs.«01_k».proof.Proof.KernelIdeal.Counts
public import Idealize.ShloMosaic.Lib.Pointwise

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic

/-- The result starts at zero. -/
theorem yZ_apply (i) : (yZ : S256x1024.Idx → Ideal .bf16) i = 0 := by
  unfold yZ
  pointwise

/-- The cast activations are the activations. -/
theorem xbF_apply (X : S256x2560.Idx → Elt Ideal .fp8e4m3) (i) : xbF X i = X i := by
  unfold xbF
  pointwise

theorem xcV_apply (XS : S2x128.Idx → Ideal .f32) (s : ℕ) (i) : xcV XS s i = XS (ix2 (Fin.ofNat 2 s) (i 0)) := by
  unfold xcV xsRow
  pointwise
  rfl

/-- A row's scale: row `i` is row `i % 128` of sequence `i / 128`. -/
def xsAt (XS : S2x128.Idx → Ideal .f32) (i : Fin 256) : Ideal .f32 := XS (ix2 (Fin.ofNat 2 ((i : ℕ) / 128)) (Fin.ofNat 128 ((i : ℕ) % 128)))

/-- Every lane of the column of scales holds the row's scale. -/
theorem xcF_apply (XS : S2x128.Idx → Ideal .f32) (i : Fin 256) (l : Fin 128) : xcF XS (ix2 i l) = xsAt XS i := by
  show (if (i : ℕ) < 128 then xcV XS 0 (ix2 (Fin.ofNat 128 i) l) else xcV XS 1 (ix2 (Fin.ofNat 128 ((i : ℕ) - 128)) l)) = _
  rw [xcV_apply, xcV_apply]
  unfold xsAt
  have hi := i.isLt
  by_cases h : (i : ℕ) < 128
  · rw [if_pos h, show (i : ℕ) / 128 = 0 by omega, show (i : ℕ) % 128 = i by omega]; rfl
  · rw [if_neg h, show (i : ℕ) / 128 = 1 by omega, show (i : ℕ) % 128 = i - 128 by omega]; rfl

/-- One element of the product of expert `e` with row `i`, scaled by the expert. -/
def dotS (W : S33x2560x1024.Idx → Elt Ideal .fp8e4m3) (XB : S256x2560.Idx → Ideal .bf16) (WS : S33x1024.Idx → Ideal .f32) (e : ℕ) (i : Fin 256) (f : Fin 1024) : Ideal .f32 :=
  (∑ k : Fin 2560, XB (ix2 i k) * W (ix3 (Fin.ofNat 33 e) k f)) * WS (ix2 (Fin.ofNat 33 e) f)

theorem rowsB_at {N : ℕ} (XB : (⟨2, ![256, N]⟩ : Shape).Idx → Ideal .bf16) {b : ℕ} {t t' : Fin 16} (ht : (t' : ℕ) = t) (x : Fin N) :
    rowsB XB b (ix2 t' x) = XB (ix2 (Fin.ofNat 256 (b + (t : ℕ))) x) := by
  rw [← ht]; rfl

/-- The four tiles of a product, each as it comes out of the one product. -/
theorem res64_apply (W : S33x2560x1024.Idx → Elt Ideal .fp8e4m3) (e : ℕ) (XB : S256x2560.Idx → Ideal .bf16) (WS : S33x1024.Idx → Ideal .f32) (b0 b1 b2 b3 : ℕ) (t : Fin 16) (f : Fin 1024) :
    extractStridedSlice S16x1024 ![0, 0] (res64 W e XB WS b0 b1 b2 b3) slices_S64x1024_o0_0_S16x1024 (ix2 t f) = dotS W XB WS e (Fin.ofNat 256 (b0 + t)) f
    ∧ extractStridedSlice S16x1024 ![16, 0] (res64 W e XB WS b0 b1 b2 b3) slices_S64x1024_o16_0_S16x1024 (ix2 t f) = dotS W XB WS e (Fin.ofNat 256 (b1 + t)) f
    ∧ extractStridedSlice S16x1024 ![32, 0] (res64 W e XB WS b0 b1 b2 b3) slices_S64x1024_o32_0_S16x1024 (ix2 t f) = dotS W XB WS e (Fin.ofNat 256 (b2 + t)) f
    ∧ extractStridedSlice S16x1024 ![48, 0] (res64 W e XB WS b0 b1 b2 b3) slices_S64x1024_o48_0_S16x1024 (ix2 t f) = dotS W XB WS e (Fin.ofNat 256 (b3 + t)) f := by
  unfold res64 dotS
  have ht := t.isLt
  refine ⟨?_, ?_, ?_, ?_⟩ <;> pointwise <;>
    refine congrArg₂ (fun a b : EReal => a * b) (Finset.sum_congr rfl fun x _ => congrArg₂ (fun a b : EReal => a * b) ?_ rfl) rfl <;>
    repeat' first | rw [dif_pos (by omega)] | rw [dif_neg (by omega)] | exact rowsB_at XB (by first | rfl | (show _ = (t : ℕ); dsimp only; omega)) x

theorem dite_both {α : Type} {p : Prop} [Decidable p] {a : p → α} {b : ¬ p → α} {v : α} (ha : ∀ h, a h = v) (hb : ∀ h, b h = v) : dite p a b = v := by
  by_cases h : p
  · rw [dif_pos h, ha]
  · rw [dif_neg h, hb]

/-- A mask of two comparisons selects by them. -/
theorem sel_mask {x lo hi : ℕ} (hx : x < 2 ^ 31) (hl : lo < 2 ^ 31) (hh : hi < 2 ^ 31) (u v : Ideal .f32) :
    Scalar.select (IntOp.andi (IntOp.cmpi .sge (BitVec.ofNat 32 x) (BitVec.ofNat 32 lo)) (IntOp.cmpi .slt (BitVec.ofNat 32 x) (BitVec.ofNat 32 hi))) u v
      = if lo ≤ x ∧ x < hi then u else v := by
  have e1 : IntOp.cmpi .sge (BitVec.ofNat 32 x) (BitVec.ofNat 32 lo) = BitVec.ofBool (decide (lo ≤ x)) := by
    show BitVec.ofBool (BitVec.sle _ _) = _
    rw [BitVec.sle_eq_decide, w_int hx, w_int hl]; simp
  have e2 : IntOp.cmpi .slt (BitVec.ofNat 32 x) (BitVec.ofNat 32 hi) = BitVec.ofBool (decide (x < hi)) := w_slt hx hh
  rw [e1, e2]
  show (if BitVec.ofBool _ &&& BitVec.ofBool _ = 1#1 then u else v) = _
  by_cases h1 : lo ≤ x <;> by_cases h2 : x < hi <;> simp [h1, h2]

/-- One tile: its rows that belong to the expert are written, every other row keeps what it held. -/
theorem tileB_apply (XS : S2x128.Idx → Ideal .f32) {b lo hi : ℕ} (hb : b ≤ 240) (hl : lo ≤ 256) (hh : hi ≤ 256) (v : FVec Ideal S16x1024 .f32) (P : Fin 256 → Fin 1024 → Ideal .f32)
    (hv : ∀ (t : Fin 16) (f : Fin 1024), v (ix2 t f) = P (Fin.ofNat 256 (b + t)) f) (Y : S256x1024.Idx → Ideal .bf16) (i : Fin 256) (f : Fin 1024) :
    tileB (xcF XS) (BitVec.ofNat 32 b) (BitVec.ofNat 32 lo) (BitVec.ofNat 32 hi) v Y (ix2 i f)
      = if b ≤ (i : ℕ) ∧ (i : ℕ) < b + 16 ∧ lo ≤ (i : ℕ) ∧ (i : ℕ) < hi then (P i f * xsAt XS i : Ideal .f32) else Y (ix2 i f) := by
  have hi' := i.isLt
  unfold tileB putB
  rw [w_nat (by omega)]
  show (if b ≤ (i : ℕ) ∧ (i : ℕ) < b + 16 then (_ : S16x1024.Idx → Ideal .bf16) (ix2 (Fin.ofNat 16 ((i : ℕ) - b)) f) else Y (ix2 i f)) = _
  by_cases hin : b ≤ (i : ℕ) ∧ (i : ℕ) < b + 16
  · refine (if_pos hin).trans ?_
    generalize hT : (Fin.ofNat 16 ((i : ℕ) - b)) = t
    have ht : (t : ℕ) = i - b := by rw [← hT]; exact Nat.mod_eq_of_lt (by omega)
    have hrow : Fin.ofNat 256 (b + (t : ℕ)) = i := Fin.ext (by show (b + (t : ℕ)) % 256 = i; omega)
    unfold maskB
    pointwise
    have hx : ∀ l : Fin 128, rowsB (xcF XS) b (ix2 t l) = xsAt XS i := by
      intro l
      show xcF XS (ix2 (Fin.ofNat 256 (b + (t : ℕ))) l) = _
      rw [hrow, xcF_apply]
    have hy : rowsB Y b (ix2 t f) = Y (ix2 i f) := by
      show Y (ix2 (Fin.ofNat 256 (b + (t : ℕ))) f) = _
      rw [hrow]
    have hadd : IntOp.addi (BitVec.ofNat 32 b) (BitVec.ofNat 32 (t : ℕ)) = BitVec.ofNat 32 (i : ℕ) := by
      refine (w_add _ _).trans ?_
      congr 1; omega
    rw [hadd]
    refine (sel_mask (by omega) (by omega) (by omega) _ _).trans ?_
    have hc : (lo ≤ (i : ℕ) ∧ (i : ℕ) < hi) ↔ (b ≤ (i : ℕ) ∧ (i : ℕ) < b + 16 ∧ lo ≤ (i : ℕ) ∧ (i : ℕ) < hi) := by omega
    refine (if_congr hc ?_ ?_)
    · rw [show v _ = P i f from (hv t f).trans (by rw [hrow])]
      refine congrArg (fun z : EReal => (P i f : EReal) * z) ?_
      repeat' first | exact hx _ | (refine dite_both (fun _ => ?_) (fun _ => ?_))
    · exact hy
  · rw [if_neg hin, if_neg (by omega)]

/-- The rows that tile `q` of an expert's runs writes. -/
def InT (a b s n q i : ℕ) : Prop := tbN a b s n q ≤ i ∧ i < tbN a b s n q + 16 ∧ tloN a b s n q ≤ i ∧ i < thiN a b s n q
instance (a b s n q i : ℕ) : Decidable (InT a b s n q i) := by unfold InT; infer_instance

variable (W : S33x2560x1024.Idx → Elt Ideal .fp8e4m3) (e : ℕ) (XB : S256x2560.Idx → Ideal .bf16) (XS : S2x128.Idx → Ideal .f32) (WS : S33x1024.Idx → Ideal .f32)

/-- What the result holds at a row of expert `e`. -/
def valE (i : Fin 256) (f : Fin 1024) : Ideal .f32 := dotS W XB WS e i f * xsAt XS i

section
variable {a b s n : ℕ} (h : a + b ≤ 128) (h' : s + n ≤ 128)
include h h'

theorem tloN_le (q : ℕ) : tloN a b s n q ≤ 256 := by unfold tloN; split_ifs <;> omega
theorem thiN_le (q : ℕ) : thiN a b s n q ≤ 256 := by unfold thiN; split_ifs <;> omega

/-- One trip writes the rows of its four tiles. -/
theorem tripB_apply {k : ℕ} (hk : k < 100) (Y : S256x1024.Idx → Ideal .bf16) (i : Fin 256) (f : Fin 1024) :
    tripB W e XB (xcF XS) WS (BitVec.ofNat 32 a) (BitVec.ofNat 32 b) (BitVec.ofNat 32 s) (BitVec.ofNat 32 n) (Scf.iv 0#32 1#32 k) Y (ix2 i f)
      = if InT a b s n (k * 4 + 3) i ∨ InT a b s n (k * 4 + 2) i ∨ InT a b s n (k * 4 + 1) i ∨ InT a b s n (k * 4 + 0) i then valE W e XB XS WS i f else Y (ix2 i f) := by
  unfold tripB
  have hq : ∀ r, qW (Scf.iv 0#32 1#32 k) (BitVec.ofNat 32 r) = BitVec.ofNat 32 (k * 4 + r) := qW_eq h h' k
  have hn : ∀ q, (BitVec.ofNat 32 (tbN a b s n q)).toNat = tbN a b s n q := fun q => w_nat (by have := tbN_le h h' q; omega)
  simp only [hq]
  rw [tbW_eq h h' (by omega : k * 4 + 0 < 1000), tbW_eq h h' (by omega : k * 4 + 1 < 1000), tbW_eq h h' (by omega : k * 4 + 2 < 1000), tbW_eq h h' (by omega : k * 4 + 3 < 1000),
    tloW_eq h h' (by omega : k * 4 + 0 < 1000), tloW_eq h h' (by omega : k * 4 + 1 < 1000), tloW_eq h h' (by omega : k * 4 + 2 < 1000), tloW_eq h h' (by omega : k * 4 + 3 < 1000),
    thiW_eq h h' (by omega : k * 4 + 0 < 1000), thiW_eq h h' (by omega : k * 4 + 1 < 1000), thiW_eq h h' (by omega : k * 4 + 2 < 1000), thiW_eq h h' (by omega : k * 4 + 3 < 1000),
    hn, hn, hn, hn]
  rw [tileB_apply XS (tbN_le h h' _) (tloN_le h h' _) (thiN_le h h' _) _ _ (fun t f => (res64_apply W e XB WS _ _ _ _ t f).2.2.2),
    tileB_apply XS (tbN_le h h' _) (tloN_le h h' _) (thiN_le h h' _) _ _ (fun t f => (res64_apply W e XB WS _ _ _ _ t f).2.2.1),
    tileB_apply XS (tbN_le h h' _) (tloN_le h h' _) (thiN_le h h' _) _ _ (fun t f => (res64_apply W e XB WS _ _ _ _ t f).2.1),
    tileB_apply XS (tbN_le h h' _) (tloN_le h h' _) (thiN_le h h' _) _ _ (fun t f => (res64_apply W e XB WS _ _ _ _ t f).1)]
  show (if InT a b s n (k * 4 + 3) i then valE W e XB XS WS i f else if InT a b s n (k * 4 + 2) i then valE W e XB XS WS i f else
    if InT a b s n (k * 4 + 1) i then valE W e XB XS WS i f else if InT a b s n (k * 4 + 0) i then valE W e XB XS WS i f else Y (ix2 i f)) = _
  by_cases h3 : InT a b s n (k * 4 + 3) i <;> by_cases h2 : InT a b s n (k * 4 + 2) i <;> by_cases h1 : InT a b s n (k * 4 + 1) i <;>
    by_cases h0 : InT a b s n (k * 4 + 0) i <;> simp [h3, h2, h1, h0]

open scoped Classical in
/-- The trips write the rows of their tiles. -/
theorem tripsB_apply (Y : S256x1024.Idx → Ideal .bf16) (i : Fin 256) (f : Fin 1024) : ∀ k, k < 100 →
    tripsB W e XB (xcF XS) WS (BitVec.ofNat 32 a) (BitVec.ofNat 32 b) (BitVec.ofNat 32 s) (BitVec.ofNat 32 n) Y k (ix2 i f)
      = if ∃ q ∈ Finset.range (k * 4), InT a b s n q i then valE W e XB XS WS i f else Y (ix2 i f)
  | 0, _ => by simp [tripsB]
  | k + 1, hk => by
    unfold tripsB
    rw [tripB_apply W e XB XS WS h h' (by omega), tripsB_apply Y i f k (by omega)]
    by_cases hc : InT a b s n (k * 4 + 3) i ∨ InT a b s n (k * 4 + 2) i ∨ InT a b s n (k * 4 + 1) i ∨ InT a b s n (k * 4 + 0) i
    · rw [if_pos hc, if_pos]
      rcases hc with hc | hc | hc | hc
      · exact ⟨_, Finset.mem_range.mpr (by omega), hc⟩
      · exact ⟨_, Finset.mem_range.mpr (by omega), hc⟩
      · exact ⟨_, Finset.mem_range.mpr (by omega), hc⟩
      · exact ⟨_, Finset.mem_range.mpr (by omega), hc⟩
    · rw [if_neg hc]
      have hiff : (∃ q ∈ Finset.range (k * 4), InT a b s n q i) ↔ ∃ q ∈ Finset.range ((k + 1) * 4), InT a b s n q i := by
        constructor
        · rintro ⟨q, hq, hi⟩
          exact ⟨q, Finset.mem_range.mpr (by have := Finset.mem_range.mp hq; omega), hi⟩
        · rintro ⟨q, hq, hi⟩
          have hq := Finset.mem_range.mp hq
          refine ⟨q, Finset.mem_range.mpr ?_, hi⟩
          by_contra hge
          apply hc
          have : q = k * 4 + 3 ∨ q = k * 4 + 2 ∨ q = k * 4 + 1 ∨ q = k * 4 + 0 := by omega
          rcases this with rfl | rfl | rfl | rfl
          · exact .inl hi
          · exact .inr (.inl hi)
          · exact .inr (.inr (.inl hi))
          · exact .inr (.inr (.inr hi))
      by_cases hx : ∃ q ∈ Finset.range (k * 4), InT a b s n q i
      · rw [if_pos hx, if_pos (hiff.mp hx)]
      · rw [if_neg hx, if_neg (fun hy => hx (hiff.mpr hy))]

/-- The tiles of all the trips together are the expert's runs. -/
theorem tiles_iff (i : ℕ) : (∃ q ∈ Finset.range (ntN a b s n * 4), InT a b s n q i) ↔ (a ≤ i ∧ i < a + b) ∨ (128 + s ≤ i ∧ i < 128 + s + n) := by
  constructor
  · rintro ⟨q, -, -, -, h3, h4⟩
    unfold tloN at h3; unfold thiN at h4
    split_ifs at h3 h4 <;> omega
  · rintro (hi | hi)
    · have hm : m0N a b = (a + b + 15) / 16 - a / 16 := if_pos (by omega)
      have hlt : i / 16 - a / 16 < m0N a b := by omega
      have hm1 : m0N a b ≤ m1N a b s n := by unfold m1N; omega
      refine ⟨i / 16 - a / 16, Finset.mem_range.mpr (by unfold ntN; omega), ?_⟩
      unfold InT tbN tloN thiN
      rw [if_pos hlt, if_pos hlt, if_pos hlt]
      omega
    · have hm : m1N a b s n = m0N a b + ((128 + s + n + 15) / 16 - (128 + s) / 16) := by unfold m1N; rw [if_pos (by omega : 0 < n)]
      have h0 := m0N_le h
      have hge : ¬ m0N a b + (i / 16 - (128 + s) / 16) < m0N a b := by omega
      have hlt : m0N a b + (i / 16 - (128 + s) / 16) < m1N a b s n := by omega
      refine ⟨m0N a b + (i / 16 - (128 + s) / 16), Finset.mem_range.mpr (by unfold ntN; omega), ?_⟩
      unfold InT tbN tloN thiN
      rw [if_neg hge, if_pos hlt, if_neg hge, if_pos hlt, if_neg hge, if_pos hlt]
      omega

end

end Cert.KernelIdeal.Hand

end
-- ==== Proof.KernelIdeal.Value.lean ====
/-
  The kernel's result over the extended reals, element by element: at a row of an expert's run the scaled product of the row
  with that expert's weights, at a row of no run zero.
-/
module

public import proofs.«01_k».proof.Proof.KernelIdeal.Elem

@[expose] public section

set_option maxRecDepth 10000

noncomputable section

namespace Cert.KernelIdeal.Hand

open Cert.KernelIdeal Cert.KernelIdeal.Gen
open Idealize.ShloMosaic Idealize.ShloMosaic.TcCoe Idealize.ShloMosaic.Tactic

/-! ### Every expert with rows is listed -/

/-- The place of the list that expert `n` is written to. -/
def plN (C : S2x33.Idx → BitVec 32) (n : ℕ) : ℕ := if n < 2 then n else (nwW C (n - 2)).toNat

theorem nw_step (C : S2x33.Idx → BitVec 32) {j : ℕ} (hj : j ≤ 99) :
    (nwW C (j + 1)).toNat = (nwW C j).toNat + (if Scalar.cmpi .sgt (totW C (j + 2)) 0#32 = 1#1 then 1 else 0) := by
  obtain ⟨k, hk, h2, h3⟩ := nwW_bound C j (by omega)
  show (Scalar.addi (nwW C j) _).toNat = _
  have hb : ∀ b : BitVec 1, (Scalar.extui b : BitVec 32) = BitVec.ofNat 32 (if b = 1#1 then 1 else 0) := by decide
  rw [hk, hb, w_add, w_nat (by split <;> omega), w_nat (by omega)]

theorem nw_le_of_le (C : S2x33.Idx → BitVec 32) {j j' : ℕ} (h : j ≤ j') (hj : j' ≤ 99) : (nwW C j).toNat ≤ (nwW C j').toNat := by
  induction j' with
  | zero => rw [show j = 0 by omega]
  | succ j' ih =>
    by_cases he : j = j' + 1
    · rw [he]
    · have := ih (by omega) (by omega)
      rw [nw_step C (by omega)]; omega

/-- An expert with rows has a positive total. -/
theorem tot_pos (C : S2x33.Idx → BitVec 32) (hS : Small C) {e : ℕ} (he : e < 33) (h : 0 < (wd C 0 e).toNat + (wd C 1 e).toNat) :
    Scalar.cmpi .sgt (totW C e) 0#32 = 1#1 := by
  have hb : ∀ s, s < 2 → (wd C s e).toNat ≤ 128 := fun s hs => by
    have h1 : smN C s e + (wd C s e).toNat = smN C s (e + 1) := (Finset.sum_range_succ _ _).symm
    have h2 := smN_mono C s (show e + 1 ≤ 33 by omega)
    have := hS s hs
    omega
  have h0 := hb 0 (by decide)
  have h1 := hb 1 (by decide)
  unfold totW
  rw [← w_ofNat (wd C 0 e), ← w_ofNat (wd C 1 e), show (0#32 : BitVec 32) = BitVec.ofNat 32 0 from rfl, w_add, w_add, w_sgt (by omega) (by omega)]
  rw [decide_eq_true (by omega)]; rfl

theorem listed (C : S2x33.Idx → BitVec 32) (hS : Small C) (g : S34.Idx → BitVec 32) {e : ℕ} (he : e < 33) (h : 0 < (wd C 0 e).toNat + (wd C 1 e).toNat) :
    ∃ t, t < nw C ∧ ordF (orF C g 33) t = e := by
  have hn := nw_bound C
  have hlt : ∀ n, e < n → n ≤ 33 → plN C e < (nwW C (n - 2)).toNat ∨ (n < 2 ∧ plN C e < n) := by
    intro n hen hn33
    by_cases h2 : e < 2
    · have hp : plN C e = e := if_pos h2
      by_cases hn2 : n < 2
      · right; omega
      · left
        have h0 : (nwW C 0).toNat = 2 := rfl
        have := nw_le_of_le C (Nat.zero_le (n - 2)) (by omega)
        omega
    · left
      have hp : plN C e = (nwW C (e - 2)).toNat := if_neg h2
      have hs := nw_step C (j := e - 2) (by omega)
      rw [show e - 2 + 2 = e by omega, if_pos (tot_pos C hS he h)] at hs
      have := nw_le_of_le C (j := e - 2 + 1) (j' := n - 2) (by omega) (by omega)
      omega
  have hpl : plN C e < nw C := by
    rcases hlt 33 he (le_refl _) with h | h
    · exact h
    · omega
  have key : ∀ n, e < n → n ≤ 33 → orF C g n (ixO (Fin.ofNat 34 (plN C e))) = BitVec.ofNat 32 e := by
    intro n hen hn33
    have h0 : ((ixO (Fin.ofNat 34 (plN C e))) 0 : ℕ) = plN C e := by show plN C e % 34 = _; omega
    induction n with
    | zero => omega
    | succ n ih =>
      show (if _ then _ else _) = _
      rw [h0]
      by_cases hc : n = e
      · subst hc; exact if_pos rfl
      · rw [if_neg, ih (by omega) (by omega)]
        rcases hlt n (by omega) (by omega) with h | ⟨h, h'⟩
        · split_ifs <;> first | omega | skip
          have h0 : (nwW C (n - 2)).toNat = 2 := by rw [show n - 2 = 0 by omega]; rfl
          have : plN C e = e := if_pos (by omega)
          omega
        · rw [if_pos h]; omega
  exact ⟨plN C e, hpl, by unfold ordF; rw [key 33 he (le_refl _), w_nat (by omega)]⟩

/-! ### The runs -/

/-- Row `i` of the array is in the run of expert `e` in one of the sequences. -/
def InRun (C : S2x33.Idx → BitVec 32) (e i : ℕ) : Prop :=
  (smN C 0 e ≤ i ∧ i < smN C 0 e + (wd C 0 e).toNat) ∨ (128 + smN C 1 e ≤ i ∧ i < 128 + smN C 1 e + (wd C 1 e).toNat)

theorem run_end (C : S2x33.Idx → BitVec 32) (s e : ℕ) : smN C s e + (wd C s e).toNat = smN C s (e + 1) := (Finset.sum_range_succ _ _).symm

/-- A row is in at most one run. -/
theorem run_unique (C : S2x33.Idx → BitVec 32) (hS : Small C) {e e' i : ℕ} (he : e < 33) (he' : e' < 33) (h : InRun C e i) (h' : InRun C e' i) : e = e' := by
  have h0 := hS 0 (by decide)
  have hb : ∀ e, e < 33 → smN C 0 (e + 1) ≤ 128 := fun e he => (smN_mono C 0 (by omega)).trans h0
  have b1 := hb e he
  have b2 := hb e' he'
  have r0 := run_end C 0 e
  have r1 := run_end C 1 e
  have r0' := run_end C 0 e'
  have r1' := run_end C 1 e'
  unfold InRun at h h'
  rcases Nat.lt_trichotomy e e' with hl | hl | hl
  · have m0 := smN_mono C 0 (show e + 1 ≤ e' by omega)
    have m1 := smN_mono C 1 (show e + 1 ≤ e' by omega)
    omega
  · exact hl
  · have m0 := smN_mono C 0 (show e' + 1 ≤ e by omega)
    have m1 := smN_mono C 1 (show e' + 1 ≤ e by omega)
    omega

/-! ### The result -/

variable (C f0 : S2x33.Idx → BitVec 32) (g : S34.Idx → BitVec 32) (W : S33x2560x1024.Idx → Elt Ideal .fp8e4m3) (XB : S256x2560.Idx → Ideal .bf16) (XS : S2x128.Idx → Ideal .f32) (WS : S33x1024.Idx → Ideal .f32)

open scoped Classical in
/-- After `n` listed experts: the rows of their runs are written, the other rows are zero. -/
theorem outY_apply (hS : Small C) (i : Fin 256) (f : Fin 1024) : ∀ n, n ≤ nw C →
    (∃ e, e < 33 ∧ InRun C e i ∧ outY C f0 W XB (xcF XS) WS (ordF (orF C g 33)) n (ix2 i f) = valE W e XB XS WS i f)
    ∨ ((∀ t, t < n → ¬ InRun C (ordF (orF C g 33) t) i) ∧ outY C f0 W XB (xcF XS) WS (ordF (orF C g 33)) n (ix2 i f) = (0 : EReal))
  | 0, _ => .inr ⟨fun t ht => absurd ht (Nat.not_lt_zero _), yZ_apply _⟩
  | n + 1, hn => by
    have ih := outY_apply hS i f n (by omega)
    have hb := nw_bound C
    have he : ordF (orF C g 33) n < 33 := ord_lt C g (by omega)
    generalize hord : ordF (orF C g 33) n = e at he
    have h0 : smN C 0 e + (wd C 0 e).toNat ≤ 128 := by rw [run_end]; exact (smN_mono C 0 (by omega)).trans (hS 0 (by decide))
    have h1 : smN C 1 e + (wd C 1 e).toNat ≤ 128 := by rw [run_end]; exact (smN_mono C 1 (by omega)).trans (hS 1 (by decide))
    have hstep : outY C f0 W XB (xcF XS) WS (ordF (orF C g 33)) (n + 1) (ix2 i f)
        = if InRun C e i then valE W e XB XS WS i f else outY C f0 W XB (xcF XS) WS (ordF (orF C g 33)) n (ix2 i f) := by
      show tripsB W _ XB (xcF XS) WS _ _ _ _ _ _ _ = _
      rw [hord, stE_eq C f0 0 e (by decide) he, stE_eq C f0 1 e (by decide) he, stW_eq, stW_eq, ← w_ofNat (wd C 0 e), ← w_ofNat (wd C 1 e),
        ntW_eq h0 h1, L1_trips (by have := ntN_le h0 h1; omega), tripsB_apply W e XB XS WS h0 h1 _ i f _ (by have := ntN_le h0 h1; omega)]
      have hiff := tiles_iff h0 h1 (i : ℕ)
      by_cases hr : InRun C e i
      · rw [if_pos hr, if_pos (hiff.mpr hr)]
      · rw [if_neg hr, if_neg (fun hx => hr (hiff.mp hx))]
    rw [hstep]
    by_cases hr : InRun C e i
    · exact .inl ⟨e, he, hr, if_pos hr⟩
    · rw [if_neg hr]
      rcases ih with ih | ⟨ih, hz⟩
      · exact .inl ih
      · refine .inr ⟨fun t ht => ?_, hz⟩
        by_cases htn : t = n
        · rw [htn, hord]; exact hr
        · exact ih t (by omega)

open scoped Classical in
/-- The result: at a row of an expert's run its value, at every other row zero. -/
theorem outY_sum (hS : Small C) (i : Fin 256) (f : Fin 1024) :
    outY C f0 W XB (xcF XS) WS (ordF (orF C g 33)) (nw C) (ix2 i f) = (∑ e : Fin 33, if InRun C e i then valE W e XB XS WS i f else (0 : EReal) : EReal) := by
  rcases outY_apply C f0 g W XB XS WS hS i f (nw C) (le_refl _) with ⟨e, he, hr, hv⟩ | ⟨hno, hz⟩
  · rw [hv, Finset.sum_eq_single (⟨e, he⟩ : Fin 33)]
    · exact (if_pos hr).symm
    · intro e' _ hne
      exact if_neg fun hr' => hne (Fin.ext (run_unique C hS e'.isLt he hr' hr))
    · exact fun h => absurd (Finset.mem_univ _) h
  · rw [hz]
    refine (Finset.sum_eq_zero fun e _ => if_neg fun hr => ?_).symm
    obtain ⟨t, ht, hte⟩ := listed C hS g e.isLt (by unfold InRun at hr; omega)
    exact hno t ht (by rw [hte]; exact hr)

end Cert.KernelIdeal.Hand

end
-- ==== Proof.Reference.Value.lean ====
/-
  What the reference leaves in its result: the host lines after the casts composed into one term, and that term's elements
  over the extended reals.
-/
module

public import proofs.«01_k».proof.Proof.Gen.ReferenceIdeal.Frame
public import proofs.«01_k».proof.Proof.KernelIdeal.Value
public import Idealize.ShloMosaic.Lib.Pointwise

@[expose] public section

set_option maxRecDepth 10000

noncomputable section

namespace Cert.ReferenceIdeal.Hand

open Cert.ReferenceIdeal Cert.ReferenceIdeal.Gen
open Idealize.ShloMosaic Idealize.ShloMosaic.TcCoe Idealize.ShloMosaic.Tactic
open Idealize.SL.Sem

/-! ### The host lines composed -/

/-- The counts of the experts before each expert. -/
def beforeF (C : S2x33.Idx → BitVec 32) : S2x33x33.Idx → BitVec 32 :=
  select
    (broadcastInDim S2x33x33 ![1, 2] bcast_S33x33_S2x33x33_1_2
      (cmpi .slt (broadcastInDim S33x33 ![0, 1] bcast_S1x33_S33x33_0_1 (broadcastInDim S1x33 ![1] bcast_S33_S1x33_1 (iotaInDim S33 32 0)))
        (broadcastInDim S33x33 ![0, 1] bcast_S33x1_S33x33_0_1 (broadcastInDim S33x1 ![0] bcast_S33_S33x1_0 (iotaInDim S33 32 0)))))
    (broadcastInDim S2x33x33 ![0, 1, 2] bcast_S2x1x33_S2x33x33_0_1_2 (broadcastInDim S2x1x33 ![0, 2] bcast_S2x33_S2x1x33_0_2 C))
    (broadcastInDim S2x33x33 ![] bcast_S_S2x33x33 (constantI S_ 32 0#32))

/-- `start`: at each expert the sum of the counts before it. -/
def startF (C : S2x33.Idx → BitVec 32) : S2x33.Idx → BitVec 32 :=
  Host.reduce IntOp.addi (beforeF C) (constantI S_ 32 0#32) reducesTo_S2x33x33_S2x33_d2 h_S_

/-- `mine`: which rows of a sequence an expert works on. -/
def mineF (C : S2x33.Idx → BitVec 32) : S2x128x33.Idx → BitVec 1 :=
  andi
    (cmpi .sle
      (broadcastInDim S2x128x33 ![0, 1, 2] bcast_S2x1x33_S2x128x33_0_1_2 (broadcastInDim S2x1x33 ![0, 2] bcast_S2x33_S2x1x33_0_2 (startF C)))
      (broadcastInDim S2x128x33 ![0, 1, 2] bcast_S1x128x1_S2x128x33_0_1_2 (broadcastInDim S1x128x1 ![1] bcast_S128_S1x128x1_1 (iotaInDim S128 32 0))))
    (cmpi .slt
      (broadcastInDim S2x128x33 ![0, 1, 2] bcast_S1x128x1_S2x128x33_0_1_2 (broadcastInDim S1x128x1 ![1] bcast_S128_S1x128x1_1 (iotaInDim S128 32 0)))
      (broadcastInDim S2x128x33 ![0, 1, 2] bcast_S2x1x33_S2x128x33_0_1_2 (broadcastInDim S2x1x33 ![0, 2] bcast_S2x33_S2x1x33_0_2 (addi (startF C) C))))

variable {F : FTy → Type} [FloatOps F]

/-- `out`: every row times every expert's weights, scaled. -/
def prodF (X : S2x128x2560.Idx → F .bf16) (W : S33x2560x1024.Idx → F .bf16) (XS : S2x128.Idx → F .f32) (WS : S33x1024.Idx → F .f32) : S2x128x33x1024.Idx → F .f32 :=
  mulf
    (mulf (Host.dotGeneral dot_S2x128x2560_S33x2560x1024_S2x128x33x1024_2_1_01_02_n_n none X W)
      (broadcastInDim S2x128x33x1024 ![0, 1, 2, 3] bcast_S1x1x33x1024_S2x128x33x1024_0_1_2_3 (broadcastInDim S1x1x33x1024 ![2, 3] bcast_S33x1024_S1x1x33x1024_2_3 WS)))
    (broadcastInDim S2x128x33x1024 ![0, 1, 2, 3] bcast_S2x128x1x1_S2x128x33x1024_0_1_2_3 (broadcastInDim S2x128x1x1 ![0, 1] bcast_S2x128_S2x128x1x1_0_1 XS))

/-- The result from the mask and the products. -/
def lastF (M : S2x128x33.Idx → BitVec 1) (P : S2x128x33x1024.Idx → F .f32) : S256x1024.Idx → F .bf16 :=
  shapeCast S256x1024
    (truncf .bf16
      (Host.reduceAdd
        (select (broadcastInDim S2x128x33x1024 ![0, 1, 2, 3] bcast_S2x128x33x1_S2x128x33x1024_0_1_2_3 (broadcastInDim S2x128x33x1 ![0, 1, 2] bcast_S2x128x33_S2x128x33x1_0_1_2 M))
          P (broadcastInDim S2x128x33x1024 ![] bcast_S_S2x128x33x1024 (constant S_ .f32 0x00000000#32)))
        (constant S_ .f32 0x00000000#32) reducesTo_S2x128x33x1024_S2x128x1024_d2 h_S_)
      bitsLt_bf16_f32)
    shapeCasts_S2x128x1024_S256x1024

set_option maxHeartbeats 4000000 in
/-- The host lines leave the composed term in the result. -/
theorem lines_eq (V : Valuation τ sig (Elt F)) :
    StableHlo.after (List.flatten [hostOps1, hostOps1_1, hostOps1_2, hostOps1_3, hostOps1_4]) V (Proc.devRef .tc main_v34)
      = lastF (mineF (V (Proc.devRef .tc main_arg4))) (prodF (V (Proc.devRef .tc main_v0_0)) (V (Proc.devRef .tc main_v0_1)) (V (Proc.devRef .tc main_arg1)) (V (Proc.devRef .tc main_arg3))) := by
  simp only [hostOps1, hostOps1_1, hostOps1_2, hostOps1_3, hostOps1_4, List.flatten_cons, List.flatten_nil, List.append_nil, List.cons_append, List.nil_append]
  after_results_simp
  rfl

/-! ### The elements -/

/-- A product at an index. -/
theorem prodF_apply (X : S2x128x2560.Idx → Ideal .bf16) (W : S33x2560x1024.Idx → Ideal .bf16) (XS : S2x128.Idx → Ideal .f32) (WS : S33x1024.Idx → Ideal .f32)
    (s : Fin 2) (r : Fin 128) (e : Fin 33) (f : Fin 1024) :
    prodF X W XS WS (ix4 s r e f) = ((∑ k : Fin 2560, X (ix3 s r k) * W (ix3 e k f)) * WS (ix2 e f) * XS (ix2 s r) : EReal) := by
  unfold prodF
  pointwise

/-- The result at an index: the sum over the experts of the masked products. -/
theorem lastF_apply (M : S2x128x33.Idx → BitVec 1) (P : S2x128x33x1024.Idx → Ideal .f32) (i : Fin 256) (f : Fin 1024) :
    lastF M P (ix2 i f) = (∑ e : Fin 33, if M (ix3 (Fin.ofNat 2 ((i : ℕ) / 128)) (Fin.ofNat 128 ((i : ℕ) % 128)) e) = 1#1
      then P (ix4 (Fin.ofNat 2 ((i : ℕ) / 128)) (Fin.ofNat 128 ((i : ℕ) % 128)) e f) else (0 : EReal) : EReal) := by
  have h1 := i.isLt
  have hs : (⟨(i : ℕ) / 128, by omega⟩ : Fin 2) = Fin.ofNat 2 ((i : ℕ) / 128) := Fin.ext (Nat.mod_eq_of_lt (by omega)).symm
  have hr : (⟨(i : ℕ) % 128, by omega⟩ : Fin 128) = Fin.ofNat 128 ((i : ℕ) % 128) := Fin.ext (Nat.mod_eq_of_lt (by omega)).symm
  unfold lastF
  pointwise
  refine Finset.sum_congr rfl fun e _ => ?_
  have hM : M (ix3 ⟨(i : ℕ) / 128, by omega⟩ ⟨(i : ℕ) % 128, by omega⟩ e) = M (ix3 (Fin.ofNat 2 ((i : ℕ) / 128)) (Fin.ofNat 128 ((i : ℕ) % 128)) e) := by rw [hs, hr]
  have hP : P (ix4 ⟨(i : ℕ) / 128, by omega⟩ ⟨(i : ℕ) % 128, by omega⟩ e f) = P (ix4 (Fin.ofNat 2 ((i : ℕ) / 128)) (Fin.ofNat 128 ((i : ℕ) % 128)) e f) := by rw [hs, hr]
  exact congrArg₂ (fun a (b : EReal) => Scalar.select a b (0 : EReal)) hM hP

/-- The mask at an index, as words. -/
theorem mineF_apply (C : S2x33.Idx → BitVec 32) (s : Fin 2) (r : Fin 128) (e : Fin 33) :
    mineF C (ix3 s r e) = Scalar.andi (Scalar.cmpi .sle (startF C (ix2 s e)) (BitVec.ofNat 32 r)) (Scalar.cmpi .slt (BitVec.ofNat 32 r) (Scalar.addi (startF C (ix2 s e)) (C (ix2 s e)))) := by
  unfold mineF
  pointwise
  rfl

/-- A count read at a sequence and an expert. -/
theorem wd_eq (C : S2x33.Idx → BitVec 32) (s : Fin 2) (e : Fin 33) : Cert.KernelIdeal.Hand.wd C s e = C (ix2 s e) :=
  (dif_pos ⟨s.isLt, e.isLt⟩).trans (congrArg C (by funext a; fin_cases a <;> rfl))

/-- The counts before, at an index. -/
theorem beforeF_apply (C : S2x33.Idx → BitVec 32) (s : Fin 2) (e e' : Fin 33) :
    beforeF C (ix3 s e e') = if (e' : ℕ) < (e : ℕ) then Cert.KernelIdeal.Hand.wd C s e' else 0#32 := by
  have he' := e'.isLt
  have he := e.isLt
  rw [wd_eq]
  unfold beforeF
  pointwise
  have hlt : IntOp.cmpi .slt (BitVec.ofNat 32 (e' : ℕ)) (BitVec.ofNat 32 (e : ℕ)) = BitVec.ofBool (decide ((e' : ℕ) < (e : ℕ))) :=
    Cert.KernelIdeal.Hand.w_slt (by omega) (by omega)
  rw [hlt]
  by_cases h : (e' : ℕ) < (e : ℕ)
  · rw [if_pos h, decide_eq_true h]; rfl
  · rw [if_neg h, decide_eq_false h]; rfl

/-- A start is the sum of the counts before it. -/
theorem startF_eq (C : S2x33.Idx → BitVec 32) (s : Fin 2) (e : Fin 33) :
    startF C (ix2 s e) = BitVec.ofNat 32 (Cert.KernelIdeal.Hand.smN C s e) := by
  unfold startF
  have hR : S2x33x33.Reduces [2] S2x33 := by decide
  rw [Host.reduce_eq_fold_single IntOp.addi _ _ _ hR]
  have hl : ∀ e' : Fin 33, hR.lift (ix2 s e) e' = ix3 s e e' := fun e' => by
    funext a
    fin_cases a <;> rfl
  refine Eq.trans (b := (Finset.univ : Finset (Fin 33)).fold IntOp.addi 0#32 fun e' : Fin 33 => if (e' : ℕ) < (e : ℕ) then Cert.KernelIdeal.Hand.wd C s e' else 0#32)
    (Finset.fold_congr fun (e' : Fin 33) _ => ?_) ?_
  · exact (congrArg (beforeF C) (hl e')).trans (beforeF_apply C s e e')
  · refine (Cert.KernelIdeal.Hand.fold_add Finset.univ _).trans (congrArg (BitVec.ofNat 32) ?_)
    have h1 : ∀ e' : Fin 33, (if (e' : ℕ) < (e : ℕ) then Cert.KernelIdeal.Hand.wd C s e' else 0#32).toNat = if (e' : ℕ) < (e : ℕ) then (Cert.KernelIdeal.Hand.wd C s e').toNat else 0 := fun e' => by
      split <;> rfl
    rw [Finset.sum_congr rfl fun e' _ => h1 e', Fin.sum_univ_eq_sum_range (fun k => if k < (e : ℕ) then (Cert.KernelIdeal.Hand.wd C s k).toNat else 0) 33, ← Finset.sum_filter]
    unfold Cert.KernelIdeal.Hand.smN
    refine Finset.sum_congr ?_ fun _ _ => rfl
    ext k
    have := e.isLt
    simp only [Finset.mem_filter, Finset.mem_range]
    omega

open Cert.KernelIdeal.Hand in
/-- The mask says which rows are in the run of an expert. -/
theorem mineF_iff (C : S2x33.Idx → BitVec 32) (hS : Small C) (s : Fin 2) (r : Fin 128) (e : Fin 33) :
    mineF C (ix3 s r e) = 1#1 ↔ smN C s e ≤ r ∧ (r : ℕ) < smN C s e + (wd C s e).toNat := by
  have hr := r.isLt
  have he := e.isLt
  have h1 : smN C s e + (wd C s e).toNat ≤ 128 := by
    rw [run_end]; exact (smN_mono C s (by omega)).trans (hS s s.isLt)
  have hw : C (ix2 s e) = BitVec.ofNat 32 (wd C s e).toNat := by
    rw [w_ofNat, wd_eq]
  rw [mineF_apply, startF_eq, hw, w_add, w_slt (by omega) (by omega)]
  have hle : Scalar.cmpi .sle (BitVec.ofNat 32 (smN C s e)) (BitVec.ofNat 32 (r : ℕ)) = BitVec.ofBool (decide (smN C s e ≤ (r : ℕ))) := by
    show BitVec.ofBool (BitVec.sle _ _) = _
    rw [BitVec.sle_eq_decide, w_int (by omega), w_int (by omega)]; simp
  rw [hle]
  by_cases ha : smN C s e ≤ (r : ℕ) <;> by_cases hb : (r : ℕ) < smN C s e + (wd C s e).toNat <;> simp [ha, hb] <;> decide

/-! ### The casts -/

variable (m : (ℓ : Loc nD τ sig) → Buf (Elt Ideal) ℓ)

/-- The rectangle of a whole array keeps every index. -/
theorem emb_whole (s : Shape) (o : Fin s.rank → ℕ) (ho : ∀ a, o a = 0) (h) (i : s.Idx) : (Rect.unit (s := s) o s.size h).emb i = i := by
  funext a
  apply Fin.ext
  show o a + 1 * (i a : ℕ) = i a
  rw [ho]; omega

/-- The casts change no value. -/
theorem out_x (X : Vec Ideal S2x128x2560 .fp8e4m3) (W : Vec Ideal S33x2560x1024 .fp8e4m3) : out0_2 X W = X := by
  funext i
  have he : r0_0.emb i = i := emb_whole S2x128x2560 ![0, 0, 0] (by decide) _ i
  unfold out0_2
  have h := View.canon_cons_emb (Val := Elt Ideal) (e := .bf16) r0_0 (k0_pay1 (View.ld X r0_0)) [] i
  rw [he] at h
  rw [h]
  exact congrArg X he

/-- The casts change no value. -/
theorem out_w (X : Vec Ideal S2x128x2560 .fp8e4m3) (W : Vec Ideal S33x2560x1024 .fp8e4m3) : out0_3 X W = W := by
  funext i
  have he : r0_1.emb i = i := emb_whole S33x2560x1024 ![0, 0, 0] (by decide) _ i
  unfold out0_3
  have h := View.canon_cons_emb (Val := Elt Ideal) (e := .bf16) r0_1 (k0_pay2 (View.ld W r0_1)) [] i
  rw [he] at h
  rw [h]
  exact congrArg W he

/-- The one point of the grid. -/
abbrev pt0 : Fin cfg0.N := (0 : Fin 1)

/-- The block of a window is its array. -/
theorem blk2 (i : S2x128x2560.Idx) : ((win0_2.blk (0 : Fin 1)).view.emb i : S2x128x2560.Idx) = i := by
  funext a
  exact Fin.ext (Pipeline.Window.rect_emb_val_of_index_zero win0_2 (0 : Fin 1) a rfl i)

theorem blk0 (i : S2x128x2560.Idx) : ((win0_0.blk (0 : Fin 1)).view.emb i : S2x128x2560.Idx) = i := by
  funext a
  exact Fin.ext (Pipeline.Window.rect_emb_val_of_index_zero win0_0 (0 : Fin 1) a rfl i)

/-- The block of an argument is the argument. -/
theorem iblk_x (c : Dev nD) : iblk m c 0 pt0 = (m ((c : Thread nD τ).loc main_arg0) : S2x128x2560.Idx → EReal) := by
  funext i
  unfold iblk
  rw [View.read_apply]
  exact congrArg (m ((c : Thread nD τ).loc main_arg0) : S2x128x2560.Idx → EReal) (blk0 i)

/-- The first array of the casts holds the activations. -/
theorem arr_x (c : Dev nD) : ((dats m 0 c).arrAt 2 cfg0.N : S2x128x2560.Idx → EReal) = (m ((c : Thread nD τ).loc main_arg0) : S2x128x2560.Idx → EReal) := by
  have h : (win0_2.blk (0 : Fin 1)).view.read (Elt Ideal) ((dats m 0 c).arrAt (2 : Fin 4) cfg0.N) = (dats m 0 c).flushed 2 pt0 := by
    rw [show cfg0.N = ((0 : Fin 1) : Fin cfg0.N).val + 1 from rfl, (dats m 0 c).arrAt_succ (2 : Fin 4) (0 : Fin 1)]
    rw [show (cfg0.win (2 : Fin 4)).flush (0 : Fin 1) = true from by decide, if_pos rfl]
    exact View.read_write_univ _ _
  have h2 : (dats m 0 c).flushed 2 pt0 = iblk m c 0 pt0 := by
    show (cfg0.win 2).cut _ ((dats m 0 c).after 2 pt0) = _
    rw [after0_2, out_x]
    rfl
  rw [h2, iblk_x] at h
  funext i
  have hi := congrFun h i
  rw [View.read_apply] at hi
  exact (congrArg ((dats m 0 c).arrAt 2 cfg0.N : S2x128x2560.Idx → EReal) (blk2 i)).symm.trans hi
theorem blk3 (i : S33x2560x1024.Idx) : ((win0_3.blk (0 : Fin 1)).view.emb i : S33x2560x1024.Idx) = i := by
  funext a
  exact Fin.ext (Pipeline.Window.rect_emb_val_of_index_zero win0_3 (0 : Fin 1) a rfl i)

theorem blk1 (i : S33x2560x1024.Idx) : ((win0_1.blk (0 : Fin 1)).view.emb i : S33x2560x1024.Idx) = i := by
  funext a
  exact Fin.ext (Pipeline.Window.rect_emb_val_of_index_zero win0_1 (0 : Fin 1) a rfl i)

theorem iblk_w (c : Dev nD) : iblk m c 1 pt0 = (m ((c : Thread nD τ).loc main_arg2) : S33x2560x1024.Idx → EReal) := by
  funext i
  unfold iblk
  rw [View.read_apply]
  exact congrArg (m ((c : Thread nD τ).loc main_arg2) : S33x2560x1024.Idx → EReal) (blk1 i)

/-- The second array of the casts holds the weights. -/
theorem arr_w (c : Dev nD) : ((dats m 0 c).arrAt 3 cfg0.N : S33x2560x1024.Idx → EReal) = (m ((c : Thread nD τ).loc main_arg2) : S33x2560x1024.Idx → EReal) := by
  have h : (win0_3.blk (0 : Fin 1)).view.read (Elt Ideal) ((dats m 0 c).arrAt (3 : Fin 4) cfg0.N) = (dats m 0 c).flushed 3 pt0 := by
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  have h2 : (dats m 0 c).flushed 3 pt0 = iblk m c 1 pt0 := by
    show (cfg0.win 3).cut _ ((dats m 0 c).after 3 pt0) = _
    rw [after0_3, out_w]
    rfl
  rw [h2, iblk_w] at h
  funext i
  have hi := congrFun h i
  rw [View.read_apply] at hi
  exact (congrArg ((dats m 0 c).arrAt 3 cfg0.N : S33x2560x1024.Idx → EReal) (blk3 i)).symm.trans hi

/-! ### The result -/

/-- The result array's contents when the program ends, as a function of the arguments. -/
def resF (m : (ℓ : Loc nD τ sig) → Buf (Elt Ideal) ℓ) (c : Dev nD) : S256x1024.Idx → Ideal .bf16 :=
  lastF (mineF (m ((c : Thread nD τ).loc main_arg4))) (prodF (F := Ideal) (m ((c : Thread nD τ).loc main_arg0) : S2x128x2560.Idx → EReal) (m ((c : Thread nD τ).loc main_arg2) : S33x2560x1024.Idx → EReal)
    (m ((c : Thread nD τ).loc main_arg1)) (m ((c : Thread nD τ).loc main_arg3)))

theorem tail_eq (m : (ℓ : Loc nD τ sig) → Buf (Elt Ideal) ℓ) (c : Dev nD) :
    Pipeline.afterTail₀ cfgs (dats m) 0 (V0 m) [hostOps1, hostOps1_1, hostOps1_2, hostOps1_3, hostOps1_4] c main_v34 = resF m c := by
  unfold Pipeline.afterTail₀
  rw [lines_eq]
  have h0 := Pipeline.withArrays_arr spec0 launch0.win.arr_inj c (V0 m c) (fun w => (dats m 0 c).arrAt w cfg0.N) (2 : Fin 4)
  have h1 := Pipeline.withArrays_arr spec0 launch0.win.arr_inj c (V0 m c) (fun w => (dats m 0 c).arrAt w cfg0.N) (3 : Fin 4)
  have e1 := Pipeline.withArrays_of_ne spec0 c (V0 m c) (fun w => (dats m 0 c).arrAt w cfg0.N) main_arg1 (by exact (by decide : ∀ w, Pipeline.arrRef spec0 w ≠ main_arg1))
  have e3 := Pipeline.withArrays_of_ne spec0 c (V0 m c) (fun w => (dats m 0 c).arrAt w cfg0.N) main_arg3 (by exact (by decide : ∀ w, Pipeline.arrRef spec0 w ≠ main_arg3))
  have e4 := Pipeline.withArrays_of_ne spec0 c (V0 m c) (fun w => (dats m 0 c).arrAt w cfg0.N) main_arg4 (by exact (by decide : ∀ w, Pipeline.arrRef spec0 w ≠ main_arg4))
  unfold resF
  refine congrArg₂ _ (congrArg mineF e4) ?_
  have g0 := h0.trans (arr_x m c)
  have g1 := h1.trans (arr_w m c)
  exact congr (congr (congrArg₂ prodF g0 g1) e1) e3

/-- Every execution of the reference ends with the arguments as launched and `resF` in the result. -/
theorem run_res (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v34) = resF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v34 (Pipeline.mem_restRefs_of main_v34 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩) (run_main m ρ)

end Cert.ReferenceIdeal.Hand

end
-- ==== Proof.Equal.lean ====
/-
  The kernel's result and the reference's are equal over the extended reals: element by element both are the sum over the
  experts of the scaled product at the rows of the expert's run.
-/
module

public import proofs.«01_k».proof.Proof.KernelIdeal.Frame
public import proofs.«01_k».proof.Proof.Reference.Value

@[expose] public section

set_option maxRecDepth 10000

noncomputable section

namespace Cert.Equal

open Idealize.ShloMosaic Idealize.ShloMosaic.TcCoe Idealize.ShloMosaic.Tactic
open Cert.KernelIdeal.Hand Cert.ReferenceIdeal.Hand

/-- A row of the array is in an expert's run exactly when its row of its sequence is. -/
theorem run_iff (C : Cert.KernelIdeal.S2x33.Idx → BitVec 32) (hS : Small C) (i : Fin 256) (e : Fin 33) :
    InRun C e i ↔ (smN C (Fin.ofNat 2 ((i : ℕ) / 128) : Fin 2) e ≤ (Fin.ofNat 128 ((i : ℕ) % 128) : Fin 128)
      ∧ ((Fin.ofNat 128 ((i : ℕ) % 128) : Fin 128) : ℕ) < smN C (Fin.ofNat 2 ((i : ℕ) / 128) : Fin 2) e + (wd C (Fin.ofNat 2 ((i : ℕ) / 128) : Fin 2) e).toNat) := by
  have hi := i.isLt
  have he := e.isLt
  have h0 : smN C 0 (e + 1) ≤ 128 := (smN_mono C 0 (by omega)).trans (hS 0 (by decide))
  have r0 := run_end C 0 e
  have hr : ((Fin.ofNat 128 ((i : ℕ) % 128) : Fin 128) : ℕ) = (i : ℕ) % 128 := Nat.mod_mod _ _
  rw [hr]
  unfold InRun
  rcases Nat.lt_or_ge (i : ℕ) 128 with h | h
  · have hs : ((Fin.ofNat 2 ((i : ℕ) / 128) : Fin 2) : ℕ) = 0 := by show (i : ℕ) / 128 % 2 = 0; omega
    rw [hs]; omega
  · have hs : ((Fin.ofNat 2 ((i : ℕ) / 128) : Fin 2) : ℕ) = 1 := by show (i : ℕ) / 128 % 2 = 1; omega
    rw [hs]; omega

/-- The activations reshaped, at an index. -/
theorem rows_apply (X : Cert.KernelIdeal.S2x128x2560.Idx → Elt Ideal .fp8e4m3) (h) (i : Fin 256) (k : Fin 2560) :
    shapeCast Cert.KernelIdeal.S256x2560 X h (ix2 i k) = X (ix3 (Fin.ofNat 2 ((i : ℕ) / 128)) (Fin.ofNat 128 ((i : ℕ) % 128)) k) := by
  have h1 := i.isLt
  have hs : (⟨(i : ℕ) / 128, by omega⟩ : Fin 2) = Fin.ofNat 2 ((i : ℕ) / 128) := Fin.ext (Nat.mod_eq_of_lt (by omega)).symm
  have hr : (⟨(i : ℕ) % 128, by omega⟩ : Fin 128) = Fin.ofNat 128 ((i : ℕ) % 128) := Fin.ext (Nat.mod_eq_of_lt (by omega)).symm
  pointwise
  exact congrArg X (by rw [← hs, ← hr])

/-- The two results are equal, as functions of the arguments. -/
theorem value_eq (C : Cert.KernelIdeal.S2x33.Idx → BitVec 32) (hS : Small C) (X : Cert.KernelIdeal.S2x128x2560.Idx → EReal) (W : Cert.KernelIdeal.S33x2560x1024.Idx → EReal)
    (XS : Cert.KernelIdeal.S2x128.Idx → EReal) (WS : Cert.KernelIdeal.S33x1024.Idx → EReal) (f0 : Cert.KernelIdeal.S2x33.Idx → BitVec 32) (g : Cert.KernelIdeal.S34.Idx → BitVec 32) (h) :
    outY (F := Ideal) C f0 W (xbF (F := Ideal) (shapeCast Cert.KernelIdeal.S256x2560 (X : Cert.KernelIdeal.S2x128x2560.Idx → Elt Ideal .fp8e4m3) h)) (xcF (F := Ideal) XS) WS (ordF (orF C g 33)) (nw C)
      = lastF (F := Ideal) (mineF C) (prodF (F := Ideal) X W XS WS) := by
  funext j
  obtain ⟨i, f, rfl⟩ : ∃ (i : Fin 256) (f : Fin 1024), j = ix2 i f := ⟨j 0, j 1, by funext a; fin_cases a <;> rfl⟩
  refine (outY_sum C f0 g W _ XS WS hS i f).trans (Eq.trans ?_ (lastF_apply (mineF C) (prodF (F := Ideal) X W XS WS) i f).symm)
  refine Finset.sum_congr rfl fun e _ => ?_
  have hm := (run_iff C hS i e).trans (mineF_iff C hS (Fin.ofNat 2 ((i : ℕ) / 128)) (Fin.ofNat 128 ((i : ℕ) % 128)) e).symm
  by_cases hr : InRun C e i
  · rw [if_pos hr, if_pos (hm.mp hr), prodF_apply]
    have he : Fin.ofNat 33 (e : ℕ) = e := Fin.ext (Nat.mod_eq_of_lt e.isLt)
    unfold valE dotS xsAt
    rw [he]
    refine congrArg (fun a : EReal => a * WS (ix2 e f) * XS (ix2 (Fin.ofNat 2 ((i : ℕ) / 128)) (Fin.ofNat 128 ((i : ℕ) % 128)))) ?_
    refine Finset.sum_congr rfl fun k _ => ?_
    exact congrArg (fun a : EReal => a * W (ix3 e k f)) ((xbF_apply _ _).trans (rows_apply X h i k))
  · rw [if_neg hr, if_neg (fun hx => hr (hm.mpr hx))]

open Cert.KernelIdeal Cert.KernelIdeal.Gen in
/-- The reshaped activations, as the kernel finds them. -/
theorem V_v0 (m : (ℓ : Loc nD τ sig) → Buf (Elt Ideal) ℓ) (c : Dev nD) :
    V m c main_v0 = shapeCast S256x2560 (m ((c : Thread nD τ).loc main_arg0) : S2x128x2560.Idx → Elt Ideal .fp8e4m3) shapeCasts_S2x128x2560_S256x2560 := by
  unfold V
  after_results_simp
  rfl

/-- From equal arguments the two results are equal. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hS : Small (m ((c.tc : Thread Cert.KernelIdeal.nD Cert.KernelIdeal.τ).loc Cert.KernelIdeal.main_arg4)))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    resY m c = resF m' c := by
  unfold resY resF
  rw [V_v0, V_of_ne m c Cert.KernelIdeal.main_arg1 (by decide), V_of_ne m c Cert.KernelIdeal.main_arg2 (by decide),
    V_of_ne m c Cert.KernelIdeal.main_arg3 (by decide), V_of_ne m c Cert.KernelIdeal.main_arg4 (by decide), h0, h1, h2, h3, h4]
  exact value_eq _ hS _ _ _ _ _ _ _

end Cert.Equal

end
-- ==== Proof.lean ====
/-
  The certificate: the kernel, its idealization and the reference run to the end with their arguments as launched and
  every semaphore at zero, the idealization is the kernel's own text, and from equal arguments the idealization and the
  reference end with equal results over the extended reals.
-/
module

public import proofs.«01_k».proof.Defs
public import proofs.«01_k».proof.Proof.KernelIdeal.Frame
public import proofs.«01_k».proof.Proof.Kernel.Frame
public import proofs.«01_k».proof.Proof.Gen.ReferenceIdeal.Frame
public import proofs.«01_k».proof.Proof.Equal

@[expose] public section

noncomputable section

namespace Cert.Proof

open Idealize.ShloMosaic Idealize.ShloMosaic.TcCoe
open Idealize.SL.Sem

/-- The kernel's frame. -/
theorem frame_kernel : Cert.quiescent_Kernel (hKernel := Cert.Kernel.Gen.facts) (hPre_counts_fit := Cert.Pre_counts_fit.factsHold) :=
  fun m g hP => (θ_run _ _ _).mono (fun _ h => ⟨h.1, h.2.2⟩)
    (Cert.Kernel.Hand.run_main (F := Bits) m g fun c => @Cert.KernelIdeal.Hand.small_of_pre Bits _ Cert.Pre_counts_fit.factsHold _ _ _ _ _ (hP c))

/-- The idealization's frame. -/
theorem frame_kernelIdeal : Cert.quiescent_KernelIdeal (hKernelIdeal := Cert.KernelIdeal.Gen.facts) (hPre_counts_fit := Cert.Pre_counts_fit.factsHold) :=
  fun m g hP => (θ_run _ _ _).mono (fun _ h => ⟨h.1, h.2.2⟩)
    (Cert.KernelIdeal.Hand.run_main (F := Ideal) m g fun c => @Cert.KernelIdeal.Hand.small_of_pre Ideal _ Cert.Pre_counts_fit.factsHold _ _ _ _ _ (hP c))

/-- The reference's frame. -/
theorem frame_referenceIdeal : Cert.quiescent_ReferenceIdeal (hReferenceIdeal := Cert.ReferenceIdeal.Gen.facts) :=
  fun m g _ => Cert.ReferenceIdeal.Gen.frame m g

/-- The reference's frame, under the kernel's precondition. -/
theorem frame_referenceIdeal_fit : Cert.quiescent_ReferenceIdeal_pre_counts_fit (hReferenceIdeal := Cert.ReferenceIdeal.Gen.facts) (hPre_counts_fit := Cert.Pre_counts_fit.factsHold) :=
  fun m g _ => Cert.ReferenceIdeal.Gen.frame m g

/-- The kernel and the reference end with equal results. -/
theorem value : Cert.algebraic_KernelIdeal_ReferenceIdeal (hKernelIdeal := Cert.KernelIdeal.Gen.facts) (hReferenceIdeal := Cert.ReferenceIdeal.Gen.facts) (hPre_counts_fit := Cert.Pre_counts_fit.factsHold) :=
  fun m g m' g' hP hA =>
    have hS := fun c => @Cert.KernelIdeal.Hand.small_of_pre Ideal _ Cert.Pre_counts_fit.factsHold _ _ _ _ _ (hP c)
    ⟨fun c => Cert.KernelIdeal.Hand.resY m c,
      (θ_run _ _ _).mono (fun _ h c => ⟨h.2.1 c, h.1 c⟩) (Cert.KernelIdeal.Hand.run_main (F := Ideal) m g hS),
      (θ_run _ _ _).mono (fun _ h c => ⟨(h c).1.trans (Cert.Equal.res_eq m m' c (hS c) (hA c).1 (hA c).2.1 (hA c).2.2.1 (hA c).2.2.2.1 (hA c).2.2.2.2).symm, (h c).2⟩)
        (Cert.ReferenceIdeal.Hand.run_res m' g')⟩

/-- Every claim of the certificate. -/
theorem claim : Cert.Claim :=
  ⟨Cert.Kernel.Gen.facts, Cert.KernelIdeal.Gen.facts, Cert.ReferenceIdeal.Gen.facts, Cert.Pre_counts_fit.factsHold,
    frame_kernel, frame_kernelIdeal, frame_referenceIdeal, frame_referenceIdeal_fit, trivial, value⟩

end Cert.Proof

end
